-- ==== Defs.lean ====
def Pre_Kernel [hPre_finite : Cert.Pre_finite.Facts] (m : (ℓ : Loc Cert.Kernel.nD Cert.Kernel.τ Cert.Kernel.sig) → Buf (Elt Bits) ℓ) : Prop :=
  ∀ c : Dev Cert.Kernel.nD,
    (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_XaBwd [hPre_finite_xa : Cert.Pre_finite_xa.Facts] (m : (ℓ : Loc Cert.XaBwd.nD Cert.XaBwd.τ Cert.XaBwd.sig) → Buf (Elt Bits) ℓ) : Prop :=
  ∀ c : Dev Cert.XaBwd.nD,
    (Cert.Pre_finite_xa.fn (F := Bits) (m ((c.tc : Thread Cert.XaBwd.nD Cert.XaBwd.τ).loc Cert.XaBwd.main_arg0)) (m ((c.tc : Thread Cert.XaBwd.nD Cert.XaBwd.τ).loc Cert.XaBwd.main_arg1)) (m ((c.tc : Thread Cert.XaBwd.nD Cert.XaBwd.τ).loc Cert.XaBwd.main_arg2))) = (fun _ => 1#1)

def Pre_XaBwdIdeal [hPre_finite_xa : Cert.Pre_finite_xa.Facts] (m : (ℓ : Loc Cert.XaBwdIdeal.nD Cert.XaBwdIdeal.τ Cert.XaBwdIdeal.sig) → Buf (Elt Ideal) ℓ) : Prop :=
  ∀ c : Dev Cert.XaBwdIdeal.nD,
    (Cert.Pre_finite_xa.fn (F := Ideal) (m ((c.tc : Thread Cert.XaBwdIdeal.nD Cert.XaBwdIdeal.τ).loc Cert.XaBwdIdeal.main_arg0)) (m ((c.tc : Thread Cert.XaBwdIdeal.nD Cert.XaBwdIdeal.τ).loc Cert.XaBwdIdeal.main_arg1)) (m ((c.tc : Thread Cert.XaBwdIdeal.nD Cert.XaBwdIdeal.τ).loc Cert.XaBwdIdeal.main_arg2))) = (fun _ => 1#1)

def Pre_XaBwdRefIdeal [hPre_finite_xa : Cert.Pre_finite_xa.Facts] (m : (ℓ : Loc Cert.XaBwdRefIdeal.nD Cert.XaBwdRefIdeal.τ Cert.XaBwdRefIdeal.sig) → Buf (Elt Ideal) ℓ) : Prop :=
  ∀ c : Dev Cert.XaBwdRefIdeal.nD,
    (Cert.Pre_finite_xa.fn (F := Ideal) (m ((c.tc : Thread Cert.XaBwdRefIdeal.nD Cert.XaBwdRefIdeal.τ).loc Cert.XaBwdRefIdeal.main_arg0)) (m ((c.tc : Thread Cert.XaBwdRefIdeal.nD Cert.XaBwdRefIdeal.τ).loc Cert.XaBwdRefIdeal.main_arg1)) (m ((c.tc : Thread Cert.XaBwdRefIdeal.nD Cert.XaBwdRefIdeal.τ).loc Cert.XaBwdRefIdeal.main_arg2))) = (fun _ => 1#1)

def Pre_XaFwd (m : (ℓ : Loc Cert.XaFwd.nD Cert.XaFwd.τ Cert.XaFwd.sig) → Buf (Elt Bits) ℓ) : Prop :=
  True

def Pre_XaFwdIdeal (m : (ℓ : Loc Cert.XaFwdIdeal.nD Cert.XaFwdIdeal.τ Cert.XaFwdIdeal.sig) → Buf (Elt Ideal) ℓ) : Prop :=
  True

def Pre_XaFwdRefIdeal (m : (ℓ : Loc Cert.XaFwdRefIdeal.nD Cert.XaFwdRefIdeal.τ Cert.XaFwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_NormAdd (m : (ℓ : Loc Cert.NormAdd.nD Cert.NormAdd.τ Cert.NormAdd.sig) → Buf (Elt Bits) ℓ) : Prop :=
  True

def Pre_NormAddIdeal (m : (ℓ : Loc Cert.NormAddIdeal.nD Cert.NormAddIdeal.τ Cert.NormAddIdeal.sig) → Buf (Elt Ideal) ℓ) : Prop :=
  True

def Pre_NormAddRefIdeal (m : (ℓ : Loc Cert.NormAddRefIdeal.nD Cert.NormAddRefIdeal.τ Cert.NormAddRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_GmFwd (m : (ℓ : Loc Cert.GmFwd.nD Cert.GmFwd.τ Cert.GmFwd.sig) → Buf (Elt Bits) ℓ) : Prop :=
  True

def Pre_GmFwdIdeal (m : (ℓ : Loc Cert.GmFwdIdeal.nD Cert.GmFwdIdeal.τ Cert.GmFwdIdeal.sig) → Buf (Elt Ideal) ℓ) : Prop :=
  True

def Pre_GmFwdRefIdeal (m : (ℓ : Loc Cert.GmFwdRefIdeal.nD Cert.GmFwdRefIdeal.τ Cert.GmFwdRefIdeal.sig) → Buf (Elt Ideal) ℓ) : Prop :=
  True

def quiescent_Kernel [hKernel : Cert.Kernel.Facts] [hPre_finite : Cert.Pre_finite.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1)
      ∧ r.2.mem ((c.tc : Thread Cert.Branch.nD Cert.Branch.τ).loc Cert.Branch.main_arg2) = m ((c.tc : Thread Cert.Branch.nD Cert.Branch.τ).loc Cert.Branch.main_arg2))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
      ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1)
      ∧ r.2.mem ((c.tc : Thread Cert.BranchRefIdeal.nD Cert.BranchRefIdeal.τ).loc Cert.BranchRefIdeal.main_arg2) = m ((c.tc : Thread Cert.BranchRefIdeal.nD Cert.BranchRefIdeal.τ).loc Cert.BranchRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4))
      ∧ r.2.sem = fun _ => 0)

def quiescent_XaBwd [hXaBwd : Cert.XaBwd.Facts] [hPre_finite_xa : Cert.Pre_finite_xa.Facts] : Prop :=
  ∀ (m : (ℓ : Loc Cert.XaBwd.nD Cert.XaBwd.τ Cert.XaBwd.sig) → Buf (Elt Bits) ℓ) (g : Dev Cert.XaBwd.nD → PrngReg), Pre_XaBwd m →
    θ_run (Cert.XaBwd.defs (F := Bits)) (onTc (τ := Cert.XaBwd.τ) (Cert.XaBwd.main (F := Bits))) ⟨m, fun _ => 0, g⟩ (fun r => (∀ c : Dev Cert.XaBwd.nD,
      r.2.mem ((c.tc : Thread Cert.XaBwd.nD Cert.XaBwd.τ).loc Cert.XaBwd.main_arg0) = m ((c.tc : Thread Cert.XaBwd.nD Cert.XaBwd.τ).loc Cert.XaBwd.main_arg0)
      ∧ r.2.mem ((c.tc : Thread Cert.XaBwd.nD Cert.XaBwd.τ).loc Cert.XaBwd.main_arg1) = m ((c.tc : Thread Cert.XaBwd.nD Cert.XaBwd.τ).loc Cert.XaBwd.main_arg1)
      ∧ r.2.mem ((c.tc : Thread Cert.XaBwd.nD Cert.XaBwd.τ).loc Cert.XaBwd.main_arg2) = m ((c.tc : Thread Cert.XaBwd.nD Cert.XaBwd.τ).loc Cert.XaBwd.main_arg2))
      ∧ r.2.sem = fun _ => 0)

def quiescent_XaBwdIdeal [hXaBwdIdeal : Cert.XaBwdIdeal.Facts] [hPre_finite_xa : Cert.Pre_finite_xa.Facts] : Prop :=
  ∀ (m : (ℓ : Loc Cert.XaBwdIdeal.nD Cert.XaBwdIdeal.τ Cert.XaBwdIdeal.sig) → Buf (Elt Ideal) ℓ) (g : Dev Cert.XaBwdIdeal.nD → PrngReg), Pre_XaBwdIdeal m →
    θ_run (Cert.XaBwdIdeal.defs (F := Ideal)) (onTc (τ := Cert.XaBwdIdeal.τ) (Cert.XaBwdIdeal.main (F := Ideal))) ⟨m, fun _ => 0, g⟩ (fun r => (∀ c : Dev Cert.XaBwdIdeal.nD,
      r.2.mem ((c.tc : Thread Cert.XaBwdIdeal.nD Cert.XaBwdIdeal.τ).loc Cert.XaBwdIdeal.main_arg0) = m ((c.tc : Thread Cert.XaBwdIdeal.nD Cert.XaBwdIdeal.τ).loc Cert.XaBwdIdeal.main_arg0)
      ∧ r.2.mem ((c.tc : Thread Cert.XaBwdIdeal.nD Cert.XaBwdIdeal.τ).loc Cert.XaBwdIdeal.main_arg1) = m ((c.tc : Thread Cert.XaBwdIdeal.nD Cert.XaBwdIdeal.τ).loc Cert.XaBwdIdeal.main_arg1)
      ∧ r.2.mem ((c.tc : Thread Cert.XaBwdIdeal.nD Cert.XaBwdIdeal.τ).loc Cert.XaBwdIdeal.main_arg2) = m ((c.tc : Thread Cert.XaBwdIdeal.nD Cert.XaBwdIdeal.τ).loc Cert.XaBwdIdeal.main_arg2))
      ∧ r.2.sem = fun _ => 0)

def quiescent_XaBwdRefIdeal [hXaBwdRefIdeal : Cert.XaBwdRefIdeal.Facts] [hPre_finite_xa : Cert.Pre_finite_xa.Facts] : Prop :=
  ∀ (m : (ℓ : Loc Cert.XaBwdRefIdeal.nD Cert.XaBwdRefIdeal.τ Cert.XaBwdRefIdeal.sig) → Buf (Elt Ideal) ℓ) (g : Dev Cert.XaBwdRefIdeal.nD → PrngReg), Pre_XaBwdRefIdeal m →
    θ_run (Cert.XaBwdRefIdeal.defs (F := Ideal)) (onTc (τ := Cert.XaBwdRefIdeal.τ) (Cert.XaBwdRefIdeal.main (F := Ideal))) ⟨m, fun _ => 0, g⟩ (fun r => (∀ c : Dev Cert.XaBwdRefIdeal.nD,
      r.2.mem ((c.tc : Thread Cert.XaBwdRefIdeal.nD Cert.XaBwdRefIdeal.τ).loc Cert.XaBwdRefIdeal.main_arg0) = m ((c.tc : Thread Cert.XaBwdRefIdeal.nD Cert.XaBwdRefIdeal.τ).loc Cert.XaBwdRefIdeal.main_arg0)
      ∧ r.2.mem ((c.tc : Thread Cert.XaBwdRefIdeal.nD Cert.XaBwdRefIdeal.τ).loc Cert.XaBwdRefIdeal.main_arg1) = m ((c.tc : Thread Cert.XaBwdRefIdeal.nD Cert.XaBwdRefIdeal.τ).loc Cert.XaBwdRefIdeal.main_arg1)
      ∧ r.2.mem ((c.tc : Thread Cert.XaBwdRefIdeal.nD Cert.XaBwdRefIdeal.τ).loc Cert.XaBwdRefIdeal.main_arg2) = m ((c.tc : Thread Cert.XaBwdRefIdeal.nD Cert.XaBwdRefIdeal.τ).loc Cert.XaBwdRefIdeal.main_arg2))
      ∧ r.2.sem = fun _ => 0)

def quiescent_XaFwd [hXaFwd : Cert.XaFwd.Facts] : Prop :=
  ∀ (m : (ℓ : Loc Cert.XaFwd.nD Cert.XaFwd.τ Cert.XaFwd.sig) → Buf (Elt Bits) ℓ) (g : Dev Cert.XaFwd.nD → PrngReg), Pre_XaFwd m →
    θ_run (Cert.XaFwd.defs (F := Bits)) (onTc (τ := Cert.XaFwd.τ) (Cert.XaFwd.main (F := Bits))) ⟨m, fun _ => 0, g⟩ (fun r => (∀ c : Dev Cert.XaFwd.nD,
      r.2.mem ((c.tc : Thread Cert.XaFwd.nD Cert.XaFwd.τ).loc Cert.XaFwd.main_arg0) = m ((c.tc : Thread Cert.XaFwd.nD Cert.XaFwd.τ).loc Cert.XaFwd.main_arg0)
      ∧ r.2.mem ((c.tc : Thread Cert.XaFwd.nD Cert.XaFwd.τ).loc Cert.XaFwd.main_arg1) = m ((c.tc : Thread Cert.XaFwd.nD Cert.XaFwd.τ).loc Cert.XaFwd.main_arg1))
      ∧ r.2.sem = fun _ => 0)

def quiescent_XaFwdIdeal [hXaFwdIdeal : Cert.XaFwdIdeal.Facts] : Prop :=
  ∀ (m : (ℓ : Loc Cert.XaFwdIdeal.nD Cert.XaFwdIdeal.τ Cert.XaFwdIdeal.sig) → Buf (Elt Ideal) ℓ) (g : Dev Cert.XaFwdIdeal.nD → PrngReg), Pre_XaFwdIdeal m →
    θ_run (Cert.XaFwdIdeal.defs (F := Ideal)) (onTc (τ := Cert.XaFwdIdeal.τ) (Cert.XaFwdIdeal.main (F := Ideal))) ⟨m, fun _ => 0, g⟩ (fun r => (∀ c : Dev Cert.XaFwdIdeal.nD,
      r.2.mem ((c.tc : Thread Cert.XaFwdIdeal.nD Cert.XaFwdIdeal.τ).loc Cert.XaFwdIdeal.main_arg0) = m ((c.tc : Thread Cert.XaFwdIdeal.nD Cert.XaFwdIdeal.τ).loc Cert.XaFwdIdeal.main_arg0)
      ∧ r.2.mem ((c.tc : Thread Cert.XaFwdIdeal.nD Cert.XaFwdIdeal.τ).loc Cert.XaFwdIdeal.main_arg1) = m ((c.tc : Thread Cert.XaFwdIdeal.nD Cert.XaFwdIdeal.τ).loc Cert.XaFwdIdeal.main_arg1))
      ∧ r.2.sem = fun _ => 0)

def quiescent_XaFwdRefIdeal [hXaFwdRefIdeal : Cert.XaFwdRefIdeal.Facts] : Prop :=
  ∀ (m : (ℓ : Loc Cert.XaFwdRefIdeal.nD Cert.XaFwdRefIdeal.τ Cert.XaFwdRefIdeal.sig) → Buf (Elt Ideal) ℓ) (g : Dev Cert.XaFwdRefIdeal.nD → PrngReg), Pre_XaFwdRefIdeal m →
    θ_run (Cert.XaFwdRefIdeal.defs (F := Ideal)) (onTc (τ := Cert.XaFwdRefIdeal.τ) (Cert.XaFwdRefIdeal.main (F := Ideal))) ⟨m, fun _ => 0, g⟩ (fun r => (∀ c : Dev Cert.XaFwdRefIdeal.nD,
      r.2.mem ((c.tc : Thread Cert.XaFwdRefIdeal.nD Cert.XaFwdRefIdeal.τ).loc Cert.XaFwdRefIdeal.main_arg0) = m ((c.tc : Thread Cert.XaFwdRefIdeal.nD Cert.XaFwdRefIdeal.τ).loc Cert.XaFwdRefIdeal.main_arg0)
      ∧ r.2.mem ((c.tc : Thread Cert.XaFwdRefIdeal.nD Cert.XaFwdRefIdeal.τ).loc Cert.XaFwdRefIdeal.main_arg1) = m ((c.tc : Thread Cert.XaFwdRefIdeal.nD Cert.XaFwdRefIdeal.τ).loc Cert.XaFwdRefIdeal.main_arg1))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_NormAdd [hNormAdd : Cert.NormAdd.Facts] : Prop :=
  ∀ (m : (ℓ : Loc Cert.NormAdd.nD Cert.NormAdd.τ Cert.NormAdd.sig) → Buf (Elt Bits) ℓ) (g : Dev Cert.NormAdd.nD → PrngReg), Pre_NormAdd m →
    θ_run (Cert.NormAdd.defs (F := Bits)) (onTc (τ := Cert.NormAdd.τ) (Cert.NormAdd.main (F := Bits))) ⟨m, fun _ => 0, g⟩ (fun r => (∀ c : Dev Cert.NormAdd.nD,
      r.2.mem ((c.tc : Thread Cert.NormAdd.nD Cert.NormAdd.τ).loc Cert.NormAdd.main_arg0) = m ((c.tc : Thread Cert.NormAdd.nD Cert.NormAdd.τ).loc Cert.NormAdd.main_arg0)
      ∧ r.2.mem ((c.tc : Thread Cert.NormAdd.nD Cert.NormAdd.τ).loc Cert.NormAdd.main_arg1) = m ((c.tc : Thread Cert.NormAdd.nD Cert.NormAdd.τ).loc Cert.NormAdd.main_arg1)
      ∧ r.2.mem ((c.tc : Thread Cert.NormAdd.nD Cert.NormAdd.τ).loc Cert.NormAdd.main_arg2) = m ((c.tc : Thread Cert.NormAdd.nD Cert.NormAdd.τ).loc Cert.NormAdd.main_arg2))
      ∧ r.2.sem = fun _ => 0)

def quiescent_NormAddIdeal [hNormAddIdeal : Cert.NormAddIdeal.Facts] : Prop :=
  ∀ (m : (ℓ : Loc Cert.NormAddIdeal.nD Cert.NormAddIdeal.τ Cert.NormAddIdeal.sig) → Buf (Elt Ideal) ℓ) (g : Dev Cert.NormAddIdeal.nD → PrngReg), Pre_NormAddIdeal m →
    θ_run (Cert.NormAddIdeal.defs (F := Ideal)) (onTc (τ := Cert.NormAddIdeal.τ) (Cert.NormAddIdeal.main (F := Ideal))) ⟨m, fun _ => 0, g⟩ (fun r => (∀ c : Dev Cert.NormAddIdeal.nD,
      r.2.mem ((c.tc : Thread Cert.NormAddIdeal.nD Cert.NormAddIdeal.τ).loc Cert.NormAddIdeal.main_arg0) = m ((c.tc : Thread Cert.NormAddIdeal.nD Cert.NormAddIdeal.τ).loc Cert.NormAddIdeal.main_arg0)
      ∧ r.2.mem ((c.tc : Thread Cert.NormAddIdeal.nD Cert.NormAddIdeal.τ).loc Cert.NormAddIdeal.main_arg1) = m ((c.tc : Thread Cert.NormAddIdeal.nD Cert.NormAddIdeal.τ).loc Cert.NormAddIdeal.main_arg1)
      ∧ r.2.mem ((c.tc : Thread Cert.NormAddIdeal.nD Cert.NormAddIdeal.τ).loc Cert.NormAddIdeal.main_arg2) = m ((c.tc : Thread Cert.NormAddIdeal.nD Cert.NormAddIdeal.τ).loc Cert.NormAddIdeal.main_arg2))
      ∧ r.2.sem = fun _ => 0)

def quiescent_NormAddRefIdeal [hNormAddRefIdeal : Cert.NormAddRefIdeal.Facts] : Prop :=
  ∀ (m : (ℓ : Loc Cert.NormAddRefIdeal.nD Cert.NormAddRefIdeal.τ Cert.NormAddRefIdeal.sig) → Buf (Elt Ideal) ℓ) (g : Dev Cert.NormAddRefIdeal.nD → PrngReg), Pre_NormAddRefIdeal m →
    θ_run (Cert.NormAddRefIdeal.defs (F := Ideal)) (onTc (τ := Cert.NormAddRefIdeal.τ) (Cert.NormAddRefIdeal.main (F := Ideal))) ⟨m, fun _ => 0, g⟩ (fun r => (∀ c : Dev Cert.NormAddRefIdeal.nD,
      r.2.mem ((c.tc : Thread Cert.NormAddRefIdeal.nD Cert.NormAddRefIdeal.τ).loc Cert.NormAddRefIdeal.main_arg0) = m ((c.tc : Thread Cert.NormAddRefIdeal.nD Cert.NormAddRefIdeal.τ).loc Cert.NormAddRefIdeal.main_arg0)
      ∧ r.2.mem ((c.tc : Thread Cert.NormAddRefIdeal.nD Cert.NormAddRefIdeal.τ).loc Cert.NormAddRefIdeal.main_arg1) = m ((c.tc : Thread Cert.NormAddRefIdeal.nD Cert.NormAddRefIdeal.τ).loc Cert.NormAddRefIdeal.main_arg1)
      ∧ r.2.mem ((c.tc : Thread Cert.NormAddRefIdeal.nD Cert.NormAddRefIdeal.τ).loc Cert.NormAddRefIdeal.main_arg2) = m ((c.tc : Thread Cert.NormAddRefIdeal.nD Cert.NormAddRefIdeal.τ).loc Cert.NormAddRefIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2))
      ∧ r.2.sem = fun _ => 0)

def quiescent_GmFwd [hGmFwd : Cert.GmFwd.Facts] : Prop :=
  ∀ (m : (ℓ : Loc Cert.GmFwd.nD Cert.GmFwd.τ Cert.GmFwd.sig) → Buf (Elt Bits) ℓ) (g : Dev Cert.GmFwd.nD → PrngReg), Pre_GmFwd m →
    θ_run (Cert.GmFwd.defs (F := Bits)) (onTc (τ := Cert.GmFwd.τ) (Cert.GmFwd.main (F := Bits))) ⟨m, fun _ => 0, g⟩ (fun r => (∀ c : Dev Cert.GmFwd.nD,
      r.2.mem ((c.tc : Thread Cert.GmFwd.nD Cert.GmFwd.τ).loc Cert.GmFwd.main_arg0) = m ((c.tc : Thread Cert.GmFwd.nD Cert.GmFwd.τ).loc Cert.GmFwd.main_arg0)
      ∧ r.2.mem ((c.tc : Thread Cert.GmFwd.nD Cert.GmFwd.τ).loc Cert.GmFwd.main_arg1) = m ((c.tc : Thread Cert.GmFwd.nD Cert.GmFwd.τ).loc Cert.GmFwd.main_arg1)
      ∧ r.2.mem ((c.tc : Thread Cert.GmFwd.nD Cert.GmFwd.τ).loc Cert.GmFwd.main_arg2) = m ((c.tc : Thread Cert.GmFwd.nD Cert.GmFwd.τ).loc Cert.GmFwd.main_arg2)
      ∧ r.2.mem ((c.tc : Thread Cert.GmFwd.nD Cert.GmFwd.τ).loc Cert.GmFwd.main_arg3) = m ((c.tc : Thread Cert.GmFwd.nD Cert.GmFwd.τ).loc Cert.GmFwd.main_arg3))
      ∧ r.2.sem = fun _ => 0)

def quiescent_GmFwdIdeal [hGmFwdIdeal : Cert.GmFwdIdeal.Facts] : Prop :=
  ∀ (m : (ℓ : Loc Cert.GmFwdIdeal.nD Cert.GmFwdIdeal.τ Cert.GmFwdIdeal.sig) → Buf (Elt Ideal) ℓ) (g : Dev Cert.GmFwdIdeal.nD → PrngReg), Pre_GmFwdIdeal m →
    θ_run (Cert.GmFwdIdeal.defs (F := Ideal)) (onTc (τ := Cert.GmFwdIdeal.τ) (Cert.GmFwdIdeal.main (F := Ideal))) ⟨m, fun _ => 0, g⟩ (fun r => (∀ c : Dev Cert.GmFwdIdeal.nD,
      r.2.mem ((c.tc : Thread Cert.GmFwdIdeal.nD Cert.GmFwdIdeal.τ).loc Cert.GmFwdIdeal.main_arg0) = m ((c.tc : Thread Cert.GmFwdIdeal.nD Cert.GmFwdIdeal.τ).loc Cert.GmFwdIdeal.main_arg0)
      ∧ r.2.mem ((c.tc : Thread Cert.GmFwdIdeal.nD Cert.GmFwdIdeal.τ).loc Cert.GmFwdIdeal.main_arg1) = m ((c.tc : Thread Cert.GmFwdIdeal.nD Cert.GmFwdIdeal.τ).loc Cert.GmFwdIdeal.main_arg1)
      ∧ r.2.mem ((c.tc : Thread Cert.GmFwdIdeal.nD Cert.GmFwdIdeal.τ).loc Cert.GmFwdIdeal.main_arg2) = m ((c.tc : Thread Cert.GmFwdIdeal.nD Cert.GmFwdIdeal.τ).loc Cert.GmFwdIdeal.main_arg2)
      ∧ r.2.mem ((c.tc : Thread Cert.GmFwdIdeal.nD Cert.GmFwdIdeal.τ).loc Cert.GmFwdIdeal.main_arg3) = m ((c.tc : Thread Cert.GmFwdIdeal.nD Cert.GmFwdIdeal.τ).loc Cert.GmFwdIdeal.main_arg3))
      ∧ r.2.sem = fun _ => 0)

def quiescent_GmFwdRefIdeal [hGmFwdRefIdeal : Cert.GmFwdRefIdeal.Facts] : Prop :=
  ∀ (m : (ℓ : Loc Cert.GmFwdRefIdeal.nD Cert.GmFwdRefIdeal.τ Cert.GmFwdRefIdeal.sig) → Buf (Elt Ideal) ℓ) (g : Dev Cert.GmFwdRefIdeal.nD → PrngReg), Pre_GmFwdRefIdeal m →
    θ_run (Cert.GmFwdRefIdeal.defs (F := Ideal)) (onTc (τ := Cert.GmFwdRefIdeal.τ) (Cert.GmFwdRefIdeal.main (F := Ideal))) ⟨m, fun _ => 0, g⟩ (fun r => (∀ c : Dev Cert.GmFwdRefIdeal.nD,
      r.2.mem ((c.tc : Thread Cert.GmFwdRefIdeal.nD Cert.GmFwdRefIdeal.τ).loc Cert.GmFwdRefIdeal.main_arg0) = m ((c.tc : Thread Cert.GmFwdRefIdeal.nD Cert.GmFwdRefIdeal.τ).loc Cert.GmFwdRefIdeal.main_arg0)
      ∧ r.2.mem ((c.tc : Thread Cert.GmFwdRefIdeal.nD Cert.GmFwdRefIdeal.τ).loc Cert.GmFwdRefIdeal.main_arg1) = m ((c.tc : Thread Cert.GmFwdRefIdeal.nD Cert.GmFwdRefIdeal.τ).loc Cert.GmFwdRefIdeal.main_arg1)
      ∧ r.2.mem ((c.tc : Thread Cert.GmFwdRefIdeal.nD Cert.GmFwdRefIdeal.τ).loc Cert.GmFwdRefIdeal.main_arg2) = m ((c.tc : Thread Cert.GmFwdRefIdeal.nD Cert.GmFwdRefIdeal.τ).loc Cert.GmFwdRefIdeal.main_arg2)
      ∧ r.2.mem ((c.tc : Thread Cert.GmFwdRefIdeal.nD Cert.GmFwdRefIdeal.τ).loc Cert.GmFwdRefIdeal.main_arg3) = m ((c.tc : Thread Cert.GmFwdRefIdeal.nD Cert.GmFwdRefIdeal.τ).loc Cert.GmFwdRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v32_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_v32_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)) (v1 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_v1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v6) = v0 c
          ∧ r.2.mem ((c.tc : Thread Cert.DownRefIdeal.nD Cert.DownRefIdeal.τ).loc Cert.DownRefIdeal.main_v7) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)) (v1 : (c : Dev Cert.OutIdeal.nD) → Buf (Elt Ideal) ((c.tc : Thread Cert.OutIdeal.nD Cert.OutIdeal.τ).loc Cert.OutIdeal.main_v1)) (v2 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_v1) = v1 c
          ∧ r.2.mem ((c.tc : Thread Cert.OutIdeal.nD Cert.OutIdeal.τ).loc Cert.OutIdeal.main_v2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_v9) = v1 c
          ∧ r.2.mem ((c.tc : Thread Cert.OutRefIdeal.nD Cert.OutRefIdeal.τ).loc Cert.OutRefIdeal.main_v10) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)
      ∧ m' ((c.tc : Thread Cert.BranchRefIdeal.nD Cert.BranchRefIdeal.τ).loc Cert.BranchRefIdeal.main_arg2) = m ((c.tc : Thread Cert.BranchIdeal.nD Cert.BranchIdeal.τ).loc Cert.BranchIdeal.main_arg2)) →
    ∃ (v0 : (c : Dev Cert.BranchIdeal.nD) → Buf (Elt Ideal) ((c.tc : Thread Cert.BranchIdeal.nD Cert.BranchIdeal.τ).loc Cert.BranchIdeal.main_v0)) (v1 : (c : Dev Cert.BranchIdeal.nD) → Buf (Elt Ideal) ((c.tc : Thread Cert.BranchIdeal.nD Cert.BranchIdeal.τ).loc Cert.BranchIdeal.main_v1)) (v2 : (c : Dev Cert.BranchIdeal.nD) → Buf (Elt Ideal) ((c.tc : Thread Cert.BranchIdeal.nD Cert.BranchIdeal.τ).loc Cert.BranchIdeal.main_v2)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0) = v0 c
          ∧ r.2.mem ((c.tc : Thread Cert.BranchIdeal.nD Cert.BranchIdeal.τ).loc Cert.BranchIdeal.main_v1) = v1 c
          ∧ r.2.mem ((c.tc : Thread Cert.BranchIdeal.nD Cert.BranchIdeal.τ).loc Cert.BranchIdeal.main_v2) = v2 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
          ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v2) = v0 c
          ∧ r.2.mem ((c.tc : Thread Cert.BranchRefIdeal.nD Cert.BranchRefIdeal.τ).loc Cert.BranchRefIdeal.main_v9) = v1 c
          ∧ r.2.mem ((c.tc : Thread Cert.BranchRefIdeal.nD Cert.BranchRefIdeal.τ).loc Cert.BranchRefIdeal.main_v10) = v2 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1)
          ∧ r.2.mem ((c.tc : Thread Cert.BranchRefIdeal.nD Cert.BranchRefIdeal.τ).loc Cert.BranchRefIdeal.main_arg2) = m' ((c.tc : Thread Cert.BranchRefIdeal.nD Cert.BranchRefIdeal.τ).loc Cert.BranchRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v0)) (v1 : (c : Dev Cert.MemKvIdeal.nD) → Buf (Elt Ideal) ((c.tc : Thread Cert.MemKvIdeal.nD Cert.MemKvIdeal.τ).loc Cert.MemKvIdeal.main_v1)) (v2 : (c : Dev Cert.MemKvIdeal.nD) → Buf (Elt Ideal) ((c.tc : Thread Cert.MemKvIdeal.nD Cert.MemKvIdeal.τ).loc Cert.MemKvIdeal.main_v2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_v1) = v1 c
          ∧ r.2.mem ((c.tc : Thread Cert.MemKvIdeal.nD Cert.MemKvIdeal.τ).loc Cert.MemKvIdeal.main_v2) = v2 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v2) = v0 c
          ∧ r.2.mem ((c.tc : Thread Cert.MemKvRefIdeal.nD Cert.MemKvRefIdeal.τ).loc Cert.MemKvRefIdeal.main_v9) = v1 c
          ∧ r.2.mem ((c.tc : Thread Cert.MemKvRefIdeal.nD Cert.MemKvRefIdeal.τ).loc Cert.MemKvRefIdeal.main_v10) = v2 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v0)) (v1 : (c : Dev Cert.ProjIdeal.nD) → Buf (Elt Ideal) ((c.tc : Thread Cert.ProjIdeal.nD Cert.ProjIdeal.τ).loc Cert.ProjIdeal.main_v1)) (v2 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_v1) = v1 c
          ∧ r.2.mem ((c.tc : Thread Cert.ProjIdeal.nD Cert.ProjIdeal.τ).loc Cert.ProjIdeal.main_v2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_v6) = v1 c
          ∧ r.2.mem ((c.tc : Thread Cert.ProjRefIdeal.nD Cert.ProjRefIdeal.τ).loc Cert.ProjRefIdeal.main_v14) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)) →
    ∃ (v0 : (c : Dev Cert.ProjDxIdeal.nD) → Buf (Elt Ideal) ((c.tc : Thread Cert.ProjDxIdeal.nD Cert.ProjDxIdeal.τ).loc Cert.ProjDxIdeal.main_v0)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v0) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v2) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v0)) (v1 : (c : Dev Cert.UpIdeal.nD) → Buf (Elt Ideal) ((c.tc : Thread Cert.UpIdeal.nD Cert.UpIdeal.τ).loc Cert.UpIdeal.main_v1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_v1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_v12) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v3) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v2) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)) (v4 : (c : Dev Cert.MergeBwdIdeal.nD) → Buf (Elt Ideal) ((c.tc : Thread Cert.MergeBwdIdeal.nD Cert.MergeBwdIdeal.τ).loc Cert.MergeBwdIdeal.main_v0_4)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_v0_4) = v4 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v46) = v0 c
          ∧ r.2.mem ((c.tc : Thread Cert.MergeBwdRefIdeal.nD Cert.MergeBwdRefIdeal.τ).loc Cert.MergeBwdRefIdeal.main_v47) = v1 c
          ∧ r.2.mem ((c.tc : Thread Cert.MergeBwdRefIdeal.nD Cert.MergeBwdRefIdeal.τ).loc Cert.MergeBwdRefIdeal.main_v48) = v2 c
          ∧ r.2.mem ((c.tc : Thread Cert.MergeBwdRefIdeal.nD Cert.MergeBwdRefIdeal.τ).loc Cert.MergeBwdRefIdeal.main_v49) = v3 c
          ∧ r.2.mem ((c.tc : Thread Cert.MergeBwdRefIdeal.nD Cert.MergeBwdRefIdeal.τ).loc Cert.MergeBwdRefIdeal.main_v45) = v4 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v23) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4))

def preserves_XaBwd_XaBwdIdeal : Prop :=
  True

def algebraic_XaBwdIdeal_XaBwdRefIdeal [hXaBwdIdeal : Cert.XaBwdIdeal.Facts] [hXaBwdRefIdeal : Cert.XaBwdRefIdeal.Facts] [hPre_finite_xa : Cert.Pre_finite_xa.Facts] : Prop :=
  ∀ (m : (ℓ : Loc Cert.XaBwdIdeal.nD Cert.XaBwdIdeal.τ Cert.XaBwdIdeal.sig) → Buf (Elt Ideal) ℓ) (g : Dev Cert.XaBwdIdeal.nD → PrngReg)
    (m' : (ℓ : Loc Cert.XaBwdRefIdeal.nD Cert.XaBwdRefIdeal.τ Cert.XaBwdRefIdeal.sig) → Buf (Elt Ideal) ℓ) (g' : Dev Cert.XaBwdRefIdeal.nD → PrngReg), Pre_XaBwdIdeal m →
    (∀ c : Dev Cert.XaBwdIdeal.nD,
      m' ((c.tc : Thread Cert.XaBwdRefIdeal.nD Cert.XaBwdRefIdeal.τ).loc Cert.XaBwdRefIdeal.main_arg0) = m ((c.tc : Thread Cert.XaBwdIdeal.nD Cert.XaBwdIdeal.τ).loc Cert.XaBwdIdeal.main_arg0)
      ∧ m' ((c.tc : Thread Cert.XaBwdRefIdeal.nD Cert.XaBwdRefIdeal.τ).loc Cert.XaBwdRefIdeal.main_arg1) = m ((c.tc : Thread Cert.XaBwdIdeal.nD Cert.XaBwdIdeal.τ).loc Cert.XaBwdIdeal.main_arg1)
      ∧ m' ((c.tc : Thread Cert.XaBwdRefIdeal.nD Cert.XaBwdRefIdeal.τ).loc Cert.XaBwdRefIdeal.main_arg2) = m ((c.tc : Thread Cert.XaBwdIdeal.nD Cert.XaBwdIdeal.τ).loc Cert.XaBwdIdeal.main_arg2)) →
    ∃ (v0 : (c : Dev Cert.XaBwdIdeal.nD) → Buf (Elt Ideal) ((c.tc : Thread Cert.XaBwdIdeal.nD Cert.XaBwdIdeal.τ).loc Cert.XaBwdIdeal.main_v0_0)) (v1 : (c : Dev Cert.XaBwdIdeal.nD) → Buf (Elt Ideal) ((c.tc : Thread Cert.XaBwdIdeal.nD Cert.XaBwdIdeal.τ).loc Cert.XaBwdIdeal.main_v0_1)) (v2 : (c : Dev Cert.XaBwdIdeal.nD) → Buf (Elt Ideal) ((c.tc : Thread Cert.XaBwdIdeal.nD Cert.XaBwdIdeal.τ).loc Cert.XaBwdIdeal.main_v0_2)),
      θ_run (Cert.XaBwdIdeal.defs (F := Ideal)) (onTc (τ := Cert.XaBwdIdeal.τ) (Cert.XaBwdIdeal.main (F := Ideal))) ⟨m, fun _ => 0, g⟩ (fun r => ∀ c : Dev Cert.XaBwdIdeal.nD,
          r.2.mem ((c.tc : Thread Cert.XaBwdIdeal.nD Cert.XaBwdIdeal.τ).loc Cert.XaBwdIdeal.main_v0_0) = v0 c
          ∧ r.2.mem ((c.tc : Thread Cert.XaBwdIdeal.nD Cert.XaBwdIdeal.τ).loc Cert.XaBwdIdeal.main_v0_1) = v1 c
          ∧ r.2.mem ((c.tc : Thread Cert.XaBwdIdeal.nD Cert.XaBwdIdeal.τ).loc Cert.XaBwdIdeal.main_v0_2) = v2 c
          ∧ r.2.mem ((c.tc : Thread Cert.XaBwdIdeal.nD Cert.XaBwdIdeal.τ).loc Cert.XaBwdIdeal.main_arg0) = m ((c.tc : Thread Cert.XaBwdIdeal.nD Cert.XaBwdIdeal.τ).loc Cert.XaBwdIdeal.main_arg0)
          ∧ r.2.mem ((c.tc : Thread Cert.XaBwdIdeal.nD Cert.XaBwdIdeal.τ).loc Cert.XaBwdIdeal.main_arg1) = m ((c.tc : Thread Cert.XaBwdIdeal.nD Cert.XaBwdIdeal.τ).loc Cert.XaBwdIdeal.main_arg1)
          ∧ r.2.mem ((c.tc : Thread Cert.XaBwdIdeal.nD Cert.XaBwdIdeal.τ).loc Cert.XaBwdIdeal.main_arg2) = m ((c.tc : Thread Cert.XaBwdIdeal.nD Cert.XaBwdIdeal.τ).loc Cert.XaBwdIdeal.main_arg2))
      ∧ θ_run (Cert.XaBwdRefIdeal.defs (F := Ideal)) (onTc (τ := Cert.XaBwdRefIdeal.τ) (Cert.XaBwdRefIdeal.main (F := Ideal))) ⟨m', fun _ => 0, g'⟩ (fun r => ∀ c : Dev Cert.XaBwdRefIdeal.nD,
          r.2.mem ((c.tc : Thread Cert.XaBwdRefIdeal.nD Cert.XaBwdRefIdeal.τ).loc Cert.XaBwdRefIdeal.main_v65) = v0 c
          ∧ r.2.mem ((c.tc : Thread Cert.XaBwdRefIdeal.nD Cert.XaBwdRefIdeal.τ).loc Cert.XaBwdRefIdeal.main_v66) = v1 c
          ∧ r.2.mem ((c.tc : Thread Cert.XaBwdRefIdeal.nD Cert.XaBwdRefIdeal.τ).loc Cert.XaBwdRefIdeal.main_v67) = v2 c
          ∧ r.2.mem ((c.tc : Thread Cert.XaBwdRefIdeal.nD Cert.XaBwdRefIdeal.τ).loc Cert.XaBwdRefIdeal.main_arg0) = m' ((c.tc : Thread Cert.XaBwdRefIdeal.nD Cert.XaBwdRefIdeal.τ).loc Cert.XaBwdRefIdeal.main_arg0)
          ∧ r.2.mem ((c.tc : Thread Cert.XaBwdRefIdeal.nD Cert.XaBwdRefIdeal.τ).loc Cert.XaBwdRefIdeal.main_arg1) = m' ((c.tc : Thread Cert.XaBwdRefIdeal.nD Cert.XaBwdRefIdeal.τ).loc Cert.XaBwdRefIdeal.main_arg1)
          ∧ r.2.mem ((c.tc : Thread Cert.XaBwdRefIdeal.nD Cert.XaBwdRefIdeal.τ).loc Cert.XaBwdRefIdeal.main_arg2) = m' ((c.tc : Thread Cert.XaBwdRefIdeal.nD Cert.XaBwdRefIdeal.τ).loc Cert.XaBwdRefIdeal.main_arg2))

def preserves_XaFwd_XaFwdIdeal : Prop :=
  True

def algebraic_XaFwdIdeal_XaFwdRefIdeal [hXaFwdIdeal : Cert.XaFwdIdeal.Facts] [hXaFwdRefIdeal : Cert.XaFwdRefIdeal.Facts] : Prop :=
  ∀ (m : (ℓ : Loc Cert.XaFwdIdeal.nD Cert.XaFwdIdeal.τ Cert.XaFwdIdeal.sig) → Buf (Elt Ideal) ℓ) (g : Dev Cert.XaFwdIdeal.nD → PrngReg)
    (m' : (ℓ : Loc Cert.XaFwdRefIdeal.nD Cert.XaFwdRefIdeal.τ Cert.XaFwdRefIdeal.sig) → Buf (Elt Ideal) ℓ) (g' : Dev Cert.XaFwdRefIdeal.nD → PrngReg), Pre_XaFwdIdeal m →
    (∀ c : Dev Cert.XaFwdIdeal.nD,
      m' ((c.tc : Thread Cert.XaFwdRefIdeal.nD Cert.XaFwdRefIdeal.τ).loc Cert.XaFwdRefIdeal.main_arg0) = m ((c.tc : Thread Cert.XaFwdIdeal.nD Cert.XaFwdIdeal.τ).loc Cert.XaFwdIdeal.main_arg0)
      ∧ m' ((c.tc : Thread Cert.XaFwdRefIdeal.nD Cert.XaFwdRefIdeal.τ).loc Cert.XaFwdRefIdeal.main_arg1) = m ((c.tc : Thread Cert.XaFwdIdeal.nD Cert.XaFwdIdeal.τ).loc Cert.XaFwdIdeal.main_arg1)) →
    ∃ (v0 : (c : Dev Cert.XaFwdIdeal.nD) → Buf (Elt Ideal) ((c.tc : Thread Cert.XaFwdIdeal.nD Cert.XaFwdIdeal.τ).loc Cert.XaFwdIdeal.main_v0)),
      θ_run (Cert.XaFwdIdeal.defs (F := Ideal)) (onTc (τ := Cert.XaFwdIdeal.τ) (Cert.XaFwdIdeal.main (F := Ideal))) ⟨m, fun _ => 0, g⟩ (fun r => ∀ c : Dev Cert.XaFwdIdeal.nD,
          r.2.mem ((c.tc : Thread Cert.XaFwdIdeal.nD Cert.XaFwdIdeal.τ).loc Cert.XaFwdIdeal.main_v0) = v0 c
          ∧ r.2.mem ((c.tc : Thread Cert.XaFwdIdeal.nD Cert.XaFwdIdeal.τ).loc Cert.XaFwdIdeal.main_arg0) = m ((c.tc : Thread Cert.XaFwdIdeal.nD Cert.XaFwdIdeal.τ).loc Cert.XaFwdIdeal.main_arg0)
          ∧ r.2.mem ((c.tc : Thread Cert.XaFwdIdeal.nD Cert.XaFwdIdeal.τ).loc Cert.XaFwdIdeal.main_arg1) = m ((c.tc : Thread Cert.XaFwdIdeal.nD Cert.XaFwdIdeal.τ).loc Cert.XaFwdIdeal.main_arg1))
      ∧ θ_run (Cert.XaFwdRefIdeal.defs (F := Ideal)) (onTc (τ := Cert.XaFwdRefIdeal.τ) (Cert.XaFwdRefIdeal.main (F := Ideal))) ⟨m', fun _ => 0, g'⟩ (fun r => ∀ c : Dev Cert.XaFwdRefIdeal.nD,
          r.2.mem ((c.tc : Thread Cert.XaFwdRefIdeal.nD Cert.XaFwdRefIdeal.τ).loc Cert.XaFwdRefIdeal.main_v23) = v0 c
          ∧ r.2.mem ((c.tc : Thread Cert.XaFwdRefIdeal.nD Cert.XaFwdRefIdeal.τ).loc Cert.XaFwdRefIdeal.main_arg0) = m' ((c.tc : Thread Cert.XaFwdRefIdeal.nD Cert.XaFwdRefIdeal.τ).loc Cert.XaFwdRefIdeal.main_arg0)
          ∧ r.2.mem ((c.tc : Thread Cert.XaFwdRefIdeal.nD Cert.XaFwdRefIdeal.τ).loc Cert.XaFwdRefIdeal.main_arg1) = m' ((c.tc : Thread Cert.XaFwdRefIdeal.nD Cert.XaFwdRefIdeal.τ).loc Cert.XaFwdRefIdeal.main_arg1))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v12) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_NormAdd_NormAddIdeal : Prop :=
  True

def algebraic_NormAddIdeal_NormAddRefIdeal [hNormAddIdeal : Cert.NormAddIdeal.Facts] [hNormAddRefIdeal : Cert.NormAddRefIdeal.Facts] : Prop :=
  ∀ (m : (ℓ : Loc Cert.NormAddIdeal.nD Cert.NormAddIdeal.τ Cert.NormAddIdeal.sig) → Buf (Elt Ideal) ℓ) (g : Dev Cert.NormAddIdeal.nD → PrngReg)
    (m' : (ℓ : Loc Cert.NormAddRefIdeal.nD Cert.NormAddRefIdeal.τ Cert.NormAddRefIdeal.sig) → Buf (Elt Ideal) ℓ) (g' : Dev Cert.NormAddRefIdeal.nD → PrngReg), Pre_NormAddIdeal m →
    (∀ c : Dev Cert.NormAddIdeal.nD,
      m' ((c.tc : Thread Cert.NormAddRefIdeal.nD Cert.NormAddRefIdeal.τ).loc Cert.NormAddRefIdeal.main_arg0) = m ((c.tc : Thread Cert.NormAddIdeal.nD Cert.NormAddIdeal.τ).loc Cert.NormAddIdeal.main_arg0)
      ∧ m' ((c.tc : Thread Cert.NormAddRefIdeal.nD Cert.NormAddRefIdeal.τ).loc Cert.NormAddRefIdeal.main_arg1) = m ((c.tc : Thread Cert.NormAddIdeal.nD Cert.NormAddIdeal.τ).loc Cert.NormAddIdeal.main_arg1)
      ∧ m' ((c.tc : Thread Cert.NormAddRefIdeal.nD Cert.NormAddRefIdeal.τ).loc Cert.NormAddRefIdeal.main_arg2) = m ((c.tc : Thread Cert.NormAddIdeal.nD Cert.NormAddIdeal.τ).loc Cert.NormAddIdeal.main_arg2)) →
    ∃ (v0 : (c : Dev Cert.NormAddIdeal.nD) → Buf (Elt Ideal) ((c.tc : Thread Cert.NormAddIdeal.nD Cert.NormAddIdeal.τ).loc Cert.NormAddIdeal.main_v0)),
      θ_run (Cert.NormAddIdeal.defs (F := Ideal)) (onTc (τ := Cert.NormAddIdeal.τ) (Cert.NormAddIdeal.main (F := Ideal))) ⟨m, fun _ => 0, g⟩ (fun r => ∀ c : Dev Cert.NormAddIdeal.nD,
          r.2.mem ((c.tc : Thread Cert.NormAddIdeal.nD Cert.NormAddIdeal.τ).loc Cert.NormAddIdeal.main_v0) = v0 c
          ∧ r.2.mem ((c.tc : Thread Cert.NormAddIdeal.nD Cert.NormAddIdeal.τ).loc Cert.NormAddIdeal.main_arg0) = m ((c.tc : Thread Cert.NormAddIdeal.nD Cert.NormAddIdeal.τ).loc Cert.NormAddIdeal.main_arg0)
          ∧ r.2.mem ((c.tc : Thread Cert.NormAddIdeal.nD Cert.NormAddIdeal.τ).loc Cert.NormAddIdeal.main_arg1) = m ((c.tc : Thread Cert.NormAddIdeal.nD Cert.NormAddIdeal.τ).loc Cert.NormAddIdeal.main_arg1)
          ∧ r.2.mem ((c.tc : Thread Cert.NormAddIdeal.nD Cert.NormAddIdeal.τ).loc Cert.NormAddIdeal.main_arg2) = m ((c.tc : Thread Cert.NormAddIdeal.nD Cert.NormAddIdeal.τ).loc Cert.NormAddIdeal.main_arg2))
      ∧ θ_run (Cert.NormAddRefIdeal.defs (F := Ideal)) (onTc (τ := Cert.NormAddRefIdeal.τ) (Cert.NormAddRefIdeal.main (F := Ideal))) ⟨m', fun _ => 0, g'⟩ (fun r => ∀ c : Dev Cert.NormAddRefIdeal.nD,
          r.2.mem ((c.tc : Thread Cert.NormAddRefIdeal.nD Cert.NormAddRefIdeal.τ).loc Cert.NormAddRefIdeal.main_v12) = v0 c
          ∧ r.2.mem ((c.tc : Thread Cert.NormAddRefIdeal.nD Cert.NormAddRefIdeal.τ).loc Cert.NormAddRefIdeal.main_arg0) = m' ((c.tc : Thread Cert.NormAddRefIdeal.nD Cert.NormAddRefIdeal.τ).loc Cert.NormAddRefIdeal.main_arg0)
          ∧ r.2.mem ((c.tc : Thread Cert.NormAddRefIdeal.nD Cert.NormAddRefIdeal.τ).loc Cert.NormAddRefIdeal.main_arg1) = m' ((c.tc : Thread Cert.NormAddRefIdeal.nD Cert.NormAddRefIdeal.τ).loc Cert.NormAddRefIdeal.main_arg1)
          ∧ r.2.mem ((c.tc : Thread Cert.NormAddRefIdeal.nD Cert.NormAddRefIdeal.τ).loc Cert.NormAddRefIdeal.main_arg2) = m' ((c.tc : Thread Cert.NormAddRefIdeal.nD Cert.NormAddRefIdeal.τ).loc Cert.NormAddRefIdeal.main_arg2))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v34) = v0 c
          ∧ r.2.mem ((c.tc : Thread Cert.NormBwdRefIdeal.nD Cert.NormBwdRefIdeal.τ).loc Cert.NormBwdRefIdeal.main_v17) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2))

def preserves_GmFwd_GmFwdIdeal : Prop :=
  True

def algebraic_GmFwdIdeal_GmFwdRefIdeal [hGmFwdIdeal : Cert.GmFwdIdeal.Facts] [hGmFwdRefIdeal : Cert.GmFwdRefIdeal.Facts] : Prop :=
  ∀ (m : (ℓ : Loc Cert.GmFwdIdeal.nD Cert.GmFwdIdeal.τ Cert.GmFwdIdeal.sig) → Buf (Elt Ideal) ℓ) (g : Dev Cert.GmFwdIdeal.nD → PrngReg)
    (m' : (ℓ : Loc Cert.GmFwdRefIdeal.nD Cert.GmFwdRefIdeal.τ Cert.GmFwdRefIdeal.sig) → Buf (Elt Ideal) ℓ) (g' : Dev Cert.GmFwdRefIdeal.nD → PrngReg), Pre_GmFwdIdeal m →
    (∀ c : Dev Cert.GmFwdIdeal.nD,
      m' ((c.tc : Thread Cert.GmFwdRefIdeal.nD Cert.GmFwdRefIdeal.τ).loc Cert.GmFwdRefIdeal.main_arg0) = m ((c.tc : Thread Cert.GmFwdIdeal.nD Cert.GmFwdIdeal.τ).loc Cert.GmFwdIdeal.main_arg0)
      ∧ m' ((c.tc : Thread Cert.GmFwdRefIdeal.nD Cert.GmFwdRefIdeal.τ).loc Cert.GmFwdRefIdeal.main_arg1) = m ((c.tc : Thread Cert.GmFwdIdeal.nD Cert.GmFwdIdeal.τ).loc Cert.GmFwdIdeal.main_arg1)
      ∧ m' ((c.tc : Thread Cert.GmFwdRefIdeal.nD Cert.GmFwdRefIdeal.τ).loc Cert.GmFwdRefIdeal.main_arg2) = m ((c.tc : Thread Cert.GmFwdIdeal.nD Cert.GmFwdIdeal.τ).loc Cert.GmFwdIdeal.main_arg2)
      ∧ m' ((c.tc : Thread Cert.GmFwdRefIdeal.nD Cert.GmFwdRefIdeal.τ).loc Cert.GmFwdRefIdeal.main_arg3) = m ((c.tc : Thread Cert.GmFwdIdeal.nD Cert.GmFwdIdeal.τ).loc Cert.GmFwdIdeal.main_arg3)) →
    ∃ (v0 : (c : Dev Cert.GmFwdIdeal.nD) → Buf (Elt Ideal) ((c.tc : Thread Cert.GmFwdIdeal.nD Cert.GmFwdIdeal.τ).loc Cert.GmFwdIdeal.main_v1)),
      θ_run (Cert.GmFwdIdeal.defs (F := Ideal)) (onTc (τ := Cert.GmFwdIdeal.τ) (Cert.GmFwdIdeal.main (F := Ideal))) ⟨m, fun _ => 0, g⟩ (fun r => ∀ c : Dev Cert.GmFwdIdeal.nD,
          r.2.mem ((c.tc : Thread Cert.GmFwdIdeal.nD Cert.GmFwdIdeal.τ).loc Cert.GmFwdIdeal.main_v1) = v0 c
          ∧ r.2.mem ((c.tc : Thread Cert.GmFwdIdeal.nD Cert.GmFwdIdeal.τ).loc Cert.GmFwdIdeal.main_arg0) = m ((c.tc : Thread Cert.GmFwdIdeal.nD Cert.GmFwdIdeal.τ).loc Cert.GmFwdIdeal.main_arg0)
          ∧ r.2.mem ((c.tc : Thread Cert.GmFwdIdeal.nD Cert.GmFwdIdeal.τ).loc Cert.GmFwdIdeal.main_arg1) = m ((c.tc : Thread Cert.GmFwdIdeal.nD Cert.GmFwdIdeal.τ).loc Cert.GmFwdIdeal.main_arg1)
          ∧ r.2.mem ((c.tc : Thread Cert.GmFwdIdeal.nD Cert.GmFwdIdeal.τ).loc Cert.GmFwdIdeal.main_arg2) = m ((c.tc : Thread Cert.GmFwdIdeal.nD Cert.GmFwdIdeal.τ).loc Cert.GmFwdIdeal.main_arg2)
          ∧ r.2.mem ((c.tc : Thread Cert.GmFwdIdeal.nD Cert.GmFwdIdeal.τ).loc Cert.GmFwdIdeal.main_arg3) = m ((c.tc : Thread Cert.GmFwdIdeal.nD Cert.GmFwdIdeal.τ).loc Cert.GmFwdIdeal.main_arg3))
      ∧ θ_run (Cert.GmFwdRefIdeal.defs (F := Ideal)) (onTc (τ := Cert.GmFwdRefIdeal.τ) (Cert.GmFwdRefIdeal.main (F := Ideal))) ⟨m', fun _ => 0, g'⟩ (fun r => ∀ c : Dev Cert.GmFwdRefIdeal.nD,
          r.2.mem ((c.tc : Thread Cert.GmFwdRefIdeal.nD Cert.GmFwdRefIdeal.τ).loc Cert.GmFwdRefIdeal.main_v60) = v0 c
          ∧ r.2.mem ((c.tc : Thread Cert.GmFwdRefIdeal.nD Cert.GmFwdRefIdeal.τ).loc Cert.GmFwdRefIdeal.main_arg0) = m' ((c.tc : Thread Cert.GmFwdRefIdeal.nD Cert.GmFwdRefIdeal.τ).loc Cert.GmFwdRefIdeal.main_arg0)
          ∧ r.2.mem ((c.tc : Thread Cert.GmFwdRefIdeal.nD Cert.GmFwdRefIdeal.τ).loc Cert.GmFwdRefIdeal.main_arg1) = m' ((c.tc : Thread Cert.GmFwdRefIdeal.nD Cert.GmFwdRefIdeal.τ).loc Cert.GmFwdRefIdeal.main_arg1)
          ∧ r.2.mem ((c.tc : Thread Cert.GmFwdRefIdeal.nD Cert.GmFwdRefIdeal.τ).loc Cert.GmFwdRefIdeal.main_arg2) = m' ((c.tc : Thread Cert.GmFwdRefIdeal.nD Cert.GmFwdRefIdeal.τ).loc Cert.GmFwdRefIdeal.main_arg2)
          ∧ r.2.mem ((c.tc : Thread Cert.GmFwdRefIdeal.nD Cert.GmFwdRefIdeal.τ).loc Cert.GmFwdRefIdeal.main_arg3) = m' ((c.tc : Thread Cert.GmFwdRefIdeal.nD Cert.GmFwdRefIdeal.τ).loc Cert.GmFwdRefIdeal.main_arg3))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hBranch : Cert.Branch.Facts) (hBranchIdeal : Cert.BranchIdeal.Facts) (hBranchRefIdeal : Cert.BranchRefIdeal.Facts) (hMemKv : Cert.MemKv.Facts) (hMemKvIdeal : Cert.MemKvIdeal.Facts) (hMemKvRefIdeal : Cert.MemKvRefIdeal.Facts) (hProj : Cert.Proj.Facts) (hProjIdeal : Cert.ProjIdeal.Facts) (hProjRefIdeal : Cert.ProjRefIdeal.Facts) (hProjDx : Cert.ProjDx.Facts) (hProjDxIdeal : Cert.ProjDxIdeal.Facts) (hProjDxRefIdeal : Cert.ProjDxRefIdeal.Facts) (hUp : Cert.Up.Facts) (hUpIdeal : Cert.UpIdeal.Facts) (hUpRefIdeal : Cert.UpRefIdeal.Facts) (hUpDx : Cert.UpDx.Facts) (hUpDxIdeal : Cert.UpDxIdeal.Facts) (hUpDxRefIdeal : Cert.UpDxRefIdeal.Facts) (hDownFwd : Cert.DownFwd.Facts) (hDownFwdIdeal : Cert.DownFwdIdeal.Facts) (hDownFwdRefIdeal : Cert.DownFwdRefIdeal.Facts) (hMergeBwd : Cert.MergeBwd.Facts) (hMergeBwdIdeal : Cert.MergeBwdIdeal.Facts) (hMergeBwdRefIdeal : Cert.MergeBwdRefIdeal.Facts) (hMergeFwd : Cert.MergeFwd.Facts) (hMergeFwdIdeal : Cert.MergeFwdIdeal.Facts) (hMergeFwdRefIdeal : Cert.MergeFwdRefIdeal.Facts) (hXaBwd : Cert.XaBwd.Facts) (hXaBwdIdeal : Cert.XaBwdIdeal.Facts) (hXaBwdRefIdeal : Cert.XaBwdRefIdeal.Facts) (hXaFwd : Cert.XaFwd.Facts) (hXaFwdIdeal : Cert.XaFwdIdeal.Facts) (hXaFwdRefIdeal : Cert.XaFwdRefIdeal.Facts) (hNormFwd : Cert.NormFwd.Facts) (hNormFwdIdeal : Cert.NormFwdIdeal.Facts) (hNormFwdRefIdeal : Cert.NormFwdRefIdeal.Facts) (hNormAdd : Cert.NormAdd.Facts) (hNormAddIdeal : Cert.NormAddIdeal.Facts) (hNormAddRefIdeal : Cert.NormAddRefIdeal.Facts) (hNormBwd : Cert.NormBwd.Facts) (hNormBwdIdeal : Cert.NormBwdIdeal.Facts) (hNormBwdRefIdeal : Cert.NormBwdRefIdeal.Facts) (hGmFwd : Cert.GmFwd.Facts) (hGmFwdIdeal : Cert.GmFwdIdeal.Facts) (hGmFwdRefIdeal : Cert.GmFwdRefIdeal.Facts) (hPre_finite : Cert.Pre_finite.Facts) (hPre_finite_xa : Cert.Pre_finite_xa.Facts),
    quiescent_Kernel (hKernel := hKernel) (hPre_finite := hPre_finite)
    ∧ quiescent_KernelIdeal (hKernelIdeal := hKernelIdeal) (hPre_finite := hPre_finite)
    ∧ quiescent_ReferenceIdeal (hReferenceIdeal := hReferenceIdeal) (hPre_finite := hPre_finite)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Branch (hBranch := hBranch)
    ∧ quiescent_BranchIdeal (hBranchIdeal := hBranchIdeal)
    ∧ quiescent_BranchRefIdeal (hBranchRefIdeal := hBranchRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Proj (hProj := hProj)
    ∧ quiescent_ProjIdeal (hProjIdeal := hProjIdeal)
    ∧ quiescent_ProjRefIdeal (hProjRefIdeal := hProjRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_Up (hUp := hUp)
    ∧ quiescent_UpIdeal (hUpIdeal := hUpIdeal)
    ∧ quiescent_UpRefIdeal (hUpRefIdeal := hUpRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_XaBwd (hXaBwd := hXaBwd) (hPre_finite_xa := hPre_finite_xa)
    ∧ quiescent_XaBwdIdeal (hXaBwdIdeal := hXaBwdIdeal) (hPre_finite_xa := hPre_finite_xa)
    ∧ quiescent_XaBwdRefIdeal (hXaBwdRefIdeal := hXaBwdRefIdeal) (hPre_finite_xa := hPre_finite_xa)
    ∧ quiescent_XaFwd (hXaFwd := hXaFwd)
    ∧ quiescent_XaFwdIdeal (hXaFwdIdeal := hXaFwdIdeal)
    ∧ quiescent_XaFwdRefIdeal (hXaFwdRefIdeal := hXaFwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_NormAdd (hNormAdd := hNormAdd)
    ∧ quiescent_NormAddIdeal (hNormAddIdeal := hNormAddIdeal)
    ∧ quiescent_NormAddRefIdeal (hNormAddRefIdeal := hNormAddRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_GmFwd (hGmFwd := hGmFwd)
    ∧ quiescent_GmFwdIdeal (hGmFwdIdeal := hGmFwdIdeal)
    ∧ quiescent_GmFwdRefIdeal (hGmFwdRefIdeal := hGmFwdRefIdeal)
    ∧ preserves_Kernel_KernelIdeal
    ∧ algebraic_KernelIdeal_ReferenceIdeal (hKernelIdeal := hKernelIdeal) (hReferenceIdeal := hReferenceIdeal) (hPre_finite := hPre_finite)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Branch_BranchIdeal
    ∧ algebraic_BranchIdeal_BranchRefIdeal (hBranchIdeal := hBranchIdeal) (hBranchRefIdeal := hBranchRefIdeal)
    ∧ preserves_MemKv_MemKvIdeal
    ∧ algebraic_MemKvIdeal_MemKvRefIdeal (hMemKvIdeal := hMemKvIdeal) (hMemKvRefIdeal := hMemKvRefIdeal)
    ∧ preserves_Proj_ProjIdeal
    ∧ algebraic_ProjIdeal_ProjRefIdeal (hProjIdeal := hProjIdeal) (hProjRefIdeal := hProjRefIdeal)
    ∧ preserves_ProjDx_ProjDxIdeal
    ∧ algebraic_ProjDxIdeal_ProjDxRefIdeal (hProjDxIdeal := hProjDxIdeal) (hProjDxRefIdeal := hProjDxRefIdeal)
    ∧ preserves_Up_UpIdeal
    ∧ algebraic_UpIdeal_UpRefIdeal (hUpIdeal := hUpIdeal) (hUpRefIdeal := hUpRefIdeal)
    ∧ preserves_UpDx_UpDxIdeal
    ∧ algebraic_UpDxIdeal_UpDxRefIdeal (hUpDxIdeal := hUpDxIdeal) (hUpDxRefIdeal := hUpDxRefIdeal)
    ∧ preserves_DownFwd_DownFwdIdeal
    ∧ algebraic_DownFwdIdeal_DownFwdRefIdeal (hDownFwdIdeal := hDownFwdIdeal) (hDownFwdRefIdeal := hDownFwdRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_XaBwd_XaBwdIdeal
    ∧ algebraic_XaBwdIdeal_XaBwdRefIdeal (hXaBwdIdeal := hXaBwdIdeal) (hXaBwdRefIdeal := hXaBwdRefIdeal) (hPre_finite_xa := hPre_finite_xa)
    ∧ preserves_XaFwd_XaFwdIdeal
    ∧ algebraic_XaFwdIdeal_XaFwdRefIdeal (hXaFwdIdeal := hXaFwdIdeal) (hXaFwdRefIdeal := hXaFwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_NormAdd_NormAddIdeal
    ∧ algebraic_NormAddIdeal_NormAddRefIdeal (hNormAddIdeal := hNormAddIdeal) (hNormAddRefIdeal := hNormAddRefIdeal)
    ∧ preserves_NormBwd_NormBwdIdeal
    ∧ algebraic_NormBwdIdeal_NormBwdRefIdeal (hNormBwdIdeal := hNormBwdIdeal) (hNormBwdRefIdeal := hNormBwdRefIdeal)
    ∧ preserves_GmFwd_GmFwdIdeal
    ∧ algebraic_GmFwdIdeal_GmFwdRefIdeal (hGmFwdIdeal := hGmFwdIdeal) (hGmFwdRefIdeal := hGmFwdRefIdeal)
-- ==== Pre_finite.lean ====
abbrev S2048x6144 : Shape := ⟨2, ![2048, 6144]⟩
abbrev S2048x1024 : Shape := ⟨2, ![2048, 1024]⟩
abbrev S_ : Shape := ⟨0, ![]⟩

class Facts : Prop where
  bcast_S_S2048x6144 : S_.BroadcastsInDim S2048x6144 (![] : Fin 0 → Fin S2048x6144.rank)
  reducesTo_S2048x6144_S_d0_1 : S2048x6144.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S2048x6144 .f32) (main_arg1 : FVec F S2048x1024 .f32) : IVec S_ 1 :=
  let main_v0 : FVec F S2048x6144 .f32 := Host.absf main_arg0
  let main_cst : FVec F S_ .f32 := constant S_ .f32 0x7F800000#32
  let main_v1 : FVec F S2048x6144 .f32 := broadcastInDim S2048x6144 ![] bcast_S_S2048x6144 main_cst
  let main_v2 : IVec S2048x6144 1 := cmpf .olt main_v0 main_v1
  let main_c : IVec S_ 1 := constantI S_ 1 1#1
  let main_v3 : IVec S_ 1 := (fun x v => Host.reduce IntOp.andi x v reducesTo_S2048x6144_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  main_v8
-- ==== Pre_finite_xa.lean ====
abbrev S2048x6144 : Shape := ⟨2, ![2048, 6144]⟩
abbrev S256x2048 : Shape := ⟨2, ![256, 2048]⟩
abbrev S2048x1024 : Shape := ⟨2, ![2048, 1024]⟩
abbrev S_ : Shape := ⟨0, ![]⟩

class Facts : Prop where
  bcast_S_S2048x6144 : S_.BroadcastsInDim S2048x6144 (![] : Fin 0 → Fin S2048x6144.rank)
  reducesTo_S2048x6144_S_d0_1 : S2048x6144.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_

variable [Facts]

def fn {F : FTy → Type} [FloatOps F] (main_arg0 : FVec F S2048x6144 .f32) (main_arg1 : FVec F S256x2048 .f32) (main_arg2 : FVec F S2048x1024 .f32) : IVec S_ 1 :=
  let main_v0 : FVec F S2048x6144 .f32 := Host.absf main_arg0
  let main_cst : FVec F S_ .f32 := constant S_ .f32 0x7F800000#32
  let main_v1 : FVec F S2048x6144 .f32 := broadcastInDim S2048x6144 ![] bcast_S_S2048x6144 main_cst
  let main_v2 : IVec S2048x6144 1 := cmpf .olt main_v0 main_v1
  let main_c : IVec S_ 1 := constantI S_ 1 1#1
  let main_v3 : IVec S_ 1 := (fun x v => Host.reduce IntOp.andi x v reducesTo_S2048x6144_S_d0_1 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  main_v8
-- ==== Kernel.lean ====
abbrev S2048x6144 : Shape := ⟨2, ![2048, 6144]⟩
abbrev S2048x1024 : Shape := ⟨2, ![2048, 1024]⟩
abbrev S2048x8x128 : Shape := ⟨3, ![2048, 8, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x4x512x16x128 : Shape := ⟨5, ![8, 4, 512, 16, 128]⟩
abbrev S8x4x16x512x128 : Shape := ⟨5, ![8, 4, 16, 512, 128]⟩
abbrev S512x128 : Shape := ⟨2, ![512, 128]⟩
abbrev S2048x128 : Shape := ⟨2, ![2048, 128]⟩
abbrev S1x1x16x512x128 : Shape := ⟨5, ![1, 1, 16, 512, 128]⟩
abbrev S128x256 : Shape := ⟨2, ![128, 256]⟩
abbrev S128x128 : Shape := ⟨2, ![128, 128]⟩
abbrev S1x1x1x512x128 : Shape := ⟨5, ![1, 1, 1, 512, 128]⟩
abbrev S512x256 : Shape := ⟨2, ![512, 256]⟩

abbrev nBuf : Space → Nat
  | .hbm => 97
  | .vmem => 20
  | .smem => 0
  | _ => 0

abbrev bufTy : (tb : Table) → Fin (tcTables nBuf tb) → BufTy
  | .hbm, ⟨0, _⟩ => ⟨S2048x6144, .f32⟩
  | .hbm, ⟨1, _⟩ => ⟨S2048x1024, .f32⟩
  | .hbm, ⟨2, _⟩ => ⟨S2048x1024, .f32⟩
  | .hbm, ⟨3, _⟩ => ⟨S2048x8x128, .f32⟩
  | .hbm, ⟨4, _⟩ => ⟨S2048x1024, .f32⟩
  | .hbm, ⟨5, _⟩ => ⟨S2048x8x128, .f32⟩
  | .hbm, ⟨6, _⟩ => ⟨S8x2048x2048, .f32⟩
  | .hbm, ⟨7, _⟩ => ⟨S_, .f32⟩
  | .hbm, ⟨8, _⟩ => ⟨S8x2048x2048, .f32⟩
  | .hbm, ⟨9, _⟩ => ⟨S8x2048x2048, .f32⟩
  | .hbm, ⟨10, _⟩ => ⟨S2048, .i32⟩
  | .hbm, ⟨11, _⟩ => ⟨S1x2048, .i32⟩
  | .hbm, ⟨12, _⟩ => ⟨S2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S_, .f32⟩
  | .hbm, ⟨36, _⟩ => ⟨S8x2048x2048, .i1⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S_, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S_, .f32⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S8x2048x2048, .f32⟩
  | .hbm, ⟨49, _⟩ => ⟨S8x2048x2048, .i1⟩
  | .hbm, ⟨50, _⟩ => ⟨S8x2048x2048, .f32⟩
  | .hbm, ⟨51, _⟩ => ⟨S8x2048x2048, .f32⟩
  | .hbm, ⟨52, _⟩ => ⟨S8x2048x2048, .f32⟩
  | .hbm, ⟨53, _⟩ => ⟨S8x2048x2048, .f32⟩
  | .hbm, ⟨54, _⟩ => ⟨S8x2048x2048, .f32⟩
  | .hbm, ⟨55, _⟩ => ⟨S8x2048x2048, .f32⟩
  | .hbm, ⟨56, _⟩ => ⟨S8x2048x2048, .f32⟩
  | .hbm, ⟨57, _⟩ => ⟨S8x2048x2048, .f32⟩
  | .hbm, ⟨58, _⟩ => ⟨S8x2048x2048, .f32⟩
  | .hbm, ⟨59, _⟩ => ⟨S8x2048x2048, .f32⟩
  | .hbm, ⟨60, _⟩ => ⟨S8x2048x2048, .f32⟩
  | .hbm, ⟨61, _⟩ => ⟨S_, .f32⟩
  | .hbm, ⟨62, _⟩ => ⟨S_, .f32⟩
  | .hbm, ⟨63, _⟩ => ⟨S8x2048x2048, .i1⟩
  | .hbm, ⟨64, _⟩ => ⟨S8x2048x2048, .f32⟩
  | .hbm, ⟨65, _⟩ => ⟨S8x2048x2048, .f32⟩
  | .hbm, ⟨66, _⟩ => ⟨S8x2048x2048, .f32⟩
  | .hbm, ⟨67, _⟩ => ⟨S_, .f32⟩
  | .hbm, ⟨68, _⟩ => ⟨S8x2048x2048, .f32⟩
  | .hbm, ⟨69, _⟩ => ⟨S8x2048x2048, .f32⟩
  | .hbm, ⟨70, _⟩ => ⟨S8x2048x2048, .f32⟩
  | .hbm, ⟨71, _⟩ => ⟨S8x2048x2048, .f32⟩
  | .hbm, ⟨72, _⟩ => ⟨S8x2048x2048, .i1⟩
  | .hbm, ⟨73, _⟩ => ⟨S8x2048x2048, .f32⟩
  | .hbm, ⟨74, _⟩ => ⟨S8x2048x2048, .f32⟩
  | .hbm, ⟨75, _⟩ => ⟨S8x2048x2048, .f32⟩
  | .hbm, ⟨76, _⟩ => ⟨S8x2048x2048, .f32⟩
  | .hbm, ⟨77, _⟩ => ⟨S8x2048x2048, .f32⟩
  | .hbm, ⟨78, _⟩ => ⟨S8x2048x2048, .f32⟩
  | .hbm, ⟨79, _⟩ => ⟨S8x2048x2048, .f32⟩
  | .hbm, ⟨80, _⟩ => ⟨S8x2048x2048, .f32⟩
  | .hbm, ⟨81, _⟩ => ⟨S8x2048x2048, .f32⟩
  | .hbm, ⟨82, _⟩ => ⟨S8x2048x2048, .f32⟩
  | .hbm, ⟨83, _⟩ => ⟨S_, .f32⟩
  | .hbm, ⟨84, _⟩ => ⟨S_, .f32⟩
  | .hbm, ⟨85, _⟩ => ⟨S8x2048x2048, .i1⟩
  | .hbm, ⟨86, _⟩ => ⟨S8x2048x2048, .f32⟩
  | .hbm, ⟨87, _⟩ => ⟨S8x2048x2048, .f32⟩
  | .hbm, ⟨88, _⟩ => ⟨S8x2048x2048, .bf16⟩
  | .hbm, ⟨89, _⟩ => ⟨S8x4x512x16x128, .bf16⟩
  | .hbm, ⟨90, _⟩ => ⟨S8x4x16x512x128, .bf16⟩
  | .hbm, ⟨91, _⟩ => ⟨S8x2048x2048, .bf16⟩
  | .hbm, ⟨92, _⟩ => ⟨S8x4x512x16x128, .bf16⟩
  | .hbm, ⟨93, _⟩ => ⟨S8x4x16x512x128, .bf16⟩
  | .hbm, ⟨94, _⟩ => ⟨S2048x1024, .f32⟩
  | .hbm, ⟨95, _⟩ => ⟨S2048x1024, .f32⟩
  | .hbm, ⟨96, _⟩ => ⟨S2048x1024, .f32⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S512x128, .f32⟩
  | .local _ .vmem, ⟨7, _⟩ => ⟨S512x128, .f32⟩
  | .local _ .vmem, ⟨8, _⟩ => ⟨S1x1x16x512x128, .bf16⟩
  | .local _ .vmem, ⟨9, _⟩ => ⟨S1x1x16x512x128, .bf16⟩
  | .local _ .vmem, ⟨10, _⟩ => ⟨S1x1x16x512x128, .bf16⟩
  | .local _ .vmem, ⟨11, _⟩ => ⟨S1x1x16x512x128, .bf16⟩
  | .local _ .vmem, ⟨12, _⟩ => ⟨S512x128, .f32⟩
  | .local _ .vmem, ⟨13, _⟩ => ⟨S512x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S512x128, .f32⟩
  | .local _ .vmem, ⟨19, _⟩ => ⟨S512x128, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v15 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v16 : Ref sig .tc := ⟨.hbm, 38, rfl⟩
abbrev main_call2_cst : Ref sig .tc := ⟨.hbm, 39, rfl⟩
abbrev main_call2_v0 : Ref sig .tc := ⟨.hbm, 40, rfl⟩
abbrev main_v17 : Ref sig .tc := ⟨.hbm, 41, rfl⟩
abbrev main_v18 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v22 : Ref sig .tc := ⟨.hbm, 65, rfl⟩
abbrev main_call5_v0 : Ref sig .tc := ⟨.hbm, 66, rfl⟩
abbrev main_call5_call0_cst : Ref sig .tc := ⟨.hbm, 67, rfl⟩
abbrev main_call5_call0_v0 : Ref sig .tc := ⟨.hbm, 68, rfl⟩
abbrev main_call5_call0_v1 : Ref sig .tc := ⟨.hbm, 69, rfl⟩
abbrev main_call5_call0_v2 : Ref sig .tc := ⟨.hbm, 70, rfl⟩
abbrev main_call5_call0_v3 : Ref sig .tc := ⟨.hbm, 71, rfl⟩
abbrev main_call5_call0_v4 : Ref sig .tc := ⟨.hbm, 72, rfl⟩
abbrev main_call5_call0_v5 : Ref sig .tc := ⟨.hbm, 73, rfl⟩
abbrev main_call5_call0_v6 : Ref sig .tc := ⟨.hbm, 74, rfl⟩
abbrev main_call5_call0_v7 : Ref sig .tc := ⟨.hbm, 75, rfl⟩
abbrev main_call5_call0_v8 : Ref sig .tc := ⟨.hbm, 76, rfl⟩
abbrev main_call5_call0_v9 : Ref sig .tc := ⟨.hbm, 77, rfl⟩
abbrev main_call5_call0_v10 : Ref sig .tc := ⟨.hbm, 78, rfl⟩
abbrev main_call5_call0_v11 : Ref sig .tc := ⟨.hbm, 79, rfl⟩
abbrev main_call5_v1 : Ref sig .tc := ⟨.hbm, 80, rfl⟩
abbrev main_v23 : Ref sig .tc := ⟨.hbm, 81, rfl⟩
abbrev main_v24 : Ref sig .tc := ⟨.hbm, 82, rfl⟩
abbrev main_cst_2 : Ref sig .tc := ⟨.hbm, 83, rfl⟩
abbrev main_call6_v0 : Ref sig .tc := ⟨.hbm, 84, rfl⟩
abbrev main_call6_v1 : Ref sig .tc := ⟨.hbm, 85, rfl⟩
abbrev main_call6_v2 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32_0 : Ref sig .tc := ⟨.hbm, 94, rfl⟩
abbrev main_v32_1 : Ref sig .tc := ⟨.hbm, 95, rfl⟩
abbrev main_v32_2 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_13 : BitVec 32 := 0#32
  let arg1 : BitVec 32 := BitVec.ofNat 32 (i 1).val
  let v27 : BitVec 32 := Scalar.subi arg1 c0_i32_13
  let c1_i32 : BitVec 32 := 1#32
  let v29 : BitVec 32 := Scalar.divsi v27 c1_i32
  let v30 : BitVec 32 := Scalar.muli v29 c1_i32
  let v31 : BitVec 32 := Scalar.addi c0_i32_13 v30
  let c1_i32_14 : BitVec 32 := 1#32
  ⟨c0_i32_13, v31, c1_i32_14⟩
def k0_mult1 (i : grid0.Coords) (k0_t1 : Fin (k0_t1_loop i).trips) : BitVec 32 :=
  let c4_i32_142 : BitVec 32 := 4#32
  let c0_i32_13 : BitVec 32 := 0#32
  let c1_i32_14 : BitVec 32 := 1#32
  let arg13 : BitVec 32 := Scf.iv c0_i32_13 c1_i32_14 k0_t1
  let v262 : BitVec 32 := Scalar.muli c4_i32_142 arg13
  let c0_i32_143 : BitVec 32 := 0#32
  let v263 : BitVec 32 := Scalar.addi v262 c0_i32_143
  let c128_i32_144 : BitVec 32 := 128#32
  let v264 : BitVec 32 := Scalar.muli v263 c128_i32_144
  v264
def k0_off1 (i : grid0.Coords) (k0_t1 : Fin (k0_t1_loop i).trips) (c0_i32_143 : BitVec 32) : Fin 2 → Nat :=
  let c4_i32_142 : BitVec 32 := 4#32
  let c0_i32_13 : BitVec 32 := 0#32
  let c1_i32_14 : BitVec 32 := 1#32
  let arg13 : BitVec 32 := Scf.iv c0_i32_13 c1_i32_14 k0_t1
  let v262 : BitVec 32 := Scalar.muli c4_i32_142 arg13
  let v263 : BitVec 32 := Scalar.addi v262 c0_i32_143
  let c128_i32_144 : BitVec 32 := 128#32
  let v264 : BitVec 32 := Scalar.muli v263 c128_i32_144
  let v265 : BitVec 32 := v264
  let v266 : Index := Scalar.indexCast v265
  let c0_145 : Index := 0#32
  ![v266.toNat, 0]
def k0_off2 (i : grid0.Coords) (k0_t1 : Fin (k0_t1_loop i).trips) (c0_i32_143 : BitVec 32) : Fin 5 → Nat :=
  let c0_147 : Index := 0#32
  let c0_148 : Index := 0#32
  let c4_i32_142 : BitVec 32 := 4#32
  let c0_i32_13 : BitVec 32 := 0#32
  let c1_i32_14 : BitVec 32 := 1#32
  let arg13 : BitVec 32 := Scf.iv c0_i32_13 c1_i32_14 k0_t1
  let v262 : BitVec 32 := Scalar.muli c4_i32_142 arg13
  let v263 : BitVec 32 := Scalar.addi v262 c0_i32_143
  let v272 : Index := Scalar.indexCast v263
  let c0_149 : Index := 0#32
  let c0_150 : Index := 0#32
  ![0, 0, v272.toNat, 0, 0]
def k0_mult2 (i : grid0.Coords) (k0_t1 : Fin (k0_t1_loop i).trips) : BitVec 32 :=
  let c4_i32_174 : BitVec 32 := 4#32
  let c0_i32_13 : BitVec 32 := 0#32
  let c1_i32_14 : BitVec 32 := 1#32
  let arg13 : BitVec 32 := Scf.iv c0_i32_13 c1_i32_14 k0_t1
  let v322 : BitVec 32 := Scalar.muli c4_i32_174 arg13
  let c1_i32_175 : BitVec 32 := 1#32
  let v323 : BitVec 32 := Scalar.addi v322 c1_i32_175
  let c128_i32_176 : BitVec 32 := 128#32
  let v324 : BitVec 32 := Scalar.muli v323 c128_i32_176
  v324
def k0_mult3 (i : grid0.Coords) (k0_t1 : Fin (k0_t1_loop i).trips) : BitVec 32 :=
  let c4_i32_206 : BitVec 32 := 4#32
  let c0_i32_13 : BitVec 32 := 0#32
  let c1_i32_14 : BitVec 32 := 1#32
  let arg13 : BitVec 32 := Scf.iv c0_i32_13 c1_i32_14 k0_t1
  let v382 : BitVec 32 := Scalar.muli c4_i32_206 arg13
  let c2_i32_207 : BitVec 32 := 2#32
  let v383 : BitVec 32 := Scalar.addi v382 c2_i32_207
  let c128_i32_208 : BitVec 32 := 128#32
  let v384 : BitVec 32 := Scalar.muli v383 c128_i32_208
  v384
def k0_mult4 (i : grid0.Coords) (k0_t1 : Fin (k0_t1_loop i).trips) : BitVec 32 :=
  let c4_i32_238 : BitVec 32 := 4#32
  let c0_i32_13 : BitVec 32 := 0#32
  let c1_i32_14 : BitVec 32 := 1#32
  let arg13 : BitVec 32 := Scf.iv c0_i32_13 c1_i32_14 k0_t1
  let v442 : BitVec 32 := Scalar.muli c4_i32_238 arg13
  let c3_i32_239 : BitVec 32 := 3#32
  let v443 : BitVec 32 := Scalar.addi v442 c3_i32_239
  let c128_i32_240 : BitVec 32 := 128#32
  let v444 : BitVec 32 := Scalar.muli v443 c128_i32_240
  v444
@[reducible] def k0_t2_loop (i : grid0.Coords) : Scf.Loop 32 :=
  let c0_i32_13 : BitVec 32 := 0#32
  let arg1 : BitVec 32 := BitVec.ofNat 32 (i 1).val
  let v27 : BitVec 32 := Scalar.subi arg1 c0_i32_13
  let c1_i32 : BitVec 32 := 1#32
  let v29 : BitVec 32 := Scalar.divsi v27 c1_i32
  let v30 : BitVec 32 := Scalar.muli v29 c1_i32
  let v31 : BitVec 32 := Scalar.addi c0_i32_13 v30
  let v28 : BitVec 32 := Scalar.addi c0_i32_13 v27
  let c1_i32_15 : BitVec 32 := 1#32
  ⟨v31, v28, c1_i32_15⟩
def k0_mult5 (i : grid0.Coords) (k0_t2 : Fin (k0_t2_loop i).trips) : BitVec 32 :=
  let c4_i32_142 : BitVec 32 := 4#32
  let c0_i32_13 : BitVec 32 := 0#32
  let arg1 : BitVec 32 := BitVec.ofNat 32 (i 1).val
  let v27 : BitVec 32 := Scalar.subi arg1 c0_i32_13
  let c1_i32 : BitVec 32 := 1#32
  let v29 : BitVec 32 := Scalar.divsi v27 c1_i32
  let v30 : BitVec 32 := Scalar.muli v29 c1_i32
  let v31 : BitVec 32 := Scalar.addi c0_i32_13 v30
  let c1_i32_15 : BitVec 32 := 1#32
  let arg13 : BitVec 32 := Scf.iv v31 c1_i32_15 k0_t2
  let v262 : BitVec 32 := Scalar.muli c4_i32_142 arg13
  let c0_i32_143 : BitVec 32 := 0#32
  let v263 : BitVec 32 := Scalar.addi v262 c0_i32_143
  let c128_i32_144 : BitVec 32 := 128#32
  let v264 : BitVec 32 := Scalar.muli v263 c128_i32_144
  v264
def k0_off3 (i : grid0.Coords) (k0_t2 : Fin (k0_t2_loop i).trips) (c0_i32_143 : BitVec 32) : Fin 2 → Nat :=
  let c4_i32_142 : BitVec 32 := 4#32
  let c0_i32_13 : BitVec 32 := 0#32
  let arg1 : BitVec 32 := BitVec.ofNat 32 (i 1).val
  let v27 : BitVec 32 := Scalar.subi arg1 c0_i32_13
  let c1_i32 : BitVec 32 := 1#32
  let v29 : BitVec 32 := Scalar.divsi v27 c1_i32
  let v30 : BitVec 32 := Scalar.muli v29 c1_i32
  let v31 : BitVec 32 := Scalar.addi c0_i32_13 v30
  let c1_i32_15 : BitVec 32 := 1#32
  let arg13 : BitVec 32 := Scf.iv v31 c1_i32_15 k0_t2
  let v262 : BitVec 32 := Scalar.muli c4_i32_142 arg13
  let v263 : BitVec 32 := Scalar.addi v262 c0_i32_143
  let c128_i32_144 : BitVec 32 := 128#32
  let v264 : BitVec 32 := Scalar.muli v263 c128_i32_144
  let v265 : BitVec 32 := v264
  let v266 : Index := Scalar.indexCast v265
  let c0_145 : Index := 0#32
  ![v266.toNat, 0]
def k0_off4 (i : grid0.Coords) (k0_t2 : Fin (k0_t2_loop i).trips) (c0_i32_143 : BitVec 32) : Fin 5 → Nat :=
  let c0_147 : Index := 0#32
  let c0_148 : Index := 0#32
  let c4_i32_142 : BitVec 32 := 4#32
  let c0_i32_13 : BitVec 32 := 0#32
  let arg1 : BitVec 32 := BitVec.ofNat 32 (i 1).val
  let v27 : BitVec 32 := Scalar.subi arg1 c0_i32_13
  let c1_i32 : BitVec 32 := 1#32
  let v29 : BitVec 32 := Scalar.divsi v27 c1_i32
  let v30 : BitVec 32 := Scalar.muli v29 c1_i32
  let v31 : BitVec 32 := Scalar.addi c0_i32_13 v30
  let c1_i32_15 : BitVec 32 := 1#32
  let arg13 : BitVec 32 := Scf.iv v31 c1_i32_15 k0_t2
  let v262 : BitVec 32 := Scalar.muli c4_i32_142 arg13
  let v263 : BitVec 32 := Scalar.addi v262 c0_i32_143
  let v272 : Index := Scalar.indexCast v263
  let c0_149 : Index := 0#32
  let c0_150 : Index := 0#32
  ![0, 0, v272.toNat, 0, 0]
def k0_mult6 (i : grid0.Coords) (k0_t2 : Fin (k0_t2_loop i).trips) : BitVec 32 :=
  let c4_i32_174 : BitVec 32 := 4#32
  let c0_i32_13 : BitVec 32 := 0#32
  let arg1 : BitVec 32 := BitVec.ofNat 32 (i 1).val
  let v27 : BitVec 32 := Scalar.subi arg1 c0_i32_13
  let c1_i32 : BitVec 32 := 1#32
  let v29 : BitVec 32 := Scalar.divsi v27 c1_i32
  let v30 : BitVec 32 := Scalar.muli v29 c1_i32
  let v31 : BitVec 32 := Scalar.addi c0_i32_13 v30
  let c1_i32_15 : BitVec 32 := 1#32
  let arg13 : BitVec 32 := Scf.iv v31 c1_i32_15 k0_t2
  let v322 : BitVec 32 := Scalar.muli c4_i32_174 arg13
  let c1_i32_175 : BitVec 32 := 1#32
  let v323 : BitVec 32 := Scalar.addi v322 c1_i32_175
  let c128_i32_176 : BitVec 32 := 128#32
  let v324 : BitVec 32 := Scalar.muli v323 c128_i32_176
  v324
def k0_mult7 (i : grid0.Coords) (k0_t2 : Fin (k0_t2_loop i).trips) : BitVec 32 :=
  let c4_i32_206 : BitVec 32 := 4#32
  let c0_i32_13 : BitVec 32 := 0#32
  let arg1 : BitVec 32 := BitVec.ofNat 32 (i 1).val
  let v27 : BitVec 32 := Scalar.subi arg1 c0_i32_13
  let c1_i32 : BitVec 32 := 1#32
  let v29 : BitVec 32 := Scalar.divsi v27 c1_i32
  let v30 : BitVec 32 := Scalar.muli v29 c1_i32
  let v31 : BitVec 32 := Scalar.addi c0_i32_13 v30
  let c1_i32_15 : BitVec 32 := 1#32
  let arg13 : BitVec 32 := Scf.iv v31 c1_i32_15 k0_t2
  let v382 : BitVec 32 := Scalar.muli c4_i32_206 arg13
  let c2_i32_207 : BitVec 32 := 2#32
  let v383 : BitVec 32 := Scalar.addi v382 c2_i32_207
  let c128_i32_208 : BitVec 32 := 128#32
  let v384 : BitVec 32 := Scalar.muli v383 c128_i32_208
  v384
def k0_mult8 (i : grid0.Coords) (k0_t2 : Fin (k0_t2_loop i).trips) : BitVec 32 :=
  let c4_i32_238 : BitVec 32 := 4#32
  let c0_i32_13 : BitVec 32 := 0#32
  let arg1 : BitVec 32 := BitVec.ofNat 32 (i 1).val
  let v27 : BitVec 32 := Scalar.subi arg1 c0_i32_13
  let c1_i32 : BitVec 32 := 1#32
  let v29 : BitVec 32 := Scalar.divsi v27 c1_i32
  let v30 : BitVec 32 := Scalar.muli v29 c1_i32
  let v31 : BitVec 32 := Scalar.addi c0_i32_13 v30
  let c1_i32_15 : BitVec 32 := 1#32
  let arg13 : BitVec 32 := Scf.iv v31 c1_i32_15 k0_t2
  let v442 : BitVec 32 := Scalar.muli c4_i32_238 arg13
  let c3_i32_239 : BitVec 32 := 3#32
  let v443 : BitVec 32 := Scalar.addi v442 c3_i32_239
  let c128_i32_240 : BitVec 32 := 128#32
  let v444 : BitVec 32 := Scalar.muli v443 c128_i32_240
  v444
def k0_mult9 (i : grid0.Coords) : BitVec 32 :=
  let arg1 : BitVec 32 := BitVec.ofNat 32 (i 1).val
  let c4_i32 : BitVec 32 := 4#32
  let v26 : BitVec 32 := Scalar.muli arg1 c4_i32
  let c0_i32_16 : BitVec 32 := 0#32
  let v32 : BitVec 32 := Scalar.addi v26 c0_i32_16
  let c128_i32_17 : BitVec 32 := 128#32
  let v33 : BitVec 32 := Scalar.muli v32 c128_i32_17
  v33
def k0_off5 (i : grid0.Coords) (c0_i32_16 : BitVec 32) : Fin 2 → Nat :=
  let arg1 : BitVec 32 := BitVec.ofNat 32 (i 1).val
  let c4_i32 : BitVec 32 := 4#32
  let v26 : BitVec 32 := Scalar.muli arg1 c4_i32
  let v32 : BitVec 32 := Scalar.addi v26 c0_i32_16
  let c128_i32_17 : BitVec 32 := 128#32
  let v33 : BitVec 32 := Scalar.muli v32 c128_i32_17
  let v34 : BitVec 32 := v33
  let v35 : Index := Scalar.indexCast v34
  let c0_18 : Index := 0#32
  ![v35.toNat, 0]
def k0_off6 (i : grid0.Coords) (c0_i32_16 : BitVec 32) : Fin 5 → Nat :=
  let c0_20 : Index := 0#32
  let c0_21 : Index := 0#32
  let arg1 : BitVec 32 := BitVec.ofNat 32 (i 1).val
  let c4_i32 : BitVec 32 := 4#32
  let v26 : BitVec 32 := Scalar.muli arg1 c4_i32
  let v32 : BitVec 32 := Scalar.addi v26 c0_i32_16
  let v41 : Index := Scalar.indexCast v32
  let c0_22 : Index := 0#32
  let c0_23 : Index := 0#32
  ![0, 0, v41.toNat, 0, 0]
def k0_mult10 (i : grid0.Coords) : BitVec 32 :=
  let arg1 : BitVec 32 := BitVec.ofNat 32 (i 1).val
  let c4_i32 : BitVec 32 := 4#32
  let v26 : BitVec 32 := Scalar.muli arg1 c4_i32
  let c1_i32_47 : BitVec 32 := 1#32
  let v89 : BitVec 32 := Scalar.addi v26 c1_i32_47
  let c128_i32_48 : BitVec 32 := 128#32
  let v90 : BitVec 32 := Scalar.muli v89 c128_i32_48
  v90
def k0_mult11 (i : grid0.Coords) : BitVec 32 :=
  let arg1 : BitVec 32 := BitVec.ofNat 32 (i 1).val
  let c4_i32 : BitVec 32 := 4#32
  let v26 : BitVec 32 := Scalar.muli arg1 c4_i32
  let c2_i32 : BitVec 32 := 2#32
  let v146 : BitVec 32 := Scalar.addi v26 c2_i32
  let c128_i32_78 : BitVec 32 := 128#32
  let v147 : BitVec 32 := Scalar.muli v146 c128_i32_78
  v147
def k0_mult12 (i : grid0.Coords) : BitVec 32 :=
  let arg1 : BitVec 32 := BitVec.ofNat 32 (i 1).val
  let c4_i32 : BitVec 32 := 4#32
  let v26 : BitVec 32 := Scalar.muli arg1 c4_i32
  let c3_i32 : BitVec 32 := 3#32
  let v203 : BitVec 32 := Scalar.addi v26 c3_i32
  let c128_i32_108 : BitVec 32 := 128#32
  let v204 : BitVec 32 := Scalar.muli v203 c128_i32_108
  v204
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x16x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x16x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S2048x6144 : Shape := ⟨2, ![2048, 6144]⟩
abbrev S2048x1024 : Shape := ⟨2, ![2048, 1024]⟩
abbrev S2048x8x128 : Shape := ⟨3, ![2048, 8, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x128x2048 : Shape := ⟨3, ![8, 128, 2048]⟩
abbrev S8x2048x128 : Shape := ⟨3, ![8, 2048, 128]⟩

abbrev nBuf : Space → Nat
  | .hbm => 173
  | .vmem => 0
  | .smem => 0
  | _ => 0

abbrev hbmTy0_0 (i : Nat) : BufTy := match i % 128 with
  | 0 => ⟨S2048x6144, .f32⟩
  | 1 => ⟨S2048x1024, .f32⟩
  | 2 => ⟨S2048x1024, .f32⟩
  | 3 => ⟨S2048x8x128, .f32⟩
  | 4 => ⟨S2048x1024, .f32⟩
  | 5 => ⟨S2048x8x128, .f32⟩
  | 6 => ⟨S2048x1024, .f32⟩
  | 7 => ⟨S2048x8x128, .f32⟩
  | 8 => ⟨S8x2048x2048, .f32⟩
  | 9 => ⟨S_, .f32⟩
  | 10 => ⟨S8x2048x2048, .f32⟩
  | 11 => ⟨S8x2048x2048, .f32⟩
  | 12 => ⟨S2048, .i32⟩
  | 13 => ⟨S1x2048, .i32⟩
  | 14 => ⟨S2048, .i32⟩
  | 15 => ⟨S2048x1, .i32⟩
  | 16 => ⟨S2048x2048, .i32⟩
  | 17 => ⟨S2048x2048, .i32⟩
  | 18 => ⟨S2048x2048, .i1⟩
  | 19 => ⟨S8x2048x2048, .f32⟩
  | 20 => ⟨S8x2048x2048, .f32⟩
  | 21 => ⟨S_, .f32⟩
  | 22 => ⟨S8x2048x2048, .f32⟩
  | 23 => ⟨S8x2048x2048, .f32⟩
  | 24 => ⟨S8x2048x2048, .f32⟩
  | 25 => ⟨S8x2048x2048, .f32⟩
  | 26 => ⟨S8x2048x2048, .i1⟩
  | 27 => ⟨S8x2048x2048, .f32⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S_, .f32⟩
  | 36 => ⟨S8x2048x2048, .f32⟩
  | 37 => ⟨S8x2048x2048, .i1⟩
  | 38 => ⟨S_, .f32⟩
  | 39 => ⟨S8x2048x2048, .f32⟩
  | 40 => ⟨S8x2048x2048, .f32⟩
  | 41 => ⟨S_, .f32⟩
  | 42 => ⟨S8x2048x2048, .f32⟩
  | 43 => ⟨S8x2048x2048, .i1⟩
  | 44 => ⟨S_, .f32⟩
  | 45 => ⟨S8x2048x2048, .f32⟩
  | 46 => ⟨S8x2048x2048, .f32⟩
  | 47 => ⟨S8x2048x2048, .f32⟩
  | 48 => ⟨S8x2048x2048, .f32⟩
  | 49 => ⟨S_, .f32⟩
  | 50 => ⟨S_, .f32⟩
  | 51 => ⟨S_, .i1⟩
  | 52 => ⟨S_, .f32⟩
  | 53 => ⟨S_, .f32⟩
  | 54 => ⟨S_, .f32⟩
  | 55 => ⟨S_, .f32⟩
  | 56 => ⟨S8x2048x2048, .f32⟩
  | 57 => ⟨S8x2048x2048, .i1⟩
  | 58 => ⟨S_, .f32⟩
  | 59 => ⟨S8x2048x2048, .f32⟩
  | 60 => ⟨S8x2048x2048, .f32⟩
  | 61 => ⟨S8x2048x2048, .f32⟩
  | 62 => ⟨S8x2048x2048, .f32⟩
  | 63 => ⟨S8x2048x2048, .f32⟩
  | 64 => ⟨S_, .f32⟩
  | 65 => ⟨S8x2048x2048, .f32⟩
  | 66 => ⟨S8x2048x2048, .f32⟩
  | 67 => ⟨S8x2048x2048, .f32⟩
  | 68 => ⟨S_, .f32⟩
  | 69 => ⟨S_, .f32⟩
  | 70 => ⟨S8x2048x2048, .i1⟩
  | 71 => ⟨S8x2048x2048, .f32⟩
  | 72 => ⟨S8x2048x2048, .f32⟩
  | 73 => ⟨S_, .f32⟩
  | 74 => ⟨S8x2048x2048, .f32⟩
  | 75 => ⟨S_, .f32⟩
  | 76 => ⟨S_, .f32⟩
  | 77 => ⟨S8x2048x2048, .f32⟩
  | 78 => ⟨S8x2048x2048, .f32⟩
  | 79 => ⟨S8x2048x2048, .f32⟩
  | 80 => ⟨S_, .f32⟩
  | 81 => ⟨S8x2048x2048, .f32⟩
  | 82 => ⟨S8x2048x2048, .f32⟩
  | 83 => ⟨S8x2048x2048, .f32⟩
  | 84 => ⟨S8x2048x2048, .f32⟩
  | 85 => ⟨S8x2048x2048, .i1⟩
  | 86 => ⟨S8x2048x2048, .f32⟩
  | 87 => ⟨S8x2048x2048, .f32⟩
  | 88 => ⟨S8x2048x2048, .f32⟩
  | 89 => ⟨S8x2048x2048, .f32⟩
  | 90 => ⟨S8x2048x2048, .f32⟩
  | 91 => ⟨S8x2048x2048, .f32⟩
  | 92 => ⟨S8x2048x2048, .f32⟩
  | 93 => ⟨S8x2048x2048, .f32⟩
  | 94 => ⟨S_, .f32⟩
  | 95 => ⟨S8x2048x2048, .f32⟩
  | 96 => ⟨S8x2048x2048, .i1⟩
  | 97 => ⟨S_, .f32⟩
  | 98 => ⟨S8x2048x2048, .f32⟩
  | 99 => ⟨S8x2048x2048, .f32⟩
  | 100 => ⟨S_, .f32⟩
  | 101 => ⟨S8x2048x2048, .f32⟩
  | 102 => ⟨S8x2048x2048, .i1⟩
  | 103 => ⟨S_, .f32⟩
  | 104 => ⟨S8x2048x2048, .f32⟩
  | 105 => ⟨S8x2048x2048, .f32⟩
  | 106 => ⟨S8x2048x2048, .f32⟩
  | 107 => ⟨S8x2048x2048, .f32⟩
  | 108 => ⟨S_, .f32⟩
  | 109 => ⟨S_, .f32⟩
  | 110 => ⟨S_, .i1⟩
  | 111 => ⟨S_, .f32⟩
  | 112 => ⟨S_, .f32⟩
  | 113 => ⟨S_, .f32⟩
  | 114 => ⟨S_, .f32⟩
  | 115 => ⟨S8x2048x2048, .f32⟩
  | 116 => ⟨S8x2048x2048, .i1⟩
  | 117 => ⟨S_, .f32⟩
  | 118 => ⟨S8x2048x2048, .f32⟩
  | 119 => ⟨S8x2048x2048, .f32⟩
  | 120 => ⟨S8x2048x2048, .f32⟩
  | 121 => ⟨S8x2048x2048, .f32⟩
  | 122 => ⟨S8x2048x2048, .f32⟩
  | 123 => ⟨S_, .f32⟩
  | 124 => ⟨S8x2048x2048, .f32⟩
  | 125 => ⟨S8x2048x2048, .f32⟩
  | 126 => ⟨S8x2048x2048, .f32⟩
  | 127 => ⟨S8x2048x2048, .f32⟩
  | _ => ⟨S2048x6144, .f32⟩

abbrev hbmTy0_1 (i : Nat) : BufTy := match i % 128 with
  | 0 => ⟨S8x2048x2048, .f32⟩
  | 1 => ⟨S_, .f32⟩
  | 2 => ⟨S_, .f32⟩
  | 3 => ⟨S8x2048x2048, .i1⟩
  | 4 => ⟨S8x2048x2048, .f32⟩
  | 5 => ⟨S8x2048x2048, .f32⟩
  | 6 => ⟨S_, .f32⟩
  | 7 => ⟨S8x2048x2048, .f32⟩
  | 8 => ⟨S8x128x2048, .f32⟩
  | 9 => ⟨S2048x8x128, .f32⟩
  | 10 => ⟨S2048x8x128, .f32⟩
  | 11 => ⟨S8x128x2048, .f32⟩
  | 12 => ⟨S8x2048x2048, .f32⟩
  | 13 => ⟨S8x128x2048, .f32⟩
  | 14 => ⟨S2048x8x128, .f32⟩
  | 15 => ⟨S_, .f32⟩
  | 16 => ⟨S8x2048x2048, .f32⟩
  | 17 => ⟨S8x2048x2048, .f32⟩
  | 18 => ⟨S8x2048x2048, .f32⟩
  | 19 => ⟨S8x2048x2048, .f32⟩
  | 20 => ⟨S8x2048x2048, .f32⟩
  | 21 => ⟨S8x2048x2048, .f32⟩
  | 22 => ⟨S8x2048x2048, .f32⟩
  | 23 => ⟨S_, .f32⟩
  | 24 => ⟨S_, .f32⟩
  | 25 => ⟨S8x2048x2048, .f32⟩
  | 26 => ⟨S8x2048x2048, .f32⟩
  | 27 => ⟨S_, .f32⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S_, .f32⟩
  | 36 => ⟨S8x2048x2048, .f32⟩
  | 37 => ⟨S8x2048x2048, .f32⟩
  | 38 => ⟨S8x2048x128, .f32⟩
  | 39 => ⟨S2048x8x128, .f32⟩
  | 40 => ⟨S8x2048x128, .f32⟩
  | 41 => ⟨S2048x8x128, .f32⟩
  | 42 => ⟨S2048x1024, .f32⟩
  | 43 => ⟨S2048x1024, .f32⟩
  | 44 => ⟨S2048x1024, .f32⟩
  | _ => ⟨S2048x6144, .f32⟩

abbrev hbmTy (i : Nat) : BufTy := match i / 128 with
  | 0 => hbmTy0_0 i
  | 1 => hbmTy0_1 i
  | _ => ⟨S2048x6144, .f32⟩

abbrev bufTy : (tb : Table) → Fin (tcTables nBuf tb) → BufTy
  | .hbm, ⟨i, _⟩ => hbmTy i
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1_0 : Ref sig .tc := ⟨.hbm, 34, rfl⟩
abbrev main_call0_call0_cst_0 : Ref sig .tc := ⟨.hbm, 35, rfl⟩
abbrev main_call0_call0_v13 : Ref sig .tc := ⟨.hbm, 36, rfl⟩
abbrev main_call0_call0_v14 : Ref sig .tc := ⟨.hbm, 37, rfl⟩
abbrev main_call0_call0_cst_1 : Ref sig .tc := ⟨.hbm, 38, rfl⟩
abbrev main_call0_call0_v15 : Ref sig .tc := ⟨.hbm, 39, rfl⟩
abbrev main_call0_call0_v16 : Ref sig .tc := ⟨.hbm, 40, rfl⟩
abbrev main_call0_call0_cst_2 : Ref sig .tc := ⟨.hbm, 41, rfl⟩
abbrev main_call0_call0_v17 : Ref sig .tc := ⟨.hbm, 42, rfl⟩
abbrev main_call0_call0_v18 : Ref sig .tc := ⟨.hbm, 43, rfl⟩
abbrev main_call0_call0_cst_3 : Ref sig .tc := ⟨.hbm, 44, rfl⟩
abbrev main_call0_call0_v19 : Ref sig .tc := ⟨.hbm, 45, rfl⟩
abbrev main_call0_call0_v20 : Ref sig .tc := ⟨.hbm, 46, rfl⟩
abbrev main_call0_call0_v21 : Ref sig .tc := ⟨.hbm, 47, rfl⟩
abbrev main_v17_1 : Ref sig .tc := ⟨.hbm, 48, rfl⟩
abbrev main_call0_call0_cst_4 : Ref sig .tc := ⟨.hbm, 49, rfl⟩
abbrev main_call0_call0_cst_5 : Ref sig .tc := ⟨.hbm, 50, rfl⟩
abbrev main_call0_call0_v23 : Ref sig .tc := ⟨.hbm, 51, rfl⟩
abbrev main_call0_call0_cst_6 : Ref sig .tc := ⟨.hbm, 52, rfl⟩
abbrev main_call0_call0_cst_7 : Ref sig .tc := ⟨.hbm, 53, rfl⟩
abbrev main_call0_call0_v24 : Ref sig .tc := ⟨.hbm, 54, rfl⟩
abbrev main_call0_call0_cst_8 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_cst_9 : Ref sig .tc := ⟨.hbm, 58, rfl⟩
abbrev main_call0_call0_v27 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_v30 : Ref sig .tc := ⟨.hbm, 62, rfl⟩
abbrev main_call0_call0_v31 : Ref sig .tc := ⟨.hbm, 63, rfl⟩
abbrev main_call0_call0_cst_10 : Ref sig .tc := ⟨.hbm, 64, rfl⟩
abbrev main_call0_call0_v32 : Ref sig .tc := ⟨.hbm, 65, rfl⟩
abbrev main_v17_2 : Ref sig .tc := ⟨.hbm, 66, rfl⟩
abbrev main_v17_0 : Ref sig .tc := ⟨.hbm, 67, rfl⟩
abbrev main_cst_0 : Ref sig .tc := ⟨.hbm, 68, rfl⟩
abbrev main_call1_v0 : Ref sig .tc := ⟨.hbm, 69, rfl⟩
abbrev main_v18_1 : Ref sig .tc := ⟨.hbm, 70, rfl⟩
abbrev main_call1_v2 : Ref sig .tc := ⟨.hbm, 71, rfl⟩
abbrev main_v18_0 : Ref sig .tc := ⟨.hbm, 72, rfl⟩
abbrev main_call1_cst : Ref sig .tc := ⟨.hbm, 73, rfl⟩
abbrev main_v18_2 : Ref sig .tc := ⟨.hbm, 74, rfl⟩
abbrev main_call2_cst : Ref sig .tc := ⟨.hbm, 75, rfl⟩
abbrev main_call2_v0 : Ref sig .tc := ⟨.hbm, 76, rfl⟩
abbrev main_v19 : Ref sig .tc := ⟨.hbm, 77, rfl⟩
abbrev main_v20 : Ref sig .tc := ⟨.hbm, 78, rfl⟩
abbrev main_call3_v0 : Ref sig .tc := ⟨.hbm, 79, rfl⟩
abbrev main_call3_call0_cst : Ref sig .tc := ⟨.hbm, 80, rfl⟩
abbrev main_call3_call0_v0 : Ref sig .tc := ⟨.hbm, 81, rfl⟩
abbrev main_call3_call0_v1 : Ref sig .tc := ⟨.hbm, 82, rfl⟩
abbrev main_call3_call0_v2 : Ref sig .tc := ⟨.hbm, 83, rfl⟩
abbrev main_call3_call0_v3 : Ref sig .tc := ⟨.hbm, 84, rfl⟩
abbrev main_call3_call0_v4 : Ref sig .tc := ⟨.hbm, 85, rfl⟩
abbrev main_call3_call0_v5 : Ref sig .tc := ⟨.hbm, 86, rfl⟩
abbrev main_call3_call0_v6 : Ref sig .tc := ⟨.hbm, 87, rfl⟩
abbrev main_call3_call0_v7 : Ref sig .tc := ⟨.hbm, 88, rfl⟩
abbrev main_call3_call0_v8 : Ref sig .tc := ⟨.hbm, 89, rfl⟩
abbrev main_call3_call0_v9 : Ref sig .tc := ⟨.hbm, 90, rfl⟩
abbrev main_call3_call0_v10 : Ref sig .tc := ⟨.hbm, 91, rfl⟩
abbrev main_call3_call0_v11 : Ref sig .tc := ⟨.hbm, 92, rfl⟩
abbrev main_call3_v1_0 : Ref sig .tc := ⟨.hbm, 93, rfl⟩
abbrev main_call3_call0_cst_0 : Ref sig .tc := ⟨.hbm, 94, rfl⟩
abbrev main_call3_call0_v13 : Ref sig .tc := ⟨.hbm, 95, rfl⟩
abbrev main_call3_call0_v14 : Ref sig .tc := ⟨.hbm, 96, rfl⟩
abbrev main_call3_call0_cst_1 : Ref sig .tc := ⟨.hbm, 97, rfl⟩
abbrev main_call3_call0_v15 : Ref sig .tc := ⟨.hbm, 98, rfl⟩
abbrev main_call3_call0_v16 : Ref sig .tc := ⟨.hbm, 99, rfl⟩
abbrev main_call3_call0_cst_2 : Ref sig .tc := ⟨.hbm, 100, rfl⟩
abbrev main_call3_call0_v17 : Ref sig .tc := ⟨.hbm, 101, rfl⟩
abbrev main_call3_call0_v18 : Ref sig .tc := ⟨.hbm, 102, rfl⟩
abbrev main_call3_call0_cst_3 : Ref sig .tc := ⟨.hbm, 103, rfl⟩
abbrev main_call3_call0_v19 : Ref sig .tc := ⟨.hbm, 104, rfl⟩
abbrev main_call3_call0_v20 : Ref sig .tc := ⟨.hbm, 105, rfl⟩
abbrev main_call3_call0_v21 : Ref sig .tc := ⟨.hbm, 106, rfl⟩
abbrev main_v21_1 : Ref sig .tc := ⟨.hbm, 107, rfl⟩
abbrev main_call3_call0_cst_4 : Ref sig .tc := ⟨.hbm, 108, rfl⟩
abbrev main_call3_call0_cst_5 : Ref sig .tc := ⟨.hbm, 109, rfl⟩
abbrev main_call3_call0_v23 : Ref sig .tc := ⟨.hbm, 110, rfl⟩
abbrev main_call3_call0_cst_6 : Ref sig .tc := ⟨.hbm, 111, rfl⟩
abbrev main_call3_call0_cst_7 : Ref sig .tc := ⟨.hbm, 112, rfl⟩
abbrev main_call3_call0_v24 : Ref sig .tc := ⟨.hbm, 113, rfl⟩
abbrev main_call3_call0_cst_8 : Ref sig .tc := ⟨.hbm, 114, rfl⟩
abbrev main_call3_call0_v25 : Ref sig .tc := ⟨.hbm, 115, rfl⟩
abbrev main_call3_call0_v26 : Ref sig .tc := ⟨.hbm, 116, rfl⟩
abbrev main_call3_call0_cst_9 : Ref sig .tc := ⟨.hbm, 117, rfl⟩
abbrev main_call3_call0_v27 : Ref sig .tc := ⟨.hbm, 118, rfl⟩
abbrev main_call3_call0_v28 : Ref sig .tc := ⟨.hbm, 119, rfl⟩
abbrev main_call3_call0_v29 : Ref sig .tc := ⟨.hbm, 120, rfl⟩
abbrev main_call3_call0_v30 : Ref sig .tc := ⟨.hbm, 121, rfl⟩
abbrev main_call3_call0_v31 : Ref sig .tc := ⟨.hbm, 122, rfl⟩
abbrev main_call3_call0_cst_10 : Ref sig .tc := ⟨.hbm, 123, rfl⟩
abbrev main_call3_call0_v32 : Ref sig .tc := ⟨.hbm, 124, rfl⟩
abbrev main_v21_2 : Ref sig .tc := ⟨.hbm, 125, rfl⟩
abbrev main_v21_0 : Ref sig .tc := ⟨.hbm, 126, rfl⟩
abbrev main_v22 : Ref sig .tc := ⟨.hbm, 127, rfl⟩
abbrev main_v23 : Ref sig .tc := ⟨.hbm, 128, rfl⟩
abbrev main_cst_1 : Ref sig .tc := ⟨.hbm, 129, rfl⟩
abbrev main_call4_v0 : Ref sig .tc := ⟨.hbm, 130, rfl⟩
abbrev main_v24_1 : Ref sig .tc := ⟨.hbm, 131, rfl⟩
abbrev main_call4_v2 : Ref sig .tc := ⟨.hbm, 132, rfl⟩
abbrev main_v24_0 : Ref sig .tc := ⟨.hbm, 133, rfl⟩
abbrev main_call4_cst : Ref sig .tc := ⟨.hbm, 134, rfl⟩
abbrev main_v24_2 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_call5_cst : Ref sig .tc := ⟨.hbm, 143, rfl⟩
abbrev main_call5_v0 : Ref sig .tc := ⟨.hbm, 144, rfl⟩
abbrev main_v32 : Ref sig .tc := ⟨.hbm, 145, rfl⟩
abbrev main_v33 : Ref sig .tc := ⟨.hbm, 146, rfl⟩
abbrev main_call6_v0 : Ref sig .tc := ⟨.hbm, 147, rfl⟩
abbrev main_call6_v1 : Ref sig .tc := ⟨.hbm, 148, rfl⟩
abbrev main_v34 : Ref sig .tc := ⟨.hbm, 149, rfl⟩
abbrev main_v35 : Ref sig .tc := ⟨.hbm, 150, rfl⟩
abbrev main_call7_cst : Ref sig .tc := ⟨.hbm, 151, rfl⟩
abbrev main_call7_v0 : Ref sig .tc := ⟨.hbm, 152, rfl⟩
abbrev main_v36 : Ref sig .tc := ⟨.hbm, 153, rfl⟩
abbrev main_v37 : Ref sig .tc := ⟨.hbm, 154, rfl⟩
abbrev main_call8_cst : Ref sig .tc := ⟨.hbm, 155, rfl⟩
abbrev main_call8_v0 : Ref sig .tc := ⟨.hbm, 156, rfl⟩
abbrev main_v38 : Ref sig .tc := ⟨.hbm, 157, rfl⟩
abbrev main_call9_v0 : Ref sig .tc := ⟨.hbm, 158, rfl⟩
abbrev main_call9_v1 : Ref sig .tc := ⟨.hbm, 159, rfl⟩
abbrev main_v39 : Ref sig .tc := ⟨.hbm, 160, rfl⟩
abbrev main_v40 : Ref sig .tc := ⟨.hbm, 161, rfl⟩
abbrev main_v41 : Ref sig .tc := ⟨.hbm, 162, rfl⟩
abbrev main_cst_2 : Ref sig .tc := ⟨.hbm, 163, rfl⟩
abbrev main_v42 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩

abbrev nD : Nat := 1
abbrev τ : Topo := Topo.v7x

variable {F : FTy → Type} [FloatOps F]
-- ==== Down.lean ====
abbrev S2048x5632 : Shape := ⟨2, ![2048, 5632]⟩
abbrev S5632x2048 : Shape := ⟨2, ![5632, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 5
  | .vmem => 12
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .bf16⟩
  | .hbm, ⟨3, _⟩ => ⟨S2048x5632, .f32⟩
  | .hbm, ⟨4, _⟩ => ⟨S5632x2048, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | .local _ .vmem, ⟨7, _⟩ => ⟨S2048x512, .bf16⟩
  | .local _ .vmem, ⟨8, _⟩ => ⟨S2048x1024, .bf16⟩
  | .local _ .vmem, ⟨9, _⟩ => ⟨S2048x1024, .bf16⟩
  | .local _ .vmem, ⟨10, _⟩ => ⟨S512x1024, .bf16⟩
  | .local _ .vmem, ⟨11, _⟩ => ⟨S512x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![11, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg2.toNat, v2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== DownRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .bf16⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S2048x5632, .f32⟩
  | .hbm, ⟨10, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Out.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 18
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x1024, .f32⟩
  | .local _ .vmem, ⟨11, _⟩ => ⟨S1024x1024, .f32⟩
  | .local _ .vmem, ⟨12, _⟩ => ⟨S2048x1024, .bf16⟩
  | .local _ .vmem, ⟨13, _⟩ => ⟨S2048x1024, .bf16⟩
  | .local _ .vmem, ⟨14, _⟩ => ⟨S2048x1024, .bf16⟩
  | .local _ .vmem, ⟨15, _⟩ => ⟨S2048x1024, .bf16⟩
  | .local _ .vmem, ⟨16, _⟩ => ⟨S1024x1024, .bf16⟩
  | .local _ .vmem, ⟨17, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg2.toNat, v2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== OutIdeal.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 18
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x1024, .f32⟩
  | .local _ .vmem, ⟨11, _⟩ => ⟨S1024x1024, .f32⟩
  | .local _ .vmem, ⟨12, _⟩ => ⟨S2048x1024, .bf16⟩
  | .local _ .vmem, ⟨13, _⟩ => ⟨S2048x1024, .bf16⟩
  | .local _ .vmem, ⟨14, _⟩ => ⟨S2048x1024, .bf16⟩
  | .local _ .vmem, ⟨15, _⟩ => ⟨S2048x1024, .bf16⟩
  | .local _ .vmem, ⟨16, _⟩ => ⟨S1024x1024, .bf16⟩
  | .local _ .vmem, ⟨17, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg2.toNat, v2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== OutRefIdeal.lean ====
abbrev S2048x2048 : Shape := ⟨2, ![2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Branch.lean ====
abbrev S2048x1024 : Shape := ⟨2, ![2048, 1024]⟩
abbrev S1024x2048 : Shape := ⟨2, ![1024, 2048]⟩
abbrev S2048x2048 : Shape := ⟨2, ![2048, 2048]⟩
abbrev S1024x1024 : Shape := ⟨2, ![1024, 1024]⟩

abbrev nBuf : Space → Nat
  | .hbm => 6
  | .vmem => 16
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x2048, .bf16⟩
  | .hbm, ⟨3, _⟩ => ⟨S2048x2048, .f32⟩
  | .hbm, ⟨4, _⟩ => ⟨S2048x1024, .f32⟩
  | .hbm, ⟨5, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x1024, .f32⟩
  | .local _ .vmem, ⟨10, _⟩ => ⟨S1024x1024, .f32⟩
  | .local _ .vmem, ⟨11, _⟩ => ⟨S2048x1024, .bf16⟩
  | .local _ .vmem, ⟨12, _⟩ => ⟨S2048x1024, .bf16⟩
  | .local _ .vmem, ⟨13, _⟩ => ⟨S2048x1024, .bf16⟩
  | .local _ .vmem, ⟨14, _⟩ => ⟨S1024x1024, .bf16⟩
  | .local _ .vmem, ⟨15, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg2.toNat, v2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== BranchIdeal.lean ====
abbrev S2048x1024 : Shape := ⟨2, ![2048, 1024]⟩
abbrev S1024x2048 : Shape := ⟨2, ![1024, 2048]⟩
abbrev S2048x2048 : Shape := ⟨2, ![2048, 2048]⟩
abbrev S1024x1024 : Shape := ⟨2, ![1024, 1024]⟩

abbrev nBuf : Space → Nat
  | .hbm => 6
  | .vmem => 16
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x2048, .bf16⟩
  | .hbm, ⟨3, _⟩ => ⟨S2048x2048, .f32⟩
  | .hbm, ⟨4, _⟩ => ⟨S2048x1024, .f32⟩
  | .hbm, ⟨5, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x1024, .f32⟩
  | .local _ .vmem, ⟨10, _⟩ => ⟨S1024x1024, .f32⟩
  | .local _ .vmem, ⟨11, _⟩ => ⟨S2048x1024, .bf16⟩
  | .local _ .vmem, ⟨12, _⟩ => ⟨S2048x1024, .bf16⟩
  | .local _ .vmem, ⟨13, _⟩ => ⟨S2048x1024, .bf16⟩
  | .local _ .vmem, ⟨14, _⟩ => ⟨S1024x1024, .bf16⟩
  | .local _ .vmem, ⟨15, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg2.toNat, v2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== BranchRefIdeal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x2048, .bf16⟩
  | .hbm, ⟨3, _⟩ => ⟨S2048x1024, .f32⟩
  | .hbm, ⟨4, _⟩ => ⟨S1024x2048, .f32⟩
  | .hbm, ⟨5, _⟩ => ⟨S2048x2048, .f32⟩
  | .hbm, ⟨6, _⟩ => ⟨S2048x1024, .f32⟩
  | .hbm, ⟨7, _⟩ => ⟨S1024x2048, .f32⟩
  | .hbm, ⟨8, _⟩ => ⟨S2048x2048, .f32⟩
  | .hbm, ⟨9, _⟩ => ⟨S2048x2048, .f32⟩
  | .hbm, ⟨10, _⟩ => ⟨S2048x1024, .f32⟩
  | .hbm, ⟨11, _⟩ => ⟨S1024x2048, .f32⟩
  | .hbm, ⟨12, _⟩ => ⟨S2048x1024, .f32⟩
  | .hbm, ⟨13, _⟩ => ⟨S1024x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== MemKv.lean ====
abbrev S256x2048 : Shape := ⟨2, ![256, 2048]⟩
abbrev S2048x2048 : Shape := ⟨2, ![2048, 2048]⟩
abbrev S2048x1024 : Shape := ⟨2, ![2048, 1024]⟩
abbrev S256x1024 : Shape := ⟨2, ![256, 1024]⟩
abbrev S1024x2048 : Shape := ⟨2, ![1024, 2048]⟩
abbrev S1024x1024 : Shape := ⟨2, ![1024, 1024]⟩

abbrev nBuf : Space → Nat
  | .hbm => 6
  | .vmem => 16
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .bf16⟩
  | .hbm, ⟨3, _⟩ => ⟨S256x2048, .f32⟩
  | .hbm, ⟨4, _⟩ => ⟨S256x2048, .f32⟩
  | .hbm, ⟨5, _⟩ => ⟨S2048x2048, .bf16⟩
  | .local _ .vmem, ⟨0, _⟩ => ⟨S256x2048, .bf16⟩
  | .local _ .vmem, ⟨1, _⟩ => ⟨S2048x1024, .bf16⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | .local _ .vmem, ⟨5, _⟩ => ⟨S256x2048, .bf16⟩
  | .local _ .vmem, ⟨6, _⟩ => ⟨S1024x2048, .bf16⟩
  | .local _ .vmem, ⟨7, _⟩ => ⟨S1024x2048, .bf16⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1024x1024, .bf16⟩
  | .local _ .vmem, ⟨15, _⟩ => ⟨S1024x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S256x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg2.toNat, v2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S256x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== MemKvRefIdeal.lean ====
abbrev S256x2048 : Shape := ⟨2, ![256, 2048]⟩
abbrev S2048x2048 : Shape := ⟨2, ![2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .bf16⟩
  | .hbm, ⟨3, _⟩ => ⟨S256x2048, .f32⟩
  | .hbm, ⟨4, _⟩ => ⟨S2048x2048, .f32⟩
  | .hbm, ⟨5, _⟩ => ⟨S256x2048, .f32⟩
  | .hbm, ⟨6, _⟩ => ⟨S256x2048, .f32⟩
  | .hbm, ⟨7, _⟩ => ⟨S2048x2048, .f32⟩
  | .hbm, ⟨8, _⟩ => ⟨S256x2048, .f32⟩
  | .hbm, ⟨9, _⟩ => ⟨S256x2048, .f32⟩
  | .hbm, ⟨10, _⟩ => ⟨S2048x2048, .f32⟩
  | .hbm, ⟨11, _⟩ => ⟨S2048x2048, .f32⟩
  | .hbm, ⟨12, _⟩ => ⟨S256x2048, .f32⟩
  | .hbm, ⟨13, _⟩ => ⟨S2048x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Proj.lean ====
abbrev S2048x2048 : Shape := ⟨2, ![2048, 2048]⟩
abbrev S2048x6144 : Shape := ⟨2, ![2048, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 18
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .bf16⟩
  | .hbm, ⟨3, _⟩ => ⟨S2048x6144, .bf16⟩
  | .hbm, ⟨4, _⟩ => ⟨S2048x6144, .f32⟩
  | .hbm, ⟨5, _⟩ => ⟨S2048x6144, .bf16⟩
  | .hbm, ⟨6, _⟩ => ⟨S2048x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | .local _ .vmem, ⟨7, _⟩ => ⟨S1024x2048, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1024x1024, .bf16⟩
  | .local _ .vmem, ⟨12, _⟩ => ⟨S2048x1024, .bf16⟩
  | .local _ .vmem, ⟨13, _⟩ => ⟨S2048x1024, .bf16⟩
  | .local _ .vmem, ⟨14, _⟩ => ⟨S2048x1024, .bf16⟩
  | .local _ .vmem, ⟨15, _⟩ => ⟨S2048x1024, .bf16⟩
  | .local _ .vmem, ⟨16, _⟩ => ⟨S1024x1024, .bf16⟩
  | .local _ .vmem, ⟨17, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 6, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 6, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c5_i32 : BitVec 32 := 5#32
  let v1 : BitVec 32 := Scalar.maxsi c0_i32_0 v0
  let v2 : BitVec 32 := Scalar.minsi c5_i32 v1
  let c0_i32_1 : BitVec 32 := 0#32
  ![arg2.toNat, v2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== ProjRefIdeal.lean ====
abbrev S2048x2048 : Shape := ⟨2, ![2048, 2048]⟩
abbrev S2048x6144 : Shape := ⟨2, ![2048, 6144]⟩
abbrev S6144x2048 : Shape := ⟨2, ![6144, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .bf16⟩
  | .hbm, ⟨3, _⟩ => ⟨S2048x6144, .bf16⟩
  | .hbm, ⟨4, _⟩ => ⟨S2048x2048, .f32⟩
  | .hbm, ⟨5, _⟩ => ⟨S2048x6144, .f32⟩
  | .hbm, ⟨6, _⟩ => ⟨S2048x6144, .f32⟩
  | .hbm, ⟨7, _⟩ => ⟨S2048x2048, .f32⟩
  | .hbm, ⟨8, _⟩ => ⟨S2048x6144, .f32⟩
  | .hbm, ⟨9, _⟩ => ⟨S2048x6144, .f32⟩
  | .hbm, ⟨10, _⟩ => ⟨S2048x6144, .bf16⟩
  | .hbm, ⟨11, _⟩ => ⟨S2048x2048, .f32⟩
  | .hbm, ⟨12, _⟩ => ⟨S2048x6144, .f32⟩
  | .hbm, ⟨13, _⟩ => ⟨S2048x6144, .f32⟩
  | .hbm, ⟨14, _⟩ => ⟨S2048x6144, .f32⟩
  | .hbm, ⟨15, _⟩ => ⟨S6144x2048, .f32⟩
  | .hbm, ⟨16, _⟩ => ⟨S2048x6144, .f32⟩
  | .hbm, ⟨17, _⟩ => ⟨S2048x2048, .f32⟩
  | .hbm, ⟨18, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== ProjDx.lean ====
abbrev S2048x6144 : Shape := ⟨2, ![2048, 6144]⟩
abbrev S2048x2048 : Shape := ⟨2, ![2048, 2048]⟩
abbrev S1024x3072 : Shape := ⟨2, ![1024, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S2048x6144, .bf16⟩
  | .hbm, ⟨2, _⟩ => ⟨S2048x2048, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x3072, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDxRefIdeal.lean ====
abbrev S2048x6144 : Shape := ⟨2, ![2048, 6144]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x6144, .bf16⟩
  | .hbm, ⟨2, _⟩ => ⟨S2048x6144, .f32⟩
  | .hbm, ⟨3, _⟩ => ⟨S2048x6144, .f32⟩
  | .hbm, ⟨4, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Up.lean ====
abbrev S2048x2048 : Shape := ⟨2, ![2048, 2048]⟩
abbrev S2048x11264 : Shape := ⟨2, ![2048, 11264]⟩
abbrev S2048x5632 : Shape := ⟨2, ![2048, 5632]⟩
abbrev S1024x2048 : Shape := ⟨2, ![1024, 2048]⟩
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 6
  | .vmem => 14
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x5632, .bf16⟩
  | .hbm, ⟨3, _⟩ => ⟨S2048x5632, .bf16⟩
  | .hbm, ⟨4, _⟩ => ⟨S2048x11264, .bf16⟩
  | .hbm, ⟨5, _⟩ => ⟨S2048x11264, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S1024x512, .bf16⟩
  | .local _ .vmem, ⟨13, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 22, 1], ![false, false, false]⟩

def k1_cond1 (i : grid1.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c11_i32 : BitVec 32 := 11#32
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let v0 : BitVec 32 := Scalar.divsi arg1 c11_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k1_cond2 (i : grid1.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c11_i32 : BitVec 32 := 11#32
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let v0 : BitVec 32 := Scalar.divsi arg1 c11_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c10_i32 : BitVec 32 := 10#32
  let v1 : BitVec 32 := Scalar.maxsi c0_i32_0 v0
  let v2 : BitVec 32 := Scalar.minsi c10_i32 v1
  let c0_i32_1 : BitVec 32 := 0#32
  ![arg2.toNat, v2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.subi arg1 c11_i32
  let c0_i32 : BitVec 32 := 0#32
  let c10_i32 : BitVec 32 := 10#32
  let v1 : BitVec 32 := Scalar.maxsi c0_i32 v0
  let v2 : BitVec 32 := Scalar.minsi c10_i32 v1
  let c0_i32_0 : BitVec 32 := 0#32
  ![arg2.toNat, v2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== UpRefIdeal.lean ====
abbrev S2048x2048 : Shape := ⟨2, ![2048, 2048]⟩
abbrev S2048x11264 : Shape := ⟨2, ![2048, 11264]⟩
abbrev S2048x5632 : Shape := ⟨2, ![2048, 5632]⟩
abbrev S11264x2048 : Shape := ⟨2, ![11264, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x5632, .bf16⟩
  | .hbm, ⟨3, _⟩ => ⟨S2048x5632, .bf16⟩
  | .hbm, ⟨4, _⟩ => ⟨S2048x2048, .f32⟩
  | .hbm, ⟨5, _⟩ => ⟨S2048x11264, .f32⟩
  | .hbm, ⟨6, _⟩ => ⟨S2048x11264, .f32⟩
  | .hbm, ⟨7, _⟩ => ⟨S2048x11264, .bf16⟩
  | .hbm, ⟨8, _⟩ => ⟨S2048x11264, .bf16⟩
  | .hbm, ⟨9, _⟩ => ⟨S2048x2048, .f32⟩
  | .hbm, ⟨10, _⟩ => ⟨S2048x11264, .f32⟩
  | .hbm, ⟨11, _⟩ => ⟨S2048x11264, .f32⟩
  | .hbm, ⟨12, _⟩ => ⟨S2048x11264, .f32⟩
  | .hbm, ⟨13, _⟩ => ⟨S11264x2048, .f32⟩
  | .hbm, ⟨14, _⟩ => ⟨S2048x11264, .f32⟩
  | .hbm, ⟨15, _⟩ => ⟨S2048x2048, .f32⟩
  | .hbm, ⟨16, _⟩ => ⟨S2048x11264, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== UpDx.lean ====
abbrev S2048x11264 : Shape := ⟨2, ![2048, 11264]⟩
abbrev S2048x5632 : Shape := ⟨2, ![2048, 5632]⟩
abbrev S2048x2048 : Shape := ⟨2, ![2048, 2048]⟩
abbrev S1024x1408 : Shape := ⟨2, ![1024, 1408]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x11264, .bf16⟩
  | .hbm, ⟨1, _⟩ => ⟨S2048x5632, .bf16⟩
  | .hbm, ⟨2, _⟩ => ⟨S2048x5632, .bf16⟩
  | .hbm, ⟨3, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 8], ![false, false, false]⟩

def k0_cond7 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDxRefIdeal.lean ====
abbrev S2048x11264 : Shape := ⟨2, ![2048, 11264]⟩
abbrev S2048x5632 : Shape := ⟨2, ![2048, 5632]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S2048x5632, .bf16⟩
  | .hbm, ⟨2, _⟩ => ⟨S2048x5632, .bf16⟩
  | .hbm, ⟨3, _⟩ => ⟨S2048x11264, .bf16⟩
  | .hbm, ⟨4, _⟩ => ⟨S2048x11264, .f32⟩
  | .hbm, ⟨5, _⟩ => ⟨S2048x11264, .f32⟩
  | .hbm, ⟨6, _⟩ => ⟨S2048x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownFwd.lean ====
abbrev S2048x5632 : Shape := ⟨2, ![2048, 5632]⟩
abbrev S5632x2048 : Shape := ⟨2, ![5632, 2048]⟩
abbrev S2048x2048 : Shape := ⟨2, ![2048, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFwdRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x5632, .f32⟩
  | .hbm, ⟨3, _⟩ => ⟨S5632x2048, .f32⟩
  | .hbm, ⟨4, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MergeBwd.lean ====
abbrev S2048x6144 : Shape := ⟨2, ![2048, 6144]⟩
abbrev S1x6144 : Shape := ⟨2, ![1, 6144]⟩
abbrev S2048x2048 : Shape := ⟨2, ![2048, 2048]⟩
abbrev S128x2048 : Shape := ⟨2, ![128, 2048]⟩
abbrev S1x2048 : Shape := ⟨2, ![1, 2048]⟩
abbrev S128x6144 : Shape := ⟨2, ![128, 6144]⟩
abbrev S2048 : Shape := ⟨1, ![2048]⟩

abbrev nBuf : Space → Nat
  | .hbm => 11
  | .vmem => 26
  | .smem => 0
  | _ => 0

abbrev bufTy : (tb : Table) → Fin (tcTables nBuf tb) → BufTy
  | .hbm, ⟨0, _⟩ => ⟨S2048x6144, .bf16⟩
  | .hbm, ⟨1, _⟩ => ⟨S1x6144, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x6144, .bf16⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S1x6144, .f32⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x6144, .bf16⟩
  | .local _ .vmem, ⟨18, _⟩ => ⟨S128x6144, .bf16⟩
  | .local _ .vmem, ⟨19, _⟩ => ⟨S128x2048, .bf16⟩
  | .local _ .vmem, ⟨20, _⟩ => ⟨S128x2048, .bf16⟩
  | .local _ .vmem, ⟨21, _⟩ => ⟨S128x2048, .bf16⟩
  | .local _ .vmem, ⟨22, _⟩ => ⟨S128x2048, .bf16⟩
  | .local _ .vmem, ⟨23, _⟩ => ⟨S128x2048, .bf16⟩
  | .local _ .vmem, ⟨24, _⟩ => ⟨S128x2048, .bf16⟩
  | .local _ .vmem, ⟨25, _⟩ => ⟨S1x6144, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x6144 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x6144 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MergeBwdRefIdeal.lean ====
abbrev S2048x6144 : Shape := ⟨2, ![2048, 6144]⟩
abbrev S1x6144 : Shape := ⟨2, ![1, 6144]⟩
abbrev S2048x2048 : Shape := ⟨2, ![2048, 2048]⟩
abbrev S_ : Shape := ⟨0, ![]⟩
abbrev S2048x3x2048 : Shape := ⟨3, ![2048, 3, 2048]⟩
abbrev S2048x1x2048 : Shape := ⟨3, ![2048, 1, 2048]⟩
abbrev S6144 : Shape := ⟨1, ![6144]⟩

abbrev nBuf : Space → Nat
  | .hbm => 64
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S1x6144, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x6144, .f32⟩
  | .hbm, ⟨7, _⟩ => ⟨S2048x6144, .f32⟩
  | .hbm, ⟨8, _⟩ => ⟨S2048x6144, .f32⟩
  | .hbm, ⟨9, _⟩ => ⟨S2048x6144, .f32⟩
  | .hbm, ⟨10, _⟩ => ⟨S2048x6144, .f32⟩
  | .hbm, ⟨11, _⟩ => ⟨S_, .f32⟩
  | .hbm, ⟨12, _⟩ => ⟨S2048x6144, .f32⟩
  | .hbm, ⟨13, _⟩ => ⟨S2048x6144, .f32⟩
  | .hbm, ⟨14, _⟩ => ⟨S_, .f32⟩
  | .hbm, ⟨15, _⟩ => ⟨S2048x6144, .f32⟩
  | .hbm, ⟨16, _⟩ => ⟨S2048x6144, .f32⟩
  | .hbm, ⟨17, _⟩ => ⟨S_, .f32⟩
  | .hbm, ⟨18, _⟩ => ⟨S2048x6144, .f32⟩
  | .hbm, ⟨19, _⟩ => ⟨S2048x6144, .f32⟩
  | .hbm, ⟨20, _⟩ => ⟨S2048x6144, .f32⟩
  | .hbm, ⟨21, _⟩ => ⟨S2048x3x2048, .f32⟩
  | .hbm, ⟨22, _⟩ => ⟨S2048x1x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x1x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x1x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x1x2048, .f32⟩
  | .hbm, ⟨41, _⟩ => ⟨S_, .f32⟩
  | .hbm, ⟨42, _⟩ => ⟨S2048x3x2048, .f32⟩
  | .hbm, ⟨43, _⟩ => ⟨S2048x2048, .f32⟩
  | .hbm, ⟨44, _⟩ => ⟨S2048x2048, .f32⟩
  | .hbm, ⟨45, _⟩ => ⟨S2048x1x2048, .f32⟩
  | .hbm, ⟨46, _⟩ => ⟨S_, .f32⟩
  | .hbm, ⟨47, _⟩ => ⟨S2048x3x2048, .f32⟩
  | .hbm, ⟨48, _⟩ => ⟨S2048x3x2048, .f32⟩
  | .hbm, ⟨49, _⟩ => ⟨S2048x2048, .f32⟩
  | .hbm, ⟨50, _⟩ => ⟨S2048x2048, .f32⟩
  | .hbm, ⟨51, _⟩ => ⟨S2048x1x2048, .f32⟩
  | .hbm, ⟨52, _⟩ => ⟨S_, .f32⟩
  | .hbm, ⟨53, _⟩ => ⟨S2048x3x2048, .f32⟩
  | .hbm, ⟨54, _⟩ => ⟨S2048x3x2048, .f32⟩
  | .hbm, ⟨55, _⟩ => ⟨S2048x6144, .f32⟩
  | .hbm, ⟨56, _⟩ => ⟨S2048x6144, .f32⟩
  | .hbm, ⟨57, _⟩ => ⟨S_, .f32⟩
  | .hbm, ⟨58, _⟩ => ⟨S6144, .f32⟩
  | .hbm, ⟨59, _⟩ => ⟨S1x6144, .f32⟩
  | .hbm, ⟨60, _⟩ => ⟨S2048x6144, .bf16⟩
  | .hbm, ⟨61, _⟩ => ⟨S2048x2048, .bf16⟩
  | .hbm, ⟨62, _⟩ => ⟨S2048x2048, .bf16⟩
  | .hbm, ⟨63, _⟩ => ⟨S2048x2048, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== MergeFwd.lean ====
abbrev S2048x6144 : Shape := ⟨2, ![2048, 6144]⟩
abbrev S1x6144 : Shape := ⟨2, ![1, 6144]⟩
abbrev S2048x2048 : Shape := ⟨2, ![2048, 2048]⟩
abbrev S128x2048 : Shape := ⟨2, ![128, 2048]⟩
abbrev S1x2048 : Shape := ⟨2, ![1, 2048]⟩

abbrev nBuf : Space → Nat
  | .hbm => 6
  | .vmem => 17
  | .smem => 0
  | _ => 0

abbrev bufTy : (tb : Table) → Fin (tcTables nBuf tb) → BufTy
  | .hbm, ⟨0, _⟩ => ⟨S2048x6144, .bf16⟩
  | .hbm, ⟨1, _⟩ => ⟨S1x6144, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .bf16⟩
  | .local _ .vmem, ⟨16, _⟩ => ⟨S128x2048, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeFwdRefIdeal.lean ====
abbrev S2048x6144 : Shape := ⟨2, ![2048, 6144]⟩
abbrev S1x6144 : Shape := ⟨2, ![1, 6144]⟩
abbrev S2048x2048 : Shape := ⟨2, ![2048, 2048]⟩
abbrev S_ : Shape := ⟨0, ![]⟩
abbrev S2048x3x2048 : Shape := ⟨3, ![2048, 3, 2048]⟩
abbrev S2048x1x2048 : Shape := ⟨3, ![2048, 1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S1x6144, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x6144, .f32⟩
  | .hbm, ⟨6, _⟩ => ⟨S2048x6144, .f32⟩
  | .hbm, ⟨7, _⟩ => ⟨S2048x6144, .f32⟩
  | .hbm, ⟨8, _⟩ => ⟨S2048x6144, .f32⟩
  | .hbm, ⟨9, _⟩ => ⟨S2048x6144, .f32⟩
  | .hbm, ⟨10, _⟩ => ⟨S_, .f32⟩
  | .hbm, ⟨11, _⟩ => ⟨S2048x6144, .f32⟩
  | .hbm, ⟨12, _⟩ => ⟨S2048x6144, .f32⟩
  | .hbm, ⟨13, _⟩ => ⟨S_, .f32⟩
  | .hbm, ⟨14, _⟩ => ⟨S2048x6144, .f32⟩
  | .hbm, ⟨15, _⟩ => ⟨S2048x6144, .f32⟩
  | .hbm, ⟨16, _⟩ => ⟨S2048x3x2048, .f32⟩
  | .hbm, ⟨17, _⟩ => ⟨S2048x1x2048, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S2048x1x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x1x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== XaBwd.lean ====
abbrev S2048x6144 : Shape := ⟨2, ![2048, 6144]⟩
abbrev S256x2048 : Shape := ⟨2, ![256, 2048]⟩
abbrev S2048x1024 : Shape := ⟨2, ![2048, 1024]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 6
  | .vmem => 14
  | .smem => 0
  | _ => 0

abbrev bufTy : (tb : Table) → Fin (tcTables nBuf tb) → BufTy
  | .hbm, ⟨0, _⟩ => ⟨S2048x6144, .f32⟩
  | .hbm, ⟨1, _⟩ => ⟨S256x2048, .f32⟩
  | .hbm, ⟨2, _⟩ => ⟨S2048x1024, .f32⟩
  | .hbm, ⟨3, _⟩ => ⟨S2048x1024, .f32⟩
  | .hbm, ⟨4, _⟩ => ⟨S256x1024, .f32⟩
  | .hbm, ⟨5, _⟩ => ⟨S256x1024, .f32⟩
  | .local _ .vmem, ⟨0, _⟩ => ⟨S512x256, .f32⟩
  | .local _ .vmem, ⟨1, _⟩ => ⟨S512x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== XaBwdRefIdeal.lean ====
abbrev S2048x6144 : Shape := ⟨2, ![2048, 6144]⟩
abbrev S256x2048 : Shape := ⟨2, ![256, 2048]⟩
abbrev S2048x1024 : Shape := ⟨2, ![2048, 1024]⟩
abbrev S2048x4x256 : Shape := ⟨3, ![2048, 4, 256]⟩
abbrev S256x1024 : Shape := ⟨2, ![256, 1024]⟩
abbrev S256x4x256 : Shape := ⟨3, ![256, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩
abbrev S4x256x256 : Shape := ⟨3, ![4, 256, 256]⟩

abbrev nBuf : Space → Nat
  | .hbm => 85
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S256x2048, .f32⟩
  | .hbm, ⟨2, _⟩ => ⟨S2048x1024, .f32⟩
  | .hbm, ⟨3, _⟩ => ⟨S2048x1024, .f32⟩
  | .hbm, ⟨4, _⟩ => ⟨S2048x4x256, .f32⟩
  | .hbm, ⟨5, _⟩ => ⟨S256x1024, .f32⟩
  | .hbm, ⟨6, _⟩ => ⟨S256x1024, .f32⟩
  | .hbm, ⟨7, _⟩ => ⟨S256x4x256, .f32⟩
  | .hbm, ⟨8, _⟩ => ⟨S256x4x256, .f32⟩
  | .hbm, ⟨9, _⟩ => ⟨S4x2048x256, .f32⟩
  | .hbm, ⟨10, _⟩ => ⟨S_, .f32⟩
  | .hbm, ⟨11, _⟩ => ⟨S4x2048x256, .f32⟩
  | .hbm, ⟨12, _⟩ => ⟨S4x2048x256, .f32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S4x2048x256, .f32⟩
  | .hbm, ⟨17, _⟩ => ⟨S4x2048x256, .i1⟩
  | .hbm, ⟨18, _⟩ => ⟨S4x2048x256, .f32⟩
  | .hbm, ⟨19, _⟩ => ⟨S_, .f32⟩
  | .hbm, ⟨20, _⟩ => ⟨S4x2048, .f32⟩
  | .hbm, ⟨21, _⟩ => ⟨S_, .f32⟩
  | .hbm, ⟨22, _⟩ => ⟨S4x2048, .f32⟩
  | .hbm, ⟨23, _⟩ => ⟨S4x2048, .f32⟩
  | .hbm, ⟨24, _⟩ => ⟨S_, .f32⟩
  | .hbm, ⟨25, _⟩ => ⟨S4x2048, .f32⟩
  | .hbm, ⟨26, _⟩ => ⟨S4x2048, .i1⟩
  | .hbm, ⟨27, _⟩ => ⟨S_, .f32⟩
  | .hbm, ⟨28, _⟩ => ⟨S4x2048, .f32⟩
  | .hbm, ⟨29, _⟩ => ⟨S4x2048, .i1⟩
  | .hbm, ⟨30, _⟩ => ⟨S_, .f32⟩
  | .hbm, ⟨31, _⟩ => ⟨S4x2048, .f32⟩
  | .hbm, ⟨32, _⟩ => ⟨S_, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S4x2048, .f32⟩
  | .hbm, ⟨37, _⟩ => ⟨S4x2048, .f32⟩
  | .hbm, ⟨38, _⟩ => ⟨S4x2048x1, .f32⟩
  | .hbm, ⟨39, _⟩ => ⟨S4x2048x256, .f32⟩
  | .hbm, ⟨40, _⟩ => ⟨S4x2048x256, .f32⟩
  | .hbm, ⟨41, _⟩ => ⟨S4x2048x256, .f32⟩
  | .hbm, ⟨42, _⟩ => ⟨S_, .f32⟩
  | .hbm, ⟨43, _⟩ => ⟨S4x2048, .f32⟩
  | .hbm, ⟨44, _⟩ => ⟨S4x2048x1, .f32⟩
  | .hbm, ⟨45, _⟩ => ⟨S4x2048x256, .f32⟩
  | .hbm, ⟨46, _⟩ => ⟨S4x2048x256, .f32⟩
  | .hbm, ⟨47, _⟩ => ⟨S4x2048x1, .f32⟩
  | .hbm, ⟨48, _⟩ => ⟨S_, .f32⟩
  | .hbm, ⟨49, _⟩ => ⟨S4x2048x1, .f32⟩
  | .hbm, ⟨50, _⟩ => ⟨S4x2048x1, .f32⟩
  | .hbm, ⟨51, _⟩ => ⟨S4x256x2048, .f32⟩
  | .hbm, ⟨52, _⟩ => ⟨S2048x4x256, .f32⟩
  | .hbm, ⟨53, _⟩ => ⟨S2048x4x256, .f32⟩
  | .hbm, ⟨54, _⟩ => ⟨S4x256x2048, .f32⟩
  | .hbm, ⟨55, _⟩ => ⟨S4x2048x256, .f32⟩
  | .hbm, ⟨56, _⟩ => ⟨S4x256x256, .f32⟩
  | .hbm, ⟨57, _⟩ => ⟨S256x4x256, .f32⟩
  | .hbm, ⟨58, _⟩ => ⟨S4x2048x256, .f32⟩
  | .hbm, ⟨59, _⟩ => ⟨S4x2048x256, .f32⟩
  | .hbm, ⟨60, _⟩ => ⟨S4x2048x256, .f32⟩
  | .hbm, ⟨61, _⟩ => ⟨S_, .f32⟩
  | .hbm, ⟨62, _⟩ => ⟨S4x2048, .f32⟩
  | .hbm, ⟨63, _⟩ => ⟨S4x2048x1, .f32⟩
  | .hbm, ⟨64, _⟩ => ⟨S4x2048x1, .f32⟩
  | .hbm, ⟨65, _⟩ => ⟨S4x2048x256, .f32⟩
  | .hbm, ⟨66, _⟩ => ⟨S4x2048x256, .f32⟩
  | .hbm, ⟨67, _⟩ => ⟨S_, .f32⟩
  | .hbm, ⟨68, _⟩ => ⟨S4x2048, .f32⟩
  | .hbm, ⟨69, _⟩ => ⟨S4x2048x256, .f32⟩
  | .hbm, ⟨70, _⟩ => ⟨S4x2048x256, .f32⟩
  | .hbm, ⟨71, _⟩ => ⟨S4x2048x256, .f32⟩
  | .hbm, ⟨72, _⟩ => ⟨S_, .f32⟩
  | .hbm, ⟨73, _⟩ => ⟨S4x2048x256, .f32⟩
  | .hbm, ⟨74, _⟩ => ⟨S4x2048x256, .f32⟩
  | .hbm, ⟨75, _⟩ => ⟨S4x256x256, .f32⟩
  | .hbm, ⟨76, _⟩ => ⟨S256x4x256, .f32⟩
  | .hbm, ⟨77, _⟩ => ⟨S4x2048x256, .f32⟩
  | .hbm, ⟨78, _⟩ => ⟨S2048x4x256, .f32⟩
  | .hbm, ⟨79, _⟩ => ⟨S256x1024, .f32⟩
  | .hbm, ⟨80, _⟩ => ⟨S256x1024, .f32⟩
  | .hbm, ⟨81, _⟩ => ⟨S256x2048, .f32⟩
  | .hbm, ⟨82, _⟩ => ⟨S2048x1024, .f32⟩
  | .hbm, ⟨83, _⟩ => ⟨S256x1024, .f32⟩
  | .hbm, ⟨84, _⟩ => ⟨S256x1024, .f32⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_12 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== XaFwd.lean ====
abbrev S2048x6144 : Shape := ⟨2, ![2048, 6144]⟩
abbrev S256x2048 : Shape := ⟨2, ![256, 2048]⟩
abbrev S2048x1024 : Shape := ⟨2, ![2048, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S2048x6144, .f32⟩
  | .hbm, ⟨1, _⟩ => ⟨S256x2048, .f32⟩
  | .hbm, ⟨2, _⟩ => ⟨S2048x1024, .bf16⟩
  | .local _ .vmem, ⟨0, _⟩ => ⟨S512x256, .f32⟩
  | .local _ .vmem, ⟨1, _⟩ => ⟨S512x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S512x256, .bf16⟩
  | .local _ .vmem, ⟨7, _⟩ => ⟨S512x256, .bf16⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== XaFwdRefIdeal.lean ====
abbrev S2048x6144 : Shape := ⟨2, ![2048, 6144]⟩
abbrev S256x2048 : Shape := ⟨2, ![256, 2048]⟩
abbrev S2048x1024 : Shape := ⟨2, ![2048, 1024]⟩
abbrev S2048x4x256 : Shape := ⟨3, ![2048, 4, 256]⟩
abbrev S256x1024 : Shape := ⟨2, ![256, 1024]⟩
abbrev S256x4x256 : Shape := ⟨3, ![256, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩

abbrev nBuf : Space → Nat
  | .hbm => 30
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S256x2048, .f32⟩
  | .hbm, ⟨2, _⟩ => ⟨S2048x1024, .f32⟩
  | .hbm, ⟨3, _⟩ => ⟨S2048x4x256, .f32⟩
  | .hbm, ⟨4, _⟩ => ⟨S256x1024, .f32⟩
  | .hbm, ⟨5, _⟩ => ⟨S256x1024, .f32⟩
  | .hbm, ⟨6, _⟩ => ⟨S256x4x256, .f32⟩
  | .hbm, ⟨7, _⟩ => ⟨S256x4x256, .f32⟩
  | .hbm, ⟨8, _⟩ => ⟨S4x2048x256, .f32⟩
  | .hbm, ⟨9, _⟩ => ⟨S_, .f32⟩
  | .hbm, ⟨10, _⟩ => ⟨S4x2048x256, .f32⟩
  | .hbm, ⟨11, _⟩ => ⟨S4x2048x256, .f32⟩
  | .hbm, ⟨12, _⟩ => ⟨S_, .f32⟩
  | .hbm, ⟨13, _⟩ => ⟨S4x2048, .f32⟩
  | .hbm, ⟨14, _⟩ => ⟨S_, .f32⟩
  | .hbm, ⟨15, _⟩ => ⟨S4x2048, .f32⟩
  | .hbm, ⟨16, _⟩ => ⟨S4x2048, .f32⟩
  | .hbm, ⟨17, _⟩ => ⟨S4x2048x1, .f32⟩
  | .hbm, ⟨18, _⟩ => ⟨S4x2048x256, .f32⟩
  | .hbm, ⟨19, _⟩ => ⟨S4x2048x256, .f32⟩
  | .hbm, ⟨20, _⟩ => ⟨S4x2048x256, .f32⟩
  | .hbm, ⟨21, _⟩ => ⟨S_, .f32⟩
  | .hbm, ⟨22, _⟩ => ⟨S4x2048, .f32⟩
  | .hbm, ⟨23, _⟩ => ⟨S4x2048x1, .f32⟩
  | .hbm, ⟨24, _⟩ => ⟨S4x2048x256, .f32⟩
  | .hbm, ⟨25, _⟩ => ⟨S4x2048x256, .f32⟩
  | .hbm, ⟨26, _⟩ => ⟨S4x256x2048, .f32⟩
  | .hbm, ⟨27, _⟩ => ⟨S2048x4x256, .f32⟩
  | .hbm, ⟨28, _⟩ => ⟨S2048x1024, .f32⟩
  | .hbm, ⟨29, _⟩ => ⟨S2048x1024, .bf16⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== NormFwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormAdd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormAddRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== NormBwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .bf16⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormBwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 46
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048, .f32⟩
  | .hbm, ⟨25, _⟩ => ⟨S1x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S2048x1, .f32⟩
  | .hbm, ⟨32, _⟩ => ⟨S2048x2048, .f32⟩
  | .hbm, ⟨33, _⟩ => ⟨S2048x2048, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== GmFwd.lean ====
abbrev S2048x6144 : Shape := ⟨2, ![2048, 6144]⟩
abbrev S1x1024 : Shape := ⟨2, ![1, 1024]⟩
abbrev S8x128x128 : Shape := ⟨3, ![8, 128, 128]⟩
abbrev S8x128 : Shape := ⟨2, ![8, 128]⟩
abbrev S128x8 : Shape := ⟨2, ![128, 8]⟩
abbrev S2048x1024 : Shape := ⟨2, ![2048, 1024]⟩
abbrev S128x1024 : Shape := ⟨2, ![128, 1024]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 6
  | .vmem => 9
  | .smem => 0
  | _ => 0

abbrev bufTy : (tb : Table) → Fin (tcTables nBuf tb) → BufTy
  | .hbm, ⟨0, _⟩ => ⟨S2048x6144, .f32⟩
  | .hbm, ⟨1, _⟩ => ⟨S1x1024, .f32⟩
  | .hbm, ⟨2, _⟩ => ⟨S8x128x128, .f32⟩
  | .hbm, ⟨3, _⟩ => ⟨S8x128, .f32⟩
  | .hbm, ⟨4, _⟩ => ⟨S128x8, .f32⟩
  | .hbm, ⟨5, _⟩ => ⟨S2048x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x1024, .f32⟩
  | .local _ .vmem, ⟨5, _⟩ => ⟨S8x128x128, .f32⟩
  | .local _ .vmem, ⟨6, _⟩ => ⟨S128x8, .f32⟩
  | .local _ .vmem, ⟨7, _⟩ => ⟨S128x1024, .bf16⟩
  | .local _ .vmem, ⟨8, _⟩ => ⟨S128x1024, .bf16⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GmFwdRefIdeal.lean ====
abbrev S2048x6144 : Shape := ⟨2, ![2048, 6144]⟩
abbrev S1x1024 : Shape := ⟨2, ![1, 1024]⟩
abbrev S8x128x128 : Shape := ⟨3, ![8, 128, 128]⟩
abbrev S8x128 : Shape := ⟨2, ![8, 128]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S16x128x8x128 : Shape := ⟨4, ![16, 128, 8, 128]⟩
abbrev S8x16x128x128 : Shape := ⟨4, ![8, 16, 128, 128]⟩
abbrev S128x8 : Shape := ⟨2, ![128, 8]⟩
abbrev S1x128x8x1 : Shape := ⟨4, ![1, 128, 8, 1]⟩

abbrev nBuf : Space → Nat
  | .hbm => 112
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S1x1024, .f32⟩
  | .hbm, ⟨2, _⟩ => ⟨S8x128x128, .f32⟩
  | .hbm, ⟨3, _⟩ => ⟨S8x128, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S2048x1, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S128, .i32⟩
  | .hbm, ⟨56, _⟩ => ⟨S1x128, .i32⟩
  | .hbm, ⟨57, _⟩ => ⟨S_, .i32⟩
  | .hbm, ⟨58, _⟩ => ⟨S_, .i32⟩
  | .hbm, ⟨59, _⟩ => ⟨S1x128, .i32⟩
  | .hbm, ⟨60, _⟩ => ⟨S1x128, .i32⟩
  | .hbm, ⟨61, _⟩ => ⟨S1x128, .i32⟩
  | .hbm, ⟨62, _⟩ => ⟨S_, .i32⟩
  | .hbm, ⟨63, _⟩ => ⟨S1x128, .i32⟩
  | .hbm, ⟨64, _⟩ => ⟨S1x128, .i1⟩
  | .hbm, ⟨65, _⟩ => ⟨S1x128, .i32⟩
  | .hbm, ⟨66, _⟩ => ⟨S1x128, .i32⟩
  | .hbm, ⟨67, _⟩ => ⟨S_, .i32⟩
  | .hbm, ⟨68, _⟩ => ⟨S1x128, .i32⟩
  | .hbm, ⟨69, _⟩ => ⟨S1x128, .i1⟩
  | .hbm, ⟨70, _⟩ => ⟨S1x128, .i1⟩
  | .hbm, ⟨71, _⟩ => ⟨S_, .i32⟩
  | .hbm, ⟨72, _⟩ => ⟨S1x128, .i32⟩
  | .hbm, ⟨73, _⟩ => ⟨S1x128, .i32⟩
  | .hbm, ⟨74, _⟩ => ⟨S1x128, .i32⟩
  | .hbm, ⟨75, _⟩ => ⟨S128x1, .i32⟩
  | .hbm, ⟨76, _⟩ => ⟨S_, .i32⟩
  | .hbm, ⟨77, _⟩ => ⟨S_, .i32⟩
  | .hbm, ⟨78, _⟩ => ⟨S128x1, .i32⟩
  | .hbm, ⟨79, _⟩ => ⟨S128x1, .i32⟩
  | .hbm, ⟨80, _⟩ => ⟨S128x1, .i32⟩
  | .hbm, ⟨81, _⟩ => ⟨S_, .i32⟩
  | .hbm, ⟨82, _⟩ => ⟨S128x1, .i32⟩
  | .hbm, ⟨83, _⟩ => ⟨S128x1, .i1⟩
  | .hbm, ⟨84, _⟩ => ⟨S128x1, .i32⟩
  | .hbm, ⟨85, _⟩ => ⟨S128x1, .i32⟩
  | .hbm, ⟨86, _⟩ => ⟨S_, .i32⟩
  | .hbm, ⟨87, _⟩ => ⟨S128x1, .i32⟩
  | .hbm, ⟨88, _⟩ => ⟨S128x1, .i1⟩
  | .hbm, ⟨89, _⟩ => ⟨S128x1, .i1⟩
  | .hbm, ⟨90, _⟩ => ⟨S_, .i32⟩
  | .hbm, ⟨91, _⟩ => ⟨S128x1, .i32⟩
  | .hbm, ⟨92, _⟩ => ⟨S128x1, .i32⟩
  | .hbm, ⟨93, _⟩ => ⟨S128x1, .i32⟩
  | .hbm, ⟨94, _⟩ => ⟨S128x128, .i32⟩
  | .hbm, ⟨95, _⟩ => ⟨S128x128, .i32⟩
  | .hbm, ⟨96, _⟩ => ⟨S128x128, .i1⟩
  | .hbm, ⟨97, _⟩ => ⟨S1x128x128, .i1⟩
  | .hbm, ⟨98, _⟩ => ⟨S_, .f32⟩
  | .hbm, ⟨99, _⟩ => ⟨S8x128x128, .f32⟩
  | .hbm, ⟨100, _⟩ => ⟨S8x128x128, .i1⟩
  | .hbm, ⟨101, _⟩ => ⟨S8x128x128, .f32⟩
  | .hbm, ⟨102, _⟩ => ⟨S16x128x8x128, .f32⟩
  | .hbm, ⟨103, _⟩ => ⟨S8x16x128x128, .f32⟩
  | .hbm, ⟨104, _⟩ => ⟨S16x128x8x128, .f32⟩
  | .hbm, ⟨105, _⟩ => ⟨S128x8, .f32⟩
  | .hbm, ⟨106, _⟩ => ⟨S1x128x8x1, .f32⟩
  | .hbm, ⟨107, _⟩ => ⟨S16x128x8x128, .f32⟩
  | .hbm, ⟨108, _⟩ => ⟨S16x128x8x128, .f32⟩
  | .hbm, ⟨109, _⟩ => ⟨S2048x1024, .f32⟩
  | .hbm, ⟨110, _⟩ => ⟨S2048x1024, .f32⟩
  | .hbm, ⟨111, _⟩ => ⟨S2048x1024, .bf16⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_v8 : Ref sig .tc := ⟨.hbm, 66, rfl⟩
abbrev main_call0_c : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_c_0 : Ref sig .tc := ⟨.hbm, 71, rfl⟩
abbrev main_call0_v12 : Ref sig .tc := ⟨.hbm, 72, rfl⟩
abbrev main_call0_v13 : Ref sig .tc := ⟨.hbm, 73, rfl⟩
abbrev main_v42 : Ref sig .tc := ⟨.hbm, 74, rfl⟩
abbrev main_v43 : Ref sig .tc := ⟨.hbm, 75, rfl⟩
abbrev main_c_10 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_c : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_c_0 : Ref sig .tc := ⟨.hbm, 90, rfl⟩
abbrev main_call1_v12 : Ref sig .tc := ⟨.hbm, 91, rfl⟩
abbrev main_call1_v13 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_cst_11 : Ref sig .tc := ⟨.hbm, 98, rfl⟩
abbrev main_v49 : Ref sig .tc := ⟨.hbm, 99, rfl⟩
abbrev main_call2_v0 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩

abbrev nD : Nat := 1
abbrev τ : Topo := Topo.v7x

variable {F : FTy → Type} [FloatOps F]
-- ==== Proof.Sb.Chain.lean ====
/-
  The reference's gradient as a chain of named arrays: the logits, the weights, the gradients of the weights and of the
  logits. The program prints each result as one composed term; here it is these arrays put together.
-/
module

public import proofs.«01_k».proof.Proof.Gen.ReferenceIdeal.Run

@[expose] public section

set_option maxRecDepth 65536

noncomputable section

namespace Cert.ReferenceIdeal.Sb

open Idealize.ShloMosaic Idealize.ShloMosaic.TcCoe Idealize.SL.Sem
open Cert.ReferenceIdeal Cert.ReferenceIdeal.Value Cert.ReferenceIdeal.Gen

variable {F : FTy → Type} [FloatOps F]

/-- The queries, the keys, the values and the incoming gradient, by head. -/
def qV (x : Vec F S2048x6144 .f32) : Vec F S2048x8x128 .f32 := shapeCast _ (extractStridedSlice S2048x1024 ![0, 0] x slices_S2048x6144_S2048x1024_0_0) shapeCasts_S2048x1024_S2048x8x128
@[inherit_doc qV] def kV (x : Vec F S2048x6144 .f32) : Vec F S2048x8x128 .f32 := shapeCast _ (extractStridedSlice S2048x1024 ![0, 1024] x slices_S2048x6144_S2048x1024_0_1024) shapeCasts_S2048x1024_S2048x8x128
@[inherit_doc qV] def vV (x : Vec F S2048x6144 .f32) : Vec F S2048x8x128 .f32 := shapeCast _ (extractStridedSlice S2048x1024 ![0, 2048] x slices_S2048x6144_S2048x1024_0_2048) shapeCasts_S2048x1024_S2048x8x128
@[inherit_doc qV] def oV (y : Vec F S2048x1024 .f32) : Vec F S8x128x2048 .f32 := transpose S8x128x2048 [1, 2, 0] (shapeCast _ y shapeCasts_S2048x1024_S2048x8x128) transposes_S2048x8x128_S8x128x2048_1_2_0

/-- One number in every place. -/
def allV (w : BitVec 32) : FVec F S8x2048x2048 .f32 := broadcastInDim S8x2048x2048 ![] bcast_S_S8x2048x2048 (constant S_ .f32 w)

/-- The logits. -/
def zV (x : Vec F S2048x6144 .f32) : FVec F S8x2048x2048 .f32 :=
  mulf (Host.dotGeneral dot_S2048x8x128_S2048x8x128_S8x2048x2048_2_2_0_0_1_1 none (qV x) (kV x)) (allV 0x3DB504F3#32)

/-- The pairs whose key is left of its query. -/
def maskV : IVec S8x2048x2048 1 :=
  broadcastInDim S8x2048x2048 ![1, 2] bcast_S2048x2048_S8x2048x2048_1_2 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- `x` where the key is left of the query, elsewhere zero. -/
def whereV (x : FVec F S8x2048x2048 .f32) : FVec F S8x2048x2048 .f32 := select maskV x (allV 0x00000000#32)

/-- The logarithm of one plus the exponential. -/
def spV (x : FVec F S8x2048x2048 .f32) : FVec F S8x2048x2048 .f32 :=
  select (cmpf .une (subf x (allV 0x00000000#32)) (subf x (allV 0x00000000#32))) (addf x (allV 0x00000000#32))
    (addf (maximumf x (allV 0x00000000#32)) (Host.log1p (Host.exp (Host.negf (Host.absf (subf x (allV 0x00000000#32)))))))

/-- The derivative of `spV`. -/
def sgV (x : FVec F S8x2048x2048 .f32) : FVec F S8x2048x2048 .f32 :=
  Host.exp (subf (select (cmpf .oeq x (allV 0x7F800000#32)) (allV 0x00000000#32) x) (select (cmpf .oeq (spV x) (allV 0x7F800000#32)) (allV 0x00000000#32) (spV x)))

/-- The logarithm of the part that a pair leaves. -/
def keepV (z : FVec F S8x2048x2048 .f32) : FVec F S8x2048x2048 .f32 := whereV (Host.negf (spV (Host.negf (Host.negf z))))

/-- The sum of `keepV` over the keys right of a key. -/
def sufV (z : FVec F S8x2048x2048 .f32) : FVec F S8x2048x2048 .f32 :=
  subf (Host.reduceWindowAdd ![1, 1, 2048] ![1, 1, 1] ![0, 0, 0] ![0, 0, 2047] (keepV z) (broadcastInDim S_ ![] bcast_S_S_ (constant S_ .f32 0x00000000#32)) reduceWindows_S8x2048x2048_S8x2048x2048_w1s1p0_0_w1s1p0_0_w2048s1p0_2047 h_S_) (keepV z)

/-- The weights before they are masked, and the weights. -/
def eV (z : FVec F S8x2048x2048 .f32) : FVec F S8x2048x2048 .f32 := Host.exp (addf (Host.negf (spV (Host.negf z))) (sufV z))
@[inherit_doc eV] def aV (z : FVec F S8x2048x2048 .f32) : FVec F S8x2048x2048 .f32 := whereV (eV z)

/-- The gradient of a weight's logarithm. -/
def gV (x : Vec F S2048x6144 .f32) (y : Vec F S2048x1024 .f32) : FVec F S8x2048x2048 .f32 :=
  mulf (whereV (Host.dotGeneral dot_S8x128x2048_S2048x8x128_S8x2048x2048_1_2_2_0_0_1 none (oV y) (vV x))) (eV (zV x))

/-- The sum of `g` over the keys left of a key. -/
def preV (g : FVec F S8x2048x2048 .f32) : FVec F S8x2048x2048 .f32 :=
  whereV (addf (Host.negf g) (Host.reduceWindowAdd ![1, 1, 2048] ![1, 1, 1] ![0, 0, 2047] ![0, 0, 0] g (broadcastInDim S_ ![] bcast_S_S_ (constant S_ .f32 0x00000000#32)) reduceWindows_S8x2048x2048_S8x2048x2048_w1s1p0_0_w1s1p0_0_w2048s1p2047_0 h_S_))

/-- The gradient of the logits from `g`. -/
def dzV (z g : FVec F S8x2048x2048 .f32) : FVec F S8x2048x2048 .f32 :=
  mulf (addf (Host.negf (mulf (Host.negf g) (sgV (Host.negf z)))) (Host.negf (Host.negf (mulf (Host.negf (preV g)) (sgV (Host.negf (Host.negf z))))))) (allV 0x3DB504F3#32)

variable (m : (ℓ : Loc nD τ sig) → Buf (Elt F) ℓ) (c : Dev nD)

/-- The gradient of the values. -/
theorem res2_eq : res_main_v50 m c = shapeCast _ (transpose S2048x8x128 [2, 0, 1] (Host.dotGeneral dot_S8x128x2048_S8x2048x2048_S8x128x2048_2_1_1_2_0_0 none (oV (m ((c.tc : Thread nD τ).loc main_arg1))) (aV (zV (m ((c.tc : Thread nD τ).loc main_arg0))))) transposes_S8x128x2048_S2048x8x128_2_0_1) shapeCasts_S2048x8x128_S2048x1024 := by
  unfold res_main_v50
  rfl

/-- The gradient of the keys. -/
theorem res1_eq : res_main_v49 m c = shapeCast _ (transpose S2048x8x128 [1, 0, 2] (Host.dotGeneral dot_S8x2048x2048_S2048x8x128_S8x2048x128_1_0_2_2_0_1 none (dzV (zV (m ((c.tc : Thread nD τ).loc main_arg0))) (gV (m ((c.tc : Thread nD τ).loc main_arg0)) (m ((c.tc : Thread nD τ).loc main_arg1)))) (qV (m ((c.tc : Thread nD τ).loc main_arg0)))) transposes_S8x2048x128_S2048x8x128_1_0_2) shapeCasts_S2048x8x128_S2048x1024 := by
  unfold res_main_v49
  rfl

/-- The gradient of the queries. -/
theorem res0_eq : res_main_v48 m c = shapeCast _ (transpose S2048x8x128 [1, 0, 2] (Host.dotGeneral dot_S8x2048x2048_S2048x8x128_S8x2048x128_2_0_1_2_0_1 none (dzV (zV (m ((c.tc : Thread nD τ).loc main_arg0))) (gV (m ((c.tc : Thread nD τ).loc main_arg0)) (m ((c.tc : Thread nD τ).loc main_arg1)))) (kV (m ((c.tc : Thread nD τ).loc main_arg0)))) transposes_S8x2048x128_S2048x8x128_1_0_2) shapeCasts_S2048x8x128_S2048x1024 := by
  unfold res_main_v48
  rfl

end Cert.ReferenceIdeal.Sb
-- ==== Proof.Sb.Window.lean ====
/-
  The two running sums along the last axis of an `[8, 2048, 2048]` array, as the host states them by a window: the sum
  up to and including a place, and the sum from a place on.
-/
module

public import Idealize.ShloMosaic.Lib.Pointwise
public import Idealize.ShloMosaic.Lib.ValueIdx

@[expose] public section

set_option maxRecDepth 16384

noncomputable section

namespace Cert.Sb

open Idealize.ShloMosaic Idealize.ShloMosaic.TcCoe

/-- A left fold of additions is the start plus the sum. -/
theorem foldl_add (n : ℕ) (f : Fin n → EReal) (v : EReal) : (List.finRange n).foldl (fun r k => r + f k) v = v + ∑ k : Fin n, f k := by
  have e : ∀ (l : List (Fin n)) (v : EReal), l.foldl (fun r k => r + f k) v = v + (l.map f).sum := by
    intro l
    induction l with
    | nil => intro v; simp
    | cons a l ih => intro v; rw [List.foldl_cons, ih, List.map_cons, List.sum_cons, add_assoc]
  rw [e, ← List.sum_ofFn, List.ofFn_eq_map]

/-- A window over one row. -/
abbrev row : Shape := ⟨3, ![1, 1, 2048]⟩

/-- The shape of the logits. -/
abbrev cube : Shape := ⟨3, ![8, 2048, 2048]⟩

/-- The shape of a number. -/
abbrev one : Shape := ⟨0, ![]⟩

/-- A sum over a row in the order of its places. -/
theorem sum_row (f : row.Idx → EReal) : ∑ n : Fin row.numel, f (row.rowMajor.symm n) = ∑ k : Fin 2048, f (ix3 (0 : Fin 1) (0 : Fin 1) k) := by
  rw [Equiv.sum_comp row.rowMajor.symm f]
  refine (Fintype.sum_equiv ⟨fun k : Fin 2048 => (ix3 (0 : Fin 1) (0 : Fin 1) k : row.Idx), fun i => i 2, fun k => rfl, fun i => ?_⟩ _ _ fun k => rfl).symm
  idx_ext

/-- The sum over the places up to one. -/
theorem shift_up (s : Fin 2048) (f : Fin 2048 → EReal) :
    (∑ k : Fin 2048, if 2047 ≤ s.val + k.val then f ⟨s.val + k.val - 2047, by omega⟩ else 0) = ∑ x : Fin 2048, if x.val ≤ s.val then f x else 0 := by
  have hs := s.isLt
  rw [← Finset.sum_filter, ← Finset.sum_filter]
  refine Finset.sum_nbij' (fun k => ⟨s.val + k.val - 2047, by omega⟩) (fun x => ⟨(2047 + x.val - s.val) % 2048, by omega⟩) ?_ ?_ ?_ ?_ (fun k _ => rfl)
  · intro k hk
    rw [Finset.mem_filter] at hk ⊢
    exact ⟨Finset.mem_univ _, by show s.val + k.val - 2047 ≤ s.val; omega⟩
  · intro x hx
    rw [Finset.mem_filter] at hx ⊢
    exact ⟨Finset.mem_univ _, by show 2047 ≤ s.val + (2047 + x.val - s.val) % 2048; omega⟩
  · intro k hk
    rw [Finset.mem_filter] at hk
    exact Fin.ext (by show (2047 + (s.val + k.val - 2047) - s.val) % 2048 = k.val; omega)
  · intro x hx
    rw [Finset.mem_filter] at hx
    exact Fin.ext (by show s.val + (2047 + x.val - s.val) % 2048 - 2047 = x.val; omega)

/-- The sum over the places from one on. -/
theorem shift_down (s : Fin 2048) (f : Fin 2048 → EReal) :
    (∑ k : Fin 2048, if h : s.val + k.val < 2048 then f ⟨s.val + k.val, h⟩ else 0) = ∑ x : Fin 2048, if s.val ≤ x.val then f x else 0 := by
  have hs := s.isLt
  have e : (∑ k : Fin 2048, if h : s.val + k.val < 2048 then f ⟨s.val + k.val, h⟩ else 0)
      = ∑ k : Fin 2048, if s.val + k.val < 2048 then f ⟨(s.val + k.val) % 2048, by omega⟩ else 0 := by
    refine Finset.sum_congr rfl fun k _ => ?_
    by_cases h : s.val + k.val < 2048
    · rw [dif_pos h, if_pos h]
      exact congrArg f (Fin.ext (by show s.val + k.val = (s.val + k.val) % 2048; omega))
    · rw [dif_neg h, if_neg h]
  rw [e, ← Finset.sum_filter, ← Finset.sum_filter]
  refine Finset.sum_nbij' (fun k => ⟨(s.val + k.val) % 2048, by omega⟩) (fun x => ⟨x.val - s.val, by omega⟩) ?_ ?_ ?_ ?_ (fun k _ => rfl)
  · intro k hk
    rw [Finset.mem_filter] at hk ⊢
    exact ⟨Finset.mem_univ _, by show s.val ≤ (s.val + k.val) % 2048; omega⟩
  · intro x hx
    rw [Finset.mem_filter] at hx ⊢
    exact ⟨Finset.mem_univ _, by show s.val + (x.val - s.val) < 2048; omega⟩
  · intro k hk
    rw [Finset.mem_filter] at hk
    exact Fin.ext (by show (s.val + k.val) % 2048 - s.val = k.val; omega)
  · intro x hx
    rw [Finset.mem_filter] at hx
    exact Fin.ext (by show (s.val + (x.val - s.val)) % 2048 = x.val; omega)

/-- What a window reads at one of its places `w`, the operand padded by zeros from `lo` places before it. -/
def winAt (lo : Fin 3 → ℕ) (x : cube.Idx → EReal) (j : cube.Idx) (w : row.Idx) : EReal :=
  if hin : ∀ e : Fin 3, lo e ≤ (j e).val * (![1, 1, 1] : Fin 3 → ℕ) e + (w e).val ∧ (j e).val * (![1, 1, 1] : Fin 3 → ℕ) e + (w e).val - lo e < cube.size e
  then x (fun e => ⟨(j e).val * (![1, 1, 1] : Fin 3 → ℕ) e + (w e).val - lo e, (hin e).2⟩) else 0

/-- The running sum up to and including a place. -/
theorem cumsum_up (x : FVec Ideal cube .f32) (init : FVec Ideal one .f32) (hi : init ix0 = (0 : EReal))
    (h : cube.ReduceWindows ![1, 1, 2048] ![1, 1, 1] ![0, 0, 2047] ![0, 0, 0] cube) (hu : 0 < one.numel) (a : Fin 8) (T s : Fin 2048) :
    Host.reduceWindowAdd ![1, 1, 2048] ![1, 1, 1] ![0, 0, 2047] ![0, 0, 0] x init h hu (ix3 a T s)
      = ∑ k : Fin 2048, if k.val ≤ s.val then x (ix3 a T k) else (0 : EReal) := by
  have hv : init (Shape.Idx.first hu) = (0 : EReal) := (congrArg init (by idx_ext)).trans hi
  unfold Host.reduceWindowAdd
  rw [Ideal.hostReduceWindowAdd_def]
  unfold Ideal.hostReduceWindowAdd Host.reduceWindow
  rw [hv]
  refine (foldl_add _ _ _).trans ?_
  rw [zero_add]
  refine (Finset.sum_congr rfl fun n _ => (?_ : _ = winAt ![0, 0, 2047] x (ix3 a T s) (row.rowMajor.symm n))).trans ((sum_row (winAt ![0, 0, 2047] x (ix3 a T s))).trans ?_)
  · unfold winAt
    exact dite_congr rfl (fun _ => rfl) fun _ => rfl
  refine Eq.trans ?_ (shift_up s fun k => x (ix3 a T k))
  refine Finset.sum_congr rfl fun k _ => ?_
  unfold winAt
  by_cases hk : 2047 ≤ s.val + k.val
  · rw [if_pos hk, dif_pos (fun e => ?_)]
    · refine congrArg x (funext fun e => ?_)
      match e with
      | ⟨0, _⟩ => exact Fin.ext (by show a.val * 1 + 0 - 0 = a.val; omega)
      | ⟨1, _⟩ => exact Fin.ext (by show T.val * 1 + 0 - 0 = T.val; omega)
      | ⟨2, _⟩ => exact Fin.ext (by show s.val * 1 + k.val - 2047 = s.val + k.val - 2047; omega)
    · match e with
      | ⟨0, _⟩ => show 0 ≤ a.val * 1 + 0 ∧ a.val * 1 + 0 - 0 < 8; omega
      | ⟨1, _⟩ => show 0 ≤ T.val * 1 + 0 ∧ T.val * 1 + 0 - 0 < 2048; omega
      | ⟨2, _⟩ => show 2047 ≤ s.val * 1 + k.val ∧ s.val * 1 + k.val - 2047 < 2048; omega
  · rw [if_neg hk]
    refine dif_neg fun hin => hk ?_
    have := (hin (2 : Fin 3)).1
    change 2047 ≤ s.val * 1 + k.val at this
    omega

/-- The running sum from a place on. -/
theorem cumsum_down (x : FVec Ideal cube .f32) (init : FVec Ideal one .f32) (hi : init ix0 = (0 : EReal))
    (h : cube.ReduceWindows ![1, 1, 2048] ![1, 1, 1] ![0, 0, 0] ![0, 0, 2047] cube) (hu : 0 < one.numel) (a : Fin 8) (T s : Fin 2048) :
    Host.reduceWindowAdd ![1, 1, 2048] ![1, 1, 1] ![0, 0, 0] ![0, 0, 2047] x init h hu (ix3 a T s)
      = ∑ k : Fin 2048, if s.val ≤ k.val then x (ix3 a T k) else (0 : EReal) := by
  have hv : init (Shape.Idx.first hu) = (0 : EReal) := (congrArg init (by idx_ext)).trans hi
  unfold Host.reduceWindowAdd
  rw [Ideal.hostReduceWindowAdd_def]
  unfold Ideal.hostReduceWindowAdd Host.reduceWindow
  rw [hv]
  refine (foldl_add _ _ _).trans ?_
  rw [zero_add]
  refine (Finset.sum_congr rfl fun n _ => (?_ : _ = winAt ![0, 0, 0] x (ix3 a T s) (row.rowMajor.symm n))).trans ((sum_row (winAt ![0, 0, 0] x (ix3 a T s))).trans ?_)
  · unfold winAt
    exact dite_congr rfl (fun _ => rfl) fun _ => rfl
  refine Eq.trans ?_ (shift_down s fun k => x (ix3 a T k))
  refine Finset.sum_congr rfl fun k _ => ?_
  unfold winAt
  by_cases hk : s.val + k.val < 2048
  · rw [dif_pos hk, dif_pos (fun e => ?_)]
    · refine congrArg x (funext fun e => ?_)
      match e with
      | ⟨0, _⟩ => exact Fin.ext (by show a.val * 1 + 0 - 0 = a.val; omega)
      | ⟨1, _⟩ => exact Fin.ext (by show T.val * 1 + 0 - 0 = T.val; omega)
      | ⟨2, _⟩ => exact Fin.ext (by show s.val * 1 + k.val - 0 = s.val + k.val; omega)
    · match e with
      | ⟨0, _⟩ => show 0 ≤ a.val * 1 + 0 ∧ a.val * 1 + 0 - 0 < 8; omega
      | ⟨1, _⟩ => show 0 ≤ T.val * 1 + 0 ∧ T.val * 1 + 0 - 0 < 2048; omega
      | ⟨2, _⟩ => show 0 ≤ s.val * 1 + k.val ∧ s.val * 1 + k.val - 0 < 2048; omega
  · rw [dif_neg hk]
    refine dif_neg fun hin => hk ?_
    have := (hin (2 : Fin 3)).2
    change s.val * 1 + k.val - 0 < 2048 at this
    omega

end Cert.Sb
-- ==== Proof.Sb.RefPoint.lean ====
/-
  The reference's arrays at one place: a head, a query and a key, over the extended reals.
-/
module

public import proofs.«01_k».proof.Proof.Sb.Chain
public import proofs.«01_k».proof.Proof.Sb.Window
public import Idealize.ShloMosaic.Lib.WordCmp

@[expose] public section

set_option maxRecDepth 16384

noncomputable section

namespace Cert.ReferenceIdeal.Sb

open Idealize.ShloMosaic Idealize.ShloMosaic.TcCoe Idealize.SL.Sem
open Cert.ReferenceIdeal Cert.ReferenceIdeal.Value Cert.ReferenceIdeal.Gen

variable (x z g : FVec Ideal S8x2048x2048 .f32) (P : Vec Ideal S2048x6144 .f32) (D : Vec Ideal S2048x1024 .f32) (h : Fin 8) (T s : Fin 2048)

/-- A logit: the scaled product of a query row with a key row. -/
theorem z_at : zV P (ix3 h T s) = (∑ d : Fin 128, P (ix2 T ⟨h.val * 128 + d.val, by omega⟩) * P (ix2 s ⟨1024 + (h.val * 128 + d.val), by omega⟩)) * Ideal.ofBits .f32 1035273459#32 := by
  pointwise [zV, qV, kV, allV]

/-- The mask keeps the keys left of the query. -/
theorem where_at : whereV x (ix3 h T s) = if s.val < T.val then x (ix3 h T s) else 0 := by
  pointwise [whereV, maskV, allV]
  rw [WordCmp.cmpi_slt_ofNat (by omega) (by omega), WordCmp.select_ofBool]
  simp only [decide_eq_true_eq]

/-- The softplus of a real number. -/
def spR (r : ℝ) : ℝ := max r 0 + Real.log (1 + Real.exp (-|r|))

/-- Its value without the case split on the sign. -/
theorem spR_eq (r : ℝ) : spR r = Real.log (1 + Real.exp r) := by
  unfold spR
  rcases le_total 0 r with hr | hr
  · rw [max_eq_left hr, abs_of_nonneg hr]
    conv_lhs => rw [← Real.log_exp r]
    rw [← Real.log_mul (Real.exp_pos _).ne' (by positivity)]
    rw [mul_add, ← Real.exp_add, Real.log_exp]
    simp [add_comm]
  · rw [max_eq_right hr, abs_of_nonpos hr, neg_neg, zero_add]

/-- The softplus array at a place that holds a real number. -/
theorem sp_at (r : ℝ) (hx : x (ix3 h T s) = (r : EReal)) : spV x (ix3 h T s) = (spR r : EReal) := by
  pointwise [spV, allV]
  rw [hx, if_neg (by simp)]
  show max (r : EReal) 0 + Ideal.log (1 + Ideal.exp (-(max (r : EReal) (-(r : EReal))))) = _
  have hm : ∀ u v : ℝ, max (u : EReal) (v : EReal) = ((max u v : ℝ) : EReal) := fun u v => (EReal.coe_strictMono.monotone.map_max).symm
  have h0 : max (r : EReal) (-(r : EReal)) = ((|r| : ℝ) : EReal) := by
    rw [abs_eq_max_neg, ← hm, EReal.coe_neg]
  have h1 : (1 : EReal) + ((Real.exp (-|r|) : ℝ) : EReal) = ((1 + Real.exp (-|r|) : ℝ) : EReal) := by
    rw [EReal.coe_add, EReal.coe_one]
  rw [h0, ← EReal.coe_neg, Ideal.exp_coe, h1, Ideal.log_coe, if_neg (by have := Real.exp_pos (-|r|); linarith), ← EReal.coe_zero, hm, ← EReal.coe_add]
  rfl

/-- The logistic array at a place that holds a real number. -/
theorem sg_at (r : ℝ) (hx : x (ix3 h T s) = (r : EReal)) : sgV x (ix3 h T s) = (Real.exp (r - spR r) : EReal) := by
  pointwise [sgV, allV]
  have hr : ∀ t : ℝ, (t : EReal) ≠ Ideal.ofBits .f32 2139095040#32 := fun t => by
    rw [show Ideal.ofBits .f32 2139095040#32 = (⊤ : EReal) by simp [Ideal.ofBits, Ideal.ieee]]
    exact EReal.coe_ne_top t
  rw [sp_at x h T s r hx, hx, if_neg (hr r), if_neg (hr _), ← EReal.coe_sub, Ideal.exp_coe]

/-- The sum over the later keys at an index: the sum from the key on, less the key. -/
theorem suf_at : sufV z (ix3 h T s) = (∑ k : Fin 2048, if s.val ≤ k.val then keepV z (ix3 h T k) else 0) - keepV z (ix3 h T s) := by
  pointwise [sufV]
  rw [Cert.Sb.cumsum_down _ _ (by pointwise)]

/-- The logarithm of what a key leaves, at an index. -/
theorem keep_at : keepV z (ix3 h T s) = if s.val < T.val then - spV (Host.negf (Host.negf z)) (ix3 h T s) else 0 := by
  unfold keepV
  rw [where_at]
  pointwise

/-- The weight at an index, before the mask. -/
theorem e_at : eV z (ix3 h T s) = Ideal.exp (- spV (Host.negf z) (ix3 h T s) + sufV z (ix3 h T s)) := by
  pointwise [eV]

/-- The gradient of a weight's logarithm at an index. -/
theorem g_at : gV P D (ix3 h T s) = (if s.val < T.val then ∑ d : Fin 128, D (ix2 T ⟨h.val * 128 + d.val, by omega⟩) * P (ix2 s ⟨2048 + (h.val * 128 + d.val), by omega⟩) else 0) * eV (zV P) (ix3 h T s) := by
  pointwise [gV, oV, vV]
  rw [where_at]
  pointwise

/-- The sum of the gradients left of a key, at an index. -/
theorem pre_at : preV g (ix3 h T s) = if s.val < T.val then - g (ix3 h T s) + ∑ k : Fin 2048, (if k.val ≤ s.val then g (ix3 h T k) else 0) else 0 := by
  unfold preV
  rw [where_at]
  pointwise
  rw [Cert.Sb.cumsum_up _ _ (by pointwise)]

/-- The gradient of a logit at an index. -/
theorem dz_at : dzV z g (ix3 h T s) = (-(-g (ix3 h T s) * sgV (Host.negf z) (ix3 h T s)) + - -(-preV g (ix3 h T s) * sgV (Host.negf (Host.negf z)) (ix3 h T s))) * Ideal.ofBits .f32 1035273459#32 := by
  pointwise [dzV, allV]

end Cert.ReferenceIdeal.Sb
-- ==== Proof.Sb.Step.lean ====
module

public import proofs.«01_k».proof.Proof.Gen.KernelIdeal.Loops
public import Idealize.ShloMosaic.Lib.VecWindow

@[expose] public section

set_option maxRecDepth 16384

noncomputable section

open Idealize.ShloMosaic Idealize.ShloMosaic.TcCoe Idealize.SL.Sem Idealize.ShloMosaic.VecWindow

namespace Cert.KernelIdeal.Sb

open Cert.KernelIdeal Cert.KernelIdeal.Gen

variable {F : FTy → Type} [FloatOps F]

/-- What one block of queries carries from key block to key block: the gradients of the keys and of the values, the row sums and the gradient of the queries so far. -/
structure St (F : FTy → Type) where
  dk : Vec F S2048x128 .f32
  dv : Vec F S2048x128 .f32
  run : Vec F S512x128 .f32
  acc : Vec F S512x128 .f32

/-- A key block's rows lie inside the array. -/
theorem row_inb (j : Fin 16) : ∀ a : Fin S2048x128.rank, (![128 * j.val, 0] : Fin 2 → ℕ) a + S128x128.size a ≤ S2048x128.size a := by
  intro a
  have := j.isLt
  match a with
  | ⟨0, _⟩ => show 128 * j.val + 128 ≤ 2048; omega
  | ⟨1, _⟩ => show 0 + 128 ≤ 128; omega

/-- A key block's tile lies inside the array. -/
theorem blk_inb (j : Fin 16) : ∀ a : Fin S1x1x16x512x128.rank, (![0, 0, j.val, 0, 0] : Fin 5 → ℕ) a + S1x1x1x512x128.size a ≤ S1x1x16x512x128.size a := by
  intro a
  have := j.isLt
  match a with
  | ⟨0, _⟩ => show 0 + 1 ≤ 1; omega
  | ⟨1, _⟩ => show 0 + 1 ≤ 1; omega
  | ⟨2, _⟩ => show j.val + 1 ≤ 16; omega
  | ⟨3, _⟩ => show 0 + 512 ≤ 512; omega
  | ⟨4, _⟩ => show 0 + 128 ≤ 128; omega

/-- The 128 rows of `x` of key block `j`. -/
def rows (x : Vec F S2048x128 .f32) (j : Fin 16) : Vec F S128x128 .f32 :=
  window (s := S2048x128) x ![128 * j.val, 0] S128x128.size (row_inb j)

/-- `x` with `w` over the rows of key block `j`. -/
def putRows (x : Vec F S2048x128 .f32) (j : Fin 16) (w : Vec F S128x128 .f32) : Vec F S2048x128 .f32 :=
  put (s := S2048x128) x ![128 * j.val, 0] S128x128.size w

/-- The block of `x` of key block `j`. -/
def blk (x : Vec F S1x1x16x512x128 .bf16) (j : Fin 16) : Vec F S1x1x1x512x128 .bf16 :=
  window (s := S1x1x16x512x128) x ![0, 0, j.val, 0, 0] S1x1x1x512x128.size (blk_inb j)

/-- One key block `j` taken into the state: `q`, `o` the block's queries and its incoming gradient, `K`, `W` all keys and values of the head, `A`, `B` the two saved arrays of the block of queries. -/
def step (q o : FVec F S512x128 .bf16) (T : FVec F S128x256 .bf16) (K W : Vec F S2048x128 .f32) (A B : Vec F S1x1x16x512x128 .bf16) (j : Fin 16) (s : St F) : St F where
  dk := putRows s.dk j (k0_pay11 q (k0_pay6 (blk B j)) (k0_pay8 o (rows W j) (blk A j) (blk B j)) (k0_pay9 o T (rows W j) (blk A j) s.run) (rows s.dk j))
  dv := putRows s.dv j (k0_pay5 o (blk A j) (rows s.dv j))
  run := k0_pay13 (k0_pay7 o T (rows W j) (blk A j)) s.run
  acc := k0_pay12 (k0_pay2 (rows K j)) (k0_pay6 (blk B j)) (k0_pay8 o (rows W j) (blk A j) (blk B j)) (k0_pay9 o T (rows W j) (blk A j) s.run) s.acc

/-- Rows put at one key block leave the rows of another. -/
theorem rows_putRows_of_ne (x : Vec F S2048x128 .f32) (w : Vec F S128x128 .f32) {j j' : Fin 16} (h : j' ≠ j) : rows (putRows x j w) j' = rows x j' := by
  unfold rows putRows
  have h' : j'.val ≠ j.val := fun e => h (Fin.ext e)
  refine window_put_of_disjoint _ _ _ _ _ _ _ (0 : Fin 2) ?_
  show 128 * j'.val + 128 ≤ 128 * j.val ∨ 128 * j.val + 128 ≤ 128 * j'.val
  omega

/-- A trip's key block of number `r`. -/
def jOf (i : grid0.Coords) (k : Fin (k0_t1_loop i).trips) (r : Fin 4) : Fin 16 :=
  ⟨4 * k.val + r.val, by have := k.isLt; have := (k0_t1_abs i).2.1; have := r.isLt; omega⟩

/-- Where a trip's rows of number `r` lie. -/
abbrev rect1 (i : grid0.Coords) (k : Fin (k0_t1_loop i).trips) (r : Fin 4) : Rect S2048x128 :=
  Rect.unit (s := S2048x128) (k0_off1 i k (BitVec.ofNat 32 r.val)) S128x128.size (k0_off1_inb i k r)

/-- Where a trip's block of number `r` lies. -/
abbrev rect2 (i : grid0.Coords) (k : Fin (k0_t1_loop i).trips) (r : Fin 4) : Rect S1x1x16x512x128 :=
  Rect.unit (s := S1x1x16x512x128) (k0_off2 i k (BitVec.ofNat 32 r.val)) S1x1x1x512x128.size (k0_off2_inb i k r)

/-- The whole of a block of rows. -/
abbrev rectW : Rect S512x128 := Rect.unit (s := S512x128) ![0, 0] S512x128.size inb_S512x128_S512x128_0_0

/-- Where the rows of a trip's block lie. -/
theorem off1_row (i : grid0.Coords) (k : Fin (k0_t1_loop i).trips) (r : Fin 4) : k0_off1 i k (BitVec.ofNat 32 r.val) = ![128 * (jOf i k r).val, 0] :=
  (k0_off1_eq i k r).trans (by
    have e : 512 * k.val + 128 * r.val = 128 * (jOf i k r).val := by show _ = 128 * (4 * k.val + r.val); omega
    rw [e])

/-- A load of a trip's rows is the rows of its key block. -/
theorem ld_rows (i : grid0.Coords) (k : Fin (k0_t1_loop i).trips) (r : Fin 4) (v : View sig .tc .vmem S2048x128 .f32) (f : v.ty.Contents (Elt F)) :
    v.readAt (Elt F) (rect1 i k r).toLoadRect f = rows (v.read (Elt F) f) (jOf i k r) :=
  View.readAt_unit v f _ (off1_row i k r) _

/-- A load of a trip's block is the block of its key block. -/
theorem ld_blk (i : grid0.Coords) (k : Fin (k0_t1_loop i).trips) (r : Fin 4) (v : View sig .tc .vmem S1x1x16x512x128 .bf16) (f : v.ty.Contents (Elt F)) :
    v.readAt (Elt F) (rect2 i k r).toLoadRect f = blk (v.read (Elt F) f) (jOf i k r) :=
  View.readAt_unit v f _ (k0_off2_eq i k r) _

/-- A store of a trip's rows puts them at its key block. -/
theorem st_rows (i : grid0.Coords) (k : Fin (k0_t1_loop i).trips) (r : Fin 4) (v : View sig .tc .vmem S2048x128 .f32) (f : v.ty.Contents (Elt F)) (w : Vec F S128x128 .f32) (L : List (View.Piece (Elt F) S2048x128 .f32)) :
    v.read (Elt F) (v.writes (Elt F) f (⟨rect1 i k r, w⟩ :: L)) = putRows (v.read (Elt F) (v.writes (Elt F) f L)) (jOf i k r) w :=
  View.read_writes_cons_put v f _ w L (off1_row i k r)

/-- A load of a whole block of rows. -/
theorem ld_whole (v : View sig .tc .vmem S512x128 .f32) (f : v.ty.Contents (Elt F)) : v.readAt (Elt F) rectW.toLoadRect f = v.read (Elt F) f :=
  View.readAt_full v f _

/-- A load of a whole block of rows just stored. -/
theorem ld_cov (v : View sig .tc .vmem S512x128 .f32) (w : Vec F S512x128 .f32) (L : List (View.Piece (Elt F) S512x128 .f32)) :
    v.readCov (⟨rectW, w⟩ :: L) rectW.toLoadRect = w :=
  View.readCov_full v _ _ w L

/-- A whole block of rows stored. -/
theorem st_whole (v : View sig .tc .vmem S512x128 .f32) (f : v.ty.Contents (Elt F)) (w : Vec F S512x128 .f32) (L : List (View.Piece (Elt F) S512x128 .f32)) :
    v.read (Elt F) (v.writes (Elt F) f (⟨rectW, w⟩ :: L)) = w :=
  View.read_writes_full v f _ w L

/-- What a trip's four buffers read, given what each reads on entry: the four key blocks of the trip taken one after the other. -/
def tripSt (q o : FVec F S512x128 .bf16) (T : FVec F S128x256 .bf16) (K W : Vec F S2048x128 .f32) (A B : Vec F S1x1x16x512x128 .bf16) (i : grid0.Coords) (k : Fin (k0_t1_loop i).trips) (s : St F) : St F :=
  step q o T K W A B (jOf i k 3) (step q o T K W A B (jOf i k 2) (step q o T K W A B (jOf i k 1) (step q o T K W A B (jOf i k 0) s)))

/-- A trip's blocks differ. -/
theorem jOf_ne (i : grid0.Coords) (k : Fin (k0_t1_loop i).trips) {r r' : Fin 4} (h : r ≠ r') : jOf i k r ≠ jOf i k r' := fun e => h (Fin.ext (by have := congrArg Fin.val e; simp only [jOf] at this; omega))

/-- The gradient of the keys after a trip. -/
theorem trip_dk (𝒱 : Variants) (c : Dev nD) (bd : Option 𝒱.V) (i : grid0.Coords) (arg2 : Memref sig .tc .vmem S512x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S512x128 .f32) (harg5 : arg5.IsWhole) (arg6 : Memref sig .tc .vmem S1x1x16x512x128 .bf16) (harg6 : arg6.IsWhole) (arg7 : Memref sig .tc .vmem S1x1x16x512x128 .bf16) (harg7 : arg7.IsWhole) (arg8 : Memref sig .tc .vmem S512x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S512x128 .f32) (harg11 : arg11.IsWhole) (arg12 : Memref sig .tc .vmem S512x128 .f32) (harg12 : arg12.IsWhole) (v3 : Vec F S512x128 .f32) (v5 : Vec F S512x128 .f32) (X_arg3 : BufTy.Contents (Elt F) arg3.view.ty) (X_arg4 : BufTy.Contents (Elt F) arg4.view.ty) (X_arg6 : BufTy.Contents (Elt F) arg6.view.ty) (X_arg7 : BufTy.Contents (Elt F) arg7.view.ty) (k : Fin (k0_t1_loop i).trips) (f9 f10 f11 f12) :
    arg9.view.read (Elt F) (arg9.view.writes (Elt F) f9 ((trip_k0_t1 (F := F) 𝒱 c bd i arg2 harg2 arg3 harg3 arg4 harg4 arg5 harg5 arg6 harg6 arg7 harg7 arg8 harg8 arg9 harg9 arg10 harg10 arg11 harg11 arg12 harg12 v3 v5 X_arg3 X_arg4 X_arg6 X_arg7 k).1 f9 f10 f11 f12)) = (tripSt (k0_pay92 v3) (k0_pay93 v5) k0_pay96 (arg3.view.read (Elt F) X_arg3) (arg4.view.read (Elt F) X_arg4) (arg6.view.read (Elt F) X_arg6) (arg7.view.read (Elt F) X_arg7) i k ⟨arg9.view.read (Elt F) f9, arg10.view.read (Elt F) f10, arg11.view.read (Elt F) f11, arg12.view.read (Elt F) f12⟩).dk := by
  have e : (trip_k0_t1 (F := F) 𝒱 c bd i arg2 harg2 arg3 harg3 arg4 harg4 arg5 harg5 arg6 harg6 arg7 harg7 arg8 harg8 arg9 harg9 arg10 harg10 arg11 harg11 arg12 harg12 v3 v5 X_arg3 X_arg4 X_arg6 X_arg7 k).1 f9 f10 f11 f12 = [⟨rect1 i k 3, (k0_pay11 (k0_pay92 v3) (k0_pay6 (arg7.view.readAt (Elt F) (rect2 i k 3).toLoadRect X_arg7)) (k0_pay8 (k0_pay93 v5) (arg4.view.readAt (Elt F) (rect1 i k 3).toLoadRect X_arg4) (arg6.view.readAt (Elt F) (rect2 i k 3).toLoadRect X_arg6) (arg7.view.readAt (Elt F) (rect2 i k 3).toLoadRect X_arg7)) (k0_pay9 (k0_pay93 v5) k0_pay96 (arg4.view.readAt (Elt F) (rect1 i k 3).toLoadRect X_arg4) (arg6.view.readAt (Elt F) (rect2 i k 3).toLoadRect X_arg6) (arg11.view.readCov [⟨rectW, (k0_pay13 (k0_pay7 (k0_pay93 v5) k0_pay96 (arg4.view.readAt (Elt F) (rect1 i k 2).toLoadRect X_arg4) (arg6.view.readAt (Elt F) (rect2 i k 2).toLoadRect X_arg6)) (arg11.view.readCov [⟨rectW, (k0_pay13 (k0_pay7 (k0_pay93 v5) k0_pay96 (arg4.view.readAt (Elt F) (rect1 i k 1).toLoadRect X_arg4) (arg6.view.readAt (Elt F) (rect2 i k 1).toLoadRect X_arg6)) (arg11.view.readCov [⟨rectW, (k0_pay13 (k0_pay7 (k0_pay93 v5) k0_pay96 (arg4.view.readAt (Elt F) (rect1 i k 0).toLoadRect X_arg4) (arg6.view.readAt (Elt F) (rect2 i k 0).toLoadRect X_arg6)) (arg11.view.readAt (Elt F) rectW.toLoadRect f11))⟩] rectW.toLoadRect))⟩, ⟨rectW, (k0_pay13 (k0_pay7 (k0_pay93 v5) k0_pay96 (arg4.view.readAt (Elt F) (rect1 i k 0).toLoadRect X_arg4) (arg6.view.readAt (Elt F) (rect2 i k 0).toLoadRect X_arg6)) (arg11.view.readAt (Elt F) rectW.toLoadRect f11))⟩] rectW.toLoadRect))⟩, ⟨rectW, (k0_pay13 (k0_pay7 (k0_pay93 v5) k0_pay96 (arg4.view.readAt (Elt F) (rect1 i k 1).toLoadRect X_arg4) (arg6.view.readAt (Elt F) (rect2 i k 1).toLoadRect X_arg6)) (arg11.view.readCov [⟨rectW, (k0_pay13 (k0_pay7 (k0_pay93 v5) k0_pay96 (arg4.view.readAt (Elt F) (rect1 i k 0).toLoadRect X_arg4) (arg6.view.readAt (Elt F) (rect2 i k 0).toLoadRect X_arg6)) (arg11.view.readAt (Elt F) rectW.toLoadRect f11))⟩] rectW.toLoadRect))⟩, ⟨rectW, (k0_pay13 (k0_pay7 (k0_pay93 v5) k0_pay96 (arg4.view.readAt (Elt F) (rect1 i k 0).toLoadRect X_arg4) (arg6.view.readAt (Elt F) (rect2 i k 0).toLoadRect X_arg6)) (arg11.view.readAt (Elt F) rectW.toLoadRect f11))⟩] rectW.toLoadRect)) (arg9.view.readAt (Elt F) (rect1 i k 3).toLoadRect f9))⟩, ⟨rect1 i k 2, (k0_pay11 (k0_pay92 v3) (k0_pay6 (arg7.view.readAt (Elt F) (rect2 i k 2).toLoadRect X_arg7)) (k0_pay8 (k0_pay93 v5) (arg4.view.readAt (Elt F) (rect1 i k 2).toLoadRect X_arg4) (arg6.view.readAt (Elt F) (rect2 i k 2).toLoadRect X_arg6) (arg7.view.readAt (Elt F) (rect2 i k 2).toLoadRect X_arg7)) (k0_pay9 (k0_pay93 v5) k0_pay96 (arg4.view.readAt (Elt F) (rect1 i k 2).toLoadRect X_arg4) (arg6.view.readAt (Elt F) (rect2 i k 2).toLoadRect X_arg6) (arg11.view.readCov [⟨rectW, (k0_pay13 (k0_pay7 (k0_pay93 v5) k0_pay96 (arg4.view.readAt (Elt F) (rect1 i k 1).toLoadRect X_arg4) (arg6.view.readAt (Elt F) (rect2 i k 1).toLoadRect X_arg6)) (arg11.view.readCov [⟨rectW, (k0_pay13 (k0_pay7 (k0_pay93 v5) k0_pay96 (arg4.view.readAt (Elt F) (rect1 i k 0).toLoadRect X_arg4) (arg6.view.readAt (Elt F) (rect2 i k 0).toLoadRect X_arg6)) (arg11.view.readAt (Elt F) rectW.toLoadRect f11))⟩] rectW.toLoadRect))⟩, ⟨rectW, (k0_pay13 (k0_pay7 (k0_pay93 v5) k0_pay96 (arg4.view.readAt (Elt F) (rect1 i k 0).toLoadRect X_arg4) (arg6.view.readAt (Elt F) (rect2 i k 0).toLoadRect X_arg6)) (arg11.view.readAt (Elt F) rectW.toLoadRect f11))⟩] rectW.toLoadRect)) (arg9.view.readAt (Elt F) (rect1 i k 2).toLoadRect f9))⟩, ⟨rect1 i k 1, (k0_pay11 (k0_pay92 v3) (k0_pay6 (arg7.view.readAt (Elt F) (rect2 i k 1).toLoadRect X_arg7)) (k0_pay8 (k0_pay93 v5) (arg4.view.readAt (Elt F) (rect1 i k 1).toLoadRect X_arg4) (arg6.view.readAt (Elt F) (rect2 i k 1).toLoadRect X_arg6) (arg7.view.readAt (Elt F) (rect2 i k 1).toLoadRect X_arg7)) (k0_pay9 (k0_pay93 v5) k0_pay96 (arg4.view.readAt (Elt F) (rect1 i k 1).toLoadRect X_arg4) (arg6.view.readAt (Elt F) (rect2 i k 1).toLoadRect X_arg6) (arg11.view.readCov [⟨rectW, (k0_pay13 (k0_pay7 (k0_pay93 v5) k0_pay96 (arg4.view.readAt (Elt F) (rect1 i k 0).toLoadRect X_arg4) (arg6.view.readAt (Elt F) (rect2 i k 0).toLoadRect X_arg6)) (arg11.view.readAt (Elt F) rectW.toLoadRect f11))⟩] rectW.toLoadRect)) (arg9.view.readAt (Elt F) (rect1 i k 1).toLoadRect f9))⟩, ⟨rect1 i k 0, (k0_pay11 (k0_pay92 v3) (k0_pay6 (arg7.view.readAt (Elt F) (rect2 i k 0).toLoadRect X_arg7)) (k0_pay8 (k0_pay93 v5) (arg4.view.readAt (Elt F) (rect1 i k 0).toLoadRect X_arg4) (arg6.view.readAt (Elt F) (rect2 i k 0).toLoadRect X_arg6) (arg7.view.readAt (Elt F) (rect2 i k 0).toLoadRect X_arg7)) (k0_pay9 (k0_pay93 v5) k0_pay96 (arg4.view.readAt (Elt F) (rect1 i k 0).toLoadRect X_arg4) (arg6.view.readAt (Elt F) (rect2 i k 0).toLoadRect X_arg6) (arg11.view.readAt (Elt F) rectW.toLoadRect f11)) (arg9.view.readAt (Elt F) (rect1 i k 0).toLoadRect f9))⟩] := by
    unfold trip_k0_t1; rfl
  rw [e]
  simp only [st_rows, st_whole, ld_rows, ld_blk, ld_whole, ld_cov, View.writes_nil]
  unfold tripSt step
  dsimp only
  rw [rows_putRows_of_ne _ _ (jOf_ne i k (by decide : (3 : Fin 4) ≠ 2)), rows_putRows_of_ne _ _ (jOf_ne i k (by decide : (3 : Fin 4) ≠ 1)), rows_putRows_of_ne _ _ (jOf_ne i k (by decide : (3 : Fin 4) ≠ 0)),
    rows_putRows_of_ne _ _ (jOf_ne i k (by decide : (2 : Fin 4) ≠ 1)), rows_putRows_of_ne _ _ (jOf_ne i k (by decide : (2 : Fin 4) ≠ 0)), rows_putRows_of_ne _ _ (jOf_ne i k (by decide : (1 : Fin 4) ≠ 0))]

/-- The gradient of the values after a trip. -/
theorem trip_dv (𝒱 : Variants) (c : Dev nD) (bd : Option 𝒱.V) (i : grid0.Coords) (arg2 : Memref sig .tc .vmem S512x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S512x128 .f32) (harg5 : arg5.IsWhole) (arg6 : Memref sig .tc .vmem S1x1x16x512x128 .bf16) (harg6 : arg6.IsWhole) (arg7 : Memref sig .tc .vmem S1x1x16x512x128 .bf16) (harg7 : arg7.IsWhole) (arg8 : Memref sig .tc .vmem S512x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S512x128 .f32) (harg11 : arg11.IsWhole) (arg12 : Memref sig .tc .vmem S512x128 .f32) (harg12 : arg12.IsWhole) (v3 : Vec F S512x128 .f32) (v5 : Vec F S512x128 .f32) (X_arg3 : BufTy.Contents (Elt F) arg3.view.ty) (X_arg4 : BufTy.Contents (Elt F) arg4.view.ty) (X_arg6 : BufTy.Contents (Elt F) arg6.view.ty) (X_arg7 : BufTy.Contents (Elt F) arg7.view.ty) (k : Fin (k0_t1_loop i).trips) (f9 f10 f11 f12) :
    arg10.view.read (Elt F) (arg10.view.writes (Elt F) f10 ((trip_k0_t1 (F := F) 𝒱 c bd i arg2 harg2 arg3 harg3 arg4 harg4 arg5 harg5 arg6 harg6 arg7 harg7 arg8 harg8 arg9 harg9 arg10 harg10 arg11 harg11 arg12 harg12 v3 v5 X_arg3 X_arg4 X_arg6 X_arg7 k).2.1 f9 f10 f11 f12)) = (tripSt (k0_pay92 v3) (k0_pay93 v5) k0_pay96 (arg3.view.read (Elt F) X_arg3) (arg4.view.read (Elt F) X_arg4) (arg6.view.read (Elt F) X_arg6) (arg7.view.read (Elt F) X_arg7) i k ⟨arg9.view.read (Elt F) f9, arg10.view.read (Elt F) f10, arg11.view.read (Elt F) f11, arg12.view.read (Elt F) f12⟩).dv := by
  have e : (trip_k0_t1 (F := F) 𝒱 c bd i arg2 harg2 arg3 harg3 arg4 harg4 arg5 harg5 arg6 harg6 arg7 harg7 arg8 harg8 arg9 harg9 arg10 harg10 arg11 harg11 arg12 harg12 v3 v5 X_arg3 X_arg4 X_arg6 X_arg7 k).2.1 f9 f10 f11 f12 = [⟨rect1 i k 3, (k0_pay5 (k0_pay93 v5) (arg6.view.readAt (Elt F) (rect2 i k 3).toLoadRect X_arg6) (arg10.view.readAt (Elt F) (rect1 i k 3).toLoadRect f10))⟩, ⟨rect1 i k 2, (k0_pay5 (k0_pay93 v5) (arg6.view.readAt (Elt F) (rect2 i k 2).toLoadRect X_arg6) (arg10.view.readAt (Elt F) (rect1 i k 2).toLoadRect f10))⟩, ⟨rect1 i k 1, (k0_pay5 (k0_pay93 v5) (arg6.view.readAt (Elt F) (rect2 i k 1).toLoadRect X_arg6) (arg10.view.readAt (Elt F) (rect1 i k 1).toLoadRect f10))⟩, ⟨rect1 i k 0, (k0_pay5 (k0_pay93 v5) (arg6.view.readAt (Elt F) (rect2 i k 0).toLoadRect X_arg6) (arg10.view.readAt (Elt F) (rect1 i k 0).toLoadRect f10))⟩] := by
    unfold trip_k0_t1; rfl
  rw [e]
  simp only [st_rows, st_whole, ld_rows, ld_blk, ld_whole, ld_cov, View.writes_nil]
  unfold tripSt step
  dsimp only
  rw [rows_putRows_of_ne _ _ (jOf_ne i k (by decide : (3 : Fin 4) ≠ 2)), rows_putRows_of_ne _ _ (jOf_ne i k (by decide : (3 : Fin 4) ≠ 1)), rows_putRows_of_ne _ _ (jOf_ne i k (by decide : (3 : Fin 4) ≠ 0)),
    rows_putRows_of_ne _ _ (jOf_ne i k (by decide : (2 : Fin 4) ≠ 1)), rows_putRows_of_ne _ _ (jOf_ne i k (by decide : (2 : Fin 4) ≠ 0)), rows_putRows_of_ne _ _ (jOf_ne i k (by decide : (1 : Fin 4) ≠ 0))]

/-- The row sums after a trip. -/
theorem trip_run (𝒱 : Variants) (c : Dev nD) (bd : Option 𝒱.V) (i : grid0.Coords) (arg2 : Memref sig .tc .vmem S512x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S512x128 .f32) (harg5 : arg5.IsWhole) (arg6 : Memref sig .tc .vmem S1x1x16x512x128 .bf16) (harg6 : arg6.IsWhole) (arg7 : Memref sig .tc .vmem S1x1x16x512x128 .bf16) (harg7 : arg7.IsWhole) (arg8 : Memref sig .tc .vmem S512x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S512x128 .f32) (harg11 : arg11.IsWhole) (arg12 : Memref sig .tc .vmem S512x128 .f32) (harg12 : arg12.IsWhole) (v3 : Vec F S512x128 .f32) (v5 : Vec F S512x128 .f32) (X_arg3 : BufTy.Contents (Elt F) arg3.view.ty) (X_arg4 : BufTy.Contents (Elt F) arg4.view.ty) (X_arg6 : BufTy.Contents (Elt F) arg6.view.ty) (X_arg7 : BufTy.Contents (Elt F) arg7.view.ty) (k : Fin (k0_t1_loop i).trips) (f9 f10 f11 f12) :
    arg11.view.read (Elt F) (arg11.view.writes (Elt F) f11 ((trip_k0_t1 (F := F) 𝒱 c bd i arg2 harg2 arg3 harg3 arg4 harg4 arg5 harg5 arg6 harg6 arg7 harg7 arg8 harg8 arg9 harg9 arg10 harg10 arg11 harg11 arg12 harg12 v3 v5 X_arg3 X_arg4 X_arg6 X_arg7 k).2.2.1 f9 f10 f11 f12)) = (tripSt (k0_pay92 v3) (k0_pay93 v5) k0_pay96 (arg3.view.read (Elt F) X_arg3) (arg4.view.read (Elt F) X_arg4) (arg6.view.read (Elt F) X_arg6) (arg7.view.read (Elt F) X_arg7) i k ⟨arg9.view.read (Elt F) f9, arg10.view.read (Elt F) f10, arg11.view.read (Elt F) f11, arg12.view.read (Elt F) f12⟩).run := by
  have e : (trip_k0_t1 (F := F) 𝒱 c bd i arg2 harg2 arg3 harg3 arg4 harg4 arg5 harg5 arg6 harg6 arg7 harg7 arg8 harg8 arg9 harg9 arg10 harg10 arg11 harg11 arg12 harg12 v3 v5 X_arg3 X_arg4 X_arg6 X_arg7 k).2.2.1 f9 f10 f11 f12 = [⟨rectW, (k0_pay13 (k0_pay7 (k0_pay93 v5) k0_pay96 (arg4.view.readAt (Elt F) (rect1 i k 3).toLoadRect X_arg4) (arg6.view.readAt (Elt F) (rect2 i k 3).toLoadRect X_arg6)) (arg11.view.readCov [⟨rectW, (k0_pay13 (k0_pay7 (k0_pay93 v5) k0_pay96 (arg4.view.readAt (Elt F) (rect1 i k 2).toLoadRect X_arg4) (arg6.view.readAt (Elt F) (rect2 i k 2).toLoadRect X_arg6)) (arg11.view.readCov [⟨rectW, (k0_pay13 (k0_pay7 (k0_pay93 v5) k0_pay96 (arg4.view.readAt (Elt F) (rect1 i k 1).toLoadRect X_arg4) (arg6.view.readAt (Elt F) (rect2 i k 1).toLoadRect X_arg6)) (arg11.view.readCov [⟨rectW, (k0_pay13 (k0_pay7 (k0_pay93 v5) k0_pay96 (arg4.view.readAt (Elt F) (rect1 i k 0).toLoadRect X_arg4) (arg6.view.readAt (Elt F) (rect2 i k 0).toLoadRect X_arg6)) (arg11.view.readAt (Elt F) rectW.toLoadRect f11))⟩] rectW.toLoadRect))⟩, ⟨rectW, (k0_pay13 (k0_pay7 (k0_pay93 v5) k0_pay96 (arg4.view.readAt (Elt F) (rect1 i k 0).toLoadRect X_arg4) (arg6.view.readAt (Elt F) (rect2 i k 0).toLoadRect X_arg6)) (arg11.view.readAt (Elt F) rectW.toLoadRect f11))⟩] rectW.toLoadRect))⟩, ⟨rectW, (k0_pay13 (k0_pay7 (k0_pay93 v5) k0_pay96 (arg4.view.readAt (Elt F) (rect1 i k 1).toLoadRect X_arg4) (arg6.view.readAt (Elt F) (rect2 i k 1).toLoadRect X_arg6)) (arg11.view.readCov [⟨rectW, (k0_pay13 (k0_pay7 (k0_pay93 v5) k0_pay96 (arg4.view.readAt (Elt F) (rect1 i k 0).toLoadRect X_arg4) (arg6.view.readAt (Elt F) (rect2 i k 0).toLoadRect X_arg6)) (arg11.view.readAt (Elt F) rectW.toLoadRect f11))⟩] rectW.toLoadRect))⟩, ⟨rectW, (k0_pay13 (k0_pay7 (k0_pay93 v5) k0_pay96 (arg4.view.readAt (Elt F) (rect1 i k 0).toLoadRect X_arg4) (arg6.view.readAt (Elt F) (rect2 i k 0).toLoadRect X_arg6)) (arg11.view.readAt (Elt F) rectW.toLoadRect f11))⟩] rectW.toLoadRect))⟩, ⟨rectW, (k0_pay13 (k0_pay7 (k0_pay93 v5) k0_pay96 (arg4.view.readAt (Elt F) (rect1 i k 2).toLoadRect X_arg4) (arg6.view.readAt (Elt F) (rect2 i k 2).toLoadRect X_arg6)) (arg11.view.readCov [⟨rectW, (k0_pay13 (k0_pay7 (k0_pay93 v5) k0_pay96 (arg4.view.readAt (Elt F) (rect1 i k 1).toLoadRect X_arg4) (arg6.view.readAt (Elt F) (rect2 i k 1).toLoadRect X_arg6)) (arg11.view.readCov [⟨rectW, (k0_pay13 (k0_pay7 (k0_pay93 v5) k0_pay96 (arg4.view.readAt (Elt F) (rect1 i k 0).toLoadRect X_arg4) (arg6.view.readAt (Elt F) (rect2 i k 0).toLoadRect X_arg6)) (arg11.view.readAt (Elt F) rectW.toLoadRect f11))⟩] rectW.toLoadRect))⟩, ⟨rectW, (k0_pay13 (k0_pay7 (k0_pay93 v5) k0_pay96 (arg4.view.readAt (Elt F) (rect1 i k 0).toLoadRect X_arg4) (arg6.view.readAt (Elt F) (rect2 i k 0).toLoadRect X_arg6)) (arg11.view.readAt (Elt F) rectW.toLoadRect f11))⟩] rectW.toLoadRect))⟩, ⟨rectW, (k0_pay13 (k0_pay7 (k0_pay93 v5) k0_pay96 (arg4.view.readAt (Elt F) (rect1 i k 1).toLoadRect X_arg4) (arg6.view.readAt (Elt F) (rect2 i k 1).toLoadRect X_arg6)) (arg11.view.readCov [⟨rectW, (k0_pay13 (k0_pay7 (k0_pay93 v5) k0_pay96 (arg4.view.readAt (Elt F) (rect1 i k 0).toLoadRect X_arg4) (arg6.view.readAt (Elt F) (rect2 i k 0).toLoadRect X_arg6)) (arg11.view.readAt (Elt F) rectW.toLoadRect f11))⟩] rectW.toLoadRect))⟩, ⟨rectW, (k0_pay13 (k0_pay7 (k0_pay93 v5) k0_pay96 (arg4.view.readAt (Elt F) (rect1 i k 0).toLoadRect X_arg4) (arg6.view.readAt (Elt F) (rect2 i k 0).toLoadRect X_arg6)) (arg11.view.readAt (Elt F) rectW.toLoadRect f11))⟩] := by
    unfold trip_k0_t1; rfl
  rw [e]
  simp only [st_rows, st_whole, ld_rows, ld_blk, ld_whole, ld_cov, View.writes_nil]
  rfl

/-- The gradient of the queries so far after a trip. -/
theorem trip_acc (𝒱 : Variants) (c : Dev nD) (bd : Option 𝒱.V) (i : grid0.Coords) (arg2 : Memref sig .tc .vmem S512x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S512x128 .f32) (harg5 : arg5.IsWhole) (arg6 : Memref sig .tc .vmem S1x1x16x512x128 .bf16) (harg6 : arg6.IsWhole) (arg7 : Memref sig .tc .vmem S1x1x16x512x128 .bf16) (harg7 : arg7.IsWhole) (arg8 : Memref sig .tc .vmem S512x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S512x128 .f32) (harg11 : arg11.IsWhole) (arg12 : Memref sig .tc .vmem S512x128 .f32) (harg12 : arg12.IsWhole) (v3 : Vec F S512x128 .f32) (v5 : Vec F S512x128 .f32) (X_arg3 : BufTy.Contents (Elt F) arg3.view.ty) (X_arg4 : BufTy.Contents (Elt F) arg4.view.ty) (X_arg6 : BufTy.Contents (Elt F) arg6.view.ty) (X_arg7 : BufTy.Contents (Elt F) arg7.view.ty) (k : Fin (k0_t1_loop i).trips) (f9 f10 f11 f12) :
    arg12.view.read (Elt F) (arg12.view.writes (Elt F) f12 ((trip_k0_t1 (F := F) 𝒱 c bd i arg2 harg2 arg3 harg3 arg4 harg4 arg5 harg5 arg6 harg6 arg7 harg7 arg8 harg8 arg9 harg9 arg10 harg10 arg11 harg11 arg12 harg12 v3 v5 X_arg3 X_arg4 X_arg6 X_arg7 k).2.2.2.1 f9 f10 f11 f12)) = (tripSt (k0_pay92 v3) (k0_pay93 v5) k0_pay96 (arg3.view.read (Elt F) X_arg3) (arg4.view.read (Elt F) X_arg4) (arg6.view.read (Elt F) X_arg6) (arg7.view.read (Elt F) X_arg7) i k ⟨arg9.view.read (Elt F) f9, arg10.view.read (Elt F) f10, arg11.view.read (Elt F) f11, arg12.view.read (Elt F) f12⟩).acc := by
  have e : (trip_k0_t1 (F := F) 𝒱 c bd i arg2 harg2 arg3 harg3 arg4 harg4 arg5 harg5 arg6 harg6 arg7 harg7 arg8 harg8 arg9 harg9 arg10 harg10 arg11 harg11 arg12 harg12 v3 v5 X_arg3 X_arg4 X_arg6 X_arg7 k).2.2.2.1 f9 f10 f11 f12 = [⟨rectW, (k0_pay12 (k0_pay2 (arg3.view.readAt (Elt F) (rect1 i k 3).toLoadRect X_arg3)) (k0_pay6 (arg7.view.readAt (Elt F) (rect2 i k 3).toLoadRect X_arg7)) (k0_pay8 (k0_pay93 v5) (arg4.view.readAt (Elt F) (rect1 i k 3).toLoadRect X_arg4) (arg6.view.readAt (Elt F) (rect2 i k 3).toLoadRect X_arg6) (arg7.view.readAt (Elt F) (rect2 i k 3).toLoadRect X_arg7)) (k0_pay9 (k0_pay93 v5) k0_pay96 (arg4.view.readAt (Elt F) (rect1 i k 3).toLoadRect X_arg4) (arg6.view.readAt (Elt F) (rect2 i k 3).toLoadRect X_arg6) (arg11.view.readCov [⟨rectW, (k0_pay13 (k0_pay7 (k0_pay93 v5) k0_pay96 (arg4.view.readAt (Elt F) (rect1 i k 2).toLoadRect X_arg4) (arg6.view.readAt (Elt F) (rect2 i k 2).toLoadRect X_arg6)) (arg11.view.readCov [⟨rectW, (k0_pay13 (k0_pay7 (k0_pay93 v5) k0_pay96 (arg4.view.readAt (Elt F) (rect1 i k 1).toLoadRect X_arg4) (arg6.view.readAt (Elt F) (rect2 i k 1).toLoadRect X_arg6)) (arg11.view.readCov [⟨rectW, (k0_pay13 (k0_pay7 (k0_pay93 v5) k0_pay96 (arg4.view.readAt (Elt F) (rect1 i k 0).toLoadRect X_arg4) (arg6.view.readAt (Elt F) (rect2 i k 0).toLoadRect X_arg6)) (arg11.view.readAt (Elt F) rectW.toLoadRect f11))⟩] rectW.toLoadRect))⟩, ⟨rectW, (k0_pay13 (k0_pay7 (k0_pay93 v5) k0_pay96 (arg4.view.readAt (Elt F) (rect1 i k 0).toLoadRect X_arg4) (arg6.view.readAt (Elt F) (rect2 i k 0).toLoadRect X_arg6)) (arg11.view.readAt (Elt F) rectW.toLoadRect f11))⟩] rectW.toLoadRect))⟩, ⟨rectW, (k0_pay13 (k0_pay7 (k0_pay93 v5) k0_pay96 (arg4.view.readAt (Elt F) (rect1 i k 1).toLoadRect X_arg4) (arg6.view.readAt (Elt F) (rect2 i k 1).toLoadRect X_arg6)) (arg11.view.readCov [⟨rectW, (k0_pay13 (k0_pay7 (k0_pay93 v5) k0_pay96 (arg4.view.readAt (Elt F) (rect1 i k 0).toLoadRect X_arg4) (arg6.view.readAt (Elt F) (rect2 i k 0).toLoadRect X_arg6)) (arg11.view.readAt (Elt F) rectW.toLoadRect f11))⟩] rectW.toLoadRect))⟩, ⟨rectW, (k0_pay13 (k0_pay7 (k0_pay93 v5) k0_pay96 (arg4.view.readAt (Elt F) (rect1 i k 0).toLoadRect X_arg4) (arg6.view.readAt (Elt F) (rect2 i k 0).toLoadRect X_arg6)) (arg11.view.readAt (Elt F) rectW.toLoadRect f11))⟩] rectW.toLoadRect)) (arg12.view.readCov [⟨rectW, (k0_pay12 (k0_pay2 (arg3.view.readAt (Elt F) (rect1 i k 2).toLoadRect X_arg3)) (k0_pay6 (arg7.view.readAt (Elt F) (rect2 i k 2).toLoadRect X_arg7)) (k0_pay8 (k0_pay93 v5) (arg4.view.readAt (Elt F) (rect1 i k 2).toLoadRect X_arg4) (arg6.view.readAt (Elt F) (rect2 i k 2).toLoadRect X_arg6) (arg7.view.readAt (Elt F) (rect2 i k 2).toLoadRect X_arg7)) (k0_pay9 (k0_pay93 v5) k0_pay96 (arg4.view.readAt (Elt F) (rect1 i k 2).toLoadRect X_arg4) (arg6.view.readAt (Elt F) (rect2 i k 2).toLoadRect X_arg6) (arg11.view.readCov [⟨rectW, (k0_pay13 (k0_pay7 (k0_pay93 v5) k0_pay96 (arg4.view.readAt (Elt F) (rect1 i k 1).toLoadRect X_arg4) (arg6.view.readAt (Elt F) (rect2 i k 1).toLoadRect X_arg6)) (arg11.view.readCov [⟨rectW, (k0_pay13 (k0_pay7 (k0_pay93 v5) k0_pay96 (arg4.view.readAt (Elt F) (rect1 i k 0).toLoadRect X_arg4) (arg6.view.readAt (Elt F) (rect2 i k 0).toLoadRect X_arg6)) (arg11.view.readAt (Elt F) rectW.toLoadRect f11))⟩] rectW.toLoadRect))⟩, ⟨rectW, (k0_pay13 (k0_pay7 (k0_pay93 v5) k0_pay96 (arg4.view.readAt (Elt F) (rect1 i k 0).toLoadRect X_arg4) (arg6.view.readAt (Elt F) (rect2 i k 0).toLoadRect X_arg6)) (arg11.view.readAt (Elt F) rectW.toLoadRect f11))⟩] rectW.toLoadRect)) (arg12.view.readCov [⟨rectW, (k0_pay12 (k0_pay2 (arg3.view.readAt (Elt F) (rect1 i k 1).toLoadRect X_arg3)) (k0_pay6 (arg7.view.readAt (Elt F) (rect2 i k 1).toLoadRect X_arg7)) (k0_pay8 (k0_pay93 v5) (arg4.view.readAt (Elt F) (rect1 i k 1).toLoadRect X_arg4) (arg6.view.readAt (Elt F) (rect2 i k 1).toLoadRect X_arg6) (arg7.view.readAt (Elt F) (rect2 i k 1).toLoadRect X_arg7)) (k0_pay9 (k0_pay93 v5) k0_pay96 (arg4.view.readAt (Elt F) (rect1 i k 1).toLoadRect X_arg4) (arg6.view.readAt (Elt F) (rect2 i k 1).toLoadRect X_arg6) (arg11.view.readCov [⟨rectW, (k0_pay13 (k0_pay7 (k0_pay93 v5) k0_pay96 (arg4.view.readAt (Elt F) (rect1 i k 0).toLoadRect X_arg4) (arg6.view.readAt (Elt F) (rect2 i k 0).toLoadRect X_arg6)) (arg11.view.readAt (Elt F) rectW.toLoadRect f11))⟩] rectW.toLoadRect)) (arg12.view.readCov [⟨rectW, (k0_pay12 (k0_pay2 (arg3.view.readAt (Elt F) (rect1 i k 0).toLoadRect X_arg3)) (k0_pay6 (arg7.view.readAt (Elt F) (rect2 i k 0).toLoadRect X_arg7)) (k0_pay8 (k0_pay93 v5) (arg4.view.readAt (Elt F) (rect1 i k 0).toLoadRect X_arg4) (arg6.view.readAt (Elt F) (rect2 i k 0).toLoadRect X_arg6) (arg7.view.readAt (Elt F) (rect2 i k 0).toLoadRect X_arg7)) (k0_pay9 (k0_pay93 v5) k0_pay96 (arg4.view.readAt (Elt F) (rect1 i k 0).toLoadRect X_arg4) (arg6.view.readAt (Elt F) (rect2 i k 0).toLoadRect X_arg6) (arg11.view.readAt (Elt F) rectW.toLoadRect f11)) (arg12.view.readAt (Elt F) rectW.toLoadRect f12))⟩] rectW.toLoadRect))⟩, ⟨rectW, (k0_pay12 (k0_pay2 (arg3.view.readAt (Elt F) (rect1 i k 0).toLoadRect X_arg3)) (k0_pay6 (arg7.view.readAt (Elt F) (rect2 i k 0).toLoadRect X_arg7)) (k0_pay8 (k0_pay93 v5) (arg4.view.readAt (Elt F) (rect1 i k 0).toLoadRect X_arg4) (arg6.view.readAt (Elt F) (rect2 i k 0).toLoadRect X_arg6) (arg7.view.readAt (Elt F) (rect2 i k 0).toLoadRect X_arg7)) (k0_pay9 (k0_pay93 v5) k0_pay96 (arg4.view.readAt (Elt F) (rect1 i k 0).toLoadRect X_arg4) (arg6.view.readAt (Elt F) (rect2 i k 0).toLoadRect X_arg6) (arg11.view.readAt (Elt F) rectW.toLoadRect f11)) (arg12.view.readAt (Elt F) rectW.toLoadRect f12))⟩] rectW.toLoadRect))⟩, ⟨rectW, (k0_pay12 (k0_pay2 (arg3.view.readAt (Elt F) (rect1 i k 1).toLoadRect X_arg3)) (k0_pay6 (arg7.view.readAt (Elt F) (rect2 i k 1).toLoadRect X_arg7)) (k0_pay8 (k0_pay93 v5) (arg4.view.readAt (Elt F) (rect1 i k 1).toLoadRect X_arg4) (arg6.view.readAt (Elt F) (rect2 i k 1).toLoadRect X_arg6) (arg7.view.readAt (Elt F) (rect2 i k 1).toLoadRect X_arg7)) (k0_pay9 (k0_pay93 v5) k0_pay96 (arg4.view.readAt (Elt F) (rect1 i k 1).toLoadRect X_arg4) (arg6.view.readAt (Elt F) (rect2 i k 1).toLoadRect X_arg6) (arg11.view.readCov [⟨rectW, (k0_pay13 (k0_pay7 (k0_pay93 v5) k0_pay96 (arg4.view.readAt (Elt F) (rect1 i k 0).toLoadRect X_arg4) (arg6.view.readAt (Elt F) (rect2 i k 0).toLoadRect X_arg6)) (arg11.view.readAt (Elt F) rectW.toLoadRect f11))⟩] rectW.toLoadRect)) (arg12.view.readCov [⟨rectW, (k0_pay12 (k0_pay2 (arg3.view.readAt (Elt F) (rect1 i k 0).toLoadRect X_arg3)) (k0_pay6 (arg7.view.readAt (Elt F) (rect2 i k 0).toLoadRect X_arg7)) (k0_pay8 (k0_pay93 v5) (arg4.view.readAt (Elt F) (rect1 i k 0).toLoadRect X_arg4) (arg6.view.readAt (Elt F) (rect2 i k 0).toLoadRect X_arg6) (arg7.view.readAt (Elt F) (rect2 i k 0).toLoadRect X_arg7)) (k0_pay9 (k0_pay93 v5) k0_pay96 (arg4.view.readAt (Elt F) (rect1 i k 0).toLoadRect X_arg4) (arg6.view.readAt (Elt F) (rect2 i k 0).toLoadRect X_arg6) (arg11.view.readAt (Elt F) rectW.toLoadRect f11)) (arg12.view.readAt (Elt F) rectW.toLoadRect f12))⟩] rectW.toLoadRect))⟩, ⟨rectW, (k0_pay12 (k0_pay2 (arg3.view.readAt (Elt F) (rect1 i k 0).toLoadRect X_arg3)) (k0_pay6 (arg7.view.readAt (Elt F) (rect2 i k 0).toLoadRect X_arg7)) (k0_pay8 (k0_pay93 v5) (arg4.view.readAt (Elt F) (rect1 i k 0).toLoadRect X_arg4) (arg6.view.readAt (Elt F) (rect2 i k 0).toLoadRect X_arg6) (arg7.view.readAt (Elt F) (rect2 i k 0).toLoadRect X_arg7)) (k0_pay9 (k0_pay93 v5) k0_pay96 (arg4.view.readAt (Elt F) (rect1 i k 0).toLoadRect X_arg4) (arg6.view.readAt (Elt F) (rect2 i k 0).toLoadRect X_arg6) (arg11.view.readAt (Elt F) rectW.toLoadRect f11)) (arg12.view.readAt (Elt F) rectW.toLoadRect f12))⟩] rectW.toLoadRect))⟩, ⟨rectW, (k0_pay12 (k0_pay2 (arg3.view.readAt (Elt F) (rect1 i k 2).toLoadRect X_arg3)) (k0_pay6 (arg7.view.readAt (Elt F) (rect2 i k 2).toLoadRect X_arg7)) (k0_pay8 (k0_pay93 v5) (arg4.view.readAt (Elt F) (rect1 i k 2).toLoadRect X_arg4) (arg6.view.readAt (Elt F) (rect2 i k 2).toLoadRect X_arg6) (arg7.view.readAt (Elt F) (rect2 i k 2).toLoadRect X_arg7)) (k0_pay9 (k0_pay93 v5) k0_pay96 (arg4.view.readAt (Elt F) (rect1 i k 2).toLoadRect X_arg4) (arg6.view.readAt (Elt F) (rect2 i k 2).toLoadRect X_arg6) (arg11.view.readCov [⟨rectW, (k0_pay13 (k0_pay7 (k0_pay93 v5) k0_pay96 (arg4.view.readAt (Elt F) (rect1 i k 1).toLoadRect X_arg4) (arg6.view.readAt (Elt F) (rect2 i k 1).toLoadRect X_arg6)) (arg11.view.readCov [⟨rectW, (k0_pay13 (k0_pay7 (k0_pay93 v5) k0_pay96 (arg4.view.readAt (Elt F) (rect1 i k 0).toLoadRect X_arg4) (arg6.view.readAt (Elt F) (rect2 i k 0).toLoadRect X_arg6)) (arg11.view.readAt (Elt F) rectW.toLoadRect f11))⟩] rectW.toLoadRect))⟩, ⟨rectW, (k0_pay13 (k0_pay7 (k0_pay93 v5) k0_pay96 (arg4.view.readAt (Elt F) (rect1 i k 0).toLoadRect X_arg4) (arg6.view.readAt (Elt F) (rect2 i k 0).toLoadRect X_arg6)) (arg11.view.readAt (Elt F) rectW.toLoadRect f11))⟩] rectW.toLoadRect)) (arg12.view.readCov [⟨rectW, (k0_pay12 (k0_pay2 (arg3.view.readAt (Elt F) (rect1 i k 1).toLoadRect X_arg3)) (k0_pay6 (arg7.view.readAt (Elt F) (rect2 i k 1).toLoadRect X_arg7)) (k0_pay8 (k0_pay93 v5) (arg4.view.readAt (Elt F) (rect1 i k 1).toLoadRect X_arg4) (arg6.view.readAt (Elt F) (rect2 i k 1).toLoadRect X_arg6) (arg7.view.readAt (Elt F) (rect2 i k 1).toLoadRect X_arg7)) (k0_pay9 (k0_pay93 v5) k0_pay96 (arg4.view.readAt (Elt F) (rect1 i k 1).toLoadRect X_arg4) (arg6.view.readAt (Elt F) (rect2 i k 1).toLoadRect X_arg6) (arg11.view.readCov [⟨rectW, (k0_pay13 (k0_pay7 (k0_pay93 v5) k0_pay96 (arg4.view.readAt (Elt F) (rect1 i k 0).toLoadRect X_arg4) (arg6.view.readAt (Elt F) (rect2 i k 0).toLoadRect X_arg6)) (arg11.view.readAt (Elt F) rectW.toLoadRect f11))⟩] rectW.toLoadRect)) (arg12.view.readCov [⟨rectW, (k0_pay12 (k0_pay2 (arg3.view.readAt (Elt F) (rect1 i k 0).toLoadRect X_arg3)) (k0_pay6 (arg7.view.readAt (Elt F) (rect2 i k 0).toLoadRect X_arg7)) (k0_pay8 (k0_pay93 v5) (arg4.view.readAt (Elt F) (rect1 i k 0).toLoadRect X_arg4) (arg6.view.readAt (Elt F) (rect2 i k 0).toLoadRect X_arg6) (arg7.view.readAt (Elt F) (rect2 i k 0).toLoadRect X_arg7)) (k0_pay9 (k0_pay93 v5) k0_pay96 (arg4.view.readAt (Elt F) (rect1 i k 0).toLoadRect X_arg4) (arg6.view.readAt (Elt F) (rect2 i k 0).toLoadRect X_arg6) (arg11.view.readAt (Elt F) rectW.toLoadRect f11)) (arg12.view.readAt (Elt F) rectW.toLoadRect f12))⟩] rectW.toLoadRect))⟩, ⟨rectW, (k0_pay12 (k0_pay2 (arg3.view.readAt (Elt F) (rect1 i k 0).toLoadRect X_arg3)) (k0_pay6 (arg7.view.readAt (Elt F) (rect2 i k 0).toLoadRect X_arg7)) (k0_pay8 (k0_pay93 v5) (arg4.view.readAt (Elt F) (rect1 i k 0).toLoadRect X_arg4) (arg6.view.readAt (Elt F) (rect2 i k 0).toLoadRect X_arg6) (arg7.view.readAt (Elt F) (rect2 i k 0).toLoadRect X_arg7)) (k0_pay9 (k0_pay93 v5) k0_pay96 (arg4.view.readAt (Elt F) (rect1 i k 0).toLoadRect X_arg4) (arg6.view.readAt (Elt F) (rect2 i k 0).toLoadRect X_arg6) (arg11.view.readAt (Elt F) rectW.toLoadRect f11)) (arg12.view.readAt (Elt F) rectW.toLoadRect f12))⟩] rectW.toLoadRect))⟩, ⟨rectW, (k0_pay12 (k0_pay2 (arg3.view.readAt (Elt F) (rect1 i k 1).toLoadRect X_arg3)) (k0_pay6 (arg7.view.readAt (Elt F) (rect2 i k 1).toLoadRect X_arg7)) (k0_pay8 (k0_pay93 v5) (arg4.view.readAt (Elt F) (rect1 i k 1).toLoadRect X_arg4) (arg6.view.readAt (Elt F) (rect2 i k 1).toLoadRect X_arg6) (arg7.view.readAt (Elt F) (rect2 i k 1).toLoadRect X_arg7)) (k0_pay9 (k0_pay93 v5) k0_pay96 (arg4.view.readAt (Elt F) (rect1 i k 1).toLoadRect X_arg4) (arg6.view.readAt (Elt F) (rect2 i k 1).toLoadRect X_arg6) (arg11.view.readCov [⟨rectW, (k0_pay13 (k0_pay7 (k0_pay93 v5) k0_pay96 (arg4.view.readAt (Elt F) (rect1 i k 0).toLoadRect X_arg4) (arg6.view.readAt (Elt F) (rect2 i k 0).toLoadRect X_arg6)) (arg11.view.readAt (Elt F) rectW.toLoadRect f11))⟩] rectW.toLoadRect)) (arg12.view.readCov [⟨rectW, (k0_pay12 (k0_pay2 (arg3.view.readAt (Elt F) (rect1 i k 0).toLoadRect X_arg3)) (k0_pay6 (arg7.view.readAt (Elt F) (rect2 i k 0).toLoadRect X_arg7)) (k0_pay8 (k0_pay93 v5) (arg4.view.readAt (Elt F) (rect1 i k 0).toLoadRect X_arg4) (arg6.view.readAt (Elt F) (rect2 i k 0).toLoadRect X_arg6) (arg7.view.readAt (Elt F) (rect2 i k 0).toLoadRect X_arg7)) (k0_pay9 (k0_pay93 v5) k0_pay96 (arg4.view.readAt (Elt F) (rect1 i k 0).toLoadRect X_arg4) (arg6.view.readAt (Elt F) (rect2 i k 0).toLoadRect X_arg6) (arg11.view.readAt (Elt F) rectW.toLoadRect f11)) (arg12.view.readAt (Elt F) rectW.toLoadRect f12))⟩] rectW.toLoadRect))⟩, ⟨rectW, (k0_pay12 (k0_pay2 (arg3.view.readAt (Elt F) (rect1 i k 0).toLoadRect X_arg3)) (k0_pay6 (arg7.view.readAt (Elt F) (rect2 i k 0).toLoadRect X_arg7)) (k0_pay8 (k0_pay93 v5) (arg4.view.readAt (Elt F) (rect1 i k 0).toLoadRect X_arg4) (arg6.view.readAt (Elt F) (rect2 i k 0).toLoadRect X_arg6) (arg7.view.readAt (Elt F) (rect2 i k 0).toLoadRect X_arg7)) (k0_pay9 (k0_pay93 v5) k0_pay96 (arg4.view.readAt (Elt F) (rect1 i k 0).toLoadRect X_arg4) (arg6.view.readAt (Elt F) (rect2 i k 0).toLoadRect X_arg6) (arg11.view.readAt (Elt F) rectW.toLoadRect f11)) (arg12.view.readAt (Elt F) rectW.toLoadRect f12))⟩] := by
    unfold trip_k0_t1; rfl
  rw [e]
  simp only [st_rows, st_whole, ld_rows, ld_blk, ld_whole, ld_cov, View.writes_nil]
  rfl

/-- The key blocks before number `n` taken one after the other. -/
def steps (q o : FVec F S512x128 .bf16) (T : FVec F S128x256 .bf16) (K W : Vec F S2048x128 .f32) (A B : Vec F S1x1x16x512x128 .bf16) (s : St F) : ℕ → St F
  | 0 => s
  | n + 1 => if h : n < 16 then step q o T K W A B ⟨n, h⟩ (steps q o T K W A B s n) else steps q o T K W A B s n

/-- One more key block is one more step. -/
theorem steps_succ (q o : FVec F S512x128 .bf16) (T : FVec F S128x256 .bf16) (K W : Vec F S2048x128 .f32) (A B : Vec F S1x1x16x512x128 .bf16) (s : St F) {n : ℕ} (h : n < 16) :
    steps q o T K W A B s (n + 1) = step q o T K W A B ⟨n, h⟩ (steps q o T K W A B s n) := by
  rw [steps]; exact dif_pos h

/-- Four more key blocks are one trip. -/
theorem steps_trip (q o : FVec F S512x128 .bf16) (T : FVec F S128x256 .bf16) (K W : Vec F S2048x128 .f32) (A B : Vec F S1x1x16x512x128 .bf16) (s : St F) (i : grid0.Coords) (k : Fin (k0_t1_loop i).trips) :
    steps q o T K W A B s (4 * (k.val + 1)) = tripSt q o T K W A B i k (steps q o T K W A B s (4 * k.val)) := by
  have hk : 4 * k.val + 3 < 16 := (jOf i k 3).isLt
  rw [show 4 * (k.val + 1) = 4 * k.val + 3 + 1 by omega, steps_succ _ _ _ _ _ _ _ _ hk, steps_succ _ _ _ _ _ _ _ _ (by omega : 4 * k.val + 2 < 16),
    steps_succ _ _ _ _ _ _ _ _ (by omega : 4 * k.val + 1 < 16), steps_succ _ _ _ _ _ _ _ _ (by omega : 4 * k.val < 16)]
  rfl

/-- The four buffers after `n` trips. -/
theorem loop_st (𝒱 : Variants) (c : Dev nD) (bd : Option 𝒱.V) (i : grid0.Coords) (arg2 : Memref sig .tc .vmem S512x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S512x128 .f32) (harg5 : arg5.IsWhole) (arg6 : Memref sig .tc .vmem S1x1x16x512x128 .bf16) (harg6 : arg6.IsWhole) (arg7 : Memref sig .tc .vmem S1x1x16x512x128 .bf16) (harg7 : arg7.IsWhole) (arg8 : Memref sig .tc .vmem S512x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S512x128 .f32) (harg11 : arg11.IsWhole) (arg12 : Memref sig .tc .vmem S512x128 .f32) (harg12 : arg12.IsWhole) (v3 : Vec F S512x128 .f32) (v5 : Vec F S512x128 .f32) (X_arg3 : BufTy.Contents (Elt F) arg3.view.ty) (X_arg4 : BufTy.Contents (Elt F) arg4.view.ty) (X_arg6 : BufTy.Contents (Elt F) arg6.view.ty) (X_arg7 : BufTy.Contents (Elt F) arg7.view.ty) (G9 G10 G11 G12) : ∀ n, n ≤ (k0_t1_loop i).trips →
    (⟨arg9.view.read (Elt F) (arg9.view.writes (Elt F) G9 (pb_k0_t1 (F := F) 𝒱 c bd i arg2 harg2 arg3 harg3 arg4 harg4 arg5 harg5 arg6 harg6 arg7 harg7 arg8 harg8 arg9 harg9 arg10 harg10 arg11 harg11 arg12 harg12 v3 v5 X_arg3 X_arg4 X_arg6 X_arg7 G9 G10 G11 G12 n).1), arg10.view.read (Elt F) (arg10.view.writes (Elt F) G10 (pb_k0_t1 (F := F) 𝒱 c bd i arg2 harg2 arg3 harg3 arg4 harg4 arg5 harg5 arg6 harg6 arg7 harg7 arg8 harg8 arg9 harg9 arg10 harg10 arg11 harg11 arg12 harg12 v3 v5 X_arg3 X_arg4 X_arg6 X_arg7 G9 G10 G11 G12 n).2.1),
      arg11.view.read (Elt F) (arg11.view.writes (Elt F) G11 (pb_k0_t1 (F := F) 𝒱 c bd i arg2 harg2 arg3 harg3 arg4 harg4 arg5 harg5 arg6 harg6 arg7 harg7 arg8 harg8 arg9 harg9 arg10 harg10 arg11 harg11 arg12 harg12 v3 v5 X_arg3 X_arg4 X_arg6 X_arg7 G9 G10 G11 G12 n).2.2.1), arg12.view.read (Elt F) (arg12.view.writes (Elt F) G12 (pb_k0_t1 (F := F) 𝒱 c bd i arg2 harg2 arg3 harg3 arg4 harg4 arg5 harg5 arg6 harg6 arg7 harg7 arg8 harg8 arg9 harg9 arg10 harg10 arg11 harg11 arg12 harg12 v3 v5 X_arg3 X_arg4 X_arg6 X_arg7 G9 G10 G11 G12 n).2.2.2)⟩ : St F)
      = steps (k0_pay92 v3) (k0_pay93 v5) k0_pay96 (arg3.view.read (Elt F) X_arg3) (arg4.view.read (Elt F) X_arg4) (arg6.view.read (Elt F) X_arg6) (arg7.view.read (Elt F) X_arg7) ⟨arg9.view.read (Elt F) G9, arg10.view.read (Elt F) G10, arg11.view.read (Elt F) G11, arg12.view.read (Elt F) G12⟩ (4 * n)
  | 0, _ => rfl
  | n + 1, h => by
    have ih := loop_st 𝒱 c bd i arg2 harg2 arg3 harg3 arg4 harg4 arg5 harg5 arg6 harg6 arg7 harg7 arg8 harg8 arg9 harg9 arg10 harg10 arg11 harg11 arg12 harg12 v3 v5 X_arg3 X_arg4 X_arg6 X_arg7 G9 G10 G11 G12 n (by omega)
    have e := pb_k0_t1_succ (F := F) 𝒱 c bd i arg2 harg2 arg3 harg3 arg4 harg4 arg5 harg5 arg6 harg6 arg7 harg7 arg8 harg8 arg9 harg9 arg10 harg10 arg11 harg11 arg12 harg12 v3 v5 X_arg3 X_arg4 X_arg6 X_arg7 G9 G10 G11 G12 ⟨n, h⟩
    dsimp only at e
    rw [show 4 * (n + 1) = 4 * ((⟨n, h⟩ : Fin (k0_t1_loop i).trips).val + 1) from rfl, steps_trip]
    dsimp only
    rw [← ih, e]
    simp only [View.writes_append, trip_dk, trip_dv, trip_run, trip_acc]

end Cert.KernelIdeal.Sb

end
-- ==== Proof.Sb.Point.lean ====
/-
  The kernel's block at one place: the payloads of a step over the extended reals, and the closed forms of a run of steps.
-/
module
public import proofs.«01_k».proof.Proof.Sb.Step
public import Idealize.ShloMosaic.Lib.Pointwise
public import Idealize.ShloMosaic.Lib.WordCmp
@[expose] public section
set_option maxRecDepth 16384
noncomputable section
namespace Cert.KernelIdeal.Sb
open Idealize.ShloMosaic Idealize.ShloMosaic.TcCoe Idealize.SL.Sem Idealize.ShloMosaic.VecWindow
open Cert.KernelIdeal.Gen

/-- Key `s` of key block `j`. -/
def kr (j : Fin 16) (s : Fin 128) : Fin 2048 := ⟨128 * j.val + s.val, by omega⟩

/-- A key block's rows at an index. -/
theorem rows_apply {F : FTy → Type} [FloatOps F] (x : Vec F S2048x128 .f32) (j : Fin 16) (s d : Fin 128) : rows x j (ix2 s d) = x (ix2 (kr j s) d) := by
  unfold rows window
  exact congrArg x (funext fun a => by
    match a with
    | ⟨0, _⟩ => exact Fin.ext (by show 128 * j.val + 1 * s.val = 128 * j.val + s.val; omega)
    | ⟨1, _⟩ => exact Fin.ext (by show 0 + 1 * d.val = d.val; omega))

/-- A key block's tile at an index. -/
theorem blk_apply {F : FTy → Type} [FloatOps F] (x : Vec F S1x1x16x512x128 .bf16) (j : Fin 16) (t : Fin 512) (s : Fin 128) : blk x j (ix5 0 0 0 t s) = x (ix5 0 0 j t s) := by
  unfold blk window
  exact congrArg x (funext fun a => by
    match a with
    | ⟨0, _⟩ => exact Fin.ext (by show 0 + 1 * 0 = 0; omega)
    | ⟨1, _⟩ => exact Fin.ext (by show 0 + 1 * 0 = 0; omega)
    | ⟨2, _⟩ => exact Fin.ext (by show j.val + 1 * 0 = j.val; omega)
    | ⟨3, _⟩ => exact Fin.ext (by show 0 + 1 * t.val = t.val; omega)
    | ⟨4, _⟩ => exact Fin.ext (by show 0 + 1 * s.val = s.val; omega))

/-- Rows that are replaced hold what replaced them. -/
theorem putRows_same {F : FTy → Type} [FloatOps F] (x : Vec F S2048x128 .f32) (j : Fin 16) (w : Vec F S128x128 .f32) (s d : Fin 128) : putRows x j w (ix2 (kr j s) d) = w (ix2 s d) := by
  exact (rows_apply (putRows x j w) j s d).symm.trans (congrFun (window_put_same (s := S2048x128) x ![128 * j.val, 0] S128x128.size (row_inb j) w) (ix2 s d))

/-- The rows of another key block stay. -/
theorem putRows_ne {F : FTy → Type} [FloatOps F] (x : Vec F S2048x128 .f32) {j j' : Fin 16} (w : Vec F S128x128 .f32) (h : j' ≠ j) (s d : Fin 128) : putRows x j w (ix2 (kr j' s) d) = x (ix2 (kr j' s) d) := by
  exact (rows_apply (putRows x j w) j' s d).symm.trans ((congrFun (rows_putRows_of_ne x w h) (ix2 s d)).trans (rows_apply x j' s d))

/-- The weights times their gradients, at an index. -/
theorem p4_apply (o : FVec Ideal S512x128 .bf16) (W : Vec Ideal S128x128 .f32) (A : Vec Ideal S1x1x1x512x128 .bf16) (t : Fin 512) (s : Fin 128) :
    k0_pay4 o W A (ix2 t s) = A (ix5 0 0 0 t s) * ∑ d : Fin 128, o (ix2 t d) * W (ix2 s d) := by
  pointwise [k0_pay4, k0_pay3]

/-- Their product with the matrix of the running sum, at an index. -/
theorem p7_apply (o : FVec Ideal S512x128 .bf16) (T : FVec Ideal S128x256 .bf16) (W : Vec Ideal S128x128 .f32) (A : Vec Ideal S1x1x1x512x128 .bf16) (t : Fin 512) (s : Fin 256) :
    k0_pay7 o T W A (ix2 t s) = ∑ x : Fin 128, k0_pay4 o W A (ix2 t x) * T (ix2 x s) := by
  pointwise [k0_pay7]

/-- The right factor at a column of the first half: the columns left of it. -/
theorem T_left (x s : Fin 128) : k0_pay96 (F := Ideal) (ix2 x ⟨s.val, by omega⟩) = if x.val < s.val then 1 else 0 := by
  pointwise [k0_pay96]
  rw [show (128#32 : BitVec 32) = BitVec.ofNat 32 128 from rfl, WordCmp.cmpi_slt_ofNat (by omega) (by omega), WordCmp.cmpi_slt_ofNat (by omega) (by omega)]
  have := s.isLt
  by_cases h : x.val < s.val <;> simp [h, Scalar.select]

/-- The right factor at a column of the second half: all columns. -/
theorem T_right (x s : Fin 128) : k0_pay96 (F := Ideal) (ix2 x ⟨128 + s.val, by omega⟩) = 1 := by
  pointwise [k0_pay96]
  rw [show (128#32 : BitVec 32) = BitVec.ofNat 32 128 from rfl, WordCmp.cmpi_slt_ofNat (by omega) (by omega)]
  simp [Scalar.select]

/-- The sum over the earlier keys of the block and of the blocks before it. -/
theorem p9_apply (o : FVec Ideal S512x128 .bf16) (W : Vec Ideal S128x128 .f32) (A : Vec Ideal S1x1x1x512x128 .bf16) (run : Vec Ideal S512x128 .f32) (t : Fin 512) (s : Fin 128) :
    k0_pay9 o k0_pay96 W A run (ix2 t s) = (∑ x : Fin 128, if x.val < s.val then k0_pay4 o W A (ix2 t x) else 0) + run (ix2 t s) := by
  pointwise [k0_pay9]
  rw [p7_apply]
  refine congrArg (· + _) (Finset.sum_congr rfl fun x _ => ?_)
  rw [T_left]
  by_cases h : x.val < s.val
  · rw [if_pos h, if_pos h, mul_one]
  · rw [if_neg h, if_neg h, mul_zero]

/-- The running sum after a block: its products are added. -/
theorem p13_apply (o : FVec Ideal S512x128 .bf16) (W : Vec Ideal S128x128 .f32) (A : Vec Ideal S1x1x1x512x128 .bf16) (run : Vec Ideal S512x128 .f32) (t : Fin 512) (s : Fin 128) :
    k0_pay13 (k0_pay7 o k0_pay96 W A) run (ix2 t s) = run (ix2 t s) + ∑ x : Fin 128, k0_pay4 o W A (ix2 t x) := by
  pointwise [k0_pay13]
  rw [p7_apply]
  refine congrArg (_ + ·) (Finset.sum_congr rfl fun x _ => ?_)
  rw [T_right, mul_one]

section Closed

variable (q o : FVec Ideal S512x128 .bf16) (K W : Vec Ideal S2048x128 .f32) (A B : Vec Ideal S1x1x16x512x128 .bf16)

/-- The weight of a pair times the gradient of the weight. -/
def gB (t : Fin 512) (j : Fin 16) (s : Fin 128) : EReal := A (ix5 0 0 j t s) * ∑ d : Fin 128, o (ix2 t d) * W (ix2 (kr j s) d)

/-- The sum of `gB` over the first `n` key blocks. -/
def runB (n : ℕ) (t : Fin 512) : EReal := ∑ j : Fin 16, if j.val < n then ∑ s : Fin 128, gB o W A t j s else 0

/-- The sum of `gB` over the keys left of a key. -/
def preB (t : Fin 512) (j : Fin 16) (s : Fin 128) : EReal := (∑ x : Fin 128, if x.val < s.val then gB o W A t j x else 0) + runB o W A j.val t

/-- The factor of the logits. -/
def cK : EReal := Ideal.ofBits .f32 1035273459#32

/-- The gradient of a logit. -/
def dzB (t : Fin 512) (j : Fin 16) (s : Fin 128) : EReal :=
  (gB o W A t j s * (1 - B (ix5 0 0 j t s)) - B (ix5 0 0 j t s) * preB o W A t j s) * cK

/-- One more key block in a sum over the first ones. -/
theorem sum_lt_succ (f : Fin 16 → EReal) {n : ℕ} (h : n < 16) :
    (∑ j : Fin 16, if j.val < n + 1 then f j else 0) = (∑ j : Fin 16, if j.val < n then f j else 0) + f ⟨n, h⟩ := by
  have e : f ⟨n, h⟩ = ∑ j : Fin 16, if j = ⟨n, h⟩ then f j else 0 := by rw [Finset.sum_ite_eq' Finset.univ (⟨n, h⟩ : Fin 16) f, if_pos (Finset.mem_univ _)]
  rw [e, ← Finset.sum_add_distrib]
  refine Finset.sum_congr rfl fun j _ => ?_
  by_cases h1 : j.val < n
  · rw [if_pos (by omega), if_pos h1, if_neg (fun he => by rw [he] at h1; exact absurd h1 (lt_irrefl n)), add_zero]
  · by_cases h2 : j = ⟨n, h⟩
    · rw [if_pos (by rw [h2]; exact Nat.lt_succ_self n), if_neg h1, if_pos h2, zero_add]
    · rw [if_neg (fun h3 => h2 (Fin.ext (by show j.val = n; omega))), if_neg h1, if_neg h2, add_zero]

/-- What the state holds at an index after `n` key blocks. -/
structure Closed (dk dv : Vec Ideal S2048x128 .f32) (n : ℕ) (s : St Ideal) : Prop where
  run : ∀ (t : Fin 512) (l : Fin 128), s.run (ix2 t l) = runB o W A n t
  acc : ∀ (t : Fin 512) (d : Fin 128), s.acc (ix2 t d) = ∑ j : Fin 16, if j.val < n then ∑ x : Fin 128, dzB o W A B t j x * K (ix2 (kr j x) d) else 0
  dk : ∀ (j : Fin 16) (x d : Fin 128), s.dk (ix2 (kr j x) d) = dk (ix2 (kr j x) d) + if j.val < n then ∑ t : Fin 512, dzB o W A B t j x * q (ix2 t d) else 0
  dv : ∀ (j : Fin 16) (x d : Fin 128), s.dv (ix2 (kr j x) d) = dv (ix2 (kr j x) d) + if j.val < n then ∑ t : Fin 512, A (ix5 0 0 j t x) * o (ix2 t d) else 0

/-- The weights times their gradients, of a key block. -/
theorem p4_blk (t : Fin 512) (j : Fin 16) (s : Fin 128) : k0_pay4 o (rows W j) (blk A j) (ix2 t s) = gB o W A t j s := by
  rw [p4_apply, blk_apply]
  refine congrArg (_ * ·) (Finset.sum_congr rfl fun d _ => ?_)
  rw [rows_apply]

/-- The gradient of a logit as one step computes it. -/
theorem p10_blk (run : Vec Ideal S512x128 .f32) (t : Fin 512) (j : Fin 16) (s : Fin 128) (h : run (ix2 t s) = runB o W A j.val t) :
    k0_pay10 (k0_pay6 (blk B j)) (k0_pay8 o (rows W j) (blk A j) (blk B j)) (k0_pay9 o k0_pay96 (rows W j) (blk A j) run) (ix2 t s) = dzB o W A B t j s := by
  pointwise [k0_pay10, k0_pay8, k0_pay6]
  rw [p9_apply, h, p4_blk, blk_apply]
  unfold dzB preB cK
  refine congrArg (fun z => (_ - _ * (z + _)) * _) (Finset.sum_congr rfl fun x _ => ?_)
  rw [p4_blk]

/-- One step keeps the closed form. -/
theorem closed_step (dk dv : Vec Ideal S2048x128 .f32) {n : ℕ} (hn : n < 16) (s : St Ideal) (h : Closed q o K W A B dk dv n s) :
    Closed q o K W A B dk dv (n + 1) (step q o k0_pay96 K W A B ⟨n, hn⟩ s) where
  run t l := by
    show k0_pay13 _ s.run (ix2 t l) = _
    rw [p13_apply, h.run]
    unfold runB
    rw [sum_lt_succ _ hn]
    refine congrArg (_ + ·) (Finset.sum_congr rfl fun x _ => ?_)
    rw [p4_blk]
  acc t d := by
    show k0_pay12 _ _ _ _ s.acc (ix2 t d) = _
    rw [sum_lt_succ _ hn, ← h.acc]
    pointwise [k0_pay12]
    refine congrArg (_ + ·) (Finset.sum_congr rfl fun x _ => ?_)
    rw [p10_blk o W A B s.run t ⟨n, hn⟩ x (h.run t x)]
    pointwise [k0_pay2]
    rw [rows_apply]
  dk j x d := by
    show putRows s.dk ⟨n, hn⟩ _ (ix2 (kr j x) d) = _
    by_cases hj : j = ⟨n, hn⟩
    · subst hj
      rw [putRows_same, if_pos (Nat.lt_succ_self n)]
      pointwise [k0_pay11]
      rw [rows_apply, h.dk, if_neg (lt_irrefl n), add_zero]
      refine congrArg (_ + ·) (Finset.sum_congr rfl fun t _ => ?_)
      rw [p10_blk o W A B s.run t ⟨n, hn⟩ x (h.run t x)]
    · rw [putRows_ne _ _ hj, h.dk]
      have hne : j.val ≠ n := fun e => hj (Fin.ext e)
      by_cases h1 : j.val < n
      · rw [if_pos h1, if_pos (by omega)]
      · rw [if_neg h1, if_neg (by omega)]
  dv j x d := by
    show putRows s.dv ⟨n, hn⟩ _ (ix2 (kr j x) d) = _
    by_cases hj : j = ⟨n, hn⟩
    · subst hj
      rw [putRows_same, if_pos (Nat.lt_succ_self n)]
      pointwise [k0_pay5, k0_pay3]
      rw [rows_apply, h.dv, if_neg (lt_irrefl n), add_zero]
      refine congrArg (_ + ·) (Finset.sum_congr rfl fun t _ => ?_)
      rw [blk_apply]
    · rw [putRows_ne _ _ hj, h.dv]
      have hne : j.val ≠ n := fun e => hj (Fin.ext e)
      by_cases h1 : j.val < n
      · rw [if_pos h1, if_pos (by omega)]
      · rw [if_neg h1, if_neg (by omega)]

/-- After `n` steps from zero accumulators. -/
theorem closed_steps (dk dv : Vec Ideal S2048x128 .f32) : ∀ (n : ℕ), n ≤ 16 →
    Closed q o K W A B dk dv n (steps q o k0_pay96 K W A B ⟨dk, dv, k0_pay94 (F := Ideal), k0_pay95 (F := Ideal)⟩ n)
  | 0, _ => by
    refine ⟨fun t l => ?_, fun t d => ?_, fun j x d => ?_, fun j x d => ?_⟩
    · show k0_pay94 (F := Ideal) (ix2 t l) = ∑ j : Fin 16, if j.val < 0 then _ else 0
      pointwise [k0_pay94]
      simp only [Nat.not_lt_zero, if_false, Finset.sum_const_zero]
    · show k0_pay95 (F := Ideal) (ix2 t d) = _
      pointwise [k0_pay95]
      simp only [Nat.not_lt_zero, if_false, Finset.sum_const_zero]
    · rw [if_neg (Nat.not_lt_zero _), add_zero]; rfl
    · rw [if_neg (Nat.not_lt_zero _), add_zero]; rfl
  | n + 1, h => by
    rw [steps_succ _ _ _ _ _ _ _ _ (by omega : n < 16)]
    exact closed_step q o K W A B dk dv _ _ (closed_steps dk dv n (by omega))

end Closed

end Cert.KernelIdeal.Sb
-- ==== Proof.Sb.Glob.lean ====
/-
  The gradients as sums over the whole sequence. `a` and `b` are the two saved arrays, of a head, a query and a key; `P` is the
  projection (queries, keys and values of the eight heads in its first 3072 columns) and `D` the incoming gradient. The block
  sums of the kernel's steps (`Sb/Point.lean`) are these, because both saved arrays are zero where the key is not left of the query.
-/
module

public import proofs.«01_k».proof.Proof.Sb.Point

@[expose] public section

set_option maxRecDepth 16384

noncomputable section

namespace Cert.KernelIdeal.Sb

open Idealize.ShloMosaic Idealize.ShloMosaic.TcCoe Idealize.SL.Sem Idealize.ShloMosaic.VecWindow
open Cert.KernelIdeal Cert.KernelIdeal.Gen

/-- Query `r` of the block `I` of queries. -/
def qr (I : Fin 4) (r : Fin 512) : Fin 2048 := ⟨512 * I.val + r.val, by omega⟩

/-- Column `d` of head `h` among the queries, the keys, the values, and in the gradient. -/
def qc (h : Fin 8) (d : Fin 128) : Fin 6144 := ⟨128 * h.val + d.val, by omega⟩
@[inherit_doc qc] def kc (h : Fin 8) (d : Fin 128) : Fin 6144 := ⟨1024 + 128 * h.val + d.val, by omega⟩
@[inherit_doc qc] def vc (h : Fin 8) (d : Fin 128) : Fin 6144 := ⟨2048 + 128 * h.val + d.val, by omega⟩
@[inherit_doc qc] def hc (h : Fin 8) (d : Fin 128) : Fin 1024 := ⟨128 * h.val + d.val, by omega⟩

/-- A sum over the keys, by key blocks. -/
theorem sum_keys (f : Fin 2048 → EReal) : ∑ s : Fin 2048, f s = ∑ j : Fin 16, ∑ x : Fin 128, f (kr j x) := by
  rw [Fin.sum_univ_tiles 16 128 rfl f]
  refine Finset.sum_congr rfl fun j _ => Finset.sum_congr rfl fun x _ => congrArg f (Fin.ext ?_)
  show j.val * 128 + x.val = 128 * j.val + x.val
  omega

/-- A sum over the queries, by blocks of queries. -/
theorem sum_queries (f : Fin 2048 → EReal) : ∑ s : Fin 2048, f s = ∑ j : Fin 4, ∑ x : Fin 512, f (qr j x) := by
  rw [Fin.sum_univ_tiles 4 512 rfl f]
  refine Finset.sum_congr rfl fun j _ => Finset.sum_congr rfl fun x _ => congrArg f (Fin.ext ?_)
  show j.val * 512 + x.val = 512 * j.val + x.val
  omega

section

variable (P : Vec Ideal S2048x6144 .f32) (D : Vec Ideal S2048x1024 .f32) (a b : Fin 8 → Fin 2048 → Fin 2048 → EReal)

/-- The weight of query `T` and key `s` times the gradient of the weight. -/
def gA (h : Fin 8) (T s : Fin 2048) : EReal := a h T s * ∑ d : Fin 128, D (ix2 T (hc h d)) * P (ix2 s (vc h d))

/-- The sum of `gA` over the keys left of `s`. -/
def preA (h : Fin 8) (T s : Fin 2048) : EReal := ∑ x : Fin 2048, if x.val < s.val then gA P D a h T x else 0

/-- The gradient of the logit of query `T` and key `s`. -/
def dzA (h : Fin 8) (T s : Fin 2048) : EReal := (gA P D a h T s * (1 - b h T s) - b h T s * preA P D a h T s) * cK

/-- The gradient of the queries, of the keys, of the values: row, head, column. -/
def dqA (T : Fin 2048) (h : Fin 8) (d : Fin 128) : EReal := ∑ s : Fin 2048, dzA P D a b h T s * P (ix2 s (kc h d))
@[inherit_doc dqA] def dkA (s : Fin 2048) (h : Fin 8) (d : Fin 128) : EReal := ∑ T : Fin 2048, dzA P D a b h T s * P (ix2 T (qc h d))
@[inherit_doc dqA] def dvA (s : Fin 2048) (h : Fin 8) (d : Fin 128) : EReal := ∑ T : Fin 2048, a h T s * D (ix2 T (hc h d))

variable {P D a b}

/-- The six blocks of head `h` and block `I` of queries, read off the arrays. -/
structure Blocks (P : Vec Ideal S2048x6144 .f32) (D : Vec Ideal S2048x1024 .f32) (a b : Fin 8 → Fin 2048 → Fin 2048 → EReal) (h : Fin 8) (I : Fin 4)
    (q o : FVec Ideal S512x128 .bf16) (K W : Vec Ideal S2048x128 .f32) (A B : Vec Ideal S1x1x16x512x128 .bf16) : Prop where
  q : ∀ r d, q (ix2 r d) = P (ix2 (qr I r) (qc h d))
  o : ∀ r d, o (ix2 r d) = D (ix2 (qr I r) (hc h d))
  K : ∀ s d, K (ix2 s d) = P (ix2 s (kc h d))
  W : ∀ s d, W (ix2 s d) = P (ix2 s (vc h d))
  A : ∀ j r x, A (ix5 0 0 j r x) = a h (qr I r) (kr j x)
  B : ∀ j r x, B (ix5 0 0 j r x) = b h (qr I r) (kr j x)

variable {h : Fin 8} {I : Fin 4} {q o : FVec Ideal S512x128 .bf16} {K W : Vec Ideal S2048x128 .f32} {A B : Vec Ideal S1x1x16x512x128 .bf16}

/-- A block's product of a weight with its gradient is the whole array's. -/
theorem Blocks.gB_eq (H : Blocks P D a b h I q o K W A B) (r : Fin 512) (j : Fin 16) (x : Fin 128) : gB o W A r j x = gA P D a h (qr I r) (kr j x) := by
  unfold gB gA
  rw [H.A]
  exact congrArg (_ * ·) (Finset.sum_congr rfl fun d _ => by rw [H.o, H.W])

/-- A block's sum over the earlier keys is the whole array's. -/
theorem Blocks.preB_eq (H : Blocks P D a b h I q o K W A B) (r : Fin 512) (j : Fin 16) (x : Fin 128) : preB o W A r j x = preA P D a h (qr I r) (kr j x) := by
  unfold preB preA runB
  rw [sum_keys]
  have e : (∑ y : Fin 128, if y.val < x.val then gB o W A r j y else 0)
      = ∑ j' : Fin 16, if j' = j then (∑ y : Fin 128, if y.val < x.val then gB o W A r j' y else 0) else 0 := by
    rw [Finset.sum_ite_eq' Finset.univ j (fun j' => ∑ y : Fin 128, if y.val < x.val then gB o W A r j' y else 0), if_pos (Finset.mem_univ _)]
  rw [e, ← Finset.sum_add_distrib]
  refine Finset.sum_congr rfl fun j' _ => ?_
  have hx := x.isLt
  by_cases h1 : j' = j
  · rw [if_pos h1, h1, if_neg (lt_irrefl _), add_zero]
    refine Finset.sum_congr rfl fun y _ => ?_
    rw [H.gB_eq]
    by_cases h2 : y.val < x.val
    · rw [if_pos h2, if_pos (by show 128 * j.val + y.val < 128 * j.val + x.val; omega)]
    · rw [if_neg h2, if_neg (by show ¬ 128 * j.val + y.val < 128 * j.val + x.val; omega)]
  · have h3 : j'.val ≠ j.val := fun e => h1 (Fin.ext e)
    rw [if_neg h1, zero_add]
    by_cases h2 : j'.val < j.val
    · rw [if_pos h2]
      refine Finset.sum_congr rfl fun y _ => ?_
      have hy := y.isLt
      rw [H.gB_eq, if_pos (by show 128 * j'.val + y.val < 128 * j.val + x.val; omega)]
    · rw [if_neg h2]
      refine (Finset.sum_eq_zero fun y _ => ?_).symm
      rw [if_neg (by show ¬ 128 * j'.val + y.val < 128 * j.val + x.val; omega)]

/-- A block's gradient of the logits is the whole array's. -/
theorem Blocks.dzB_eq (H : Blocks P D a b h I q o K W A B) (r : Fin 512) (j : Fin 16) (x : Fin 128) : dzB o W A B r j x = dzA P D a b h (qr I r) (kr j x) := by
  unfold dzB dzA
  rw [H.gB_eq, H.preB_eq, H.B]

/-- A pair whose key is not left of its query has no gradient. -/
theorem dzA_zero (ha : ∀ h (T s : Fin 2048), T.val ≤ s.val → a h T s = 0) (hb : ∀ h (T s : Fin 2048), T.val ≤ s.val → b h T s = 0) (T s : Fin 2048) (hs : T.val ≤ s.val) :
    dzA P D a b h T s = 0 := by
  unfold dzA gA
  rw [ha h T s hs, hb h T s hs, zero_mul, zero_mul, zero_mul, sub_zero, zero_mul]

/-- A key of a block past a point's last one is not left of any of its queries. -/
theorem key_right {j : Fin 16} (hj : ¬ j.val < 4 * I.val + 4) (r : Fin 512) (x : Fin 128) : (qr I r).val ≤ (kr j x).val := by
  have := r.isLt
  show 512 * I.val + r.val ≤ 128 * j.val + x.val
  omega

/-- The gradient of the block's queries. -/
theorem Blocks.dq (H : Blocks P D a b h I q o K W A B) (ha : ∀ h (T s : Fin 2048), T.val ≤ s.val → a h T s = 0) (hb : ∀ h (T s : Fin 2048), T.val ≤ s.val → b h T s = 0)
    (r : Fin 512) (d : Fin 128) :
    (∑ j : Fin 16, if j.val < 4 * I.val + 4 then ∑ x : Fin 128, dzB o W A B r j x * K (ix2 (kr j x) d) else 0) = dqA P D a b (qr I r) h d := by
  unfold dqA
  rw [sum_keys]
  refine Finset.sum_congr rfl fun j _ => ?_
  by_cases hj : j.val < 4 * I.val + 4
  · rw [if_pos hj]
    exact Finset.sum_congr rfl fun x _ => by rw [H.dzB_eq, H.K]
  · rw [if_neg hj]
    exact (Finset.sum_eq_zero fun x _ => by rw [dzA_zero ha hb _ _ (key_right hj r x), zero_mul]).symm

/-- What the block of queries adds to the gradient of a key. -/
theorem Blocks.dk (H : Blocks P D a b h I q o K W A B) (ha : ∀ h (T s : Fin 2048), T.val ≤ s.val → a h T s = 0) (hb : ∀ h (T s : Fin 2048), T.val ≤ s.val → b h T s = 0)
    (j : Fin 16) (x : Fin 128) (d : Fin 128) :
    (if j.val < 4 * I.val + 4 then ∑ t : Fin 512, dzB o W A B t j x * q (ix2 t d) else 0) = ∑ t : Fin 512, dzA P D a b h (qr I t) (kr j x) * P (ix2 (qr I t) (qc h d)) := by
  by_cases hj : j.val < 4 * I.val + 4
  · rw [if_pos hj]
    exact Finset.sum_congr rfl fun t _ => by rw [H.dzB_eq, H.q]
  · rw [if_neg hj]
    exact (Finset.sum_eq_zero fun t _ => by rw [dzA_zero ha hb _ _ (key_right hj t x), zero_mul]).symm

/-- What the block of queries adds to the gradient of a value. -/
theorem Blocks.dv (H : Blocks P D a b h I q o K W A B) (ha : ∀ h (T s : Fin 2048), T.val ≤ s.val → a h T s = 0)
    (j : Fin 16) (x : Fin 128) (d : Fin 128) :
    (if j.val < 4 * I.val + 4 then ∑ t : Fin 512, A (ix5 0 0 j t x) * o (ix2 t d) else 0) = ∑ t : Fin 512, a h (qr I t) (kr j x) * D (ix2 (qr I t) (hc h d)) := by
  by_cases hj : j.val < 4 * I.val + 4
  · rw [if_pos hj]
    exact Finset.sum_congr rfl fun t _ => by rw [H.A, H.o]
  · rw [if_neg hj]
    exact (Finset.sum_eq_zero fun t _ => by rw [ha h _ _ (key_right hj t x), zero_mul]).symm

/-- Every row of the keys is a row of a key block. -/
theorem eq_kr (s : Fin 2048) : s = kr ⟨s.val / 128, by omega⟩ ⟨s.val % 128, by omega⟩ := Fin.ext (by show s.val = 128 * (s.val / 128) + s.val % 128; omega)

end

end Cert.KernelIdeal.Sb
-- ==== Proof.Sb.Real.lean ====
/-
  On finite arguments the reference's logit gradient is the kernel's: the two spellings of the logistic function agree on
  real numbers, and the sum through a key less its own term is the sum left of it.
-/
module

public import proofs.«01_k».proof.Proof.Sb.RefPoint
public import proofs.«01_k».proof.Proof.Sb.Glob

@[expose] public section

set_option maxRecDepth 16384

noncomputable section

namespace Cert.ReferenceIdeal.Sb

open Idealize.ShloMosaic Idealize.ShloMosaic.TcCoe Idealize.SL.Sem
open Cert.KernelIdeal.Sb (gA preA dzA hc vc qc kc)

/-- An extended real that is a real number. -/
def Finite (x : EReal) : Prop := ∃ r : ℝ, x = (r : EReal)

/-- A sum of finite numbers is finite. -/
theorem Finite.add {x y : EReal} (hx : Finite x) (hy : Finite y) : Finite (x + y) := by
  obtain ⟨r, rfl⟩ := hx; obtain ⟨t, rfl⟩ := hy; exact ⟨r + t, (EReal.coe_add r t).symm⟩

/-- A product of finite numbers is finite. -/
theorem Finite.mul {x y : EReal} (hx : Finite x) (hy : Finite y) : Finite (x * y) := by
  obtain ⟨r, rfl⟩ := hx; obtain ⟨t, rfl⟩ := hy; exact ⟨r * t, (EReal.coe_mul r t).symm⟩

/-- The negative of a finite number is finite. -/
theorem Finite.neg {x : EReal} (hx : Finite x) : Finite (-x) := by
  obtain ⟨r, rfl⟩ := hx; exact ⟨-r, (EReal.coe_neg r).symm⟩

/-- Zero is finite. -/
theorem Finite.zero : Finite 0 := ⟨0, EReal.coe_zero.symm⟩

/-- The exponential of a finite number is finite. -/
theorem Finite.exp {x : EReal} (hx : Finite x) : Finite (Ideal.exp x) := by
  obtain ⟨r, rfl⟩ := hx; exact ⟨_, rfl⟩

/-- A choice between finite numbers is finite. -/
theorem Finite.ite {x y : EReal} {p : Prop} [Decidable p] (hx : Finite x) (hy : Finite y) : Finite (if p then x else y) := by
  split <;> assumption

/-- A sum over a finite set of finite numbers is finite. -/
theorem Finite.sum {ι : Type} (t : Finset ι) (f : ι → EReal) (hf : ∀ i, Finite (f i)) : Finite (∑ i ∈ t, f i) := by
  classical
  induction t using Finset.induction_on with
  | empty => simpa using Finite.zero
  | insert i t hi ih => rw [Finset.sum_insert hi]; exact (hf i).add ih

/-- The scale is a real number. -/
theorem scale_finite : Finite (Ideal.ofBits .f32 1035273459#32) := by
  have h : ∃ r : ℝ, Ideal.ieee 8 23 1035273459#32 = (r : EReal) := by
    unfold Ideal.ieee
    exact ⟨_, (if_neg (by decide)).trans (if_neg (by decide))⟩
  exact h

/-- The logistic of `-r` is one less the logistic of `r`, both written with the softplus of `-r`. -/
theorem one_sub_exp (r : ℝ) : 1 - Real.exp (-spR (-r)) = Real.exp (-r - spR (-r)) := by
  have h : Real.exp (spR (-r)) = 1 + Real.exp (-r) := by
    rw [spR_eq, Real.exp_log (by positivity)]
  rw [Real.exp_sub, Real.exp_neg (spR (-r)), h]
  have : (1 + Real.exp (-r)) ≠ 0 := by positivity
  field_simp
  ring

/-- The logistic of `r` with the softplus of `-r` and with that of `r`. -/
theorem exp_neg_sp (r : ℝ) : Real.exp (-spR (-r)) = Real.exp (r - spR r) := by
  rw [Real.exp_sub, Real.exp_neg, spR_eq, spR_eq, Real.exp_log (by positivity), Real.exp_log (by positivity), Real.exp_neg]
  have := Real.exp_pos r
  field_simp
  ring

variable (P : Vec Ideal S2048x6144 .f32) (D : Vec Ideal S2048x1024 .f32)

/-- The saved weights. -/
def aR : Fin 8 → Fin 2048 → Fin 2048 → EReal := fun h T s => aV (zV P) (ix3 h T s)

/-- The saved logistics. -/
def bR : Fin 8 → Fin 2048 → Fin 2048 → EReal := fun h T s => whereV (Host.exp (Host.negf (spV (Host.negf (zV P))))) (ix3 h T s)

/-- A key that is not left of the query has weight zero. -/
theorem aR_zero (h : Fin 8) (T s : Fin 2048) (hs : T.val ≤ s.val) : aR P h T s = 0 := by
  unfold aR aV; rw [where_at, if_neg (by omega)]

/-- A key that is not left of the query has logistic zero. -/
theorem bR_zero (h : Fin 8) (T s : Fin 2048) (hs : T.val ≤ s.val) : bR P h T s = 0 := by
  unfold bR; rw [where_at, if_neg (by omega)]

/-- The kernel's product of a weight with its gradient is the reference's gradient of the weight's logarithm. -/
theorem g_eq (h : Fin 8) (T s : Fin 2048) : gA P D (aR P) h T s = gV P D (ix3 h T s) := by
  unfold gA
  rw [g_at]
  have hD : ∀ d : Fin 128, D (ix2 T ⟨h.val * 128 + d.val, by omega⟩) * P (ix2 s ⟨2048 + (h.val * 128 + d.val), by omega⟩) = D (ix2 T (hc h d)) * P (ix2 s (vc h d)) := fun d => by
    congr 3
    · exact Fin.ext (by show h.val * 128 + d.val = 128 * h.val + d.val; omega)
    · exact Fin.ext (by show 2048 + (h.val * 128 + d.val) = 2048 + 128 * h.val + d.val; omega)
  simp only [hD]
  by_cases hs : s.val < T.val
  · rw [if_pos hs, show aR P h T s = eV (zV P) (ix3 h T s) by unfold aR aV; rw [where_at, if_pos hs], mul_comm]
  · rw [if_neg hs, aR_zero P h T s (by omega), zero_mul, zero_mul]

variable (hP : ∀ i, Finite (P i)) (hD : ∀ i, Finite (D i))

include hP in
/-- The logits are finite. -/
theorem z_finite (h : Fin 8) (T s : Fin 2048) : Finite (zV P (ix3 h T s)) := by
  rw [z_at]
  exact (Finite.sum _ _ fun d => (hP _).mul (hP _)).mul scale_finite

include hP in
/-- A logit is a real number, and so are its negative and the negative of that. -/
theorem negz (h : Fin 8) (T s : Fin 2048) : ∃ r : ℝ, zV P (ix3 h T s) = (r : EReal) ∧ Host.negf (zV P) (ix3 h T s) = ((-r : ℝ) : EReal) ∧ Host.negf (Host.negf (zV P)) (ix3 h T s) = (r : EReal) := by
  obtain ⟨r, hr⟩ := z_finite P hP h T s
  refine ⟨r, hr, ?_, ?_⟩
  · show -(zV P (ix3 h T s)) = _
    rw [hr, EReal.coe_neg]
  · show -(-(zV P (ix3 h T s))) = _
    rw [hr, neg_neg]

include hP in
/-- What a key leaves to the ones before it has a finite logarithm. -/
theorem keep_finite (h : Fin 8) (T s : Fin 2048) : Finite (keepV (zV P) (ix3 h T s)) := by
  obtain ⟨r, _, _, h2⟩ := negz P hP h T s
  rw [keep_at, sp_at _ h T s r h2]
  exact Finite.ite (Finite.neg ⟨_, rfl⟩) Finite.zero

include hP in
/-- The weights are finite. -/
theorem e_finite (h : Fin 8) (T s : Fin 2048) : Finite (eV (zV P) (ix3 h T s)) := by
  obtain ⟨r, _, h1, _⟩ := negz P hP h T s
  rw [e_at, sp_at _ h T s (-r) h1, suf_at]
  refine Finite.exp ((Finite.neg ⟨_, rfl⟩).add ?_)
  rw [sub_eq_add_neg]
  exact (Finite.sum _ _ fun k => Finite.ite (keep_finite P hP h T k) Finite.zero).add (keep_finite P hP h T s).neg

include hP hD in
/-- The gradients of the weights' logarithms are finite. -/
theorem g_finite (h : Fin 8) (T s : Fin 2048) : Finite (gV P D (ix3 h T s)) := by
  rw [g_at]
  exact (Finite.ite (Finite.sum _ _ fun d => (hD _).mul (hP _)) Finite.zero).mul (e_finite P hP h T s)

include hP hD in
/-- The sum through a key less its own term is the sum over the keys left of it. -/
theorem pre_eq (h : Fin 8) (T s : Fin 2048) (hs : s.val < T.val) : preV (gV P D) (ix3 h T s) = preA P D (aR P) h T s := by
  rw [pre_at, if_pos hs]
  unfold preA
  simp only [g_eq]
  have hsplit : (∑ k : Fin 2048, if k.val ≤ s.val then gV P D (ix3 h T k) else 0) = (∑ k : Fin 2048, if k.val < s.val then gV P D (ix3 h T k) else 0) + gV P D (ix3 h T s) := by
    rw [← Finset.sum_ite_eq' Finset.univ s (fun k => gV P D (ix3 h T k)) |>.trans (if_pos (Finset.mem_univ s)), ← Finset.sum_add_distrib]
    refine Finset.sum_congr rfl fun k _ => ?_
    by_cases e : k = s
    · subst e; simp
    · have : k.val ≠ s.val := fun e' => e (Fin.ext e')
      by_cases hk : k.val < s.val
      · rw [if_pos hk, if_pos hk.le, if_neg e, add_zero]
      · rw [if_neg hk, if_neg (by omega), if_neg e, add_zero]
  rw [hsplit, add_comm, add_assoc]
  obtain ⟨t, ht⟩ := g_finite P D hP hD h T s
  rw [ht, ← EReal.coe_neg, ← EReal.coe_add, add_neg_cancel, EReal.coe_zero, add_zero]

include hP hD in
/-- The two logit gradients are equal. -/
theorem dz_eq (h : Fin 8) (T s : Fin 2048) : dzV (zV P) (gV P D) (ix3 h T s) = dzA P D (aR P) (bR P) h T s := by
  rw [dz_at]
  unfold dzA
  refine congrArg (· * _) ?_
  rw [g_eq]
  by_cases hs : s.val < T.val
  · obtain ⟨r, _, h1, h2⟩ := negz P hP h T s
    have hb : bR P h T s = ((Real.exp (-spR (-r)) : ℝ) : EReal) := by
      unfold bR
      rw [where_at, if_pos hs]
      show Ideal.exp (-(spV (Host.negf (zV P)) (ix3 h T s))) = _
      rw [sp_at _ h T s (-r) h1, ← EReal.coe_neg, Ideal.exp_coe]
    rw [sg_at _ h T s (-r) h1, sg_at _ h T s r h2, pre_eq P D hP hD h T s hs, hb, ← one_sub_exp r, ← exp_neg_sp r]
    rw [neg_mul, neg_neg, neg_neg, neg_mul, mul_comm (preA _ _ _ _ _ _), EReal.coe_sub, EReal.coe_one, ← sub_eq_add_neg]
  · have h0 : gV P D (ix3 h T s) = 0 := by rw [g_at, if_neg hs, zero_mul]
    have h1 : preV (gV P D) (ix3 h T s) = 0 := by rw [pre_at, if_neg hs]
    rw [h0, h1, bR_zero P h T s (by omega)]
    simp

end Cert.ReferenceIdeal.Sb
-- ==== Proof.Sb.Run.lean ====
module

public import proofs.«01_k».proof.Proof.Sb.Step
public import proofs.«01_k».proof.Proof.Gen.KernelIdeal.Frame

/-! What one grid point of the gradient kernel leaves in its buffers: the key blocks up to the diagonal taken one after the other. -/

@[expose] public section

set_option maxRecDepth 65536

noncomputable section

open Idealize.ShloMosaic Idealize.ShloMosaic.TcCoe Idealize.SL.Sem Idealize.ShloMosaic.VecWindow

namespace Cert.KernelIdeal.Sb

open Cert.KernelIdeal Cert.KernelIdeal.Gen

variable {F : FTy → Type} [FloatOps F]

/-- The first loop takes one trip per block of queries before this one. -/
theorem trips1 : ∀ i : grid0.Coords, Scf.trips (k0_t1_loop i).lb (k0_t1_loop i).ub (k0_t1_loop i).st = (i 1).val := by decide +kernel

/-- The second loop takes no trip. -/
theorem trips2 : ∀ i : grid0.Coords, Scf.trips (k0_t2_loop i).lb (k0_t2_loop i).ub (k0_t2_loop i).st = 0 := by decide +kernel

/-- The key blocks of the diagonal. -/
def jD (i : grid0.Coords) (r : Fin 4) : Fin 16 := ⟨4 * (i 1).val + r.val, by have h : (i 1).val < 4 := (i 1).isLt; omega⟩

/-- Where the diagonal's rows of number `r` lie. -/
abbrev rect5 (i : grid0.Coords) (r : Fin 4) : Rect S2048x128 :=
  Rect.unit (s := S2048x128) (k0_off5 i (BitVec.ofNat 32 r.val)) S128x128.size (k0_off5_inb i r)

/-- Where the diagonal's block of number `r` lies. -/
abbrev rect6 (i : grid0.Coords) (r : Fin 4) : Rect S1x1x16x512x128 :=
  Rect.unit (s := S1x1x16x512x128) (k0_off6 i (BitVec.ofNat 32 r.val)) S1x1x1x512x128.size (k0_off6_inb i r)

/-- Where the rows of a diagonal block lie. -/
theorem off5_row (i : grid0.Coords) (r : Fin 4) : k0_off5 i (BitVec.ofNat 32 r.val) = ![128 * (jD i r).val, 0] :=
  (k0_off5_eq i r).trans (by
    have e : 512 * (i 1).val + 128 * r.val = 128 * (jD i r).val := by show _ = 128 * (4 * (i 1).val + r.val); omega
    rw [e])

/-- Reading a diagonal block's rows. -/
theorem ld5 (i : grid0.Coords) (r : Fin 4) (v : View sig .tc .vmem S2048x128 .f32) (f : v.ty.Contents (Elt F)) :
    v.readAt (Elt F) (rect5 i r).toLoadRect f = rows (v.read (Elt F) f) (jD i r) :=
  View.readAt_unit v f _ (off5_row i r) _

/-- Reading a diagonal block's tile. -/
theorem ld6 (i : grid0.Coords) (r : Fin 4) (v : View sig .tc .vmem S1x1x16x512x128 .bf16) (f : v.ty.Contents (Elt F)) :
    v.readAt (Elt F) (rect6 i r).toLoadRect f = blk (v.read (Elt F) f) (jD i r) :=
  View.readAt_unit v f _ (k0_off6_eq i r) _

/-- Writing a diagonal block's rows. -/
theorem st5 (i : grid0.Coords) (r : Fin 4) (v : View sig .tc .vmem S2048x128 .f32) (f : v.ty.Contents (Elt F)) (w : Vec F S128x128 .f32) (L : List (View.Piece (Elt F) S2048x128 .f32)) :
    v.read (Elt F) (v.writes (Elt F) f (⟨rect5 i r, w⟩ :: L)) = putRows (v.read (Elt F) (v.writes (Elt F) f L)) (jD i r) w :=
  View.read_writes_cons_put v f _ w L (off5_row i r)

/-- Reading a whole block of rows. -/
theorem ld_covAll (v : View sig .tc .vmem S512x128 .f32) (L : List (View.Piece (Elt F) S512x128 .f32)) :
    v.readCov L rectW.toLoadRect = v.read (Elt F) (v.writes (Elt F) v.junk L) :=
  View.readAt_full v _ _

/-- Writing the whole array of the keys. -/
theorem st_keys (v : View sig .tc .vmem S2048x128 .f32) (f : v.ty.Contents (Elt F)) (w : Vec F S2048x128 .f32) (L : List (View.Piece (Elt F) S2048x128 .f32)) :
    v.read (Elt F) (v.writes (Elt F) f (⟨Rect.unit (s := S2048x128) ![0, 0] S2048x128.size inb_S2048x128_S2048x128_0_0, w⟩ :: L)) = w :=
  View.read_writes_full v f _ w L

/-- The state of a grid point after the key blocks before number `n`. -/
def runSt (x0 : Vec F S512x128 .f32) (x1 x2 : Vec F S2048x128 .f32) (x3 : Vec F S512x128 .f32) (x4 x5 : Vec F S1x1x16x512x128 .bf16) (dk dv : Vec F S2048x128 .f32) (n : ℕ) : St F :=
  steps (k0_pay92 x0) (k0_pay93 x3) k0_pay96 x1 x2 x4 x5 ⟨dk, dv, k0_pay94, k0_pay95⟩ n

/-- The second loop stores nothing. -/
theorem pb2_nil (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S512x128 .f32) (harg5 : arg5.IsWhole) (arg6 : Memref sig .tc .vmem S1x1x16x512x128 .bf16) (harg6 : arg6.IsWhole) (arg7 : Memref sig .tc .vmem S1x1x16x512x128 .bf16) (harg7 : arg7.IsWhole) (arg8 : Memref sig .tc .vmem S512x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S512x128 .f32) (harg11 : arg11.IsWhole) (arg12 : Memref sig .tc .vmem S512x128 .f32) (harg12 : arg12.IsWhole) (v4 v6 v25 v26 v31 c1 X3 X4 X6 X7 G9 G10 G11 G12) :
    pb_k0_t2 (F := F) Variants.none c none i arg2 harg2 arg3 harg3 arg4 harg4 arg5 harg5 arg6 harg6 arg7 harg7 arg8 harg8 arg9 harg9 arg10 harg10 arg11 harg11 arg12 harg12 v4 v6 v25 v26 v31 c1 X3 X4 X6 X7 G9 G10 G11 G12 (Scf.trips (k0_t2_loop i).lb (k0_t2_loop i).ub (k0_t2_loop i).st) = ([], [], [], []) := by
  rw [trips2 i]; rfl

/-- The second loop leaves the keys' gradient as it was. -/
theorem pb2_dk (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S512x128 .f32) (harg5 : arg5.IsWhole) (arg6 : Memref sig .tc .vmem S1x1x16x512x128 .bf16) (harg6 : arg6.IsWhole) (arg7 : Memref sig .tc .vmem S1x1x16x512x128 .bf16) (harg7 : arg7.IsWhole) (arg8 : Memref sig .tc .vmem S512x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S512x128 .f32) (harg11 : arg11.IsWhole) (arg12 : Memref sig .tc .vmem S512x128 .f32) (harg12 : arg12.IsWhole) (v4 v6 v25 v26 v31 c1 X3 X4 X6 X7 G9 G10 G11 G12) :
    (pb_k0_t2 (F := F) Variants.none c none i arg2 harg2 arg3 harg3 arg4 harg4 arg5 harg5 arg6 harg6 arg7 harg7 arg8 harg8 arg9 harg9 arg10 harg10 arg11 harg11 arg12 harg12 v4 v6 v25 v26 v31 c1 X3 X4 X6 X7 G9 G10 G11 G12 (Scf.trips (k0_t2_loop i).lb (k0_t2_loop i).ub (k0_t2_loop i).st)).1 = [] := by
  rw [pb2_nil]

/-- The second loop leaves the values' gradient as it was. -/
theorem pb2_dv (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S512x128 .f32) (harg5 : arg5.IsWhole) (arg6 : Memref sig .tc .vmem S1x1x16x512x128 .bf16) (harg6 : arg6.IsWhole) (arg7 : Memref sig .tc .vmem S1x1x16x512x128 .bf16) (harg7 : arg7.IsWhole) (arg8 : Memref sig .tc .vmem S512x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S512x128 .f32) (harg11 : arg11.IsWhole) (arg12 : Memref sig .tc .vmem S512x128 .f32) (harg12 : arg12.IsWhole) (v4 v6 v25 v26 v31 c1 X3 X4 X6 X7 G9 G10 G11 G12) :
    (pb_k0_t2 (F := F) Variants.none c none i arg2 harg2 arg3 harg3 arg4 harg4 arg5 harg5 arg6 harg6 arg7 harg7 arg8 harg8 arg9 harg9 arg10 harg10 arg11 harg11 arg12 harg12 v4 v6 v25 v26 v31 c1 X3 X4 X6 X7 G9 G10 G11 G12 (Scf.trips (k0_t2_loop i).lb (k0_t2_loop i).ub (k0_t2_loop i).st)).2.1 = [] := by
  rw [pb2_nil]

/-- The second loop leaves the running sum as it was. -/
theorem pb2_run (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S512x128 .f32) (harg5 : arg5.IsWhole) (arg6 : Memref sig .tc .vmem S1x1x16x512x128 .bf16) (harg6 : arg6.IsWhole) (arg7 : Memref sig .tc .vmem S1x1x16x512x128 .bf16) (harg7 : arg7.IsWhole) (arg8 : Memref sig .tc .vmem S512x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S512x128 .f32) (harg11 : arg11.IsWhole) (arg12 : Memref sig .tc .vmem S512x128 .f32) (harg12 : arg12.IsWhole) (v4 v6 v25 v26 v31 c1 X3 X4 X6 X7 G9 G10 G11 G12) :
    (pb_k0_t2 (F := F) Variants.none c none i arg2 harg2 arg3 harg3 arg4 harg4 arg5 harg5 arg6 harg6 arg7 harg7 arg8 harg8 arg9 harg9 arg10 harg10 arg11 harg11 arg12 harg12 v4 v6 v25 v26 v31 c1 X3 X4 X6 X7 G9 G10 G11 G12 (Scf.trips (k0_t2_loop i).lb (k0_t2_loop i).ub (k0_t2_loop i).st)).2.2.1 = [] := by
  rw [pb2_nil]

/-- The second loop leaves the queries' gradient as it was. -/
theorem pb2_acc (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S512x128 .f32) (harg5 : arg5.IsWhole) (arg6 : Memref sig .tc .vmem S1x1x16x512x128 .bf16) (harg6 : arg6.IsWhole) (arg7 : Memref sig .tc .vmem S1x1x16x512x128 .bf16) (harg7 : arg7.IsWhole) (arg8 : Memref sig .tc .vmem S512x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S512x128 .f32) (harg11 : arg11.IsWhole) (arg12 : Memref sig .tc .vmem S512x128 .f32) (harg12 : arg12.IsWhole) (v4 v6 v25 v26 v31 c1 X3 X4 X6 X7 G9 G10 G11 G12) :
    (pb_k0_t2 (F := F) Variants.none c none i arg2 harg2 arg3 harg3 arg4 harg4 arg5 harg5 arg6 harg6 arg7 harg7 arg8 harg8 arg9 harg9 arg10 harg10 arg11 harg11 arg12 harg12 v4 v6 v25 v26 v31 c1 X3 X4 X6 X7 G9 G10 G11 G12 (Scf.trips (k0_t2_loop i).lb (k0_t2_loop i).ub (k0_t2_loop i).st)).2.2.2 = [] := by
  rw [pb2_nil]

/-- Reading the rows of the first diagonal block. -/
theorem ld5_0 (i : grid0.Coords) (v : View sig .tc .vmem S2048x128 .f32) (f : v.ty.Contents (Elt F)) (h) :
    v.readAt (Elt F) (Rect.unit (s := S2048x128) (k0_off5 i 0#32) S128x128.size h).toLoadRect f = rows (v.read (Elt F) f) (jD i 0) := ld5 i 0 v f

/-- Reading the tile of the first diagonal block. -/
theorem ld6_0 (i : grid0.Coords) (v : View sig .tc .vmem S1x1x16x512x128 .bf16) (f : v.ty.Contents (Elt F)) (h) :
    v.readAt (Elt F) (Rect.unit (s := S1x1x16x512x128) (k0_off6 i 0#32) S1x1x1x512x128.size h).toLoadRect f = blk (v.read (Elt F) f) (jD i 0) := ld6 i 0 v f

/-- Reading the rows of the second diagonal block. -/
theorem ld5_1 (i : grid0.Coords) (v : View sig .tc .vmem S2048x128 .f32) (f : v.ty.Contents (Elt F)) (h) :
    v.readAt (Elt F) (Rect.unit (s := S2048x128) (k0_off5 i 1#32) S128x128.size h).toLoadRect f = rows (v.read (Elt F) f) (jD i 1) := ld5 i 1 v f

/-- Reading the tile of the second diagonal block. -/
theorem ld6_1 (i : grid0.Coords) (v : View sig .tc .vmem S1x1x16x512x128 .bf16) (f : v.ty.Contents (Elt F)) (h) :
    v.readAt (Elt F) (Rect.unit (s := S1x1x16x512x128) (k0_off6 i 1#32) S1x1x1x512x128.size h).toLoadRect f = blk (v.read (Elt F) f) (jD i 1) := ld6 i 1 v f

/-- Reading the rows of the third diagonal block. -/
theorem ld5_2 (i : grid0.Coords) (v : View sig .tc .vmem S2048x128 .f32) (f : v.ty.Contents (Elt F)) (h) :
    v.readAt (Elt F) (Rect.unit (s := S2048x128) (k0_off5 i 2#32) S128x128.size h).toLoadRect f = rows (v.read (Elt F) f) (jD i 2) := ld5 i 2 v f

/-- Reading the tile of the third diagonal block. -/
theorem ld6_2 (i : grid0.Coords) (v : View sig .tc .vmem S1x1x16x512x128 .bf16) (f : v.ty.Contents (Elt F)) (h) :
    v.readAt (Elt F) (Rect.unit (s := S1x1x16x512x128) (k0_off6 i 2#32) S1x1x1x512x128.size h).toLoadRect f = blk (v.read (Elt F) f) (jD i 2) := ld6 i 2 v f

/-- Reading the rows of the fourth diagonal block. -/
theorem ld5_3 (i : grid0.Coords) (v : View sig .tc .vmem S2048x128 .f32) (f : v.ty.Contents (Elt F)) (h) :
    v.readAt (Elt F) (Rect.unit (s := S2048x128) (k0_off5 i 3#32) S128x128.size h).toLoadRect f = rows (v.read (Elt F) f) (jD i 3) := ld5 i 3 v f

/-- Reading the tile of the fourth diagonal block. -/
theorem ld6_3 (i : grid0.Coords) (v : View sig .tc .vmem S1x1x16x512x128 .bf16) (f : v.ty.Contents (Elt F)) (h) :
    v.readAt (Elt F) (Rect.unit (s := S1x1x16x512x128) (k0_off6 i 3#32) S1x1x1x512x128.size h).toLoadRect f = blk (v.read (Elt F) f) (jD i 3) := ld6 i 3 v f

section

variable (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S512x128 .f32) (harg5 : arg5.IsWhole) (arg6 : Memref sig .tc .vmem S1x1x16x512x128 .bf16) (harg6 : arg6.IsWhole) (arg7 : Memref sig .tc .vmem S1x1x16x512x128 .bf16) (harg7 : arg7.IsWhole) (arg8 : Memref sig .tc .vmem S512x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S512x128 .f32) (harg11 : arg11.IsWhole) (arg12 : Memref sig .tc .vmem S512x128 .f32) (harg12 : arg12.IsWhole)

/-- What the first loop leaves in the keys' gradient. -/
theorem loop_dk (v3 v5 X3 X4 X6 X7 G9 G10 G11 G12) : arg9.view.read (Elt F) (arg9.view.writes (Elt F) G9 (pb_k0_t1 (F := F) Variants.none c none i arg2 harg2 arg3 harg3 arg4 harg4 arg5 harg5 arg6 harg6 arg7 harg7 arg8 harg8 arg9 harg9 arg10 harg10 arg11 harg11 arg12 harg12 v3 v5 X3 X4 X6 X7 G9 G10 G11 G12 (Scf.trips (k0_t1_loop i).lb (k0_t1_loop i).ub (k0_t1_loop i).st)).1) = (steps (k0_pay92 v3) (k0_pay93 v5) k0_pay96 (arg3.view.read (Elt F) X3) (arg4.view.read (Elt F) X4) (arg6.view.read (Elt F) X6) (arg7.view.read (Elt F) X7) ⟨arg9.view.read (Elt F) G9, arg10.view.read (Elt F) G10, arg11.view.read (Elt F) G11, arg12.view.read (Elt F) G12⟩ (4 * (i 1).val)).dk := by
  rw [← trips1 i]; exact congrArg St.dk (loop_st Variants.none c none i arg2 harg2 arg3 harg3 arg4 harg4 arg5 harg5 arg6 harg6 arg7 harg7 arg8 harg8 arg9 harg9 arg10 harg10 arg11 harg11 arg12 harg12 v3 v5 X3 X4 X6 X7 G9 G10 G11 G12 _ le_rfl)

/-- What the first loop leaves in the values' gradient. -/
theorem loop_dv (v3 v5 X3 X4 X6 X7 G9 G10 G11 G12) : arg10.view.read (Elt F) (arg10.view.writes (Elt F) G10 (pb_k0_t1 (F := F) Variants.none c none i arg2 harg2 arg3 harg3 arg4 harg4 arg5 harg5 arg6 harg6 arg7 harg7 arg8 harg8 arg9 harg9 arg10 harg10 arg11 harg11 arg12 harg12 v3 v5 X3 X4 X6 X7 G9 G10 G11 G12 (Scf.trips (k0_t1_loop i).lb (k0_t1_loop i).ub (k0_t1_loop i).st)).2.1) = (steps (k0_pay92 v3) (k0_pay93 v5) k0_pay96 (arg3.view.read (Elt F) X3) (arg4.view.read (Elt F) X4) (arg6.view.read (Elt F) X6) (arg7.view.read (Elt F) X7) ⟨arg9.view.read (Elt F) G9, arg10.view.read (Elt F) G10, arg11.view.read (Elt F) G11, arg12.view.read (Elt F) G12⟩ (4 * (i 1).val)).dv := by
  rw [← trips1 i]; exact congrArg St.dv (loop_st Variants.none c none i arg2 harg2 arg3 harg3 arg4 harg4 arg5 harg5 arg6 harg6 arg7 harg7 arg8 harg8 arg9 harg9 arg10 harg10 arg11 harg11 arg12 harg12 v3 v5 X3 X4 X6 X7 G9 G10 G11 G12 _ le_rfl)

/-- What the first loop leaves in the running sum. -/
theorem loop_run (v3 v5 X3 X4 X6 X7 G9 G10 G11 G12) : arg11.view.read (Elt F) (arg11.view.writes (Elt F) G11 (pb_k0_t1 (F := F) Variants.none c none i arg2 harg2 arg3 harg3 arg4 harg4 arg5 harg5 arg6 harg6 arg7 harg7 arg8 harg8 arg9 harg9 arg10 harg10 arg11 harg11 arg12 harg12 v3 v5 X3 X4 X6 X7 G9 G10 G11 G12 (Scf.trips (k0_t1_loop i).lb (k0_t1_loop i).ub (k0_t1_loop i).st)).2.2.1) = (steps (k0_pay92 v3) (k0_pay93 v5) k0_pay96 (arg3.view.read (Elt F) X3) (arg4.view.read (Elt F) X4) (arg6.view.read (Elt F) X6) (arg7.view.read (Elt F) X7) ⟨arg9.view.read (Elt F) G9, arg10.view.read (Elt F) G10, arg11.view.read (Elt F) G11, arg12.view.read (Elt F) G12⟩ (4 * (i 1).val)).run := by
  rw [← trips1 i]; exact congrArg St.run (loop_st Variants.none c none i arg2 harg2 arg3 harg3 arg4 harg4 arg5 harg5 arg6 harg6 arg7 harg7 arg8 harg8 arg9 harg9 arg10 harg10 arg11 harg11 arg12 harg12 v3 v5 X3 X4 X6 X7 G9 G10 G11 G12 _ le_rfl)

/-- What the first loop leaves in the queries' gradient. -/
theorem loop_acc (v3 v5 X3 X4 X6 X7 G9 G10 G11 G12) : arg12.view.read (Elt F) (arg12.view.writes (Elt F) G12 (pb_k0_t1 (F := F) Variants.none c none i arg2 harg2 arg3 harg3 arg4 harg4 arg5 harg5 arg6 harg6 arg7 harg7 arg8 harg8 arg9 harg9 arg10 harg10 arg11 harg11 arg12 harg12 v3 v5 X3 X4 X6 X7 G9 G10 G11 G12 (Scf.trips (k0_t1_loop i).lb (k0_t1_loop i).ub (k0_t1_loop i).st)).2.2.2) = (steps (k0_pay92 v3) (k0_pay93 v5) k0_pay96 (arg3.view.read (Elt F) X3) (arg4.view.read (Elt F) X4) (arg6.view.read (Elt F) X6) (arg7.view.read (Elt F) X7) ⟨arg9.view.read (Elt F) G9, arg10.view.read (Elt F) G10, arg11.view.read (Elt F) G11, arg12.view.read (Elt F) G12⟩ (4 * (i 1).val)).acc := by
  rw [← trips1 i]; exact congrArg St.acc (loop_st Variants.none c none i arg2 harg2 arg3 harg3 arg4 harg4 arg5 harg5 arg6 harg6 arg7 harg7 arg8 harg8 arg9 harg9 arg10 harg10 arg11 harg11 arg12 harg12 v3 v5 X3 X4 X6 X7 G9 G10 G11 G12 _ le_rfl)

end

section

variable (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S512x128 .f32) (harg5 : arg5.IsWhole) (arg6 : Memref sig .tc .vmem S1x1x16x512x128 .bf16) (harg6 : arg6.IsWhole) (arg7 : Memref sig .tc .vmem S1x1x16x512x128 .bf16) (harg7 : arg7.IsWhole) (arg8 : Memref sig .tc .vmem S512x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S512x128 .f32) (harg11 : arg11.IsWhole) (arg12 : Memref sig .tc .vmem S512x128 .f32) (harg12 : arg12.IsWhole) (x0 : Vec F S512x128 .f32) (x1 x2 : Vec F S2048x128 .f32) (x3 : Vec F S512x128 .f32) (x4 x5 : Vec F S1x1x16x512x128 .bf16) (xo7 xo8 : Vec F S2048x128 .f32)

/-- A later point of a head: the values' gradient as read before the first diagonal block. -/
theorem b_v48 : (kernelRun0_B.sl.v48 (F := F) c i arg2 harg2 arg3 harg3 arg4 harg4 arg5 harg5 arg6 harg6 arg7 harg7 arg8 harg8 arg9 harg9 arg10 harg10 arg11 harg11 arg12 harg12 x0 x1 x2 x3 x4 x5 xo7 xo8) = rows (runSt x0 x1 x2 x3 x4 x5 xo7 xo8 (4 * (i 1).val + 0)).dv (jD i 0) := by
  unfold kernelRun0_B.sl.v48
  refine (ld5 i 0 _ _).trans ?_
  rw [pb2_dv, List.nil_append, loop_dv]
  simp -proj only [kernelRun0_B.sl.HS0_1, kernelRun0_B.sl.HS1_1, kernelRun0_B.sl.r, kernelRun0_B.sl.r_1, st_whole, st_keys, ld_whole, harg2.read_unread, harg3.read_unread, harg4.read_unread, harg5.read_unread, harg6.read_unread, harg7.read_unread, harg9.read_unread, harg10.read_unread]
  rfl

/-- A later point of a head: the running sum as read before the first diagonal block. -/
theorem b_v60 : (kernelRun0_B.sl.v60 (F := F) c i arg2 harg2 arg3 harg3 arg4 harg4 arg5 harg5 arg6 harg6 arg7 harg7 arg8 harg8 arg9 harg9 arg10 harg10 arg11 harg11 arg12 harg12 x0 x1 x2 x3 x4 x5 xo7 xo8) = (runSt x0 x1 x2 x3 x4 x5 xo7 xo8 (4 * (i 1).val + 0)).run := by
  unfold kernelRun0_B.sl.v60
  refine (ld_covAll _ _).trans ?_
  rw [pb2_run, List.nil_append, View.writes_append, loop_run]
  simp -proj only [kernelRun0_B.sl.HS0_1, kernelRun0_B.sl.HS1_1, kernelRun0_B.sl.r, kernelRun0_B.sl.r_1, st_whole, st_keys, ld_whole, harg2.read_unread, harg3.read_unread, harg4.read_unread, harg5.read_unread, harg6.read_unread, harg7.read_unread, harg9.read_unread, harg10.read_unread]
  rfl

/-- A later point of a head: the keys' gradient as read before the first diagonal block. -/
theorem b_v72 : (kernelRun0_B.sl.v72 (F := F) c i arg2 harg2 arg3 harg3 arg4 harg4 arg5 harg5 arg6 harg6 arg7 harg7 arg8 harg8 arg9 harg9 arg10 harg10 arg11 harg11 arg12 harg12 x0 x1 x2 x3 x4 x5 xo7 xo8) = rows (runSt x0 x1 x2 x3 x4 x5 xo7 xo8 (4 * (i 1).val + 0)).dk (jD i 0) := by
  unfold kernelRun0_B.sl.v72
  refine (ld5 i 0 _ _).trans ?_
  rw [pb2_dk, List.nil_append, loop_dk]
  simp -proj only [kernelRun0_B.sl.HS0_1, kernelRun0_B.sl.HS1_1, kernelRun0_B.sl.r, kernelRun0_B.sl.r_1, st_whole, st_keys, ld_whole, harg2.read_unread, harg3.read_unread, harg4.read_unread, harg5.read_unread, harg6.read_unread, harg7.read_unread, harg9.read_unread, harg10.read_unread]
  rfl

/-- A later point of a head: the queries' gradient as read before the first diagonal block. -/
theorem b_v78 : (kernelRun0_B.sl.v78 (F := F) c i arg2 harg2 arg3 harg3 arg4 harg4 arg5 harg5 arg6 harg6 arg7 harg7 arg8 harg8 arg9 harg9 arg10 harg10 arg11 harg11 arg12 harg12 x0 x1 x2 x3 x4 x5 xo7 xo8) = (runSt x0 x1 x2 x3 x4 x5 xo7 xo8 (4 * (i 1).val + 0)).acc := by
  unfold kernelRun0_B.sl.v78
  refine (ld_covAll _ _).trans ?_
  rw [pb2_acc, List.nil_append, View.writes_append, loop_acc]
  simp -proj only [kernelRun0_B.sl.HS0_1, kernelRun0_B.sl.HS1_1, kernelRun0_B.sl.r, kernelRun0_B.sl.r_1, st_whole, st_keys, ld_whole, harg2.read_unread, harg3.read_unread, harg4.read_unread, harg5.read_unread, harg6.read_unread, harg7.read_unread, harg9.read_unread, harg10.read_unread]
  rfl

/-- A later point of a head: the values' gradient after the first diagonal block. -/
theorem b_dv1 : arg10.view.read (Elt F) (arg10.view.writes (Elt F) (harg10.unread xo8) (kernelRun0_B.sl.H8_1 (F := F) c i arg2 harg2 arg3 harg3 arg4 harg4 arg5 harg5 arg6 harg6 arg7 harg7 arg8 harg8 arg9 harg9 arg10 harg10 arg11 harg11 arg12 harg12 x0 x1 x2 x3 x4 x5 xo7 xo8)) = (runSt x0 x1 x2 x3 x4 x5 xo7 xo8 (4 * (i 1).val + 1)).dv := by
  unfold kernelRun0_B.sl.H8_1
  refine (st5 i 0 _ _ _ _).trans ?_
  rw [pb2_dv, List.nil_append, loop_dv]
  simp -proj only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_3, kernelRun0_B.sl.r_4, kernelRun0_B.sl.r_5, kernelRun0_B.sl.r_6, kernelRun0_B.sl.r_7, kernelRun0_B.sl.r_9, kernelRun0_B.sl.r_8, b_v48, b_v60, b_v72, b_v78, ld5_0, ld6_0, harg2.read_unread, harg3.read_unread, harg4.read_unread, harg5.read_unread, harg6.read_unread, harg7.read_unread, kernelRun0_B.sl.HS0_1, kernelRun0_B.sl.HS1_1, st_whole, st_keys, harg9.read_unread, harg10.read_unread, ld_whole]
  rw [show (runSt x0 x1 x2 x3 x4 x5 xo7 xo8 (4 * (i 1).val + 1)) = step (k0_pay92 x0) (k0_pay93 x3) k0_pay96 x1 x2 x4 x5 (jD i 0) (runSt x0 x1 x2 x3 x4 x5 xo7 xo8 (4 * (i 1).val + 0)) from steps_succ _ _ _ _ _ _ _ _ (jD i 0).isLt]
  rfl

/-- A later point of a head: the keys' gradient after the first diagonal block. -/
theorem b_dk1 : arg9.view.read (Elt F) (arg9.view.writes (Elt F) (harg9.unread xo7) (kernelRun0_B.sl.H7_1 (F := F) c i arg2 harg2 arg3 harg3 arg4 harg4 arg5 harg5 arg6 harg6 arg7 harg7 arg8 harg8 arg9 harg9 arg10 harg10 arg11 harg11 arg12 harg12 x0 x1 x2 x3 x4 x5 xo7 xo8)) = (runSt x0 x1 x2 x3 x4 x5 xo7 xo8 (4 * (i 1).val + 1)).dk := by
  unfold kernelRun0_B.sl.H7_1
  refine (st5 i 0 _ _ _ _).trans ?_
  rw [pb2_dk, List.nil_append, loop_dk]
  simp -proj only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_3, kernelRun0_B.sl.r_4, kernelRun0_B.sl.r_5, kernelRun0_B.sl.r_6, kernelRun0_B.sl.r_7, kernelRun0_B.sl.r_9, kernelRun0_B.sl.r_8, b_v48, b_v60, b_v72, b_v78, ld5_0, ld6_0, harg2.read_unread, harg3.read_unread, harg4.read_unread, harg5.read_unread, harg6.read_unread, harg7.read_unread, kernelRun0_B.sl.HS0_1, kernelRun0_B.sl.HS1_1, st_whole, st_keys, harg9.read_unread, harg10.read_unread, ld_whole]
  rw [show (runSt x0 x1 x2 x3 x4 x5 xo7 xo8 (4 * (i 1).val + 1)) = step (k0_pay92 x0) (k0_pay93 x3) k0_pay96 x1 x2 x4 x5 (jD i 0) (runSt x0 x1 x2 x3 x4 x5 xo7 xo8 (4 * (i 1).val + 0)) from steps_succ _ _ _ _ _ _ _ _ (jD i 0).isLt]
  rfl

/-- A later point of a head: the running sum after the first diagonal block. -/
theorem b_run1 : arg11.view.read (Elt F) (arg11.view.writes (Elt F) arg11.view.junk (kernelRun0_B.sl.HS0_1_1 (F := F) c i arg2 harg2 arg3 harg3 arg4 harg4 arg5 harg5 arg6 harg6 arg7 harg7 arg8 harg8 arg9 harg9 arg10 harg10 arg11 harg11 arg12 harg12 x0 x1 x2 x3 x4 x5 xo7 xo8)) = (runSt x0 x1 x2 x3 x4 x5 xo7 xo8 (4 * (i 1).val + 1)).run := by
  unfold kernelRun0_B.sl.HS0_1_1
  refine (st_whole _ _ _ _).trans ?_
  simp -proj only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_3, kernelRun0_B.sl.r_4, kernelRun0_B.sl.r_5, kernelRun0_B.sl.r_6, kernelRun0_B.sl.r_7, kernelRun0_B.sl.r_9, kernelRun0_B.sl.r_8, b_v48, b_v60, b_v72, b_v78, ld5_0, ld6_0, harg2.read_unread, harg3.read_unread, harg4.read_unread, harg5.read_unread, harg6.read_unread, harg7.read_unread, kernelRun0_B.sl.HS0_1, kernelRun0_B.sl.HS1_1, st_whole, st_keys, harg9.read_unread, harg10.read_unread, ld_whole]
  rw [show (runSt x0 x1 x2 x3 x4 x5 xo7 xo8 (4 * (i 1).val + 1)) = step (k0_pay92 x0) (k0_pay93 x3) k0_pay96 x1 x2 x4 x5 (jD i 0) (runSt x0 x1 x2 x3 x4 x5 xo7 xo8 (4 * (i 1).val + 0)) from steps_succ _ _ _ _ _ _ _ _ (jD i 0).isLt]
  rfl

/-- A later point of a head: the queries' gradient after the first diagonal block. -/
theorem b_acc1 : arg12.view.read (Elt F) (arg12.view.writes (Elt F) arg12.view.junk (kernelRun0_B.sl.HS1_1_1 (F := F) c i arg2 harg2 arg3 harg3 arg4 harg4 arg5 harg5 arg6 harg6 arg7 harg7 arg8 harg8 arg9 harg9 arg10 harg10 arg11 harg11 arg12 harg12 x0 x1 x2 x3 x4 x5 xo7 xo8)) = (runSt x0 x1 x2 x3 x4 x5 xo7 xo8 (4 * (i 1).val + 1)).acc := by
  unfold kernelRun0_B.sl.HS1_1_1
  refine (st_whole _ _ _ _).trans ?_
  simp -proj only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_3, kernelRun0_B.sl.r_4, kernelRun0_B.sl.r_5, kernelRun0_B.sl.r_6, kernelRun0_B.sl.r_7, kernelRun0_B.sl.r_9, kernelRun0_B.sl.r_8, b_v48, b_v60, b_v72, b_v78, ld5_0, ld6_0, harg2.read_unread, harg3.read_unread, harg4.read_unread, harg5.read_unread, harg6.read_unread, harg7.read_unread, kernelRun0_B.sl.HS0_1, kernelRun0_B.sl.HS1_1, st_whole, st_keys, harg9.read_unread, harg10.read_unread, ld_whole]
  rw [show (runSt x0 x1 x2 x3 x4 x5 xo7 xo8 (4 * (i 1).val + 1)) = step (k0_pay92 x0) (k0_pay93 x3) k0_pay96 x1 x2 x4 x5 (jD i 0) (runSt x0 x1 x2 x3 x4 x5 xo7 xo8 (4 * (i 1).val + 0)) from steps_succ _ _ _ _ _ _ _ _ (jD i 0).isLt]
  rfl

/-- A later point of a head: the running sum as read after the first diagonal block. -/
theorem b_v117 : (kernelRun0_B.sl.v117 (F := F) c i arg2 harg2 arg3 harg3 arg4 harg4 arg5 harg5 arg6 harg6 arg7 harg7 arg8 harg8 arg9 harg9 arg10 harg10 arg11 harg11 arg12 harg12 x0 x1 x2 x3 x4 x5 xo7 xo8) = (runSt x0 x1 x2 x3 x4 x5 xo7 xo8 (4 * (i 1).val + 1)).run := by
  unfold kernelRun0_B.sl.v117
  exact (ld_covAll _ _).trans (b_run1 c i arg2 harg2 arg3 harg3 arg4 harg4 arg5 harg5 arg6 harg6 arg7 harg7 arg8 harg8 arg9 harg9 arg10 harg10 arg11 harg11 arg12 harg12 x0 x1 x2 x3 x4 x5 xo7 xo8)

/-- A later point of a head: the queries' gradient as read after the first diagonal block. -/
theorem b_v135 : (kernelRun0_B.sl.v135 (F := F) c i arg2 harg2 arg3 harg3 arg4 harg4 arg5 harg5 arg6 harg6 arg7 harg7 arg8 harg8 arg9 harg9 arg10 harg10 arg11 harg11 arg12 harg12 x0 x1 x2 x3 x4 x5 xo7 xo8) = (runSt x0 x1 x2 x3 x4 x5 xo7 xo8 (4 * (i 1).val + 1)).acc := by
  unfold kernelRun0_B.sl.v135
  exact (ld_covAll _ _).trans (b_acc1 c i arg2 harg2 arg3 harg3 arg4 harg4 arg5 harg5 arg6 harg6 arg7 harg7 arg8 harg8 arg9 harg9 arg10 harg10 arg11 harg11 arg12 harg12 x0 x1 x2 x3 x4 x5 xo7 xo8)

/-- A later point of a head: the values' gradient after the second diagonal block. -/
theorem b_dv2 : arg10.view.read (Elt F) (arg10.view.writes (Elt F) (harg10.unread xo8) (kernelRun0_B.sl.H8_2 (F := F) c i arg2 harg2 arg3 harg3 arg4 harg4 arg5 harg5 arg6 harg6 arg7 harg7 arg8 harg8 arg9 harg9 arg10 harg10 arg11 harg11 arg12 harg12 x0 x1 x2 x3 x4 x5 xo7 xo8)) = (runSt x0 x1 x2 x3 x4 x5 xo7 xo8 (4 * (i 1).val + 2)).dv := by
  unfold kernelRun0_B.sl.H8_2
  refine (st5 i 1 _ _ _ _).trans ?_
  rw [b_dv1 c i arg2 harg2 arg3 harg3 arg4 harg4 arg5 harg5 arg6 harg6 arg7 harg7 arg8 harg8 arg9 harg9 arg10 harg10 arg11 harg11 arg12 harg12 x0 x1 x2 x3 x4 x5 xo7 xo8]
  simp -proj only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_3, kernelRun0_B.sl.r_4, kernelRun0_B.sl.r_5, kernelRun0_B.sl.r_6, kernelRun0_B.sl.r_7, kernelRun0_B.sl.r_9, kernelRun0_B.sl.r_8, b_v117, b_v135, ld5_1, ld6_1, harg2.read_unread, harg3.read_unread, harg4.read_unread, harg5.read_unread, harg6.read_unread, harg7.read_unread, b_dk1, b_dv1, ld_whole]
  rw [show (runSt x0 x1 x2 x3 x4 x5 xo7 xo8 (4 * (i 1).val + 2)) = step (k0_pay92 x0) (k0_pay93 x3) k0_pay96 x1 x2 x4 x5 (jD i 1) (runSt x0 x1 x2 x3 x4 x5 xo7 xo8 (4 * (i 1).val + 1)) from steps_succ _ _ _ _ _ _ _ _ (jD i 1).isLt]
  rfl

/-- A later point of a head: the keys' gradient after the second diagonal block. -/
theorem b_dk2 : arg9.view.read (Elt F) (arg9.view.writes (Elt F) (harg9.unread xo7) (kernelRun0_B.sl.H7_2 (F := F) c i arg2 harg2 arg3 harg3 arg4 harg4 arg5 harg5 arg6 harg6 arg7 harg7 arg8 harg8 arg9 harg9 arg10 harg10 arg11 harg11 arg12 harg12 x0 x1 x2 x3 x4 x5 xo7 xo8)) = (runSt x0 x1 x2 x3 x4 x5 xo7 xo8 (4 * (i 1).val + 2)).dk := by
  unfold kernelRun0_B.sl.H7_2
  refine (st5 i 1 _ _ _ _).trans ?_
  rw [b_dk1 c i arg2 harg2 arg3 harg3 arg4 harg4 arg5 harg5 arg6 harg6 arg7 harg7 arg8 harg8 arg9 harg9 arg10 harg10 arg11 harg11 arg12 harg12 x0 x1 x2 x3 x4 x5 xo7 xo8]
  simp -proj only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_3, kernelRun0_B.sl.r_4, kernelRun0_B.sl.r_5, kernelRun0_B.sl.r_6, kernelRun0_B.sl.r_7, kernelRun0_B.sl.r_9, kernelRun0_B.sl.r_8, b_v117, b_v135, ld5_1, ld6_1, harg2.read_unread, harg3.read_unread, harg4.read_unread, harg5.read_unread, harg6.read_unread, harg7.read_unread, b_dk1, b_dv1, ld_whole]
  rw [show (runSt x0 x1 x2 x3 x4 x5 xo7 xo8 (4 * (i 1).val + 2)) = step (k0_pay92 x0) (k0_pay93 x3) k0_pay96 x1 x2 x4 x5 (jD i 1) (runSt x0 x1 x2 x3 x4 x5 xo7 xo8 (4 * (i 1).val + 1)) from steps_succ _ _ _ _ _ _ _ _ (jD i 1).isLt]
  rfl

/-- A later point of a head: the running sum after the second diagonal block. -/
theorem b_run2 : arg11.view.read (Elt F) (arg11.view.writes (Elt F) arg11.view.junk (kernelRun0_B.sl.HS0_2 (F := F) c i arg2 harg2 arg3 harg3 arg4 harg4 arg5 harg5 arg6 harg6 arg7 harg7 arg8 harg8 arg9 harg9 arg10 harg10 arg11 harg11 arg12 harg12 x0 x1 x2 x3 x4 x5 xo7 xo8)) = (runSt x0 x1 x2 x3 x4 x5 xo7 xo8 (4 * (i 1).val + 2)).run := by
  unfold kernelRun0_B.sl.HS0_2
  refine (st_whole _ _ _ _).trans ?_
  simp -proj only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_3, kernelRun0_B.sl.r_4, kernelRun0_B.sl.r_5, kernelRun0_B.sl.r_6, kernelRun0_B.sl.r_7, kernelRun0_B.sl.r_9, kernelRun0_B.sl.r_8, b_v117, b_v135, ld5_1, ld6_1, harg2.read_unread, harg3.read_unread, harg4.read_unread, harg5.read_unread, harg6.read_unread, harg7.read_unread, b_dk1, b_dv1, ld_whole]
  rw [show (runSt x0 x1 x2 x3 x4 x5 xo7 xo8 (4 * (i 1).val + 2)) = step (k0_pay92 x0) (k0_pay93 x3) k0_pay96 x1 x2 x4 x5 (jD i 1) (runSt x0 x1 x2 x3 x4 x5 xo7 xo8 (4 * (i 1).val + 1)) from steps_succ _ _ _ _ _ _ _ _ (jD i 1).isLt]
  rfl

/-- A later point of a head: the queries' gradient after the second diagonal block. -/
theorem b_acc2 : arg12.view.read (Elt F) (arg12.view.writes (Elt F) arg12.view.junk (kernelRun0_B.sl.HS1_2 (F := F) c i arg2 harg2 arg3 harg3 arg4 harg4 arg5 harg5 arg6 harg6 arg7 harg7 arg8 harg8 arg9 harg9 arg10 harg10 arg11 harg11 arg12 harg12 x0 x1 x2 x3 x4 x5 xo7 xo8)) = (runSt x0 x1 x2 x3 x4 x5 xo7 xo8 (4 * (i 1).val + 2)).acc := by
  unfold kernelRun0_B.sl.HS1_2
  refine (st_whole _ _ _ _).trans ?_
  simp -proj only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_3, kernelRun0_B.sl.r_4, kernelRun0_B.sl.r_5, kernelRun0_B.sl.r_6, kernelRun0_B.sl.r_7, kernelRun0_B.sl.r_9, kernelRun0_B.sl.r_8, b_v117, b_v135, ld5_1, ld6_1, harg2.read_unread, harg3.read_unread, harg4.read_unread, harg5.read_unread, harg6.read_unread, harg7.read_unread, b_dk1, b_dv1, ld_whole]
  rw [show (runSt x0 x1 x2 x3 x4 x5 xo7 xo8 (4 * (i 1).val + 2)) = step (k0_pay92 x0) (k0_pay93 x3) k0_pay96 x1 x2 x4 x5 (jD i 1) (runSt x0 x1 x2 x3 x4 x5 xo7 xo8 (4 * (i 1).val + 1)) from steps_succ _ _ _ _ _ _ _ _ (jD i 1).isLt]
  rfl

/-- A later point of a head: the running sum as read after the second diagonal block. -/
theorem b_v174 : (kernelRun0_B.sl.v174 (F := F) c i arg2 harg2 arg3 harg3 arg4 harg4 arg5 harg5 arg6 harg6 arg7 harg7 arg8 harg8 arg9 harg9 arg10 harg10 arg11 harg11 arg12 harg12 x0 x1 x2 x3 x4 x5 xo7 xo8) = (runSt x0 x1 x2 x3 x4 x5 xo7 xo8 (4 * (i 1).val + 2)).run := by
  unfold kernelRun0_B.sl.v174
  exact (ld_covAll _ _).trans (b_run2 c i arg2 harg2 arg3 harg3 arg4 harg4 arg5 harg5 arg6 harg6 arg7 harg7 arg8 harg8 arg9 harg9 arg10 harg10 arg11 harg11 arg12 harg12 x0 x1 x2 x3 x4 x5 xo7 xo8)

/-- A later point of a head: the queries' gradient as read after the second diagonal block. -/
theorem b_v192 : (kernelRun0_B.sl.v192 (F := F) c i arg2 harg2 arg3 harg3 arg4 harg4 arg5 harg5 arg6 harg6 arg7 harg7 arg8 harg8 arg9 harg9 arg10 harg10 arg11 harg11 arg12 harg12 x0 x1 x2 x3 x4 x5 xo7 xo8) = (runSt x0 x1 x2 x3 x4 x5 xo7 xo8 (4 * (i 1).val + 2)).acc := by
  unfold kernelRun0_B.sl.v192
  exact (ld_covAll _ _).trans (b_acc2 c i arg2 harg2 arg3 harg3 arg4 harg4 arg5 harg5 arg6 harg6 arg7 harg7 arg8 harg8 arg9 harg9 arg10 harg10 arg11 harg11 arg12 harg12 x0 x1 x2 x3 x4 x5 xo7 xo8)

/-- A later point of a head: the values' gradient after the third diagonal block. -/
theorem b_dv3 : arg10.view.read (Elt F) (arg10.view.writes (Elt F) (harg10.unread xo8) (kernelRun0_B.sl.H8_3 (F := F) c i arg2 harg2 arg3 harg3 arg4 harg4 arg5 harg5 arg6 harg6 arg7 harg7 arg8 harg8 arg9 harg9 arg10 harg10 arg11 harg11 arg12 harg12 x0 x1 x2 x3 x4 x5 xo7 xo8)) = (runSt x0 x1 x2 x3 x4 x5 xo7 xo8 (4 * (i 1).val + 3)).dv := by
  unfold kernelRun0_B.sl.H8_3
  refine (st5 i 2 _ _ _ _).trans ?_
  rw [b_dv2 c i arg2 harg2 arg3 harg3 arg4 harg4 arg5 harg5 arg6 harg6 arg7 harg7 arg8 harg8 arg9 harg9 arg10 harg10 arg11 harg11 arg12 harg12 x0 x1 x2 x3 x4 x5 xo7 xo8]
  simp -proj only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_3, kernelRun0_B.sl.r_4, kernelRun0_B.sl.r_5, kernelRun0_B.sl.r_6, kernelRun0_B.sl.r_7, kernelRun0_B.sl.r_9, kernelRun0_B.sl.r_8, b_v174, b_v192, ld5_2, ld6_2, harg2.read_unread, harg3.read_unread, harg4.read_unread, harg5.read_unread, harg6.read_unread, harg7.read_unread, b_dk2, b_dv2, ld_whole]
  rw [show (runSt x0 x1 x2 x3 x4 x5 xo7 xo8 (4 * (i 1).val + 3)) = step (k0_pay92 x0) (k0_pay93 x3) k0_pay96 x1 x2 x4 x5 (jD i 2) (runSt x0 x1 x2 x3 x4 x5 xo7 xo8 (4 * (i 1).val + 2)) from steps_succ _ _ _ _ _ _ _ _ (jD i 2).isLt]
  rfl

/-- A later point of a head: the keys' gradient after the third diagonal block. -/
theorem b_dk3 : arg9.view.read (Elt F) (arg9.view.writes (Elt F) (harg9.unread xo7) (kernelRun0_B.sl.H7_3 (F := F) c i arg2 harg2 arg3 harg3 arg4 harg4 arg5 harg5 arg6 harg6 arg7 harg7 arg8 harg8 arg9 harg9 arg10 harg10 arg11 harg11 arg12 harg12 x0 x1 x2 x3 x4 x5 xo7 xo8)) = (runSt x0 x1 x2 x3 x4 x5 xo7 xo8 (4 * (i 1).val + 3)).dk := by
  unfold kernelRun0_B.sl.H7_3
  refine (st5 i 2 _ _ _ _).trans ?_
  rw [b_dk2 c i arg2 harg2 arg3 harg3 arg4 harg4 arg5 harg5 arg6 harg6 arg7 harg7 arg8 harg8 arg9 harg9 arg10 harg10 arg11 harg11 arg12 harg12 x0 x1 x2 x3 x4 x5 xo7 xo8]
  simp -proj only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_3, kernelRun0_B.sl.r_4, kernelRun0_B.sl.r_5, kernelRun0_B.sl.r_6, kernelRun0_B.sl.r_7, kernelRun0_B.sl.r_9, kernelRun0_B.sl.r_8, b_v174, b_v192, ld5_2, ld6_2, harg2.read_unread, harg3.read_unread, harg4.read_unread, harg5.read_unread, harg6.read_unread, harg7.read_unread, b_dk2, b_dv2, ld_whole]
  rw [show (runSt x0 x1 x2 x3 x4 x5 xo7 xo8 (4 * (i 1).val + 3)) = step (k0_pay92 x0) (k0_pay93 x3) k0_pay96 x1 x2 x4 x5 (jD i 2) (runSt x0 x1 x2 x3 x4 x5 xo7 xo8 (4 * (i 1).val + 2)) from steps_succ _ _ _ _ _ _ _ _ (jD i 2).isLt]
  rfl

/-- A later point of a head: the running sum after the third diagonal block. -/
theorem b_run3 : arg11.view.read (Elt F) (arg11.view.writes (Elt F) arg11.view.junk (kernelRun0_B.sl.HS0_3 (F := F) c i arg2 harg2 arg3 harg3 arg4 harg4 arg5 harg5 arg6 harg6 arg7 harg7 arg8 harg8 arg9 harg9 arg10 harg10 arg11 harg11 arg12 harg12 x0 x1 x2 x3 x4 x5 xo7 xo8)) = (runSt x0 x1 x2 x3 x4 x5 xo7 xo8 (4 * (i 1).val + 3)).run := by
  unfold kernelRun0_B.sl.HS0_3
  refine (st_whole _ _ _ _).trans ?_
  simp -proj only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_3, kernelRun0_B.sl.r_4, kernelRun0_B.sl.r_5, kernelRun0_B.sl.r_6, kernelRun0_B.sl.r_7, kernelRun0_B.sl.r_9, kernelRun0_B.sl.r_8, b_v174, b_v192, ld5_2, ld6_2, harg2.read_unread, harg3.read_unread, harg4.read_unread, harg5.read_unread, harg6.read_unread, harg7.read_unread, b_dk2, b_dv2, ld_whole]
  rw [show (runSt x0 x1 x2 x3 x4 x5 xo7 xo8 (4 * (i 1).val + 3)) = step (k0_pay92 x0) (k0_pay93 x3) k0_pay96 x1 x2 x4 x5 (jD i 2) (runSt x0 x1 x2 x3 x4 x5 xo7 xo8 (4 * (i 1).val + 2)) from steps_succ _ _ _ _ _ _ _ _ (jD i 2).isLt]
  rfl

/-- A later point of a head: the queries' gradient after the third diagonal block. -/
theorem b_acc3 : arg12.view.read (Elt F) (arg12.view.writes (Elt F) arg12.view.junk (kernelRun0_B.sl.HS1_3 (F := F) c i arg2 harg2 arg3 harg3 arg4 harg4 arg5 harg5 arg6 harg6 arg7 harg7 arg8 harg8 arg9 harg9 arg10 harg10 arg11 harg11 arg12 harg12 x0 x1 x2 x3 x4 x5 xo7 xo8)) = (runSt x0 x1 x2 x3 x4 x5 xo7 xo8 (4 * (i 1).val + 3)).acc := by
  unfold kernelRun0_B.sl.HS1_3
  refine (st_whole _ _ _ _).trans ?_
  simp -proj only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_3, kernelRun0_B.sl.r_4, kernelRun0_B.sl.r_5, kernelRun0_B.sl.r_6, kernelRun0_B.sl.r_7, kernelRun0_B.sl.r_9, kernelRun0_B.sl.r_8, b_v174, b_v192, ld5_2, ld6_2, harg2.read_unread, harg3.read_unread, harg4.read_unread, harg5.read_unread, harg6.read_unread, harg7.read_unread, b_dk2, b_dv2, ld_whole]
  rw [show (runSt x0 x1 x2 x3 x4 x5 xo7 xo8 (4 * (i 1).val + 3)) = step (k0_pay92 x0) (k0_pay93 x3) k0_pay96 x1 x2 x4 x5 (jD i 2) (runSt x0 x1 x2 x3 x4 x5 xo7 xo8 (4 * (i 1).val + 2)) from steps_succ _ _ _ _ _ _ _ _ (jD i 2).isLt]
  rfl

/-- A later point of a head: the running sum as read after the third diagonal block. -/
theorem b_v231 : (kernelRun0_B.sl.v231 (F := F) c i arg2 harg2 arg3 harg3 arg4 harg4 arg5 harg5 arg6 harg6 arg7 harg7 arg8 harg8 arg9 harg9 arg10 harg10 arg11 harg11 arg12 harg12 x0 x1 x2 x3 x4 x5 xo7 xo8) = (runSt x0 x1 x2 x3 x4 x5 xo7 xo8 (4 * (i 1).val + 3)).run := by
  unfold kernelRun0_B.sl.v231
  exact (ld_covAll _ _).trans (b_run3 c i arg2 harg2 arg3 harg3 arg4 harg4 arg5 harg5 arg6 harg6 arg7 harg7 arg8 harg8 arg9 harg9 arg10 harg10 arg11 harg11 arg12 harg12 x0 x1 x2 x3 x4 x5 xo7 xo8)

/-- A later point of a head: the queries' gradient as read after the third diagonal block. -/
theorem b_v249 : (kernelRun0_B.sl.v249 (F := F) c i arg2 harg2 arg3 harg3 arg4 harg4 arg5 harg5 arg6 harg6 arg7 harg7 arg8 harg8 arg9 harg9 arg10 harg10 arg11 harg11 arg12 harg12 x0 x1 x2 x3 x4 x5 xo7 xo8) = (runSt x0 x1 x2 x3 x4 x5 xo7 xo8 (4 * (i 1).val + 3)).acc := by
  unfold kernelRun0_B.sl.v249
  exact (ld_covAll _ _).trans (b_acc3 c i arg2 harg2 arg3 harg3 arg4 harg4 arg5 harg5 arg6 harg6 arg7 harg7 arg8 harg8 arg9 harg9 arg10 harg10 arg11 harg11 arg12 harg12 x0 x1 x2 x3 x4 x5 xo7 xo8)

/-- A later point of a head: the queries' gradient after the fourth diagonal block. -/
theorem b_acc4 : arg12.view.read (Elt F) (arg12.view.writes (Elt F) arg12.view.junk (kernelRun0_B.sl.HS1_4 (F := F) c i arg2 harg2 arg3 harg3 arg4 harg4 arg5 harg5 arg6 harg6 arg7 harg7 arg8 harg8 arg9 harg9 arg10 harg10 arg11 harg11 arg12 harg12 x0 x1 x2 x3 x4 x5 xo7 xo8)) = (runSt x0 x1 x2 x3 x4 x5 xo7 xo8 (4 * (i 1).val + 4)).acc := by
  unfold kernelRun0_B.sl.HS1_4
  refine (st_whole _ _ _ _).trans ?_
  simp -proj only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_3, kernelRun0_B.sl.r_4, kernelRun0_B.sl.r_5, kernelRun0_B.sl.r_6, kernelRun0_B.sl.r_7, kernelRun0_B.sl.r_9, kernelRun0_B.sl.r_8, b_v231, b_v249, ld5_3, ld6_3, harg2.read_unread, harg3.read_unread, harg4.read_unread, harg5.read_unread, harg6.read_unread, harg7.read_unread, b_dk3, b_dv3, ld_whole]
  rw [show (runSt x0 x1 x2 x3 x4 x5 xo7 xo8 (4 * (i 1).val + 4)) = step (k0_pay92 x0) (k0_pay93 x3) k0_pay96 x1 x2 x4 x5 (jD i 3) (runSt x0 x1 x2 x3 x4 x5 xo7 xo8 (4 * (i 1).val + 3)) from steps_succ _ _ _ _ _ _ _ _ (jD i 3).isLt]
  rfl

/-- What a grid point leaves in the gradient of the queries. -/
theorem out_B_6 (hc0 : ¬cond0_0 i) : out0_B_6 (F := F) c i arg2 harg2 arg3 harg3 arg4 harg4 arg5 harg5 arg6 harg6 arg7 harg7 arg8 harg8 arg9 harg9 arg10 harg10 arg11 harg11 arg12 harg12 hc0 x0 x1 x2 x3 x4 x5 xo7 xo8 = (runSt x0 x1 x2 x3 x4 x5 xo7 xo8 (4 * (i 1).val + 4)).acc := by
  unfold out0_B_6
  refine (st_whole _ _ _ _).trans ?_
  unfold kernelRun0_B.sl.v260
  exact (ld_covAll _ _).trans (b_acc4 c i arg2 harg2 arg3 harg3 arg4 harg4 arg5 harg5 arg6 harg6 arg7 harg7 arg8 harg8 arg9 harg9 arg10 harg10 arg11 harg11 arg12 harg12 x0 x1 x2 x3 x4 x5 xo7 xo8)

/-- What a grid point leaves in the gradient of the keys. -/
theorem out_B_7 (hc0 : ¬cond0_0 i) : out0_B_7 (F := F) c i arg2 harg2 arg3 harg3 arg4 harg4 arg5 harg5 arg6 harg6 arg7 harg7 arg8 harg8 arg9 harg9 arg10 harg10 arg11 harg11 arg12 harg12 hc0 x0 x1 x2 x3 x4 x5 xo7 xo8 = (runSt x0 x1 x2 x3 x4 x5 xo7 xo8 (4 * (i 1).val + 4)).dk := by
  unfold out0_B_7
  refine (st5 i 3 _ _ _ _).trans ?_
  rw [b_dk3 c i arg2 harg2 arg3 harg3 arg4 harg4 arg5 harg5 arg6 harg6 arg7 harg7 arg8 harg8 arg9 harg9 arg10 harg10 arg11 harg11 arg12 harg12 x0 x1 x2 x3 x4 x5 xo7 xo8]
  simp -proj only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_3, kernelRun0_B.sl.r_4, kernelRun0_B.sl.r_5, kernelRun0_B.sl.r_6, kernelRun0_B.sl.r_7, kernelRun0_B.sl.r_9, b_v231, b_v249, ld5_3, ld6_3, harg2.read_unread, harg3.read_unread, harg4.read_unread, harg5.read_unread, harg6.read_unread, harg7.read_unread, b_dk3, b_dv3, ld_whole]
  rw [show (runSt x0 x1 x2 x3 x4 x5 xo7 xo8 (4 * (i 1).val + 4)) = step (k0_pay92 x0) (k0_pay93 x3) k0_pay96 x1 x2 x4 x5 (jD i 3) (runSt x0 x1 x2 x3 x4 x5 xo7 xo8 (4 * (i 1).val + 3)) from steps_succ _ _ _ _ _ _ _ _ (jD i 3).isLt]
  rfl

/-- What a grid point leaves in the gradient of the values. -/
theorem out_B_8 (hc0 : ¬cond0_0 i) : out0_B_8 (F := F) c i arg2 harg2 arg3 harg3 arg4 harg4 arg5 harg5 arg6 harg6 arg7 harg7 arg8 harg8 arg9 harg9 arg10 harg10 arg11 harg11 arg12 harg12 hc0 x0 x1 x2 x3 x4 x5 xo7 xo8 = (runSt x0 x1 x2 x3 x4 x5 xo7 xo8 (4 * (i 1).val + 4)).dv := by
  unfold out0_B_8
  refine (st5 i 3 _ _ _ _).trans ?_
  rw [b_dv3 c i arg2 harg2 arg3 harg3 arg4 harg4 arg5 harg5 arg6 harg6 arg7 harg7 arg8 harg8 arg9 harg9 arg10 harg10 arg11 harg11 arg12 harg12 x0 x1 x2 x3 x4 x5 xo7 xo8]
  simp -proj only [kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_3, kernelRun0_B.sl.r_4, kernelRun0_B.sl.r_5, kernelRun0_B.sl.r_6, kernelRun0_B.sl.r_7, kernelRun0_B.sl.r_9, b_v231, b_v249, ld5_3, ld6_3, harg2.read_unread, harg3.read_unread, harg4.read_unread, harg5.read_unread, harg6.read_unread, harg7.read_unread, b_dk3, b_dv3, ld_whole]
  rw [show (runSt x0 x1 x2 x3 x4 x5 xo7 xo8 (4 * (i 1).val + 4)) = step (k0_pay92 x0) (k0_pay93 x3) k0_pay96 x1 x2 x4 x5 (jD i 3) (runSt x0 x1 x2 x3 x4 x5 xo7 xo8 (4 * (i 1).val + 3)) from steps_succ _ _ _ _ _ _ _ _ (jD i 3).isLt]
  rfl

end

section

variable (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S512x128 .f32) (harg5 : arg5.IsWhole) (arg6 : Memref sig .tc .vmem S1x1x16x512x128 .bf16) (harg6 : arg6.IsWhole) (arg7 : Memref sig .tc .vmem S1x1x16x512x128 .bf16) (harg7 : arg7.IsWhole) (arg8 : Memref sig .tc .vmem S512x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S512x128 .f32) (harg11 : arg11.IsWhole) (arg12 : Memref sig .tc .vmem S512x128 .f32) (harg12 : arg12.IsWhole) (x0 : Vec F S512x128 .f32) (x1 x2 : Vec F S2048x128 .f32) (x3 : Vec F S512x128 .f32) (x4 x5 : Vec F S1x1x16x512x128 .bf16)

/-- The first point of a head: the values' gradient as read before the first diagonal block. -/
theorem a_v48 : (kernelRun0_A.sl.v48 (F := F) c i arg2 harg2 arg3 harg3 arg4 harg4 arg5 harg5 arg6 harg6 arg7 harg7 arg8 harg8 arg9 harg9 arg10 harg10 arg11 harg11 arg12 harg12 x0 x1 x2 x3 x4 x5) = rows (runSt x0 x1 x2 x3 x4 x5 k0_pay90 k0_pay91 (4 * (i 1).val + 0)).dv (jD i 0) := by
  unfold kernelRun0_A.sl.v48
  refine (ld5 i 0 _ _).trans ?_
  rw [pb2_dv, List.nil_append, View.writes_append, loop_dv]
  simp -proj only [kernelRun0_A.sl.HS0_1, kernelRun0_A.sl.HS1_1, kernelRun0_A.sl.H7_1, kernelRun0_A.sl.H8_1, kernelRun0_A.sl.r, kernelRun0_A.sl.r_1, st_whole, st_keys, ld_whole, harg2.read_unread, harg3.read_unread, harg4.read_unread, harg5.read_unread, harg6.read_unread, harg7.read_unread, harg9.read_unread, harg10.read_unread]
  rfl

/-- The first point of a head: the running sum as read before the first diagonal block. -/
theorem a_v60 : (kernelRun0_A.sl.v60 (F := F) c i arg2 harg2 arg3 harg3 arg4 harg4 arg5 harg5 arg6 harg6 arg7 harg7 arg8 harg8 arg9 harg9 arg10 harg10 arg11 harg11 arg12 harg12 x0 x1 x2 x3 x4 x5) = (runSt x0 x1 x2 x3 x4 x5 k0_pay90 k0_pay91 (4 * (i 1).val + 0)).run := by
  unfold kernelRun0_A.sl.v60
  refine (ld_covAll _ _).trans ?_
  rw [pb2_run, List.nil_append, View.writes_append, loop_run]
  simp -proj only [kernelRun0_A.sl.HS0_1, kernelRun0_A.sl.HS1_1, kernelRun0_A.sl.H7_1, kernelRun0_A.sl.H8_1, kernelRun0_A.sl.r, kernelRun0_A.sl.r_1, st_whole, st_keys, ld_whole, harg2.read_unread, harg3.read_unread, harg4.read_unread, harg5.read_unread, harg6.read_unread, harg7.read_unread, harg9.read_unread, harg10.read_unread]
  rfl

/-- The first point of a head: the keys' gradient as read before the first diagonal block. -/
theorem a_v72 : (kernelRun0_A.sl.v72 (F := F) c i arg2 harg2 arg3 harg3 arg4 harg4 arg5 harg5 arg6 harg6 arg7 harg7 arg8 harg8 arg9 harg9 arg10 harg10 arg11 harg11 arg12 harg12 x0 x1 x2 x3 x4 x5) = rows (runSt x0 x1 x2 x3 x4 x5 k0_pay90 k0_pay91 (4 * (i 1).val + 0)).dk (jD i 0) := by
  unfold kernelRun0_A.sl.v72
  refine (ld5 i 0 _ _).trans ?_
  rw [pb2_dk, List.nil_append, View.writes_append, loop_dk]
  simp -proj only [kernelRun0_A.sl.HS0_1, kernelRun0_A.sl.HS1_1, kernelRun0_A.sl.H7_1, kernelRun0_A.sl.H8_1, kernelRun0_A.sl.r, kernelRun0_A.sl.r_1, st_whole, st_keys, ld_whole, harg2.read_unread, harg3.read_unread, harg4.read_unread, harg5.read_unread, harg6.read_unread, harg7.read_unread, harg9.read_unread, harg10.read_unread]
  rfl

/-- The first point of a head: the queries' gradient as read before the first diagonal block. -/
theorem a_v78 : (kernelRun0_A.sl.v78 (F := F) c i arg2 harg2 arg3 harg3 arg4 harg4 arg5 harg5 arg6 harg6 arg7 harg7 arg8 harg8 arg9 harg9 arg10 harg10 arg11 harg11 arg12 harg12 x0 x1 x2 x3 x4 x5) = (runSt x0 x1 x2 x3 x4 x5 k0_pay90 k0_pay91 (4 * (i 1).val + 0)).acc := by
  unfold kernelRun0_A.sl.v78
  refine (ld_covAll _ _).trans ?_
  rw [pb2_acc, List.nil_append, View.writes_append, loop_acc]
  simp -proj only [kernelRun0_A.sl.HS0_1, kernelRun0_A.sl.HS1_1, kernelRun0_A.sl.H7_1, kernelRun0_A.sl.H8_1, kernelRun0_A.sl.r, kernelRun0_A.sl.r_1, st_whole, st_keys, ld_whole, harg2.read_unread, harg3.read_unread, harg4.read_unread, harg5.read_unread, harg6.read_unread, harg7.read_unread, harg9.read_unread, harg10.read_unread]
  rfl

/-- The first point of a head: the values' gradient after the first diagonal block. -/
theorem a_dv1 : arg10.view.read (Elt F) (arg10.view.writes (Elt F) arg10.view.junk (kernelRun0_A.sl.H8_1_1 (F := F) c i arg2 harg2 arg3 harg3 arg4 harg4 arg5 harg5 arg6 harg6 arg7 harg7 arg8 harg8 arg9 harg9 arg10 harg10 arg11 harg11 arg12 harg12 x0 x1 x2 x3 x4 x5)) = (runSt x0 x1 x2 x3 x4 x5 k0_pay90 k0_pay91 (4 * (i 1).val + 1)).dv := by
  unfold kernelRun0_A.sl.H8_1_1
  refine (st5 i 0 _ _ _ _).trans ?_
  rw [pb2_dv, List.nil_append, View.writes_append, loop_dv]
  simp -proj only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_3, kernelRun0_A.sl.r_4, kernelRun0_A.sl.r_5, kernelRun0_A.sl.r_6, kernelRun0_A.sl.r_7, kernelRun0_A.sl.r_9, kernelRun0_A.sl.r_8, a_v48, a_v60, a_v72, a_v78, ld5_0, ld6_0, harg2.read_unread, harg3.read_unread, harg4.read_unread, harg5.read_unread, harg6.read_unread, harg7.read_unread, kernelRun0_A.sl.HS0_1, kernelRun0_A.sl.HS1_1, kernelRun0_A.sl.H7_1, kernelRun0_A.sl.H8_1, st_whole, st_keys, harg9.read_unread, harg10.read_unread, ld_whole]
  rw [show (runSt x0 x1 x2 x3 x4 x5 k0_pay90 k0_pay91 (4 * (i 1).val + 1)) = step (k0_pay92 x0) (k0_pay93 x3) k0_pay96 x1 x2 x4 x5 (jD i 0) (runSt x0 x1 x2 x3 x4 x5 k0_pay90 k0_pay91 (4 * (i 1).val + 0)) from steps_succ _ _ _ _ _ _ _ _ (jD i 0).isLt]
  rfl

/-- The first point of a head: the keys' gradient after the first diagonal block. -/
theorem a_dk1 : arg9.view.read (Elt F) (arg9.view.writes (Elt F) arg9.view.junk (kernelRun0_A.sl.H7_1_1 (F := F) c i arg2 harg2 arg3 harg3 arg4 harg4 arg5 harg5 arg6 harg6 arg7 harg7 arg8 harg8 arg9 harg9 arg10 harg10 arg11 harg11 arg12 harg12 x0 x1 x2 x3 x4 x5)) = (runSt x0 x1 x2 x3 x4 x5 k0_pay90 k0_pay91 (4 * (i 1).val + 1)).dk := by
  unfold kernelRun0_A.sl.H7_1_1
  refine (st5 i 0 _ _ _ _).trans ?_
  rw [pb2_dk, List.nil_append, View.writes_append, loop_dk]
  simp -proj only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_3, kernelRun0_A.sl.r_4, kernelRun0_A.sl.r_5, kernelRun0_A.sl.r_6, kernelRun0_A.sl.r_7, kernelRun0_A.sl.r_9, kernelRun0_A.sl.r_8, a_v48, a_v60, a_v72, a_v78, ld5_0, ld6_0, harg2.read_unread, harg3.read_unread, harg4.read_unread, harg5.read_unread, harg6.read_unread, harg7.read_unread, kernelRun0_A.sl.HS0_1, kernelRun0_A.sl.HS1_1, kernelRun0_A.sl.H7_1, kernelRun0_A.sl.H8_1, st_whole, st_keys, harg9.read_unread, harg10.read_unread, ld_whole]
  rw [show (runSt x0 x1 x2 x3 x4 x5 k0_pay90 k0_pay91 (4 * (i 1).val + 1)) = step (k0_pay92 x0) (k0_pay93 x3) k0_pay96 x1 x2 x4 x5 (jD i 0) (runSt x0 x1 x2 x3 x4 x5 k0_pay90 k0_pay91 (4 * (i 1).val + 0)) from steps_succ _ _ _ _ _ _ _ _ (jD i 0).isLt]
  rfl

/-- The first point of a head: the running sum after the first diagonal block. -/
theorem a_run1 : arg11.view.read (Elt F) (arg11.view.writes (Elt F) arg11.view.junk (kernelRun0_A.sl.HS0_1_1 (F := F) c i arg2 harg2 arg3 harg3 arg4 harg4 arg5 harg5 arg6 harg6 arg7 harg7 arg8 harg8 arg9 harg9 arg10 harg10 arg11 harg11 arg12 harg12 x0 x1 x2 x3 x4 x5)) = (runSt x0 x1 x2 x3 x4 x5 k0_pay90 k0_pay91 (4 * (i 1).val + 1)).run := by
  unfold kernelRun0_A.sl.HS0_1_1
  refine (st_whole _ _ _ _).trans ?_
  simp -proj only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_3, kernelRun0_A.sl.r_4, kernelRun0_A.sl.r_5, kernelRun0_A.sl.r_6, kernelRun0_A.sl.r_7, kernelRun0_A.sl.r_9, kernelRun0_A.sl.r_8, a_v48, a_v60, a_v72, a_v78, ld5_0, ld6_0, harg2.read_unread, harg3.read_unread, harg4.read_unread, harg5.read_unread, harg6.read_unread, harg7.read_unread, kernelRun0_A.sl.HS0_1, kernelRun0_A.sl.HS1_1, kernelRun0_A.sl.H7_1, kernelRun0_A.sl.H8_1, st_whole, st_keys, harg9.read_unread, harg10.read_unread, ld_whole]
  rw [show (runSt x0 x1 x2 x3 x4 x5 k0_pay90 k0_pay91 (4 * (i 1).val + 1)) = step (k0_pay92 x0) (k0_pay93 x3) k0_pay96 x1 x2 x4 x5 (jD i 0) (runSt x0 x1 x2 x3 x4 x5 k0_pay90 k0_pay91 (4 * (i 1).val + 0)) from steps_succ _ _ _ _ _ _ _ _ (jD i 0).isLt]
  rfl

/-- The first point of a head: the queries' gradient after the first diagonal block. -/
theorem a_acc1 : arg12.view.read (Elt F) (arg12.view.writes (Elt F) arg12.view.junk (kernelRun0_A.sl.HS1_1_1 (F := F) c i arg2 harg2 arg3 harg3 arg4 harg4 arg5 harg5 arg6 harg6 arg7 harg7 arg8 harg8 arg9 harg9 arg10 harg10 arg11 harg11 arg12 harg12 x0 x1 x2 x3 x4 x5)) = (runSt x0 x1 x2 x3 x4 x5 k0_pay90 k0_pay91 (4 * (i 1).val + 1)).acc := by
  unfold kernelRun0_A.sl.HS1_1_1
  refine (st_whole _ _ _ _).trans ?_
  simp -proj only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_3, kernelRun0_A.sl.r_4, kernelRun0_A.sl.r_5, kernelRun0_A.sl.r_6, kernelRun0_A.sl.r_7, kernelRun0_A.sl.r_9, kernelRun0_A.sl.r_8, a_v48, a_v60, a_v72, a_v78, ld5_0, ld6_0, harg2.read_unread, harg3.read_unread, harg4.read_unread, harg5.read_unread, harg6.read_unread, harg7.read_unread, kernelRun0_A.sl.HS0_1, kernelRun0_A.sl.HS1_1, kernelRun0_A.sl.H7_1, kernelRun0_A.sl.H8_1, st_whole, st_keys, harg9.read_unread, harg10.read_unread, ld_whole]
  rw [show (runSt x0 x1 x2 x3 x4 x5 k0_pay90 k0_pay91 (4 * (i 1).val + 1)) = step (k0_pay92 x0) (k0_pay93 x3) k0_pay96 x1 x2 x4 x5 (jD i 0) (runSt x0 x1 x2 x3 x4 x5 k0_pay90 k0_pay91 (4 * (i 1).val + 0)) from steps_succ _ _ _ _ _ _ _ _ (jD i 0).isLt]
  rfl

/-- The first point of a head: the running sum as read after the first diagonal block. -/
theorem a_v117 : (kernelRun0_A.sl.v117 (F := F) c i arg2 harg2 arg3 harg3 arg4 harg4 arg5 harg5 arg6 harg6 arg7 harg7 arg8 harg8 arg9 harg9 arg10 harg10 arg11 harg11 arg12 harg12 x0 x1 x2 x3 x4 x5) = (runSt x0 x1 x2 x3 x4 x5 k0_pay90 k0_pay91 (4 * (i 1).val + 1)).run := by
  unfold kernelRun0_A.sl.v117
  exact (ld_covAll _ _).trans (a_run1 c i arg2 harg2 arg3 harg3 arg4 harg4 arg5 harg5 arg6 harg6 arg7 harg7 arg8 harg8 arg9 harg9 arg10 harg10 arg11 harg11 arg12 harg12 x0 x1 x2 x3 x4 x5)

/-- The first point of a head: the queries' gradient as read after the first diagonal block. -/
theorem a_v135 : (kernelRun0_A.sl.v135 (F := F) c i arg2 harg2 arg3 harg3 arg4 harg4 arg5 harg5 arg6 harg6 arg7 harg7 arg8 harg8 arg9 harg9 arg10 harg10 arg11 harg11 arg12 harg12 x0 x1 x2 x3 x4 x5) = (runSt x0 x1 x2 x3 x4 x5 k0_pay90 k0_pay91 (4 * (i 1).val + 1)).acc := by
  unfold kernelRun0_A.sl.v135
  exact (ld_covAll _ _).trans (a_acc1 c i arg2 harg2 arg3 harg3 arg4 harg4 arg5 harg5 arg6 harg6 arg7 harg7 arg8 harg8 arg9 harg9 arg10 harg10 arg11 harg11 arg12 harg12 x0 x1 x2 x3 x4 x5)

/-- The first point of a head: the values' gradient after the second diagonal block. -/
theorem a_dv2 : arg10.view.read (Elt F) (arg10.view.writes (Elt F) arg10.view.junk (kernelRun0_A.sl.H8_2 (F := F) c i arg2 harg2 arg3 harg3 arg4 harg4 arg5 harg5 arg6 harg6 arg7 harg7 arg8 harg8 arg9 harg9 arg10 harg10 arg11 harg11 arg12 harg12 x0 x1 x2 x3 x4 x5)) = (runSt x0 x1 x2 x3 x4 x5 k0_pay90 k0_pay91 (4 * (i 1).val + 2)).dv := by
  unfold kernelRun0_A.sl.H8_2
  refine (st5 i 1 _ _ _ _).trans ?_
  rw [a_dv1 c i arg2 harg2 arg3 harg3 arg4 harg4 arg5 harg5 arg6 harg6 arg7 harg7 arg8 harg8 arg9 harg9 arg10 harg10 arg11 harg11 arg12 harg12 x0 x1 x2 x3 x4 x5]
  simp -proj only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_3, kernelRun0_A.sl.r_4, kernelRun0_A.sl.r_5, kernelRun0_A.sl.r_6, kernelRun0_A.sl.r_7, kernelRun0_A.sl.r_9, kernelRun0_A.sl.r_8, a_v117, a_v135, ld5_1, ld6_1, harg2.read_unread, harg3.read_unread, harg4.read_unread, harg5.read_unread, harg6.read_unread, harg7.read_unread, a_dk1, a_dv1, ld_whole]
  rw [show (runSt x0 x1 x2 x3 x4 x5 k0_pay90 k0_pay91 (4 * (i 1).val + 2)) = step (k0_pay92 x0) (k0_pay93 x3) k0_pay96 x1 x2 x4 x5 (jD i 1) (runSt x0 x1 x2 x3 x4 x5 k0_pay90 k0_pay91 (4 * (i 1).val + 1)) from steps_succ _ _ _ _ _ _ _ _ (jD i 1).isLt]
  rfl

/-- The first point of a head: the keys' gradient after the second diagonal block. -/
theorem a_dk2 : arg9.view.read (Elt F) (arg9.view.writes (Elt F) arg9.view.junk (kernelRun0_A.sl.H7_2 (F := F) c i arg2 harg2 arg3 harg3 arg4 harg4 arg5 harg5 arg6 harg6 arg7 harg7 arg8 harg8 arg9 harg9 arg10 harg10 arg11 harg11 arg12 harg12 x0 x1 x2 x3 x4 x5)) = (runSt x0 x1 x2 x3 x4 x5 k0_pay90 k0_pay91 (4 * (i 1).val + 2)).dk := by
  unfold kernelRun0_A.sl.H7_2
  refine (st5 i 1 _ _ _ _).trans ?_
  rw [a_dk1 c i arg2 harg2 arg3 harg3 arg4 harg4 arg5 harg5 arg6 harg6 arg7 harg7 arg8 harg8 arg9 harg9 arg10 harg10 arg11 harg11 arg12 harg12 x0 x1 x2 x3 x4 x5]
  simp -proj only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_3, kernelRun0_A.sl.r_4, kernelRun0_A.sl.r_5, kernelRun0_A.sl.r_6, kernelRun0_A.sl.r_7, kernelRun0_A.sl.r_9, kernelRun0_A.sl.r_8, a_v117, a_v135, ld5_1, ld6_1, harg2.read_unread, harg3.read_unread, harg4.read_unread, harg5.read_unread, harg6.read_unread, harg7.read_unread, a_dk1, a_dv1, ld_whole]
  rw [show (runSt x0 x1 x2 x3 x4 x5 k0_pay90 k0_pay91 (4 * (i 1).val + 2)) = step (k0_pay92 x0) (k0_pay93 x3) k0_pay96 x1 x2 x4 x5 (jD i 1) (runSt x0 x1 x2 x3 x4 x5 k0_pay90 k0_pay91 (4 * (i 1).val + 1)) from steps_succ _ _ _ _ _ _ _ _ (jD i 1).isLt]
  rfl

/-- The first point of a head: the running sum after the second diagonal block. -/
theorem a_run2 : arg11.view.read (Elt F) (arg11.view.writes (Elt F) arg11.view.junk (kernelRun0_A.sl.HS0_2 (F := F) c i arg2 harg2 arg3 harg3 arg4 harg4 arg5 harg5 arg6 harg6 arg7 harg7 arg8 harg8 arg9 harg9 arg10 harg10 arg11 harg11 arg12 harg12 x0 x1 x2 x3 x4 x5)) = (runSt x0 x1 x2 x3 x4 x5 k0_pay90 k0_pay91 (4 * (i 1).val + 2)).run := by
  unfold kernelRun0_A.sl.HS0_2
  refine (st_whole _ _ _ _).trans ?_
  simp -proj only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_3, kernelRun0_A.sl.r_4, kernelRun0_A.sl.r_5, kernelRun0_A.sl.r_6, kernelRun0_A.sl.r_7, kernelRun0_A.sl.r_9, kernelRun0_A.sl.r_8, a_v117, a_v135, ld5_1, ld6_1, harg2.read_unread, harg3.read_unread, harg4.read_unread, harg5.read_unread, harg6.read_unread, harg7.read_unread, a_dk1, a_dv1, ld_whole]
  rw [show (runSt x0 x1 x2 x3 x4 x5 k0_pay90 k0_pay91 (4 * (i 1).val + 2)) = step (k0_pay92 x0) (k0_pay93 x3) k0_pay96 x1 x2 x4 x5 (jD i 1) (runSt x0 x1 x2 x3 x4 x5 k0_pay90 k0_pay91 (4 * (i 1).val + 1)) from steps_succ _ _ _ _ _ _ _ _ (jD i 1).isLt]
  rfl

/-- The first point of a head: the queries' gradient after the second diagonal block. -/
theorem a_acc2 : arg12.view.read (Elt F) (arg12.view.writes (Elt F) arg12.view.junk (kernelRun0_A.sl.HS1_2 (F := F) c i arg2 harg2 arg3 harg3 arg4 harg4 arg5 harg5 arg6 harg6 arg7 harg7 arg8 harg8 arg9 harg9 arg10 harg10 arg11 harg11 arg12 harg12 x0 x1 x2 x3 x4 x5)) = (runSt x0 x1 x2 x3 x4 x5 k0_pay90 k0_pay91 (4 * (i 1).val + 2)).acc := by
  unfold kernelRun0_A.sl.HS1_2
  refine (st_whole _ _ _ _).trans ?_
  simp -proj only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_3, kernelRun0_A.sl.r_4, kernelRun0_A.sl.r_5, kernelRun0_A.sl.r_6, kernelRun0_A.sl.r_7, kernelRun0_A.sl.r_9, kernelRun0_A.sl.r_8, a_v117, a_v135, ld5_1, ld6_1, harg2.read_unread, harg3.read_unread, harg4.read_unread, harg5.read_unread, harg6.read_unread, harg7.read_unread, a_dk1, a_dv1, ld_whole]
  rw [show (runSt x0 x1 x2 x3 x4 x5 k0_pay90 k0_pay91 (4 * (i 1).val + 2)) = step (k0_pay92 x0) (k0_pay93 x3) k0_pay96 x1 x2 x4 x5 (jD i 1) (runSt x0 x1 x2 x3 x4 x5 k0_pay90 k0_pay91 (4 * (i 1).val + 1)) from steps_succ _ _ _ _ _ _ _ _ (jD i 1).isLt]
  rfl

/-- The first point of a head: the running sum as read after the second diagonal block. -/
theorem a_v174 : (kernelRun0_A.sl.v174 (F := F) c i arg2 harg2 arg3 harg3 arg4 harg4 arg5 harg5 arg6 harg6 arg7 harg7 arg8 harg8 arg9 harg9 arg10 harg10 arg11 harg11 arg12 harg12 x0 x1 x2 x3 x4 x5) = (runSt x0 x1 x2 x3 x4 x5 k0_pay90 k0_pay91 (4 * (i 1).val + 2)).run := by
  unfold kernelRun0_A.sl.v174
  exact (ld_covAll _ _).trans (a_run2 c i arg2 harg2 arg3 harg3 arg4 harg4 arg5 harg5 arg6 harg6 arg7 harg7 arg8 harg8 arg9 harg9 arg10 harg10 arg11 harg11 arg12 harg12 x0 x1 x2 x3 x4 x5)

/-- The first point of a head: the queries' gradient as read after the second diagonal block. -/
theorem a_v192 : (kernelRun0_A.sl.v192 (F := F) c i arg2 harg2 arg3 harg3 arg4 harg4 arg5 harg5 arg6 harg6 arg7 harg7 arg8 harg8 arg9 harg9 arg10 harg10 arg11 harg11 arg12 harg12 x0 x1 x2 x3 x4 x5) = (runSt x0 x1 x2 x3 x4 x5 k0_pay90 k0_pay91 (4 * (i 1).val + 2)).acc := by
  unfold kernelRun0_A.sl.v192
  exact (ld_covAll _ _).trans (a_acc2 c i arg2 harg2 arg3 harg3 arg4 harg4 arg5 harg5 arg6 harg6 arg7 harg7 arg8 harg8 arg9 harg9 arg10 harg10 arg11 harg11 arg12 harg12 x0 x1 x2 x3 x4 x5)

/-- The first point of a head: the values' gradient after the third diagonal block. -/
theorem a_dv3 : arg10.view.read (Elt F) (arg10.view.writes (Elt F) arg10.view.junk (kernelRun0_A.sl.H8_3 (F := F) c i arg2 harg2 arg3 harg3 arg4 harg4 arg5 harg5 arg6 harg6 arg7 harg7 arg8 harg8 arg9 harg9 arg10 harg10 arg11 harg11 arg12 harg12 x0 x1 x2 x3 x4 x5)) = (runSt x0 x1 x2 x3 x4 x5 k0_pay90 k0_pay91 (4 * (i 1).val + 3)).dv := by
  unfold kernelRun0_A.sl.H8_3
  refine (st5 i 2 _ _ _ _).trans ?_
  rw [a_dv2 c i arg2 harg2 arg3 harg3 arg4 harg4 arg5 harg5 arg6 harg6 arg7 harg7 arg8 harg8 arg9 harg9 arg10 harg10 arg11 harg11 arg12 harg12 x0 x1 x2 x3 x4 x5]
  simp -proj only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_3, kernelRun0_A.sl.r_4, kernelRun0_A.sl.r_5, kernelRun0_A.sl.r_6, kernelRun0_A.sl.r_7, kernelRun0_A.sl.r_9, kernelRun0_A.sl.r_8, a_v174, a_v192, ld5_2, ld6_2, harg2.read_unread, harg3.read_unread, harg4.read_unread, harg5.read_unread, harg6.read_unread, harg7.read_unread, a_dk2, a_dv2, ld_whole]
  rw [show (runSt x0 x1 x2 x3 x4 x5 k0_pay90 k0_pay91 (4 * (i 1).val + 3)) = step (k0_pay92 x0) (k0_pay93 x3) k0_pay96 x1 x2 x4 x5 (jD i 2) (runSt x0 x1 x2 x3 x4 x5 k0_pay90 k0_pay91 (4 * (i 1).val + 2)) from steps_succ _ _ _ _ _ _ _ _ (jD i 2).isLt]
  rfl

/-- The first point of a head: the keys' gradient after the third diagonal block. -/
theorem a_dk3 : arg9.view.read (Elt F) (arg9.view.writes (Elt F) arg9.view.junk (kernelRun0_A.sl.H7_3 (F := F) c i arg2 harg2 arg3 harg3 arg4 harg4 arg5 harg5 arg6 harg6 arg7 harg7 arg8 harg8 arg9 harg9 arg10 harg10 arg11 harg11 arg12 harg12 x0 x1 x2 x3 x4 x5)) = (runSt x0 x1 x2 x3 x4 x5 k0_pay90 k0_pay91 (4 * (i 1).val + 3)).dk := by
  unfold kernelRun0_A.sl.H7_3
  refine (st5 i 2 _ _ _ _).trans ?_
  rw [a_dk2 c i arg2 harg2 arg3 harg3 arg4 harg4 arg5 harg5 arg6 harg6 arg7 harg7 arg8 harg8 arg9 harg9 arg10 harg10 arg11 harg11 arg12 harg12 x0 x1 x2 x3 x4 x5]
  simp -proj only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_3, kernelRun0_A.sl.r_4, kernelRun0_A.sl.r_5, kernelRun0_A.sl.r_6, kernelRun0_A.sl.r_7, kernelRun0_A.sl.r_9, kernelRun0_A.sl.r_8, a_v174, a_v192, ld5_2, ld6_2, harg2.read_unread, harg3.read_unread, harg4.read_unread, harg5.read_unread, harg6.read_unread, harg7.read_unread, a_dk2, a_dv2, ld_whole]
  rw [show (runSt x0 x1 x2 x3 x4 x5 k0_pay90 k0_pay91 (4 * (i 1).val + 3)) = step (k0_pay92 x0) (k0_pay93 x3) k0_pay96 x1 x2 x4 x5 (jD i 2) (runSt x0 x1 x2 x3 x4 x5 k0_pay90 k0_pay91 (4 * (i 1).val + 2)) from steps_succ _ _ _ _ _ _ _ _ (jD i 2).isLt]
  rfl

/-- The first point of a head: the running sum after the third diagonal block. -/
theorem a_run3 : arg11.view.read (Elt F) (arg11.view.writes (Elt F) arg11.view.junk (kernelRun0_A.sl.HS0_3 (F := F) c i arg2 harg2 arg3 harg3 arg4 harg4 arg5 harg5 arg6 harg6 arg7 harg7 arg8 harg8 arg9 harg9 arg10 harg10 arg11 harg11 arg12 harg12 x0 x1 x2 x3 x4 x5)) = (runSt x0 x1 x2 x3 x4 x5 k0_pay90 k0_pay91 (4 * (i 1).val + 3)).run := by
  unfold kernelRun0_A.sl.HS0_3
  refine (st_whole _ _ _ _).trans ?_
  simp -proj only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_3, kernelRun0_A.sl.r_4, kernelRun0_A.sl.r_5, kernelRun0_A.sl.r_6, kernelRun0_A.sl.r_7, kernelRun0_A.sl.r_9, kernelRun0_A.sl.r_8, a_v174, a_v192, ld5_2, ld6_2, harg2.read_unread, harg3.read_unread, harg4.read_unread, harg5.read_unread, harg6.read_unread, harg7.read_unread, a_dk2, a_dv2, ld_whole]
  rw [show (runSt x0 x1 x2 x3 x4 x5 k0_pay90 k0_pay91 (4 * (i 1).val + 3)) = step (k0_pay92 x0) (k0_pay93 x3) k0_pay96 x1 x2 x4 x5 (jD i 2) (runSt x0 x1 x2 x3 x4 x5 k0_pay90 k0_pay91 (4 * (i 1).val + 2)) from steps_succ _ _ _ _ _ _ _ _ (jD i 2).isLt]
  rfl

/-- The first point of a head: the queries' gradient after the third diagonal block. -/
theorem a_acc3 : arg12.view.read (Elt F) (arg12.view.writes (Elt F) arg12.view.junk (kernelRun0_A.sl.HS1_3 (F := F) c i arg2 harg2 arg3 harg3 arg4 harg4 arg5 harg5 arg6 harg6 arg7 harg7 arg8 harg8 arg9 harg9 arg10 harg10 arg11 harg11 arg12 harg12 x0 x1 x2 x3 x4 x5)) = (runSt x0 x1 x2 x3 x4 x5 k0_pay90 k0_pay91 (4 * (i 1).val + 3)).acc := by
  unfold kernelRun0_A.sl.HS1_3
  refine (st_whole _ _ _ _).trans ?_
  simp -proj only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_3, kernelRun0_A.sl.r_4, kernelRun0_A.sl.r_5, kernelRun0_A.sl.r_6, kernelRun0_A.sl.r_7, kernelRun0_A.sl.r_9, kernelRun0_A.sl.r_8, a_v174, a_v192, ld5_2, ld6_2, harg2.read_unread, harg3.read_unread, harg4.read_unread, harg5.read_unread, harg6.read_unread, harg7.read_unread, a_dk2, a_dv2, ld_whole]
  rw [show (runSt x0 x1 x2 x3 x4 x5 k0_pay90 k0_pay91 (4 * (i 1).val + 3)) = step (k0_pay92 x0) (k0_pay93 x3) k0_pay96 x1 x2 x4 x5 (jD i 2) (runSt x0 x1 x2 x3 x4 x5 k0_pay90 k0_pay91 (4 * (i 1).val + 2)) from steps_succ _ _ _ _ _ _ _ _ (jD i 2).isLt]
  rfl

/-- The first point of a head: the running sum as read after the third diagonal block. -/
theorem a_v231 : (kernelRun0_A.sl.v231 (F := F) c i arg2 harg2 arg3 harg3 arg4 harg4 arg5 harg5 arg6 harg6 arg7 harg7 arg8 harg8 arg9 harg9 arg10 harg10 arg11 harg11 arg12 harg12 x0 x1 x2 x3 x4 x5) = (runSt x0 x1 x2 x3 x4 x5 k0_pay90 k0_pay91 (4 * (i 1).val + 3)).run := by
  unfold kernelRun0_A.sl.v231
  exact (ld_covAll _ _).trans (a_run3 c i arg2 harg2 arg3 harg3 arg4 harg4 arg5 harg5 arg6 harg6 arg7 harg7 arg8 harg8 arg9 harg9 arg10 harg10 arg11 harg11 arg12 harg12 x0 x1 x2 x3 x4 x5)

/-- The first point of a head: the queries' gradient as read after the third diagonal block. -/
theorem a_v249 : (kernelRun0_A.sl.v249 (F := F) c i arg2 harg2 arg3 harg3 arg4 harg4 arg5 harg5 arg6 harg6 arg7 harg7 arg8 harg8 arg9 harg9 arg10 harg10 arg11 harg11 arg12 harg12 x0 x1 x2 x3 x4 x5) = (runSt x0 x1 x2 x3 x4 x5 k0_pay90 k0_pay91 (4 * (i 1).val + 3)).acc := by
  unfold kernelRun0_A.sl.v249
  exact (ld_covAll _ _).trans (a_acc3 c i arg2 harg2 arg3 harg3 arg4 harg4 arg5 harg5 arg6 harg6 arg7 harg7 arg8 harg8 arg9 harg9 arg10 harg10 arg11 harg11 arg12 harg12 x0 x1 x2 x3 x4 x5)

/-- The first point of a head: the queries' gradient after the fourth diagonal block. -/
theorem a_acc4 : arg12.view.read (Elt F) (arg12.view.writes (Elt F) arg12.view.junk (kernelRun0_A.sl.HS1_4 (F := F) c i arg2 harg2 arg3 harg3 arg4 harg4 arg5 harg5 arg6 harg6 arg7 harg7 arg8 harg8 arg9 harg9 arg10 harg10 arg11 harg11 arg12 harg12 x0 x1 x2 x3 x4 x5)) = (runSt x0 x1 x2 x3 x4 x5 k0_pay90 k0_pay91 (4 * (i 1).val + 4)).acc := by
  unfold kernelRun0_A.sl.HS1_4
  refine (st_whole _ _ _ _).trans ?_
  simp -proj only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_3, kernelRun0_A.sl.r_4, kernelRun0_A.sl.r_5, kernelRun0_A.sl.r_6, kernelRun0_A.sl.r_7, kernelRun0_A.sl.r_9, kernelRun0_A.sl.r_8, a_v231, a_v249, ld5_3, ld6_3, harg2.read_unread, harg3.read_unread, harg4.read_unread, harg5.read_unread, harg6.read_unread, harg7.read_unread, a_dk3, a_dv3, ld_whole]
  rw [show (runSt x0 x1 x2 x3 x4 x5 k0_pay90 k0_pay91 (4 * (i 1).val + 4)) = step (k0_pay92 x0) (k0_pay93 x3) k0_pay96 x1 x2 x4 x5 (jD i 3) (runSt x0 x1 x2 x3 x4 x5 k0_pay90 k0_pay91 (4 * (i 1).val + 3)) from steps_succ _ _ _ _ _ _ _ _ (jD i 3).isLt]
  rfl

/-- What a grid point leaves in the gradient of the queries. -/
theorem out_A_6 (hc0 : cond0_0 i) : out0_A_6 (F := F) c i arg2 harg2 arg3 harg3 arg4 harg4 arg5 harg5 arg6 harg6 arg7 harg7 arg8 harg8 arg9 harg9 arg10 harg10 arg11 harg11 arg12 harg12 hc0 x0 x1 x2 x3 x4 x5 = (runSt x0 x1 x2 x3 x4 x5 k0_pay90 k0_pay91 (4 * (i 1).val + 4)).acc := by
  unfold out0_A_6
  refine (st_whole _ _ _ _).trans ?_
  unfold kernelRun0_A.sl.v260
  exact (ld_covAll _ _).trans (a_acc4 c i arg2 harg2 arg3 harg3 arg4 harg4 arg5 harg5 arg6 harg6 arg7 harg7 arg8 harg8 arg9 harg9 arg10 harg10 arg11 harg11 arg12 harg12 x0 x1 x2 x3 x4 x5)

/-- What a grid point leaves in the gradient of the keys. -/
theorem out_A_7 (hc0 : cond0_0 i) : out0_A_7 (F := F) c i arg2 harg2 arg3 harg3 arg4 harg4 arg5 harg5 arg6 harg6 arg7 harg7 arg8 harg8 arg9 harg9 arg10 harg10 arg11 harg11 arg12 harg12 hc0 x0 x1 x2 x3 x4 x5 = (runSt x0 x1 x2 x3 x4 x5 k0_pay90 k0_pay91 (4 * (i 1).val + 4)).dk := by
  unfold out0_A_7
  refine (funext fun y => View.read_writes_apply_eq VO0_7 VO0_7.junk arg9.view arg9.view.junk y _ (cover0_A_7 c i arg2 harg2 arg3 harg3 arg4 harg4 arg5 harg5 arg6 harg6 arg7 harg7 arg8 harg8 arg9 harg9 arg10 harg10 arg11 harg11 arg12 harg12 hc0 x0 x1 x2 x3 x4 x5 y) : _ = arg9.view.read (Elt F) (arg9.view.writes (Elt F) arg9.view.junk _)).trans ?_
  refine (st5 i 3 _ _ _ _).trans ?_
  rw [a_dk3 c i arg2 harg2 arg3 harg3 arg4 harg4 arg5 harg5 arg6 harg6 arg7 harg7 arg8 harg8 arg9 harg9 arg10 harg10 arg11 harg11 arg12 harg12 x0 x1 x2 x3 x4 x5]
  simp -proj only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_3, kernelRun0_A.sl.r_4, kernelRun0_A.sl.r_5, kernelRun0_A.sl.r_6, kernelRun0_A.sl.r_7, kernelRun0_A.sl.r_9, a_v231, a_v249, ld5_3, ld6_3, harg2.read_unread, harg3.read_unread, harg4.read_unread, harg5.read_unread, harg6.read_unread, harg7.read_unread, a_dk3, a_dv3, ld_whole]
  rw [show (runSt x0 x1 x2 x3 x4 x5 k0_pay90 k0_pay91 (4 * (i 1).val + 4)) = step (k0_pay92 x0) (k0_pay93 x3) k0_pay96 x1 x2 x4 x5 (jD i 3) (runSt x0 x1 x2 x3 x4 x5 k0_pay90 k0_pay91 (4 * (i 1).val + 3)) from steps_succ _ _ _ _ _ _ _ _ (jD i 3).isLt]
  rfl

/-- What a grid point leaves in the gradient of the values. -/
theorem out_A_8 (hc0 : cond0_0 i) : out0_A_8 (F := F) c i arg2 harg2 arg3 harg3 arg4 harg4 arg5 harg5 arg6 harg6 arg7 harg7 arg8 harg8 arg9 harg9 arg10 harg10 arg11 harg11 arg12 harg12 hc0 x0 x1 x2 x3 x4 x5 = (runSt x0 x1 x2 x3 x4 x5 k0_pay90 k0_pay91 (4 * (i 1).val + 4)).dv := by
  unfold out0_A_8
  refine (funext fun y => View.read_writes_apply_eq VO0_8 VO0_8.junk arg10.view arg10.view.junk y _ (cover0_A_8 c i arg2 harg2 arg3 harg3 arg4 harg4 arg5 harg5 arg6 harg6 arg7 harg7 arg8 harg8 arg9 harg9 arg10 harg10 arg11 harg11 arg12 harg12 hc0 x0 x1 x2 x3 x4 x5 y) : _ = arg10.view.read (Elt F) (arg10.view.writes (Elt F) arg10.view.junk _)).trans ?_
  refine (st5 i 3 _ _ _ _).trans ?_
  rw [a_dv3 c i arg2 harg2 arg3 harg3 arg4 harg4 arg5 harg5 arg6 harg6 arg7 harg7 arg8 harg8 arg9 harg9 arg10 harg10 arg11 harg11 arg12 harg12 x0 x1 x2 x3 x4 x5]
  simp -proj only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_3, kernelRun0_A.sl.r_4, kernelRun0_A.sl.r_5, kernelRun0_A.sl.r_6, kernelRun0_A.sl.r_7, kernelRun0_A.sl.r_9, a_v231, a_v249, ld5_3, ld6_3, harg2.read_unread, harg3.read_unread, harg4.read_unread, harg5.read_unread, harg6.read_unread, harg7.read_unread, a_dk3, a_dv3, ld_whole]
  rw [show (runSt x0 x1 x2 x3 x4 x5 k0_pay90 k0_pay91 (4 * (i 1).val + 4)) = step (k0_pay92 x0) (k0_pay93 x3) k0_pay96 x1 x2 x4 x5 (jD i 3) (runSt x0 x1 x2 x3 x4 x5 k0_pay90 k0_pay91 (4 * (i 1).val + 3)) from steps_succ _ _ _ _ _ _ _ _ (jD i 3).isLt]
  rfl

end

end Cert.KernelIdeal.Sb

end
-- ==== Proof.Sb.Outs.lean ====
/-
  The three result arrays of the kernel, at an index: what each grid point leaves in the windows' blocks, the
  key and value gradients carried over the four query blocks of a head, and the arrays that the blocks make.
-/
module

public import proofs.«01_k».proof.Proof.Sb.Run
public import proofs.«01_k».proof.Proof.Sb.Glob
public import proofs.«01_k».proof.Proof.Gen.KernelIdeal.Value
public import Idealize.ShloMosaic.Lib.Pipeline.ValueKit

@[expose] public section

set_option maxRecDepth 16384

noncomputable section

namespace Cert.KernelIdeal.Sb

open Idealize.ShloMosaic Idealize.ShloMosaic.TcCoe Idealize.SL.Sem Idealize.ShloMosaic.VecWindow
open Cert.KernelIdeal Cert.KernelIdeal.Gen

/-- A point's block of queries. -/
theorem coords1 : ∀ t : Fin cfg0.N, ((grid0.coords t) 1).val = t.val % 4 :=
  (by decide +kernel : ∀ t : Fin grid0.N, ((grid0.coords t) 1).val = t.val % 4)

/-! The index maps of the nine windows over the grid. -/

/-- Which block of the queries a point holds. -/
theorem idx0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)

/-- Which block of the keys a point holds. -/
theorem idx1 : ∀ t : Fin cfg0.N, win0_1.index t 0 = 0 ∧ win0_1.index t 1 = 8 + t.val / 4 :=
  (by decide +kernel : ∀ t : Fin grid0.N, win0_1.index t 0 = 0 ∧ win0_1.index t 1 = 8 + t.val / 4)

/-- Which block of the values a point holds. -/
theorem idx2 : ∀ t : Fin cfg0.N, win0_2.index t 0 = 0 ∧ win0_2.index t 1 = 16 + t.val / 4 :=
  (by decide +kernel : ∀ t : Fin grid0.N, win0_2.index t 0 = 0 ∧ win0_2.index t 1 = 16 + t.val / 4)

/-- Which block of the incoming gradient a point holds. -/
theorem idx3 : ∀ t : Fin cfg0.N, win0_3.index t 0 = t.val % 4 ∧ win0_3.index t 1 = t.val / 4 :=
  (by decide +kernel : ∀ t : Fin grid0.N, win0_3.index t 0 = t.val % 4 ∧ win0_3.index t 1 = t.val / 4)

/-- Which block of the saved weights a point holds. -/
theorem idx4 : ∀ t : Fin cfg0.N, win0_4.index t 0 = t.val / 4 ∧ win0_4.index t 1 = t.val % 4 ∧ win0_4.index t 2 = 0 ∧ win0_4.index t 3 = 0 ∧ win0_4.index t 4 = 0 :=
  (by decide +kernel : ∀ t : Fin grid0.N, win0_4.index t 0 = t.val / 4 ∧ win0_4.index t 1 = t.val % 4 ∧ win0_4.index t 2 = 0 ∧ win0_4.index t 3 = 0 ∧ win0_4.index t 4 = 0)

/-- Which block of the saved logistics a point holds. -/
theorem idx5 : ∀ t : Fin cfg0.N, win0_5.index t 0 = t.val / 4 ∧ win0_5.index t 1 = t.val % 4 ∧ win0_5.index t 2 = 0 ∧ win0_5.index t 3 = 0 ∧ win0_5.index t 4 = 0 :=
  (by decide +kernel : ∀ t : Fin grid0.N, win0_5.index t 0 = t.val / 4 ∧ win0_5.index t 1 = t.val % 4 ∧ win0_5.index t 2 = 0 ∧ win0_5.index t 3 = 0 ∧ win0_5.index t 4 = 0)

/-- Which block of the queries' gradient a point holds. -/
theorem idx6 : ∀ t : Fin cfg0.N, win0_6.index t 0 = t.val % 4 ∧ win0_6.index t 1 = t.val / 4 :=
  (by decide +kernel : ∀ t : Fin grid0.N, win0_6.index t 0 = t.val % 4 ∧ win0_6.index t 1 = t.val / 4)

/-- Which block of the keys' gradient a point holds. -/
theorem idx7 : ∀ t : Fin cfg0.N, win0_7.index t 0 = 0 ∧ win0_7.index t 1 = t.val / 4 :=
  (by decide +kernel : ∀ t : Fin grid0.N, win0_7.index t 0 = 0 ∧ win0_7.index t 1 = t.val / 4)

/-- Which block of the values' gradient a point holds. -/
theorem idx8 : ∀ t : Fin cfg0.N, win0_8.index t 0 = 0 ∧ win0_8.index t 1 = t.val / 4 :=
  (by decide +kernel : ∀ t : Fin grid0.N, win0_8.index t 0 = 0 ∧ win0_8.index t 1 = t.val / 4)

/-- A point's head and its block of queries. -/
def hd (t : Fin cfg0.N) : Fin 8 := ⟨t.val / 4, by have : t.val < 32 := t.isLt; omega⟩
@[inherit_doc hd] def bq (t : Fin cfg0.N) : Fin 4 := ⟨t.val % 4, by omega⟩

/-! The input windows' blocks, read off their arrays. -/

section

variable {F : FTy → Type} [FloatOps F] (m : (ℓ : Loc nD τ sig) → Buf (Elt F) ℓ) (c : Dev nD)

/-- A point's block of the queries at an index. -/
theorem ib0 (t : Fin cfg0.N) (r : Fin 512) (d : Fin 128) : iblk m c 0 t (ix2 r d) = V m c main_arg0 (ix2 (qr (bq t) r) (qc (hd t) d)) := by
  unfold qr qc bq hd
  blk_ext [iblk, (idx0 t).1, (idx0 t).2]

/-- A point's block of the keys at an index. -/
theorem ib1 (t : Fin cfg0.N) (r : Fin 2048) (d : Fin 128) : iblk m c 1 t (ix2 r d) = V m c main_arg0 (ix2 r (kc (hd t) d)) := by
  unfold kc hd
  blk_ext [iblk, (idx1 t).1, (idx1 t).2]

/-- A point's block of the values at an index. -/
theorem ib2 (t : Fin cfg0.N) (r : Fin 2048) (d : Fin 128) : iblk m c 2 t (ix2 r d) = V m c main_arg0 (ix2 r (vc (hd t) d)) := by
  unfold vc hd
  blk_ext [iblk, (idx2 t).1, (idx2 t).2]

/-- A point's block of the incoming gradient at an index. -/
theorem ib3 (t : Fin cfg0.N) (r : Fin 512) (d : Fin 128) : iblk m c 3 t (ix2 r d) = V m c main_arg1 (ix2 (qr (bq t) r) (hc (hd t) d)) := by
  unfold qr hc bq hd
  blk_ext [iblk, (idx3 t).1, (idx3 t).2]

/-- A point's block of the saved weights at an index. -/
theorem ib4 (t : Fin cfg0.N) (j : Fin 16) (r : Fin 512) (d : Fin 128) : iblk m c 4 t (ix5 0 0 j r d) = V m c main_v28 (ix5 (hd t) (bq t) j r d) := by
  unfold bq hd
  blk_ext [iblk, (idx4 t).1, (idx4 t).2.1, (idx4 t).2.2.1, (idx4 t).2.2.2.1, (idx4 t).2.2.2.2]

/-- A point's block of the saved logistics at an index. -/
theorem ib5 (t : Fin cfg0.N) (j : Fin 16) (r : Fin 512) (d : Fin 128) : iblk m c 5 t (ix5 0 0 j r d) = V m c main_v31 (ix5 (hd t) (bq t) j r d) := by
  unfold bq hd
  blk_ext [iblk, (idx5 t).1, (idx5 t).2.1, (idx5 t).2.2.1, (idx5 t).2.2.2.1, (idx5 t).2.2.2.2]

/-! What a point leaves, as the state after its steps. -/

/-- What the first point of a head leaves in the queries' gradient. -/
theorem outs_A_6 (t : Fin cfg0.N) (h0 : t.val % 4 = 0) :
    (outsAt0 m c t.val t.isLt).1 = (runSt (iblk m c 0 t) (iblk m c 1 t) (iblk m c 2 t) (iblk m c 3 t) (iblk m c 4 t) (iblk m c 5 t) k0_pay90 k0_pay91 (4 * ((grid0.coords t) 1).val + 4)).acc :=
  (congrArg (fun z => z.1) (outsAt0_A m c t h0)).trans (out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) ((hcond0_0 t).mpr h0))

/-- What a later point of a head leaves in the queries' gradient. -/
theorem outs_B_6 (t : Fin cfg0.N) (h0 : ¬t.val % 4 = 0) :
    (outsAt0 m c t.val t.isLt).1 = (runSt (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2 (4 * ((grid0.coords t) 1).val + 4)).acc :=
  (congrArg (fun z => z.1) (outsAt0_B m c t h0)).trans (out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)))

/-- What the first point of a head leaves in the keys' gradient. -/
theorem outs_A_7 (t : Fin cfg0.N) (h0 : t.val % 4 = 0) :
    (outsAt0 m c t.val t.isLt).2.1 = (runSt (iblk m c 0 t) (iblk m c 1 t) (iblk m c 2 t) (iblk m c 3 t) (iblk m c 4 t) (iblk m c 5 t) k0_pay90 k0_pay91 (4 * ((grid0.coords t) 1).val + 4)).dk :=
  (congrArg (fun z => z.2.1) (outsAt0_A m c t h0)).trans (out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) ((hcond0_0 t).mpr h0))

/-- What a later point of a head leaves in the keys' gradient. -/
theorem outs_B_7 (t : Fin cfg0.N) (h0 : ¬t.val % 4 = 0) :
    (outsAt0 m c t.val t.isLt).2.1 = (runSt (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2 (4 * ((grid0.coords t) 1).val + 4)).dk :=
  (congrArg (fun z => z.2.1) (outsAt0_B m c t h0)).trans (out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)))

/-- What the first point of a head leaves in the values' gradient. -/
theorem outs_A_8 (t : Fin cfg0.N) (h0 : t.val % 4 = 0) :
    (outsAt0 m c t.val t.isLt).2.2 = (runSt (iblk m c 0 t) (iblk m c 1 t) (iblk m c 2 t) (iblk m c 3 t) (iblk m c 4 t) (iblk m c 5 t) k0_pay90 k0_pay91 (4 * ((grid0.coords t) 1).val + 4)).dv :=
  (congrArg (fun z => z.2.2) (outsAt0_A m c t h0)).trans (out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) ((hcond0_0 t).mpr h0))

/-- What a later point of a head leaves in the values' gradient. -/
theorem outs_B_8 (t : Fin cfg0.N) (h0 : ¬t.val % 4 = 0) :
    (outsAt0 m c t.val t.isLt).2.2 = (runSt (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2 (4 * ((grid0.coords t) 1).val + 4)).dv :=
  (congrArg (fun z => z.2.2) (outsAt0_B m c t h0)).trans (out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)))

end

variable (m : (ℓ : Loc nD τ sig) → Buf (Elt Ideal) ℓ) (c : Dev nD)

/-- The saved arrays are `a` and `b`, both zero where the key is not left of the query. -/
structure Saved (a b : Fin 8 → Fin 2048 → Fin 2048 → EReal) : Prop where
  A : ∀ h I j r x, V m c main_v28 (ix5 h I j r x) = a h (qr I r) (kr j x)
  B : ∀ h I j r x, V m c main_v31 (ix5 h I j r x) = b h (qr I r) (kr j x)
  a0 : ∀ h (T s : Fin 2048), T.val ≤ s.val → a h T s = 0
  b0 : ∀ h (T s : Fin 2048), T.val ≤ s.val → b h T s = 0

variable {m c}

variable {a b : Fin 8 → Fin 2048 → Fin 2048 → EReal} (S : Saved m c a b)

include S

/-- The blocks of a point. -/
theorem blocks_at (t : Fin cfg0.N) :
    Blocks (V m c main_arg0) (V m c main_arg1) a b (hd t) (bq t) (k0_pay92 (iblk m c 0 t)) (k0_pay93 (iblk m c 3 t)) (iblk m c 1 t) (iblk m c 2 t) (iblk m c 4 t) (iblk m c 5 t) where
  q r d := by pointwise [k0_pay92]; exact ib0 m c t r d
  o r d := by pointwise [k0_pay93]; exact ib3 m c t r d
  K r d := ib1 m c t r d
  W r d := ib2 m c t r d
  A j r x := (ib4 m c t j r x).trans (S.A _ _ _ _ _)
  B j r x := (ib5 m c t j r x).trans (S.B _ _ _ _ _)

/-- What the steps of a point leave, from key and value gradients `dk` and `dv`. -/
theorem runSt_at (t : Fin cfg0.N) (dk dv : Vec Ideal S2048x128 .f32) :
    (∀ r d, (runSt (iblk m c 0 t) (iblk m c 1 t) (iblk m c 2 t) (iblk m c 3 t) (iblk m c 4 t) (iblk m c 5 t) dk dv (4 * ((grid0.coords t) 1).val + 4)).acc (ix2 r d)
        = dqA (V m c main_arg0) (V m c main_arg1) a b (qr (bq t) r) (hd t) d)
    ∧ (∀ s d, (runSt (iblk m c 0 t) (iblk m c 1 t) (iblk m c 2 t) (iblk m c 3 t) (iblk m c 4 t) (iblk m c 5 t) dk dv (4 * ((grid0.coords t) 1).val + 4)).dk (ix2 s d)
        = dk (ix2 s d) + ∑ r : Fin 512, dzA (V m c main_arg0) (V m c main_arg1) a b (hd t) (qr (bq t) r) s * V m c main_arg0 (ix2 (qr (bq t) r) (qc (hd t) d)))
    ∧ (∀ s d, (runSt (iblk m c 0 t) (iblk m c 1 t) (iblk m c 2 t) (iblk m c 3 t) (iblk m c 4 t) (iblk m c 5 t) dk dv (4 * ((grid0.coords t) 1).val + 4)).dv (ix2 s d)
        = dv (ix2 s d) + ∑ r : Fin 512, a (hd t) (qr (bq t) r) s * V m c main_arg1 (ix2 (qr (bq t) r) (hc (hd t) d))) := by
  have H := blocks_at S t
  have hn : 4 * ((grid0.coords t) 1).val + 4 = 4 * (bq t).val + 4 := by rw [coords1 t]; rfl
  rw [hn]
  have C := closed_steps (k0_pay92 (iblk m c 0 t)) (k0_pay93 (iblk m c 3 t)) (iblk m c 1 t) (iblk m c 2 t) (iblk m c 4 t) (iblk m c 5 t) dk dv (4 * (bq t).val + 4) (by have := (bq t).isLt; omega)
  refine ⟨fun r d => (C.acc r d).trans (H.dq S.a0 S.b0 r d), fun s d => ?_, fun s d => ?_⟩
  · rw [eq_kr s]
    exact (C.dk _ _ d).trans (congrArg (_ + ·) (H.dk S.a0 S.b0 _ _ d))
  · rw [eq_kr s]
    exact (C.dv _ _ d).trans (congrArg (_ + ·) (H.dv S.a0 _ _ d))

/-- The gradient of a point's queries. -/
theorem outs_dq (t : Fin cfg0.N) (r : Fin 512) (d : Fin 128) :
    (outsAt0 m c t.val t.isLt).1 (ix2 r d) = dqA (V m c main_arg0) (V m c main_arg1) a b (qr (bq t) r) (hd t) d := by
  by_cases h0 : t.val % 4 = 0
  · exact (congrFun (outs_A_6 m c t h0) (ix2 r d)).trans ((runSt_at S t _ _).1 r d)
  · exact (congrFun (outs_B_6 m c t h0) (ix2 r d)).trans ((runSt_at S t _ _).1 r d)

/-- The gradient of a head's keys after its last block of queries. -/
theorem outs_dk (t : Fin cfg0.N) (ht : t.val % 4 = 3) (i : S2048x128.Idx) :
    (outsAt0 m c t.val t.isLt).2.1 i = dkA (V m c main_arg0) (V m c main_arg1) a b (i 0) (hd t) (i 1) := by
  have e := Pipeline.eq_sum_fin_of_reset_step_apply_of_flush (fun n h => (outsAt0 m c n h).2.1) 4 (fun _ => (0 : EReal))
    (fun t i => ∑ r : Fin 512, dzA (V m c main_arg0) (V m c main_arg1) a b (hd t) (qr (bq t) r) (i 0) * V m c main_arg0 (ix2 (qr (bq t) r) (qc (hd t) (i 1))))
    (fun t h0 i => by
      have e0 : k0_pay90 (F := Ideal) i = 0 := by pointwise [k0_pay90]
      idx_vars i
      rw [← e0]
      exact (congrFun (outs_A_7 m c t h0) (ix2 _ _)).trans ((runSt_at S t _ _).2.1 _ _))
    (fun t h0 i => by
      idx_vars i
      exact (congrFun (outs_B_7 m c t h0) (ix2 _ _)).trans ((runSt_at S t _ _).2.1 _ _))
    t ht i
  refine e.trans ?_
  unfold dkA
  rw [zero_add, sum_queries]
  refine Finset.sum_congr rfl fun I _ => ?_
  have h1 : t.val < 32 := t.isLt
  have hI := I.isLt
  have e1 : hd ⟨4 * (t.val / 4) + I.val, by show _ < 32; omega⟩ = hd t := Fin.ext (by show (4 * (t.val / 4) + I.val) / 4 = t.val / 4; omega)
  have e2 : bq ⟨4 * (t.val / 4) + I.val, by show _ < 32; omega⟩ = I := Fin.ext (by show (4 * (t.val / 4) + I.val) % 4 = I.val; omega)
  rw [e1, e2]

/-- The gradient of a head's values after its last block of queries. -/
theorem outs_dv (t : Fin cfg0.N) (ht : t.val % 4 = 3) (i : S2048x128.Idx) :
    (outsAt0 m c t.val t.isLt).2.2 i = dvA (V m c main_arg1) a (i 0) (hd t) (i 1) := by
  have e := Pipeline.eq_sum_fin_of_reset_step_apply_of_flush (fun n h => (outsAt0 m c n h).2.2) 4 (fun _ => (0 : EReal))
    (fun t i => ∑ r : Fin 512, a (hd t) (qr (bq t) r) (i 0) * V m c main_arg1 (ix2 (qr (bq t) r) (hc (hd t) (i 1))))
    (fun t h0 i => by
      have e0 : k0_pay91 (F := Ideal) i = 0 := by pointwise [k0_pay91]
      idx_vars i
      rw [← e0]
      exact (congrFun (outs_A_8 m c t h0) (ix2 _ _)).trans ((runSt_at S t _ _).2.2 _ _))
    (fun t h0 i => by
      idx_vars i
      exact (congrFun (outs_B_8 m c t h0) (ix2 _ _)).trans ((runSt_at S t _ _).2.2 _ _))
    t ht i
  refine e.trans ?_
  unfold dvA
  rw [zero_add, sum_queries]
  refine Finset.sum_congr rfl fun I _ => ?_
  have h1 : t.val < 32 := t.isLt
  have hI := I.isLt
  have e1 : hd ⟨4 * (t.val / 4) + I.val, by show _ < 32; omega⟩ = hd t := Fin.ext (by show (4 * (t.val / 4) + I.val) / 4 = t.val / 4; omega)
  have e2 : bq ⟨4 * (t.val / 4) + I.val, by show _ < 32; omega⟩ = I := Fin.ext (by show (4 * (t.val / 4) + I.val) % 4 = I.val; omega)
  rw [e1, e2]

end Cert.KernelIdeal.Sb
-- ==== Proof.Sb.Arr.lean ====
/-
  The three result arrays of the kernel after its run.
-/
module

public import proofs.«01_k».proof.Proof.Sb.Outs

@[expose] public section

set_option maxRecDepth 16384

noncomputable section

namespace Cert.KernelIdeal.Sb

open Idealize.ShloMosaic Idealize.ShloMosaic.TcCoe Idealize.SL.Sem
open Cert.KernelIdeal Cert.KernelIdeal.Gen

/-- A result array of entries at row, head and column. -/
def arr (f : Fin 2048 → Fin 8 → Fin 128 → EReal) : Vec Ideal S2048x1024 .f32 :=
  fun i => f (i 0) ⟨(i 1).val / 128, by have : (i 1).val < 1024 := (i 1).isLt; omega⟩ ⟨(i 1).val % 128, by omega⟩

/-- The array of a function of query, head and column at an index. -/
theorem arr_at (f : Fin 2048 → Fin 8 → Fin 128 → EReal) (i : S2048x1024.Idx) (T : Fin 2048) (h : Fin 8) (d : Fin 128)
    (e0 : (i 0).val = T.val) (e1 : (i 1).val = 128 * h.val + d.val) : arr f i = f T h d := by
  unfold arr
  have hd := d.isLt
  rw [show (i 0) = T from Fin.ext e0,
    show (⟨(i 1).val / 128, by have : (i 1).val < 1024 := (i 1).isLt; omega⟩ : Fin 8) = h from Fin.ext (by show (i 1).val / 128 = h.val; omega),
    show (⟨(i 1).val % 128, by omega⟩ : Fin 128) = d from Fin.ext (by show (i 1).val % 128 = d.val; omega)]

variable {m : (ℓ : Loc nD τ sig) → Buf (Elt Ideal) ℓ} {c : Dev nD}

variable {a b : Fin 8 → Fin 2048 → Fin 2048 → EReal} (S : Saved m c a b)

include S

/-- The array of window 6. -/
theorem arr6 : (dats m 0 c).arrAt 6 cfg0.N = arr (dqA (V m c main_arg0) (V m c main_arg1) a b) := by
  refine (dats m 0 c).arrAt_eq_of_covers 6 _ (by decide +kernel) fun t hf y => ?_
  rw [after0_6]
  idx_vars y
  refine (outs_dq S t _ _).trans (arr_at _ _ _ _ _ ?_ ?_).symm
  · blk_simp [(idx6 t).1, (idx6 t).2]
    show t.val % 4 * 512 + y0.val = 512 * (t.val % 4) + y0.val
    omega
  · blk_simp [(idx6 t).1, (idx6 t).2]
    show t.val / 4 * 128 + y1.val = 128 * (t.val / 4) + y1.val
    omega

/-- The array of window 7. -/
theorem arr7 : (dats m 0 c).arrAt 7 cfg0.N = arr (dkA (V m c main_arg0) (V m c main_arg1) a b) := by
  refine (dats m 0 c).arrAt_eq_of_covers 7 _ (by decide +kernel) fun t hf y => ?_
  rw [after0_7]
  idx_vars y
  refine (outs_dk S t ((flush0_7 t).mp hf) _).trans (arr_at _ _ _ _ _ ?_ ?_).symm
  · blk_simp [(idx7 t).1, (idx7 t).2]
    rfl
  · blk_simp [(idx7 t).1, (idx7 t).2]
    show t.val / 4 * 128 + y1.val = 128 * (t.val / 4) + y1.val
    omega

/-- The array of window 8. -/
theorem arr8 : (dats m 0 c).arrAt 8 cfg0.N = arr (dvA (V m c main_arg1) a) := by
  refine (dats m 0 c).arrAt_eq_of_covers 8 _ (by decide +kernel) fun t hf y => ?_
  rw [after0_8]
  idx_vars y
  refine (outs_dv S t ((flush0_8 t).mp hf) _).trans (arr_at _ _ _ _ _ ?_ ?_).symm
  · blk_simp [(idx8 t).1, (idx8 t).2]
    rfl
  · blk_simp [(idx8 t).1, (idx8 t).2]
    show t.val / 4 * 128 + y1.val = 128 * (t.val / 4) + y1.val
    omega

end Cert.KernelIdeal.Sb
-- ==== Proof.Sb.Res.lean ====
/-
  The reference's three results are the arrays that the kernel flushes.
-/
module

public import proofs.«01_k».proof.Proof.Sb.Real
public import proofs.«01_k».proof.Proof.Sb.Arr

@[expose] public section

set_option maxRecDepth 16384

noncomputable section

namespace Cert.ReferenceIdeal.Sb

open Idealize.ShloMosaic Idealize.ShloMosaic.TcCoe Idealize.SL.Sem
open Cert.ReferenceIdeal Cert.ReferenceIdeal.Value Cert.ReferenceIdeal.Gen
open Cert.KernelIdeal.Sb (gA preA dzA hc vc qc kc dqA dkA dvA arr)

variable (x : FVec Ideal S8x2048x2048 .f32) (P : Vec Ideal S2048x6144 .f32) (D : Vec Ideal S2048x1024 .f32) (T : Fin 2048) (l : Fin 1024)

/-- The head of a column and its place there. -/
def hOf : Fin 8 := ⟨l.val / 128, by omega⟩
@[inherit_doc hOf] def dOf : Fin 128 := ⟨l.val % 128, by omega⟩

/-- The values' gradient at an index: a sum over the queries. -/
theorem dv_at : shapeCast S2048x1024 (transpose S2048x8x128 [2, 0, 1] (Host.dotGeneral (φ₂ := .f32) dot_S8x128x2048_S8x2048x2048_S8x128x2048_2_1_1_2_0_0 none (oV D) x) transposes_S8x128x2048_S2048x8x128_2_0_1) shapeCasts_S2048x8x128_S2048x1024 (ix2 T l) = ∑ t : Fin 2048, D (ix2 t (hc (hOf l) (dOf l))) * x (ix3 (hOf l) t T) := by
  pointwise [oV]
  refine Finset.sum_congr rfl fun t _ => ?_
  rw [show hc (hOf l) (dOf l) = l from Fin.ext (by show 128 * (l.val / 128) + l.val % 128 = l.val; omega)]
  rfl

/-- The keys' gradient at an index: a sum over the queries. -/
theorem dk_at : shapeCast S2048x1024 (transpose S2048x8x128 [1, 0, 2] (Host.dotGeneral (φ₂ := .f32) dot_S8x2048x2048_S2048x8x128_S8x2048x128_1_0_2_2_0_1 none x (qV P)) transposes_S8x2048x128_S2048x8x128_1_0_2) shapeCasts_S2048x8x128_S2048x1024 (ix2 T l) = ∑ t : Fin 2048, x (ix3 (hOf l) t T) * P (ix2 t (qc (hOf l) (dOf l))) := by
  pointwise [qV]
  refine Finset.sum_congr rfl fun t _ => ?_
  refine congrArg (fun y => x (ix3 (hOf l) t T) * P (ix2 t y)) (Fin.ext ?_)
  show l.val = 128 * (l.val / 128) + l.val % 128
  omega

/-- The queries' gradient at an index: a sum over the keys. -/
theorem dq_at : shapeCast S2048x1024 (transpose S2048x8x128 [1, 0, 2] (Host.dotGeneral (φ₂ := .f32) dot_S8x2048x2048_S2048x8x128_S8x2048x128_2_0_1_2_0_1 none x (kV P)) transposes_S8x2048x128_S2048x8x128_1_0_2) shapeCasts_S2048x8x128_S2048x1024 (ix2 T l) = ∑ t : Fin 2048, x (ix3 (hOf l) T t) * P (ix2 t (kc (hOf l) (dOf l))) := by
  pointwise [kV]
  refine Finset.sum_congr rfl fun t _ => ?_
  refine congrArg (fun y => x (ix3 (hOf l) T t) * P (ix2 t y)) (Fin.ext ?_)
  show 1024 + l.val = 1024 + 128 * (l.val / 128) + l.val % 128
  omega

variable (m : (ℓ : Loc nD τ sig) → Buf (Elt Ideal) ℓ) (c : Dev nD)
variable (hP : ∀ i, Finite (m ((c.tc : Thread nD τ).loc main_arg0) i)) (hD : ∀ i, Finite (m ((c.tc : Thread nD τ).loc main_arg1) i))

/-- An array of entries at row and column. -/
theorem arr_ix (f : Fin 2048 → Fin 8 → Fin 128 → EReal) : arr f (ix2 T l) = f T (hOf l) (dOf l) := rfl

include hP hD in
/-- The gradient of the queries. -/
theorem res0 : res_main_v48 m c = arr (dqA (m ((c.tc : Thread nD τ).loc main_arg0)) (m ((c.tc : Thread nD τ).loc main_arg1)) (aR (m ((c.tc : Thread nD τ).loc main_arg0))) (bR (m ((c.tc : Thread nD τ).loc main_arg0)))) := by
  rw [res0_eq]
  funext i
  idx_vars i
  refine (dq_at _ _ _ _).trans ?_
  rw [arr_ix]
  exact Finset.sum_congr rfl fun t _ => congrArg (· * _) (dz_eq _ _ hP hD _ _ _)

include hP hD in
/-- The gradient of the keys. -/
theorem res1 : res_main_v49 m c = arr (dkA (m ((c.tc : Thread nD τ).loc main_arg0)) (m ((c.tc : Thread nD τ).loc main_arg1)) (aR (m ((c.tc : Thread nD τ).loc main_arg0))) (bR (m ((c.tc : Thread nD τ).loc main_arg0)))) := by
  rw [res1_eq]
  funext i
  idx_vars i
  refine (dk_at _ _ _ _).trans ?_
  rw [arr_ix]
  exact Finset.sum_congr rfl fun t _ => congrArg (· * _) (dz_eq _ _ hP hD _ _ _)

/-- The gradient of the values. -/
theorem res2 : res_main_v50 m c = arr (dvA (m ((c.tc : Thread nD τ).loc main_arg1)) (aR (m ((c.tc : Thread nD τ).loc main_arg0)))) := by
  rw [res2_eq]
  funext i
  idx_vars i
  refine (dv_at _ _ _ _).trans ?_
  rw [arr_ix]
  exact Finset.sum_congr rfl fun t _ => mul_comm _ _

end Cert.ReferenceIdeal.Sb
-- ==== Proof.Mm.Down.lean ====
module

public import proofs.«01_k».proof.Defs
public import proofs.«01_k».proof.Proof.Gen.Down.Frame
public import proofs.«01_k».proof.Proof.Gen.DownIdeal.Frame
public import proofs.«01_k».proof.Proof.Gen.DownRefIdeal.Run
public import proofs.«01_k».proof.Proof.Sb.Res
public import Idealize.ShloMosaic.Lib.Pipeline.ValueKit
public import Idealize.ShloMosaic.Lib.Quiescent
public import Idealize.ShloMosaic.Adequacy
public import Idealize.ShloMosaic.Init

/-! The program `Down`: 2 of the step's matrix products, each a tiled kernel call. The run names what every call leaves in its
result array; each of those arrays is then shown to be the reference's. -/

@[expose] public section

set_option maxRecDepth 16384

noncomputable section

namespace Cert.DownIdeal.Mm

section Launch

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-- The assertions of the run's logic at this program. -/
local notation "𝕄" => MT nD τ sig Unit (Elt F) ℕ (UR sig nD τ) ℕ

/-- The whole run: it ends with every unscoped buffer at the contents the last boundary names. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)

/-- At the end the first result is what the points of the first call wrote. -/
theorem res0 (c : Dev nD) : W2 m ρ c (Proc.devRef .tc main_v0) = (dat0 (V0 m ρ) c).arrAt 2 cfg0.N :=
  (W2_of_ne m ρ c main_v0 (by decide)).trans (W1_arr m ρ c 2)

/-- At the end the second result is what the points of the second call wrote. -/
theorem res1 (c : Dev nD) : W2 m ρ c (Proc.devRef .tc main_v1) = (dat1 (V1 m ρ) c).arrAt 2 cfg1.N :=
  W2_arr m ρ c 2

end Launch

open Cert.DownIdeal Cert.DownIdeal.Gen Idealize.ShloMosaic Idealize.ShloMosaic.TcCoe Idealize.SL.Sem
open Idealize.ShloMosaic.Pipeline (Dat)

/-- The reference's gradient of the left factor: the cotangent times the transposed weight. -/
abbrev REF0 (a1 : FVec Ideal S5632x2048 .bf16) (a2 : FVec Ideal S2048x2048 .bf16) : FVec Ideal S2048x5632 .f32 :=
  Host.dotGeneral (φ₂ := .f32) Cert.DownRefIdeal.dot_S2048x2048_S5632x2048_S2048x5632_1_1_0_0_n_n none (extf .f32 a2 Cert.DownRefIdeal.Gen.bitsLt_bf16_f32) (extf .f32 a1 Cert.DownRefIdeal.Gen.bitsLt_bf16_f32)

/-- Which blocks the points of the first call hold. -/
theorem idx0 : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

/-- The first call leaves the reference's gradient of the left factor: a point's block is the same sum of products, read through the block. -/
theorem final0 (V : (c : Dev nD) → (b : Ref sig .tc) → Buf (Elt Ideal) ((c : Thread nD τ).loc b)) (c : Dev nD) :
    (dat0 (F := Ideal) V c).arrAt 2 cfg0.N = REF0 (V c main_arg1) (V c main_arg2) := by
  refine (dat0 V c).arrAt_eq_of_covers 2 _ (by decide +kernel) fun t _ y => ?_
  blk_simp
  rw [after0_2]; frame_out
  pointwise [k0_pay1, REF0]
  blk_point [iblk0, idx0 t]

/-- The reference's gradient of the weight: the transposed left factor times the cotangent. -/
abbrev REF1 (a0 : FVec Ideal S2048x5632 .bf16) (a2 : FVec Ideal S2048x2048 .bf16) : FVec Ideal S5632x2048 .bf16 :=
  truncf .bf16 (transpose Cert.DownRefIdeal.S5632x2048 [1, 0] (Host.dotGeneral (φ₂ := .f32) Cert.DownRefIdeal.dot_S2048x2048_S2048x5632_S2048x5632_0_0_1_1_n_n none (extf .f32 a2 Cert.DownRefIdeal.Gen.bitsLt_bf16_f32) (extf .f32 a0 Cert.DownRefIdeal.Gen.bitsLt_bf16_f32)) Cert.DownRefIdeal.Gen.transposes_S2048x5632_S5632x2048_1_0) Cert.DownRefIdeal.Gen.bitsLt_bf16_f32

/-- Which blocks the points of the second call hold. -/
theorem idx1 : ∀ t : Fin cfg1.N, win1_0.index t = ![0, (grid1.coords t 0).val] ∧ win1_1.index t = ![0, (grid1.coords t 1).val]
    ∧ win1_2.index t = ![(grid1.coords t 0).val, (grid1.coords t 1).val] :=
  (by decide +kernel : ∀ t : Fin grid1.N, _)

/-- The second call leaves the reference's gradient of the weight: a point's block is the same sum of products, read through the block. -/
theorem final1 (V : (c : Dev nD) → (b : Ref sig .tc) → Buf (Elt Ideal) ((c : Thread nD τ).loc b)) (c : Dev nD) :
    (dat1 (F := Ideal) V c).arrAt 2 cfg1.N = REF1 (V c main_arg0) (V c main_arg2) := by
  refine (dat1 V c).arrAt_eq_of_covers 2 _ (by decide +kernel) fun t _ y => ?_
  blk_simp
  rw [after1_2]; frame_out
  pointwise [k1_pay1, REF1]
  refine Fin.sum_fin_congr fun k => Eq.trans (mul_comm (_ : EReal) (_ : EReal)) ?_
  blk_point [iblk1, idx1 t]

/-- The program on the machine's numbers runs to its end with its arguments unchanged. -/
theorem frame_bits : Cert.quiescent_Down := fun m ρ _ => Cert.Down.Gen.frame m ρ

/-- The program on the extended reals runs to its end with its arguments unchanged. -/
theorem frame_ideal : Cert.quiescent_DownIdeal := fun m ρ _ => Cert.DownIdeal.Gen.frame (F := Ideal) m ρ

/-- The reference runs to its end with its arguments unchanged, and it declares no semaphore. -/
theorem frame_ref : Cert.quiescent_DownRefIdeal := fun m ρ _ =>
  (θ_run Cert.DownRefIdeal.defs _ _).mono (fun r h => ⟨fun c => (h c).2.2,
      Idealize.ShloMosaic.sem_eq_zero_of_no_sems (by decide) r.2⟩)
    (Cert.DownRefIdeal.Value.run (F := Ideal) m ρ)

set_option backward.isDefEq.respectTransparency.types false in
/-- Kernel and reference end with equal results. -/
theorem algebraic : Cert.algebraic_DownIdeal_DownRefIdeal := fun m g m' g' _ hag => by
  refine ⟨fun c => (dat0 (V0 m g) c).arrAt 2 cfg0.N, fun c => (dat1 (V1 m g) c).arrAt 2 cfg1.N,
    (θ_run defs _ _).mono (fun r h c => ⟨(h c _ (mem_uc main_v0 (by decide))).trans (res0 m g c), (h c _ (mem_uc main_v1 (by decide))).trans (res1 m g c),
      (h c _ (mem_uc main_arg0 (by decide))).trans (W2_main_arg0 m g c), (h c _ (mem_uc main_arg1 (by decide))).trans (W2_main_arg1 m g c), (h c _ (mem_uc main_arg2 (by decide))).trans (W2_main_arg2 m g c)⟩) (run_all m g),
    (θ_run _ _ _).mono (fun r h c => ?_) (Cert.DownRefIdeal.Value.run m' g')⟩
  obtain ⟨h0, h1, hr⟩ := h c
  obtain ⟨e0, e1, e2⟩ := hag c
  have k0 := final0 (V0 m g) c
  rw [show V0 m g c main_arg1 = m ((c : Thread nD τ).loc main_arg1) from W0_args m g c main_arg1 (by decide), show V0 m g c main_arg2 = m ((c : Thread nD τ).loc main_arg2) from W0_args m g c main_arg2 (by decide)] at k0
  have k1 := final1 (V1 m g) c
  rw [show V1 m g c main_arg0 = m ((c : Thread nD τ).loc main_arg0) from W1_args m g c main_arg0 (by decide), show V1 m g c main_arg2 = m ((c : Thread nD τ).loc main_arg2) from W1_args m g c main_arg2 (by decide)] at k1
  rw [e1, e2] at h0
  rw [e0, e2] at h1
  exact ⟨h0.trans k0.symm, h1.trans k1.symm, hr⟩

end Cert.DownIdeal.Mm

end
-- ==== Proof.Mm.Out.lean ====
module

public import proofs.«01_k».proof.Defs
public import proofs.«01_k».proof.Proof.Gen.Out.Frame
public import proofs.«01_k».proof.Proof.Gen.OutIdeal.Frame
public import proofs.«01_k».proof.Proof.Gen.OutRefIdeal.Run
public import proofs.«01_k».proof.Proof.Sb.Res
public import Idealize.ShloMosaic.Lib.Pipeline.ValueKit
public import Idealize.ShloMosaic.Lib.Quiescent
public import Idealize.ShloMosaic.Adequacy
public import Idealize.ShloMosaic.Init

/-! The program `Out`: 3 of the step's matrix products, each a tiled kernel call. The run names what every call leaves in its
result array; each of those arrays is then shown to be the reference's. -/

@[expose] public section

set_option maxRecDepth 16384

noncomputable section

namespace Cert.OutIdeal.Mm

section Launch

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-- The assertions of the run's logic at this program. -/
local notation "𝕄" => MT nD τ sig Unit (Elt F) ℕ (UR sig nD τ) ℕ

/-- The whole run: it ends with every unscoped buffer at the contents the last boundary names. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- At the end the first result is what the points of the first call wrote. -/
theorem res0 (c : Dev nD) : W3 m ρ c (Proc.devRef .tc main_v0) = (dat0 (V0 m ρ) c).arrAt 2 cfg0.N :=
  (W3_of_ne m ρ c main_v0 (by decide)).trans ((W2_of_ne m ρ c main_v0 (by decide)).trans (W1_arr m ρ c 2))

/-- At the end the second result is what the points of the second call wrote. -/
theorem res1 (c : Dev nD) : W3 m ρ c (Proc.devRef .tc main_v1) = (dat1 (V1 m ρ) c).arrAt 2 cfg1.N :=
  (W3_of_ne m ρ c main_v1 (by decide)).trans (W2_arr m ρ c 2)

/-- At the end the third result is what the points of the third call wrote. -/
theorem res2 (c : Dev nD) : W3 m ρ c (Proc.devRef .tc main_v2) = (dat2 (V2 m ρ) c).arrAt 2 cfg2.N :=
  W3_arr m ρ c 2

end Launch

open Cert.OutIdeal Cert.OutIdeal.Gen Idealize.ShloMosaic Idealize.ShloMosaic.TcCoe Idealize.SL.Sem
open Idealize.ShloMosaic.Pipeline (Dat)

/-- The reference's product. -/
abbrev REF0 (a0 : FVec Ideal S2048x2048 .bf16) (a1 : FVec Ideal S2048x2048 .bf16) : FVec Ideal S2048x2048 .f32 :=
  Host.dotGeneral (φ₂ := .f32) Cert.OutRefIdeal.dot_S2048x2048_S2048x2048_S2048x2048_1_0_0_1_n_n none (extf .f32 a0 Cert.OutRefIdeal.Gen.bitsLt_bf16_f32) (extf .f32 a1 Cert.OutRefIdeal.Gen.bitsLt_bf16_f32)

/-- Which blocks the points of the first call hold. -/
theorem idx0 : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The first call leaves the reference's product: a point's block is the same sum of products, read through the block. -/
theorem final0 (V : (c : Dev nD) → (b : Ref sig .tc) → Buf (Elt Ideal) ((c : Thread nD τ).loc b)) (c : Dev nD) :
    (dat0 (F := Ideal) V c).arrAt 2 cfg0.N = REF0 (V c main_arg0) (V c main_arg1) := by
  refine (dat0 V c).arrAt_eq_of_covers 2 _ (by decide +kernel) fun t _ y => ?_
  blk_simp
  rw [after0_2]; frame_out
  pointwise [k0_pay1, REF0]
  blk_point [iblk0, idx0 t]

/-- The reference's gradient of the left factor: the cotangent times the transposed weight. -/
abbrev REF1 (a1 : FVec Ideal S2048x2048 .bf16) (a2 : FVec Ideal S2048x2048 .bf16) : FVec Ideal S2048x2048 .f32 :=
  Host.dotGeneral (φ₂ := .f32) Cert.OutRefIdeal.dot_S2048x2048_S2048x2048_S2048x2048_1_1_0_0_n_n none (extf .f32 a2 Cert.OutRefIdeal.Gen.bitsLt_bf16_f32) (extf .f32 a1 Cert.OutRefIdeal.Gen.bitsLt_bf16_f32)

/-- Which blocks the points of the second call hold. -/
theorem idx1 : ∀ t : Fin cfg1.N, win1_0.index t = ![(grid1.coords t 0).val, 0] ∧ win1_1.index t = ![(grid1.coords t 1).val, 0]
    ∧ win1_2.index t = ![(grid1.coords t 0).val, (grid1.coords t 1).val] :=
  (by decide +kernel : ∀ t : Fin grid1.N, _)

/-- The second call leaves the reference's gradient of the left factor: a point's block is the same sum of products, read through the block. -/
theorem final1 (V : (c : Dev nD) → (b : Ref sig .tc) → Buf (Elt Ideal) ((c : Thread nD τ).loc b)) (c : Dev nD) :
    (dat1 (F := Ideal) V c).arrAt 2 cfg1.N = REF1 (V c main_arg1) (V c main_arg2) := by
  refine (dat1 V c).arrAt_eq_of_covers 2 _ (by decide +kernel) fun t _ y => ?_
  blk_simp
  rw [after1_2]; frame_out
  pointwise [k1_pay1, REF1]
  blk_point [iblk1, idx1 t]

/-- The reference's gradient of the weight: the transposed left factor times the cotangent. -/
abbrev REF2 (a0 : FVec Ideal S2048x2048 .bf16) (a2 : FVec Ideal S2048x2048 .bf16) : FVec Ideal S2048x2048 .bf16 :=
  truncf .bf16 (transpose Cert.OutRefIdeal.S2048x2048 [1, 0] (Host.dotGeneral (φ₂ := .f32) Cert.OutRefIdeal.dot_S2048x2048_S2048x2048_S2048x2048_0_0_1_1_n_n none (extf .f32 a2 Cert.OutRefIdeal.Gen.bitsLt_bf16_f32) (extf .f32 a0 Cert.OutRefIdeal.Gen.bitsLt_bf16_f32)) Cert.OutRefIdeal.Gen.transposes_S2048x2048_S2048x2048_1_0) Cert.OutRefIdeal.Gen.bitsLt_bf16_f32

/-- Which blocks the points of the third call hold. -/
theorem idx2 : ∀ t : Fin cfg2.N, win2_0.index t = ![0, (grid2.coords t 0).val] ∧ win2_1.index t = ![0, (grid2.coords t 1).val]
    ∧ win2_2.index t = ![(grid2.coords t 0).val, (grid2.coords t 1).val] :=
  (by decide +kernel : ∀ t : Fin grid2.N, _)

/-- The third call leaves the reference's gradient of the weight: a point's block is the same sum of products, read through the block. -/
theorem final2 (V : (c : Dev nD) → (b : Ref sig .tc) → Buf (Elt Ideal) ((c : Thread nD τ).loc b)) (c : Dev nD) :
    (dat2 (F := Ideal) V c).arrAt 2 cfg2.N = REF2 (V c main_arg0) (V c main_arg2) := by
  refine (dat2 V c).arrAt_eq_of_covers 2 _ (by decide +kernel) fun t _ y => ?_
  blk_simp
  rw [after2_2]; frame_out
  pointwise [k2_pay1, REF2]
  refine Fin.sum_fin_congr fun k => Eq.trans (mul_comm (_ : EReal) (_ : EReal)) ?_
  blk_point [iblk2, idx2 t]

/-- The program on the machine's numbers runs to its end with its arguments unchanged. -/
theorem frame_bits : Cert.quiescent_Out := fun m ρ _ => Cert.Out.Gen.frame m ρ

/-- The program on the extended reals runs to its end with its arguments unchanged. -/
theorem frame_ideal : Cert.quiescent_OutIdeal := fun m ρ _ => Cert.OutIdeal.Gen.frame (F := Ideal) m ρ

/-- The reference runs to its end with its arguments unchanged, and it declares no semaphore. -/
theorem frame_ref : Cert.quiescent_OutRefIdeal := fun m ρ _ =>
  (θ_run Cert.OutRefIdeal.defs _ _).mono (fun r h => ⟨fun c => (h c).2.2.2,
      Idealize.ShloMosaic.sem_eq_zero_of_no_sems (by decide) r.2⟩)
    (Cert.OutRefIdeal.Value.run (F := Ideal) m ρ)

set_option backward.isDefEq.respectTransparency.types false in
/-- Kernel and reference end with equal results. -/
theorem algebraic : Cert.algebraic_OutIdeal_OutRefIdeal := fun m g m' g' _ hag => by
  refine ⟨fun c => (dat0 (V0 m g) c).arrAt 2 cfg0.N, fun c => (dat1 (V1 m g) c).arrAt 2 cfg1.N, fun c => (dat2 (V2 m g) c).arrAt 2 cfg2.N,
    (θ_run defs _ _).mono (fun r h c => ⟨(h c _ (mem_uc main_v0 (by decide))).trans (res0 m g c), (h c _ (mem_uc main_v1 (by decide))).trans (res1 m g c), (h c _ (mem_uc main_v2 (by decide))).trans (res2 m g c),
      (h c _ (mem_uc main_arg0 (by decide))).trans (W3_main_arg0 m g c), (h c _ (mem_uc main_arg1 (by decide))).trans (W3_main_arg1 m g c), (h c _ (mem_uc main_arg2 (by decide))).trans (W3_main_arg2 m g c)⟩) (run_all m g),
    (θ_run _ _ _).mono (fun r h c => ?_) (Cert.OutRefIdeal.Value.run m' g')⟩
  obtain ⟨h0, h1, h2, hr⟩ := h c
  obtain ⟨e0, e1, e2⟩ := hag c
  have k0 := final0 (V0 m g) c
  rw [show V0 m g c main_arg0 = m ((c : Thread nD τ).loc main_arg0) from W0_args m g c main_arg0 (by decide), show V0 m g c main_arg1 = m ((c : Thread nD τ).loc main_arg1) from W0_args m g c main_arg1 (by decide)] at k0
  have k1 := final1 (V1 m g) c
  rw [show V1 m g c main_arg1 = m ((c : Thread nD τ).loc main_arg1) from W1_args m g c main_arg1 (by decide), show V1 m g c main_arg2 = m ((c : Thread nD τ).loc main_arg2) from W1_args m g c main_arg2 (by decide)] at k1
  have k2 := final2 (V2 m g) c
  rw [show V2 m g c main_arg0 = m ((c : Thread nD τ).loc main_arg0) from W2_args m g c main_arg0 (by decide), show V2 m g c main_arg2 = m ((c : Thread nD τ).loc main_arg2) from W2_args m g c main_arg2 (by decide)] at k2
  rw [e0, e1] at h0
  rw [e1, e2] at h1
  rw [e0, e2] at h2
  exact ⟨h0.trans k0.symm, h1.trans k1.symm, h2.trans k2.symm, hr⟩

end Cert.OutIdeal.Mm

end
-- ==== Proof.Mm.Branch.lean ====
module

public import proofs.«01_k».proof.Defs
public import proofs.«01_k».proof.Proof.Gen.Branch.Frame
public import proofs.«01_k».proof.Proof.Gen.BranchIdeal.Frame
public import proofs.«01_k».proof.Proof.Gen.BranchRefIdeal.Run
public import proofs.«01_k».proof.Proof.Sb.Res
public import Idealize.ShloMosaic.Lib.Pipeline.ValueKit
public import Idealize.ShloMosaic.Lib.Quiescent
public import Idealize.ShloMosaic.Adequacy
public import Idealize.ShloMosaic.Init

/-! The program `Branch`: 3 of the step's matrix products, each a tiled kernel call. The run names what every call leaves in its
result array; each of those arrays is then shown to be the reference's. -/

@[expose] public section

set_option maxRecDepth 16384

noncomputable section

namespace Cert.BranchIdeal.Mm

section Launch

open Cert.BranchIdeal Cert.BranchIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-- The assertions of the run's logic at this program. -/
local notation "𝕄" => MT nD τ sig Unit (Elt F) ℕ (UR sig nD τ) ℕ

/-- The whole run: it ends with every unscoped buffer at the contents the last boundary names. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- At the end the first result is what the points of the first call wrote. -/
theorem res0 (c : Dev nD) : W3 m ρ c (Proc.devRef .tc main_v0) = (dat0 (V0 m ρ) c).arrAt 2 cfg0.N :=
  (W3_of_ne m ρ c main_v0 (by decide)).trans ((W2_of_ne m ρ c main_v0 (by decide)).trans (W1_arr m ρ c 2))

/-- At the end the second result is what the points of the second call wrote. -/
theorem res1 (c : Dev nD) : W3 m ρ c (Proc.devRef .tc main_v1) = (dat1 (V1 m ρ) c).arrAt 2 cfg1.N :=
  (W3_of_ne m ρ c main_v1 (by decide)).trans (W2_arr m ρ c 2)

/-- At the end the third result is what the points of the third call wrote. -/
theorem res2 (c : Dev nD) : W3 m ρ c (Proc.devRef .tc main_v2) = (dat2 (V2 m ρ) c).arrAt 2 cfg2.N :=
  W3_arr m ρ c 2

end Launch

open Cert.BranchIdeal Cert.BranchIdeal.Gen Idealize.ShloMosaic Idealize.ShloMosaic.TcCoe Idealize.SL.Sem
open Idealize.ShloMosaic.Pipeline (Dat)

/-- The reference's product. -/
abbrev REF0 (a0 : FVec Ideal S2048x1024 .bf16) (a1 : FVec Ideal S1024x2048 .bf16) : FVec Ideal S2048x2048 .f32 :=
  Host.dotGeneral (φ₂ := .f32) Cert.BranchRefIdeal.dot_S2048x1024_S1024x2048_S2048x2048_1_0_0_1_n_n none (extf .f32 a0 Cert.BranchRefIdeal.Gen.bitsLt_bf16_f32) (extf .f32 a1 Cert.BranchRefIdeal.Gen.bitsLt_bf16_f32)

/-- Which blocks the points of the first call hold. -/
theorem idx0 : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The first call leaves the reference's product: a point's block is the same sum of products, read through the block. -/
theorem final0 (V : (c : Dev nD) → (b : Ref sig .tc) → Buf (Elt Ideal) ((c : Thread nD τ).loc b)) (c : Dev nD) :
    (dat0 (F := Ideal) V c).arrAt 2 cfg0.N = REF0 (V c main_arg0) (V c main_arg1) := by
  refine (dat0 V c).arrAt_eq_of_covers 2 _ (by decide +kernel) fun t _ y => ?_
  blk_simp
  rw [after0_2]; frame_out
  pointwise [k0_pay1, REF0]
  blk_point [iblk0, idx0 t]

/-- The reference's gradient of the left factor: the cotangent times the transposed weight. -/
abbrev REF1 (a1 : FVec Ideal S1024x2048 .bf16) (a2 : FVec Ideal S2048x2048 .bf16) : FVec Ideal S2048x1024 .f32 :=
  Host.dotGeneral (φ₂ := .f32) Cert.BranchRefIdeal.dot_S2048x2048_S1024x2048_S2048x1024_1_1_0_0_n_n none (extf .f32 a2 Cert.BranchRefIdeal.Gen.bitsLt_bf16_f32) (extf .f32 a1 Cert.BranchRefIdeal.Gen.bitsLt_bf16_f32)

/-- Which blocks the points of the second call hold. -/
theorem idx1 : ∀ t : Fin cfg1.N, win1_0.index t = ![(grid1.coords t 0).val, 0] ∧ win1_1.index t = ![(grid1.coords t 1).val, 0]
    ∧ win1_2.index t = ![(grid1.coords t 0).val, (grid1.coords t 1).val] :=
  (by decide +kernel : ∀ t : Fin grid1.N, _)

/-- The second call leaves the reference's gradient of the left factor: a point's block is the same sum of products, read through the block. -/
theorem final1 (V : (c : Dev nD) → (b : Ref sig .tc) → Buf (Elt Ideal) ((c : Thread nD τ).loc b)) (c : Dev nD) :
    (dat1 (F := Ideal) V c).arrAt 2 cfg1.N = REF1 (V c main_arg1) (V c main_arg2) := by
  refine (dat1 V c).arrAt_eq_of_covers 2 _ (by decide +kernel) fun t _ y => ?_
  blk_simp
  rw [after1_2]; frame_out
  pointwise [k1_pay1, REF1]
  blk_point [iblk1, idx1 t]

/-- The reference's gradient of the weight: the transposed left factor times the cotangent. -/
abbrev REF2 (a0 : FVec Ideal S2048x1024 .bf16) (a2 : FVec Ideal S2048x2048 .bf16) : FVec Ideal S1024x2048 .bf16 :=
  truncf .bf16 (transpose Cert.BranchRefIdeal.S1024x2048 [1, 0] (Host.dotGeneral (φ₂ := .f32) Cert.BranchRefIdeal.dot_S2048x2048_S2048x1024_S2048x1024_0_0_1_1_n_n none (extf .f32 a2 Cert.BranchRefIdeal.Gen.bitsLt_bf16_f32) (extf .f32 a0 Cert.BranchRefIdeal.Gen.bitsLt_bf16_f32)) Cert.BranchRefIdeal.Gen.transposes_S2048x1024_S1024x2048_1_0) Cert.BranchRefIdeal.Gen.bitsLt_bf16_f32

/-- Which blocks the points of the third call hold. -/
theorem idx2 : ∀ t : Fin cfg2.N, win2_0.index t = ![0, (grid2.coords t 0).val] ∧ win2_1.index t = ![0, (grid2.coords t 1).val]
    ∧ win2_2.index t = ![(grid2.coords t 0).val, (grid2.coords t 1).val] :=
  (by decide +kernel : ∀ t : Fin grid2.N, _)

/-- The third call leaves the reference's gradient of the weight: a point's block is the same sum of products, read through the block. -/
theorem final2 (V : (c : Dev nD) → (b : Ref sig .tc) → Buf (Elt Ideal) ((c : Thread nD τ).loc b)) (c : Dev nD) :
    (dat2 (F := Ideal) V c).arrAt 2 cfg2.N = REF2 (V c main_arg0) (V c main_arg2) := by
  refine (dat2 V c).arrAt_eq_of_covers 2 _ (by decide +kernel) fun t _ y => ?_
  blk_simp
  rw [after2_2]; frame_out
  pointwise [k2_pay1, REF2]
  refine Fin.sum_fin_congr fun k => Eq.trans (mul_comm (_ : EReal) (_ : EReal)) ?_
  blk_point [iblk2, idx2 t]

/-- The program on the machine's numbers runs to its end with its arguments unchanged. -/
theorem frame_bits : Cert.quiescent_Branch := fun m ρ _ => Cert.Branch.Gen.frame m ρ

/-- The program on the extended reals runs to its end with its arguments unchanged. -/
theorem frame_ideal : Cert.quiescent_BranchIdeal := fun m ρ _ => Cert.BranchIdeal.Gen.frame (F := Ideal) m ρ

/-- The reference runs to its end with its arguments unchanged, and it declares no semaphore. -/
theorem frame_ref : Cert.quiescent_BranchRefIdeal := fun m ρ _ =>
  (θ_run Cert.BranchRefIdeal.defs _ _).mono (fun r h => ⟨fun c => (h c).2.2.2,
      Idealize.ShloMosaic.sem_eq_zero_of_no_sems (by decide) r.2⟩)
    (Cert.BranchRefIdeal.Value.run (F := Ideal) m ρ)

set_option backward.isDefEq.respectTransparency.types false in
/-- Kernel and reference end with equal results. -/
theorem algebraic : Cert.algebraic_BranchIdeal_BranchRefIdeal := fun m g m' g' _ hag => by
  refine ⟨fun c => (dat0 (V0 m g) c).arrAt 2 cfg0.N, fun c => (dat1 (V1 m g) c).arrAt 2 cfg1.N, fun c => (dat2 (V2 m g) c).arrAt 2 cfg2.N,
    (θ_run defs _ _).mono (fun r h c => ⟨(h c _ (mem_uc main_v0 (by decide))).trans (res0 m g c), (h c _ (mem_uc main_v1 (by decide))).trans (res1 m g c), (h c _ (mem_uc main_v2 (by decide))).trans (res2 m g c),
      (h c _ (mem_uc main_arg0 (by decide))).trans (W3_main_arg0 m g c), (h c _ (mem_uc main_arg1 (by decide))).trans (W3_main_arg1 m g c), (h c _ (mem_uc main_arg2 (by decide))).trans (W3_main_arg2 m g c)⟩) (run_all m g),
    (θ_run _ _ _).mono (fun r h c => ?_) (Cert.BranchRefIdeal.Value.run m' g')⟩
  obtain ⟨h0, h1, h2, hr⟩ := h c
  obtain ⟨e0, e1, e2⟩ := hag c
  have k0 := final0 (V0 m g) c
  rw [show V0 m g c main_arg0 = m ((c : Thread nD τ).loc main_arg0) from W0_args m g c main_arg0 (by decide), show V0 m g c main_arg1 = m ((c : Thread nD τ).loc main_arg1) from W0_args m g c main_arg1 (by decide)] at k0
  have k1 := final1 (V1 m g) c
  rw [show V1 m g c main_arg1 = m ((c : Thread nD τ).loc main_arg1) from W1_args m g c main_arg1 (by decide), show V1 m g c main_arg2 = m ((c : Thread nD τ).loc main_arg2) from W1_args m g c main_arg2 (by decide)] at k1
  have k2 := final2 (V2 m g) c
  rw [show V2 m g c main_arg0 = m ((c : Thread nD τ).loc main_arg0) from W2_args m g c main_arg0 (by decide), show V2 m g c main_arg2 = m ((c : Thread nD τ).loc main_arg2) from W2_args m g c main_arg2 (by decide)] at k2
  rw [e0, e1] at h0
  rw [e1, e2] at h1
  rw [e0, e2] at h2
  exact ⟨h0.trans k0.symm, h1.trans k1.symm, h2.trans k2.symm, hr⟩

end Cert.BranchIdeal.Mm

end
-- ==== Proof.Mm.MemKv.lean ====
module

public import proofs.«01_k».proof.Defs
public import proofs.«01_k».proof.Proof.Gen.MemKv.Frame
public import proofs.«01_k».proof.Proof.Gen.MemKvIdeal.Frame
public import proofs.«01_k».proof.Proof.Gen.MemKvRefIdeal.Run
public import proofs.«01_k».proof.Proof.Sb.Res
public import Idealize.ShloMosaic.Lib.Pipeline.ValueKit
public import Idealize.ShloMosaic.Lib.Quiescent
public import Idealize.ShloMosaic.Adequacy
public import Idealize.ShloMosaic.Init

/-! The program `MemKv`: 3 of the step's matrix products, each a tiled kernel call. The run names what every call leaves in its
result array; each of those arrays is then shown to be the reference's. -/

@[expose] public section

set_option maxRecDepth 16384

noncomputable section

namespace Cert.MemKvIdeal.Mm

section Launch

open Cert.MemKvIdeal Cert.MemKvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-- The assertions of the run's logic at this program. -/
local notation "𝕄" => MT nD τ sig Unit (Elt F) ℕ (UR sig nD τ) ℕ

/-- The whole run: it ends with every unscoped buffer at the contents the last boundary names. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- At the end the first result is what the points of the first call wrote. -/
theorem res0 (c : Dev nD) : W3 m ρ c (Proc.devRef .tc main_v0) = (dat0 (V0 m ρ) c).arrAt 2 cfg0.N :=
  (W3_of_ne m ρ c main_v0 (by decide)).trans ((W2_of_ne m ρ c main_v0 (by decide)).trans (W1_arr m ρ c 2))

/-- At the end the second result is what the points of the second call wrote. -/
theorem res1 (c : Dev nD) : W3 m ρ c (Proc.devRef .tc main_v1) = (dat1 (V1 m ρ) c).arrAt 2 cfg1.N :=
  (W3_of_ne m ρ c main_v1 (by decide)).trans (W2_arr m ρ c 2)

/-- At the end the third result is what the points of the third call wrote. -/
theorem res2 (c : Dev nD) : W3 m ρ c (Proc.devRef .tc main_v2) = (dat2 (V2 m ρ) c).arrAt 2 cfg2.N :=
  W3_arr m ρ c 2

end Launch

open Cert.MemKvIdeal Cert.MemKvIdeal.Gen Idealize.ShloMosaic Idealize.ShloMosaic.TcCoe Idealize.SL.Sem
open Idealize.ShloMosaic.Pipeline (Dat)

/-- The reference's product. -/
abbrev REF0 (a0 : FVec Ideal S256x2048 .bf16) (a1 : FVec Ideal S2048x2048 .bf16) : FVec Ideal S256x2048 .f32 :=
  Host.dotGeneral (φ₂ := .f32) Cert.MemKvRefIdeal.dot_S256x2048_S2048x2048_S256x2048_1_0_0_1_n_n none (extf .f32 a0 Cert.MemKvRefIdeal.Gen.bitsLt_bf16_f32) (extf .f32 a1 Cert.MemKvRefIdeal.Gen.bitsLt_bf16_f32)

/-- Which blocks the points of the first call hold. -/
theorem idx0 : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The first call leaves the reference's product: a point's block is the same sum of products, read through the block. -/
theorem final0 (V : (c : Dev nD) → (b : Ref sig .tc) → Buf (Elt Ideal) ((c : Thread nD τ).loc b)) (c : Dev nD) :
    (dat0 (F := Ideal) V c).arrAt 2 cfg0.N = REF0 (V c main_arg0) (V c main_arg1) := by
  refine (dat0 V c).arrAt_eq_of_covers 2 _ (by decide +kernel) fun t _ y => ?_
  blk_simp
  rw [after0_2]; frame_out
  pointwise [k0_pay1, REF0]
  blk_point [iblk0, idx0 t]

/-- The reference's gradient of the left factor: the cotangent times the transposed weight. -/
abbrev REF1 (a1 : FVec Ideal S2048x2048 .bf16) (a2 : FVec Ideal S256x2048 .bf16) : FVec Ideal S256x2048 .f32 :=
  Host.dotGeneral (φ₂ := .f32) Cert.MemKvRefIdeal.dot_S256x2048_S2048x2048_S256x2048_1_1_0_0_n_n none (extf .f32 a2 Cert.MemKvRefIdeal.Gen.bitsLt_bf16_f32) (extf .f32 a1 Cert.MemKvRefIdeal.Gen.bitsLt_bf16_f32)

/-- Which blocks the points of the second call hold. -/
theorem idx1 : ∀ t : Fin cfg1.N, win1_0.index t = ![(grid1.coords t 0).val, 0] ∧ win1_1.index t = ![(grid1.coords t 1).val, 0]
    ∧ win1_2.index t = ![(grid1.coords t 0).val, (grid1.coords t 1).val] :=
  (by decide +kernel : ∀ t : Fin grid1.N, _)

/-- The second call leaves the reference's gradient of the left factor: a point's block is the same sum of products, read through the block. -/
theorem final1 (V : (c : Dev nD) → (b : Ref sig .tc) → Buf (Elt Ideal) ((c : Thread nD τ).loc b)) (c : Dev nD) :
    (dat1 (F := Ideal) V c).arrAt 2 cfg1.N = REF1 (V c main_arg1) (V c main_arg2) := by
  refine (dat1 V c).arrAt_eq_of_covers 2 _ (by decide +kernel) fun t _ y => ?_
  blk_simp
  rw [after1_2]; frame_out
  pointwise [k1_pay1, REF1]
  blk_point [iblk1, idx1 t]

/-- The reference's gradient of the weight: the transposed left factor times the cotangent. -/
abbrev REF2 (a0 : FVec Ideal S256x2048 .bf16) (a2 : FVec Ideal S256x2048 .bf16) : FVec Ideal S2048x2048 .bf16 :=
  truncf .bf16 (transpose Cert.MemKvRefIdeal.S2048x2048 [1, 0] (Host.dotGeneral (φ₂ := .f32) Cert.MemKvRefIdeal.dot_S256x2048_S256x2048_S2048x2048_0_0_1_1_n_n none (extf .f32 a2 Cert.MemKvRefIdeal.Gen.bitsLt_bf16_f32) (extf .f32 a0 Cert.MemKvRefIdeal.Gen.bitsLt_bf16_f32)) Cert.MemKvRefIdeal.Gen.transposes_S2048x2048_S2048x2048_1_0) Cert.MemKvRefIdeal.Gen.bitsLt_bf16_f32

/-- Which blocks the points of the third call hold. -/
theorem idx2 : ∀ t : Fin cfg2.N, win2_0.index t = ![0, (grid2.coords t 0).val] ∧ win2_1.index t = ![0, (grid2.coords t 1).val]
    ∧ win2_2.index t = ![(grid2.coords t 0).val, (grid2.coords t 1).val] :=
  (by decide +kernel : ∀ t : Fin grid2.N, _)

/-- The third call leaves the reference's gradient of the weight: a point's block is the same sum of products, read through the block. -/
theorem final2 (V : (c : Dev nD) → (b : Ref sig .tc) → Buf (Elt Ideal) ((c : Thread nD τ).loc b)) (c : Dev nD) :
    (dat2 (F := Ideal) V c).arrAt 2 cfg2.N = REF2 (V c main_arg0) (V c main_arg2) := by
  refine (dat2 V c).arrAt_eq_of_covers 2 _ (by decide +kernel) fun t _ y => ?_
  blk_simp
  rw [after2_2]; frame_out
  pointwise [k2_pay1, REF2]
  refine Fin.sum_fin_congr fun k => Eq.trans (mul_comm (_ : EReal) (_ : EReal)) ?_
  blk_point [iblk2, idx2 t]

/-- The program on the machine's numbers runs to its end with its arguments unchanged. -/
theorem frame_bits : Cert.quiescent_MemKv := fun m ρ _ => Cert.MemKv.Gen.frame m ρ

/-- The program on the extended reals runs to its end with its arguments unchanged. -/
theorem frame_ideal : Cert.quiescent_MemKvIdeal := fun m ρ _ => Cert.MemKvIdeal.Gen.frame (F := Ideal) m ρ

/-- The reference runs to its end with its arguments unchanged, and it declares no semaphore. -/
theorem frame_ref : Cert.quiescent_MemKvRefIdeal := fun m ρ _ =>
  (θ_run Cert.MemKvRefIdeal.defs _ _).mono (fun r h => ⟨fun c => (h c).2.2.2,
      Idealize.ShloMosaic.sem_eq_zero_of_no_sems (by decide) r.2⟩)
    (Cert.MemKvRefIdeal.Value.run (F := Ideal) m ρ)

set_option backward.isDefEq.respectTransparency.types false in
/-- Kernel and reference end with equal results. -/
theorem algebraic : Cert.algebraic_MemKvIdeal_MemKvRefIdeal := fun m g m' g' _ hag => by
  refine ⟨fun c => (dat0 (V0 m g) c).arrAt 2 cfg0.N, fun c => (dat1 (V1 m g) c).arrAt 2 cfg1.N, fun c => (dat2 (V2 m g) c).arrAt 2 cfg2.N,
    (θ_run defs _ _).mono (fun r h c => ⟨(h c _ (mem_uc main_v0 (by decide))).trans (res0 m g c), (h c _ (mem_uc main_v1 (by decide))).trans (res1 m g c), (h c _ (mem_uc main_v2 (by decide))).trans (res2 m g c),
      (h c _ (mem_uc main_arg0 (by decide))).trans (W3_main_arg0 m g c), (h c _ (mem_uc main_arg1 (by decide))).trans (W3_main_arg1 m g c), (h c _ (mem_uc main_arg2 (by decide))).trans (W3_main_arg2 m g c)⟩) (run_all m g),
    (θ_run _ _ _).mono (fun r h c => ?_) (Cert.MemKvRefIdeal.Value.run m' g')⟩
  obtain ⟨h0, h1, h2, hr⟩ := h c
  obtain ⟨e0, e1, e2⟩ := hag c
  have k0 := final0 (V0 m g) c
  rw [show V0 m g c main_arg0 = m ((c : Thread nD τ).loc main_arg0) from W0_args m g c main_arg0 (by decide), show V0 m g c main_arg1 = m ((c : Thread nD τ).loc main_arg1) from W0_args m g c main_arg1 (by decide)] at k0
  have k1 := final1 (V1 m g) c
  rw [show V1 m g c main_arg1 = m ((c : Thread nD τ).loc main_arg1) from W1_args m g c main_arg1 (by decide), show V1 m g c main_arg2 = m ((c : Thread nD τ).loc main_arg2) from W1_args m g c main_arg2 (by decide)] at k1
  have k2 := final2 (V2 m g) c
  rw [show V2 m g c main_arg0 = m ((c : Thread nD τ).loc main_arg0) from W2_args m g c main_arg0 (by decide), show V2 m g c main_arg2 = m ((c : Thread nD τ).loc main_arg2) from W2_args m g c main_arg2 (by decide)] at k2
  rw [e0, e1] at h0
  rw [e1, e2] at h1
  rw [e0, e2] at h2
  exact ⟨h0.trans k0.symm, h1.trans k1.symm, h2.trans k2.symm, hr⟩

end Cert.MemKvIdeal.Mm

end
-- ==== Proof.Mm.Proj.lean ====
module

public import proofs.«01_k».proof.Defs
public import proofs.«01_k».proof.Proof.Gen.Proj.Frame
public import proofs.«01_k».proof.Proof.Gen.ProjIdeal.Frame
public import proofs.«01_k».proof.Proof.Gen.ProjRefIdeal.Run
public import proofs.«01_k».proof.Proof.Sb.Res
public import Idealize.ShloMosaic.Lib.Pipeline.ValueKit
public import Idealize.ShloMosaic.Lib.Quiescent
public import Idealize.ShloMosaic.Adequacy
public import Idealize.ShloMosaic.Init

/-! The program `Proj`: 3 of the step's matrix products, each a tiled kernel call. The run names what every call leaves in its
result array; each of those arrays is then shown to be the reference's. -/

@[expose] public section

set_option maxRecDepth 16384

noncomputable section

namespace Cert.ProjIdeal.Mm

section Launch

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-- The assertions of the run's logic at this program. -/
local notation "𝕄" => MT nD τ sig Unit (Elt F) ℕ (UR sig nD τ) ℕ

/-- The whole run: it ends with every unscoped buffer at the contents the last boundary names. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- At the end the first result is what the points of the first call wrote. -/
theorem res0 (c : Dev nD) : W3 m ρ c (Proc.devRef .tc main_v0) = (dat0 (V0 m ρ) c).arrAt 2 cfg0.N :=
  (W3_of_ne m ρ c main_v0 (by decide)).trans ((W2_of_ne m ρ c main_v0 (by decide)).trans (W1_arr m ρ c 2))

/-- At the end the second result is what the points of the second call wrote. -/
theorem res1 (c : Dev nD) : W3 m ρ c (Proc.devRef .tc main_v1) = (dat1 (V1 m ρ) c).arrAt 2 cfg1.N :=
  (W3_of_ne m ρ c main_v1 (by decide)).trans (W2_arr m ρ c 2)

/-- At the end the third result is what the points of the third call wrote. -/
theorem res2 (c : Dev nD) : W3 m ρ c (Proc.devRef .tc main_v2) = (dat2 (V2 m ρ) c).arrAt 2 cfg2.N :=
  W3_arr m ρ c 2

end Launch

open Cert.ProjIdeal Cert.ProjIdeal.Gen Idealize.ShloMosaic Idealize.ShloMosaic.TcCoe Idealize.SL.Sem
open Idealize.ShloMosaic.Pipeline (Dat)

/-- The reference's product. -/
abbrev REF0 (a0 : FVec Ideal S2048x2048 .bf16) (a1 : FVec Ideal S2048x6144 .bf16) : FVec Ideal S2048x6144 .f32 :=
  Host.dotGeneral (φ₂ := .f32) Cert.ProjRefIdeal.dot_S2048x2048_S2048x6144_S2048x6144_1_0_0_1_n_n none (extf .f32 a0 Cert.ProjRefIdeal.Gen.bitsLt_bf16_f32) (extf .f32 a1 Cert.ProjRefIdeal.Gen.bitsLt_bf16_f32)

/-- Which blocks the points of the first call hold. -/
theorem idx0 : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The first call leaves the reference's product: a point's block is the same sum of products, read through the block. -/
theorem final0 (V : (c : Dev nD) → (b : Ref sig .tc) → Buf (Elt Ideal) ((c : Thread nD τ).loc b)) (c : Dev nD) :
    (dat0 (F := Ideal) V c).arrAt 2 cfg0.N = REF0 (V c main_arg0) (V c main_arg1) := by
  refine (dat0 V c).arrAt_eq_of_covers 2 _ (by decide +kernel) fun t _ y => ?_
  blk_simp
  rw [after0_2]; frame_out
  pointwise [k0_pay1, REF0]
  blk_point [iblk0, idx0 t]

/-- The reference's product with the second weight. -/
abbrev REF1 (a0 : FVec Ideal S2048x2048 .bf16) (a2 : FVec Ideal S2048x6144 .bf16) : FVec Ideal S2048x6144 .bf16 :=
  truncf .bf16 (Host.dotGeneral (φ₂ := .f32) Cert.ProjRefIdeal.dot_S2048x2048_S2048x6144_S2048x6144_1_0_0_1_n_n none (extf .f32 a0 Cert.ProjRefIdeal.Gen.bitsLt_bf16_f32) (extf .f32 a2 Cert.ProjRefIdeal.Gen.bitsLt_bf16_f32)) Cert.ProjRefIdeal.Gen.bitsLt_bf16_f32

/-- Which blocks the points of the second call hold. -/
theorem idx1 : ∀ t : Fin cfg1.N, win1_0.index t = ![(grid1.coords t 0).val, 0] ∧ win1_1.index t = ![0, (grid1.coords t 1).val]
    ∧ win1_2.index t = ![(grid1.coords t 0).val, (grid1.coords t 1).val] :=
  (by decide +kernel : ∀ t : Fin grid1.N, _)

/-- The second call leaves the reference's product: a point's block is the same sum of products, read through the block. -/
theorem final1 (V : (c : Dev nD) → (b : Ref sig .tc) → Buf (Elt Ideal) ((c : Thread nD τ).loc b)) (c : Dev nD) :
    (dat1 (F := Ideal) V c).arrAt 2 cfg1.N = REF1 (V c main_arg0) (V c main_arg2) := by
  refine (dat1 V c).arrAt_eq_of_covers 2 _ (by decide +kernel) fun t _ y => ?_
  blk_simp
  rw [after1_2]; frame_out
  pointwise [k1_pay1, REF1]
  blk_point [iblk1, idx1 t]

/-- The reference's gradient of the weight: the transposed left factor times the cotangent. -/
abbrev REF2 (a0 : FVec Ideal S2048x2048 .bf16) (a3 : FVec Ideal S2048x6144 .bf16) : FVec Ideal S2048x6144 .bf16 :=
  truncf .bf16 (transpose Cert.ProjRefIdeal.S2048x6144 [1, 0] (Host.dotGeneral (φ₂ := .f32) Cert.ProjRefIdeal.dot_S2048x6144_S2048x2048_S6144x2048_0_0_1_1_n_n none (extf .f32 a3 Cert.ProjRefIdeal.Gen.bitsLt_bf16_f32) (extf .f32 a0 Cert.ProjRefIdeal.Gen.bitsLt_bf16_f32)) Cert.ProjRefIdeal.Gen.transposes_S6144x2048_S2048x6144_1_0) Cert.ProjRefIdeal.Gen.bitsLt_bf16_f32

/-- Which blocks the points of the third call hold. -/
theorem idx2 : ∀ t : Fin cfg2.N, win2_0.index t = ![0, (grid2.coords t 0).val] ∧ win2_1.index t = ![0, (grid2.coords t 1).val]
    ∧ win2_2.index t = ![(grid2.coords t 0).val, (grid2.coords t 1).val] :=
  (by decide +kernel : ∀ t : Fin grid2.N, _)

/-- The third call leaves the reference's gradient of the weight: a point's block is the same sum of products, read through the block. -/
theorem final2 (V : (c : Dev nD) → (b : Ref sig .tc) → Buf (Elt Ideal) ((c : Thread nD τ).loc b)) (c : Dev nD) :
    (dat2 (F := Ideal) V c).arrAt 2 cfg2.N = REF2 (V c main_arg0) (V c main_arg3) := by
  refine (dat2 V c).arrAt_eq_of_covers 2 _ (by decide +kernel) fun t _ y => ?_
  blk_simp
  rw [after2_2]; frame_out
  pointwise [k2_pay1, REF2]
  refine Fin.sum_fin_congr fun k => Eq.trans (mul_comm (_ : EReal) (_ : EReal)) ?_
  blk_point [iblk2, idx2 t]

/-- The program on the machine's numbers runs to its end with its arguments unchanged. -/
theorem frame_bits : Cert.quiescent_Proj := fun m ρ _ => Cert.Proj.Gen.frame m ρ

/-- The program on the extended reals runs to its end with its arguments unchanged. -/
theorem frame_ideal : Cert.quiescent_ProjIdeal := fun m ρ _ => Cert.ProjIdeal.Gen.frame (F := Ideal) m ρ

/-- The reference runs to its end with its arguments unchanged, and it declares no semaphore. -/
theorem frame_ref : Cert.quiescent_ProjRefIdeal := fun m ρ _ =>
  (θ_run Cert.ProjRefIdeal.defs _ _).mono (fun r h => ⟨fun c => (h c).2.2.2,
      Idealize.ShloMosaic.sem_eq_zero_of_no_sems (by decide) r.2⟩)
    (Cert.ProjRefIdeal.Value.run (F := Ideal) m ρ)

set_option backward.isDefEq.respectTransparency.types false in
/-- Kernel and reference end with equal results. -/
theorem algebraic : Cert.algebraic_ProjIdeal_ProjRefIdeal := fun m g m' g' _ hag => by
  refine ⟨fun c => (dat0 (V0 m g) c).arrAt 2 cfg0.N, fun c => (dat1 (V1 m g) c).arrAt 2 cfg1.N, fun c => (dat2 (V2 m g) c).arrAt 2 cfg2.N,
    (θ_run defs _ _).mono (fun r h c => ⟨(h c _ (mem_uc main_v0 (by decide))).trans (res0 m g c), (h c _ (mem_uc main_v1 (by decide))).trans (res1 m g c), (h c _ (mem_uc main_v2 (by decide))).trans (res2 m g c),
      (h c _ (mem_uc main_arg0 (by decide))).trans (W3_main_arg0 m g c), (h c _ (mem_uc main_arg1 (by decide))).trans (W3_main_arg1 m g c), (h c _ (mem_uc main_arg2 (by decide))).trans (W3_main_arg2 m g c), (h c _ (mem_uc main_arg3 (by decide))).trans (W3_main_arg3 m g c)⟩) (run_all m g),
    (θ_run _ _ _).mono (fun r h c => ?_) (Cert.ProjRefIdeal.Value.run m' g')⟩
  obtain ⟨h0, h1, h2, hr⟩ := h c
  obtain ⟨e0, e1, e2, e3⟩ := hag c
  have k0 := final0 (V0 m g) c
  rw [show V0 m g c main_arg0 = m ((c : Thread nD τ).loc main_arg0) from W0_args m g c main_arg0 (by decide), show V0 m g c main_arg1 = m ((c : Thread nD τ).loc main_arg1) from W0_args m g c main_arg1 (by decide)] at k0
  have k1 := final1 (V1 m g) c
  rw [show V1 m g c main_arg0 = m ((c : Thread nD τ).loc main_arg0) from W1_args m g c main_arg0 (by decide), show V1 m g c main_arg2 = m ((c : Thread nD τ).loc main_arg2) from W1_args m g c main_arg2 (by decide)] at k1
  have k2 := final2 (V2 m g) c
  rw [show V2 m g c main_arg0 = m ((c : Thread nD τ).loc main_arg0) from W2_args m g c main_arg0 (by decide), show V2 m g c main_arg3 = m ((c : Thread nD τ).loc main_arg3) from W2_args m g c main_arg3 (by decide)] at k2
  rw [e0, e1] at h0
  rw [e0, e2] at h1
  rw [e0, e3] at h2
  exact ⟨h0.trans k0.symm, h1.trans k1.symm, h2.trans k2.symm, hr⟩

end Cert.ProjIdeal.Mm

end
-- ==== Proof.Mm.Up.lean ====
module

public import proofs.«01_k».proof.Defs
public import proofs.«01_k».proof.Proof.Gen.Up.Frame
public import proofs.«01_k».proof.Proof.Gen.UpIdeal.Frame
public import proofs.«01_k».proof.Proof.Gen.UpRefIdeal.Run
public import proofs.«01_k».proof.Proof.Sb.Res
public import Idealize.ShloMosaic.Lib.Pipeline.ValueKit
public import Idealize.ShloMosaic.Lib.Quiescent
public import Idealize.ShloMosaic.Adequacy
public import Idealize.ShloMosaic.Init

/-! The program `Up`: 2 of the step's matrix products, each a tiled kernel call. The run names what every call leaves in its
result array; each of those arrays is then shown to be the reference's. -/

@[expose] public section

set_option maxRecDepth 16384

noncomputable section

namespace Cert.UpIdeal.Mm

section Launch

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-- The assertions of the run's logic at this program. -/
local notation "𝕄" => MT nD τ sig Unit (Elt F) ℕ (UR sig nD τ) ℕ

/-- The whole run: it ends with every unscoped buffer at the contents the last boundary names. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)

/-- At the end the first result is what the points of the first call wrote. -/
theorem res0 (c : Dev nD) : W2 m ρ c (Proc.devRef .tc main_v0) = (dat0 (V0 m ρ) c).arrAt 2 cfg0.N :=
  (W2_of_ne m ρ c main_v0 (by decide)).trans (W1_arr m ρ c 2)

/-- At the end the second result is what the points of the second call wrote. -/
theorem res1 (c : Dev nD) : W2 m ρ c (Proc.devRef .tc main_v1) = (dat1 (V1 m ρ) c).arrAt 3 cfg1.N :=
  W2_arr m ρ c 3

end Launch

open Cert.UpIdeal Cert.UpIdeal.Gen Idealize.ShloMosaic Idealize.ShloMosaic.TcCoe Idealize.SL.Sem
open Idealize.ShloMosaic.Pipeline (Dat)

/-- The reference's product. -/
abbrev REF0 (a0 : FVec Ideal S2048x2048 .bf16) (a1 : FVec Ideal S2048x11264 .bf16) : FVec Ideal S2048x11264 .bf16 :=
  truncf .bf16 (Host.dotGeneral (φ₂ := .f32) Cert.UpRefIdeal.dot_S2048x2048_S2048x11264_S2048x11264_1_0_0_1_n_n none (extf .f32 a0 Cert.UpRefIdeal.Gen.bitsLt_bf16_f32) (extf .f32 a1 Cert.UpRefIdeal.Gen.bitsLt_bf16_f32)) Cert.UpRefIdeal.Gen.bitsLt_bf16_f32

/-- Which blocks the points of the first call hold. -/
theorem idx0 : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The first call leaves the reference's product: a point's block is the same sum of products, read through the block. -/
theorem final0 (V : (c : Dev nD) → (b : Ref sig .tc) → Buf (Elt Ideal) ((c : Thread nD τ).loc b)) (c : Dev nD) :
    (dat0 (F := Ideal) V c).arrAt 2 cfg0.N = REF0 (V c main_arg0) (V c main_arg1) := by
  refine (dat0 V c).arrAt_eq_of_covers 2 _ (by decide +kernel) fun t _ y => ?_
  blk_simp
  rw [after0_2]; frame_out
  pointwise [k0_pay1, REF0]
  blk_point [iblk0, idx0 t]

/-- The reference's gradient of the weight: the transposed left factor times the cotangent, which comes in two halves. -/
abbrev REF1 (a0 : FVec Ideal S2048x2048 .bf16) (a2 : FVec Ideal S2048x5632 .bf16) (a3 : FVec Ideal S2048x5632 .bf16) : FVec Ideal S2048x11264 .bf16 :=
  truncf .bf16 (transpose Cert.UpRefIdeal.S2048x11264 [1, 0] (Host.dotGeneral (φ₂ := .f32) Cert.UpRefIdeal.dot_S2048x11264_S2048x2048_S11264x2048_0_0_1_1_n_n none (extf .f32 (concatenate Cert.UpRefIdeal.S2048x11264 1 [⟨Cert.UpRefIdeal.S2048x5632, a2⟩, ⟨Cert.UpRefIdeal.S2048x5632, a3⟩] Cert.UpRefIdeal.Gen.concatenates_S2048x5632_S2048x5632_S2048x11264_d1) Cert.UpRefIdeal.Gen.bitsLt_bf16_f32) (extf .f32 a0 Cert.UpRefIdeal.Gen.bitsLt_bf16_f32)) Cert.UpRefIdeal.Gen.transposes_S11264x2048_S2048x11264_1_0) Cert.UpRefIdeal.Gen.bitsLt_bf16_f32

/-- Which blocks the points of the second call hold, in its first half and in its second. -/
theorem idx1 : ∀ t : Fin cfg1.N, win1_0.index t = ![0, t.val / 22] ∧ win1_3.index t = ![t.val / 22, t.val % 22]
    ∧ (t.val % 22 ≤ 10 → win1_1.index t = ![0, t.val % 22]) ∧ (11 ≤ t.val % 22 → win1_2.index t = ![0, t.val % 22 - 11]) :=
  (by decide +kernel : ∀ t : Fin grid1.N, _)

/-- The second call leaves the reference's gradient of the weight: its first columns meet the first half of the cotangent,
its last columns the second half. -/
theorem final1 (V : (c : Dev nD) → (b : Ref sig .tc) → Buf (Elt Ideal) ((c : Thread nD τ).loc b)) (c : Dev nD) :
    (dat1 (F := Ideal) V c).arrAt 3 cfg1.N = REF1 (V c main_arg0) (V c main_arg2) (V c main_arg3) := by
  refine (dat1 V c).arrAt_eq_of_covers 3 _ (by decide +kernel) fun t _ y => ?_
  blk_simp
  obtain ⟨i0, i3, i1, i2⟩ := idx1 t
  have hy : (y 1).val < 512 := (y 1).isLt
  have e : ((((View.whole main_v1).slice (win1_3.rect t)).emb y) 1).val = t.val % 22 * 512 + (y 1).val := by blk_simp [i3]
  by_cases h : t.val % 22 ≤ 10
  · rw [after1_3, outsAt1_A V c t h (by omega)]; frame_out
    pointwise [k1_pay1, REF1]
    refine Fin.sum_fin_congr fun k => Eq.trans (mul_comm (_ : EReal) (_ : EReal)) ?_
    rw [dif_pos (by rw [e]; omega)]
    blk_point [iblk1, i0, i3, i1 h]
  · rw [after1_3, outsAt1_B V c t h (by omega)]; frame_out
    pointwise [k1_pay2, REF1]
    refine Fin.sum_fin_congr fun k => Eq.trans (mul_comm (_ : EReal) (_ : EReal)) ?_
    rw [dif_neg (by rw [e]; omega)]
    blk_point [iblk1, i0, i3, i2 (by omega)]

/-- The program on the machine's numbers runs to its end with its arguments unchanged. -/
theorem frame_bits : Cert.quiescent_Up := fun m ρ _ => Cert.Up.Gen.frame m ρ

/-- The program on the extended reals runs to its end with its arguments unchanged. -/
theorem frame_ideal : Cert.quiescent_UpIdeal := fun m ρ _ => Cert.UpIdeal.Gen.frame (F := Ideal) m ρ

/-- The reference runs to its end with its arguments unchanged, and it declares no semaphore. -/
theorem frame_ref : Cert.quiescent_UpRefIdeal := fun m ρ _ =>
  (θ_run Cert.UpRefIdeal.defs _ _).mono (fun r h => ⟨fun c => (h c).2.2,
      Idealize.ShloMosaic.sem_eq_zero_of_no_sems (by decide) r.2⟩)
    (Cert.UpRefIdeal.Value.run (F := Ideal) m ρ)

set_option backward.isDefEq.respectTransparency.types false in
/-- Kernel and reference end with equal results. -/
theorem algebraic : Cert.algebraic_UpIdeal_UpRefIdeal := fun m g m' g' _ hag => by
  refine ⟨fun c => (dat0 (V0 m g) c).arrAt 2 cfg0.N, fun c => (dat1 (V1 m g) c).arrAt 3 cfg1.N,
    (θ_run defs _ _).mono (fun r h c => ⟨(h c _ (mem_uc main_v0 (by decide))).trans (res0 m g c), (h c _ (mem_uc main_v1 (by decide))).trans (res1 m g c),
      (h c _ (mem_uc main_arg0 (by decide))).trans (W2_main_arg0 m g c), (h c _ (mem_uc main_arg1 (by decide))).trans (W2_main_arg1 m g c), (h c _ (mem_uc main_arg2 (by decide))).trans (W2_main_arg2 m g c), (h c _ (mem_uc main_arg3 (by decide))).trans (W2_main_arg3 m g c)⟩) (run_all m g),
    (θ_run _ _ _).mono (fun r h c => ?_) (Cert.UpRefIdeal.Value.run m' g')⟩
  obtain ⟨h0, h1, hr⟩ := h c
  obtain ⟨e0, e1, e2, e3⟩ := hag c
  have k0 := final0 (V0 m g) c
  rw [show V0 m g c main_arg0 = m ((c : Thread nD τ).loc main_arg0) from W0_args m g c main_arg0 (by decide), show V0 m g c main_arg1 = m ((c : Thread nD τ).loc main_arg1) from W0_args m g c main_arg1 (by decide)] at k0
  have k1 := final1 (V1 m g) c
  rw [show V1 m g c main_arg0 = m ((c : Thread nD τ).loc main_arg0) from W1_args m g c main_arg0 (by decide), show V1 m g c main_arg2 = m ((c : Thread nD τ).loc main_arg2) from W1_args m g c main_arg2 (by decide), show V1 m g c main_arg3 = m ((c : Thread nD τ).loc main_arg3) from W1_args m g c main_arg3 (by decide)] at k1
  rw [e0, e1] at h0
  rw [e0, e2, e3] at h1
  exact ⟨h0.trans k0.symm, h1.trans k1.symm, hr⟩

end Cert.UpIdeal.Mm

end
-- ==== Proof.Mm.ProjDx.lean ====
module

public import proofs.«01_k».proof.Defs
public import proofs.«01_k».proof.Proof.Gen.ProjDx
public import proofs.«01_k».proof.Proof.Gen.ProjDx.Frame
public import proofs.«01_k».proof.Proof.Gen.ProjDxIdeal.Value
public import proofs.«01_k».proof.Proof.Gen.ProjDxRefIdeal.Run
public import proofs.«01_k».proof.Proof.Sb.Res
public import Idealize.ShloMosaic.Lib.Pipeline.ValueKit
public import Idealize.ShloMosaic.Lib.Pipeline.ReadBack

@[expose] public section

set_option maxRecDepth 16384

noncomputable section

namespace Cert.ProjDxIdeal.Mm

open Cert.ProjDxIdeal Cert.ProjDxIdeal.Gen Idealize.ShloMosaic Idealize.ShloMosaic.TcCoe Idealize.SL.Sem
open Idealize.ShloMosaic.Pipeline (Dat)

section Blocks

variable (m : (ℓ : Loc nD τ sig) → Buf (Elt Ideal) ℓ) (c : Dev nD)

/-- What one point contributes to its block: its tile of the sum of products. -/
def part (t : Fin cfg0.N) (y : S1024x1024.Idx) : EReal :=
  k0_pay1 (F := Ideal) (iblk m c 0 t) (iblk m c 1 t) y

/-- The first point of a block leaves its part in the scratch. -/
theorem acc_first (t : Fin cfg0.N) (h : t.val % 2 = 0) (y : S1024x1024.Idx) :
    (outsAt0 m c t.val t.isLt).2 y = 0 + part m c t y := by
  rw [outsAt0_A m c t h (by omega) (by omega)]; frame_out
  rw [zero_add]
  unfold part
  idx_vars y
  pointwise [k0_pay2]

/-- A later point adds its part to what the scratch held. -/
theorem acc_next (t : Fin cfg0.N) (h : ¬ t.val % 2 = 0) (y : S1024x1024.Idx) :
    (outsAt0 m c t.val t.isLt).2 y
      = (outsAt0 m c (t.val - 1) (Nat.lt_of_le_of_lt (Nat.sub_le _ _) t.isLt)).2 y + part m c t y := by
  rw [outsAt0_B m c t h (by omega) (by omega)]; frame_out
  simp only [read_unread_whole]
  unfold part
  idx_vars y
  pointwise [k0_pay3]

/-- The last point of a block writes what the scratch holds then. -/
theorem out_last (t : Fin cfg0.N) (h : t.val % 2 = 1) (y : S1024x1024.Idx) :
    (outsAt0 m c t.val t.isLt).1 y = (outsAt0 m c t.val t.isLt).2 y := by
  rw [outsAt0_B m c t (by omega) h h]; frame_out

/-- Which blocks the points hold. -/
theorem idx : ∀ t : Fin cfg0.N, win0_0.index t = ![t.val / 4, t.val % 2] ∧ win0_1.index t = ![t.val / 2 % 2, t.val % 2]
    ∧ win0_2.index t = ![t.val / 4, t.val / 2 % 2] :=
  (by decide +kernel : ∀ t : Fin grid0.N, _)

/-- The reference's gradient of the left factor: the cotangent times the transposed weight. -/
abbrev REF (a0 : FVec Ideal S2048x6144 .bf16) (a1 : FVec Ideal S2048x6144 .bf16) : FVec Ideal S2048x2048 .f32 :=
  Host.dotGeneral (φ₂ := .f32) Cert.ProjDxRefIdeal.dot_S2048x6144_S2048x6144_S2048x2048_1_1_0_0_n_n none (extf .f32 a1 Cert.ProjDxRefIdeal.Gen.bitsLt_bf16_f32) (extf .f32 a0 Cert.ProjDxRefIdeal.Gen.bitsLt_bf16_f32)

/-- The call leaves the reference's product: the parts of a block's points make up the whole sum. -/
theorem final : (dats m 0 c).arrAt 2 cfg0.N = REF (V m c main_arg0) (V m c main_arg1) := by
  refine (dats m 0 c).arrAt_eq_of_covers 2 _ (by decide +kernel) fun t hf y => ?_
  have h := (flush0_2 t).mp hf
  blk_simp
  rw [after0_2, out_last m c t h,
    Pipeline.eq_sum_fin_of_reset_step_apply_of_flush (fun n h => (outsAt0 m c n h).2) 2 (fun _ => 0) (part m c)
      (fun t h j => acc_first m c t h j) (fun t h j => acc_next m c t h j) t h _, zero_add]
  unfold part
  pointwise [k0_pay1, REF]
  refine Fin.sum_mul_add_congr fun s k hl => ?_
  have i := idx ⟨_, Pipeline.run_point_lt_of_flush t h s⟩
  blk_point [iblk, idx t, i]

end Blocks

/-- The program on the machine's numbers runs to its end with its arguments unchanged. -/
theorem frame_bits : Cert.quiescent_ProjDx := fun m ρ _ => Cert.ProjDx.Gen.frame m ρ

/-- The program on the extended reals runs to its end with its arguments unchanged. -/
theorem frame_ideal : Cert.quiescent_ProjDxIdeal := fun m ρ _ => Cert.ProjDxIdeal.Gen.frame (F := Ideal) m ρ

/-- The reference runs to its end with its arguments unchanged, and it declares no semaphore. -/
theorem frame_ref : Cert.quiescent_ProjDxRefIdeal := fun m ρ _ =>
  (θ_run Cert.ProjDxRefIdeal.defs _ _).mono (fun r h => ⟨fun c => (h c).2,
      Idealize.ShloMosaic.sem_eq_zero_of_no_sems (by decide) r.2⟩)
    (Cert.ProjDxRefIdeal.Value.run (F := Ideal) m ρ)

set_option backward.isDefEq.respectTransparency.types false in
/-- Kernel and reference end with equal results. -/
theorem algebraic : Cert.algebraic_ProjDxIdeal_ProjDxRefIdeal := fun m g m' g' _ hag => by
  refine ⟨fun c => (dats m 0 c).arrAt 2 cfg0.N,
    Cert.ProjDxIdeal.Value.run_blocks m g,
    (θ_run _ _ _).mono (fun r h c => ?_) (Cert.ProjDxRefIdeal.Value.run m' g')⟩
  obtain ⟨h0, hr⟩ := h c
  obtain ⟨e0, e1⟩ := hag c
  have k0 := final m c
  rw [e0, e1] at h0
  exact ⟨h0.trans k0.symm, hr⟩

end Cert.ProjDxIdeal.Mm

end
-- ==== Proof.Mm.UpDx.lean ====
module

public import proofs.«01_k».proof.Defs
public import proofs.«01_k».proof.Proof.Gen.UpDx
public import proofs.«01_k».proof.Proof.Gen.UpDx.Frame
public import proofs.«01_k».proof.Proof.Gen.UpDxIdeal.Value
public import proofs.«01_k».proof.Proof.Gen.UpDxRefIdeal.Run
public import proofs.«01_k».proof.Proof.Sb.Res
public import Idealize.ShloMosaic.Lib.Pipeline.ValueKit
public import Idealize.ShloMosaic.Lib.Pipeline.ReadBack

@[expose] public section

set_option maxRecDepth 16384

noncomputable section

namespace Cert.UpDxIdeal.Mm

open Cert.UpDxIdeal Cert.UpDxIdeal.Gen Idealize.ShloMosaic Idealize.ShloMosaic.TcCoe Idealize.SL.Sem
open Idealize.ShloMosaic.Pipeline (Dat)

section Blocks

variable (m : (ℓ : Loc nD τ sig) → Buf (Elt Ideal) ℓ) (c : Dev nD)

/-- What one point contributes to its block: its tile of the sum of products. The first four points of a block read the
first half of the cotangent, the last four the second half. -/
def part (t : Fin cfg0.N) (y : S1024x1024.Idx) : EReal :=
  ∑ k : Fin 1408, ((if t.val % 8 ≤ 3 then iblk m c 0 t (ix2 (y 0) k) else iblk m c 1 t (ix2 (y 0) k) : EReal)
    * (iblk m c 2 t (ix2 (y 1) k) : EReal))

/-- The first point of a block leaves its part in the scratch. -/
theorem acc_first (t : Fin cfg0.N) (h : t.val % 8 = 0) (y : S1024x1024.Idx) :
    (outsAt0 m c t.val t.isLt).2 y = 0 + part m c t y := by
  rw [outsAt0_A m c t (by omega) (by omega) (by omega) (by omega) (by omega)]; frame_out
  rw [zero_add]
  unfold part
  simp only [if_pos (show t.val % 8 ≤ 3 by omega)]
  idx_vars y
  pointwise [k0_pay2, k0_pay1]

/-- A later point adds its part to what the scratch held. -/
theorem acc_next (t : Fin cfg0.N) (h : ¬ t.val % 8 = 0) (y : S1024x1024.Idx) :
    (outsAt0 m c t.val t.isLt).2 y
      = (outsAt0 m c (t.val - 1) (Nat.lt_of_le_of_lt (Nat.sub_le _ _) t.isLt)).2 y + part m c t y := by
  by_cases h3 : t.val % 8 ≤ 3
  · rw [outsAt0_B m c t h3 (by omega) (by omega) (by omega) (by omega)]; frame_out
    simp only [read_unread_whole]
    unfold part
    simp only [if_pos h3]
    idx_vars y
    pointwise [k0_pay3, k0_pay1]
  · by_cases h7 : t.val % 8 = 7
    · rw [outsAt0_D m c t h3 (by omega) h7 (by omega) (by omega)]; frame_out
      simp only [read_unread_whole]
      unfold part
      simp only [if_neg h3]
      idx_vars y
      pointwise [k0_pay6, k0_pay4]
    · rw [outsAt0_C m c t h3 (by omega) h7 (by omega) (by omega)]; frame_out
      simp only [read_unread_whole]
      unfold part
      simp only [if_neg h3]
      idx_vars y
      pointwise [k0_pay6, k0_pay4]

/-- The last point of a block writes what the scratch holds then. -/
theorem out_last (t : Fin cfg0.N) (h : t.val % 8 = 7) (y : S1024x1024.Idx) :
    (outsAt0 m c t.val t.isLt).1 y = (outsAt0 m c t.val t.isLt).2 y := by
  rw [outsAt0_D m c t (by omega) (by omega) h (by omega) (by omega)]; frame_out

/-- Which blocks the points hold. -/
theorem idx : ∀ t : Fin cfg0.N, (t.val % 8 ≤ 3 → win0_0.index t = ![t.val / 16, t.val % 8])
    ∧ (4 ≤ t.val % 8 → win0_1.index t = ![t.val / 16, t.val % 8 - 4])
    ∧ win0_2.index t = ![t.val / 8 % 2, t.val % 8] ∧ win0_3.index t = ![t.val / 16, t.val / 8 % 2] :=
  (by decide +kernel : ∀ t : Fin grid0.N, _)

/-- The reference's gradient of the left factor: the cotangent, its two halves side by side, times the transposed weight. -/
abbrev REF (a0 : FVec Ideal S2048x11264 .bf16) (a1 : FVec Ideal S2048x5632 .bf16) (a2 : FVec Ideal S2048x5632 .bf16) : FVec Ideal S2048x2048 .f32 :=
  Host.dotGeneral (φ₂ := .f32) Cert.UpDxRefIdeal.dot_S2048x11264_S2048x11264_S2048x2048_1_1_0_0_n_n none (extf .f32 (concatenate Cert.UpDxRefIdeal.S2048x11264 1 [⟨Cert.UpDxRefIdeal.S2048x5632, a1⟩, ⟨Cert.UpDxRefIdeal.S2048x5632, a2⟩] Cert.UpDxRefIdeal.Gen.concatenates_S2048x5632_S2048x5632_S2048x11264_d1) Cert.UpDxRefIdeal.Gen.bitsLt_bf16_f32) (extf .f32 a0 Cert.UpDxRefIdeal.Gen.bitsLt_bf16_f32)

/-- The call leaves the reference's product: the parts of a block's points make up the whole sum. -/
theorem final : (dats m 0 c).arrAt 3 cfg0.N = REF (V m c main_arg0) (V m c main_arg1) (V m c main_arg2) := by
  refine (dats m 0 c).arrAt_eq_of_covers 3 _ (by decide +kernel) fun t hf y => ?_
  have h := (flush0_3 t).mp hf
  blk_simp
  rw [after0_3, out_last m c t h,
    Pipeline.eq_sum_fin_of_reset_step_apply_of_flush (fun n h => (outsAt0 m c n h).2) 8 (fun _ => 0) (part m c)
      (fun t h j => acc_first m c t h j) (fun t h j => acc_next m c t h j) t h _, zero_add]
  unfold part
  pointwise [REF]
  have it := (idx t).2.2.2
  refine (Fin.sum_univ_add (M := EReal) (a := 4) (b := 4) _).trans (congrArg₂ (fun a b : EReal => a + b)
    (Fin.sum_mul_add_congr fun s k hl => ?_) (Fin.sum_mul_add_congr fun s k hl => ?_))
  · obtain ⟨i0, i1, i2, i3⟩ := idx ⟨8 * (t.val / 8) + s.val,
      (show 8 * (t.val / 8) + s.val < cfg0.N from Pipeline.run_point_lt_of_flush t h (Fin.castAdd 4 s))⟩
    have hv : (Fin.castAdd 4 s).val = s.val := rfl
    rw [if_pos (by omega)]
    blk_point [iblk, i0 (by dsimp only; omega), i2, i3, it, hv]
  · obtain ⟨i0, i1, i2, i3⟩ := idx ⟨8 * (t.val / 8) + (4 + s.val),
      (show 8 * (t.val / 8) + (4 + s.val) < cfg0.N from Pipeline.run_point_lt_of_flush t h (Fin.natAdd 4 s))⟩
    have hv : (Fin.natAdd 4 s).val = 4 + s.val := rfl
    rw [if_neg (by omega)]
    blk_point [iblk, i1 (by dsimp only; omega), i2, i3, it, hv]

end Blocks

/-- The program on the machine's numbers runs to its end with its arguments unchanged. -/
theorem frame_bits : Cert.quiescent_UpDx := fun m ρ _ => Cert.UpDx.Gen.frame m ρ

/-- The program on the extended reals runs to its end with its arguments unchanged. -/
theorem frame_ideal : Cert.quiescent_UpDxIdeal := fun m ρ _ => Cert.UpDxIdeal.Gen.frame (F := Ideal) m ρ

/-- The reference runs to its end with its arguments unchanged, and it declares no semaphore. -/
theorem frame_ref : Cert.quiescent_UpDxRefIdeal := fun m ρ _ =>
  (θ_run Cert.UpDxRefIdeal.defs _ _).mono (fun r h => ⟨fun c => (h c).2,
      Idealize.ShloMosaic.sem_eq_zero_of_no_sems (by decide) r.2⟩)
    (Cert.UpDxRefIdeal.Value.run (F := Ideal) m ρ)

set_option backward.isDefEq.respectTransparency.types false in
/-- Kernel and reference end with equal results. -/
theorem algebraic : Cert.algebraic_UpDxIdeal_UpDxRefIdeal := fun m g m' g' _ hag => by
  refine ⟨fun c => (dats m 0 c).arrAt 3 cfg0.N,
    Cert.UpDxIdeal.Value.run_blocks m g,
    (θ_run _ _ _).mono (fun r h c => ?_) (Cert.UpDxRefIdeal.Value.run m' g')⟩
  obtain ⟨h0, hr⟩ := h c
  obtain ⟨e0, e1, e2⟩ := hag c
  have k0 := final m c
  rw [e0, e1, e2] at h0
  exact ⟨h0.trans k0.symm, hr⟩

end Cert.UpDxIdeal.Mm

end
-- ==== Proof.Mm.DownFwd.lean ====
module

public import proofs.«01_k».proof.Defs
public import proofs.«01_k».proof.Proof.Gen.DownFwd
public import proofs.«01_k».proof.Proof.Gen.DownFwd.Frame
public import proofs.«01_k».proof.Proof.Gen.DownFwdIdeal.Value
public import proofs.«01_k».proof.Proof.Gen.DownFwdRefIdeal.Run
public import proofs.«01_k».proof.Proof.Sb.Res
public import Idealize.ShloMosaic.Lib.Pipeline.ValueKit
public import Idealize.ShloMosaic.Lib.Pipeline.ReadBack

@[expose] public section

set_option maxRecDepth 16384

noncomputable section

namespace Cert.DownFwdIdeal.Mm

open Cert.DownFwdIdeal Cert.DownFwdIdeal.Gen Idealize.ShloMosaic Idealize.ShloMosaic.TcCoe Idealize.SL.Sem
open Idealize.ShloMosaic.Pipeline (Dat)

section Blocks

variable (m : (ℓ : Loc nD τ sig) → Buf (Elt Ideal) ℓ) (c : Dev nD)

/-- What one point contributes to its block: its tile of the sum of products. -/
def part (t : Fin cfg0.N) (y : S1024x1024.Idx) : EReal :=
  k0_pay1 (F := Ideal) (iblk m c 0 t) (iblk m c 1 t) y

/-- The first point of a block leaves its part in the scratch. -/
theorem acc_first (t : Fin cfg0.N) (h : t.val % 2 = 0) (y : S1024x1024.Idx) :
    (outsAt0 m c t.val t.isLt).2 y = 0 + part m c t y := by
  rw [outsAt0_A m c t h (by omega) (by omega)]; frame_out
  rw [zero_add]
  unfold part
  idx_vars y
  pointwise [k0_pay2]

/-- A later point adds its part to what the scratch held. -/
theorem acc_next (t : Fin cfg0.N) (h : ¬ t.val % 2 = 0) (y : S1024x1024.Idx) :
    (outsAt0 m c t.val t.isLt).2 y
      = (outsAt0 m c (t.val - 1) (Nat.lt_of_le_of_lt (Nat.sub_le _ _) t.isLt)).2 y + part m c t y := by
  rw [outsAt0_B m c t h (by omega) (by omega)]; frame_out
  simp only [read_unread_whole]
  unfold part
  idx_vars y
  pointwise [k0_pay3]

/-- The last point of a block writes what the scratch holds then. -/
theorem out_last (t : Fin cfg0.N) (h : t.val % 2 = 1) (y : S1024x1024.Idx) :
    (outsAt0 m c t.val t.isLt).1 y = (outsAt0 m c t.val t.isLt).2 y := by
  rw [outsAt0_B m c t (by omega) h h]; frame_out

/-- Which blocks the points hold. -/
theorem idx : ∀ t : Fin cfg0.N, win0_0.index t = ![t.val / 4, t.val % 2] ∧ win0_1.index t = ![t.val % 2, t.val / 2 % 2]
    ∧ win0_2.index t = ![t.val / 4, t.val / 2 % 2] :=
  (by decide +kernel : ∀ t : Fin grid0.N, _)

/-- The reference's product. -/
abbrev REF (a0 : FVec Ideal S2048x5632 .bf16) (a1 : FVec Ideal S5632x2048 .bf16) : FVec Ideal S2048x2048 .f32 :=
  Host.dotGeneral (φ₂ := .f32) Cert.DownFwdRefIdeal.dot_S2048x5632_S5632x2048_S2048x2048_1_0_0_1_n_n none (extf .f32 a0 Cert.DownFwdRefIdeal.Gen.bitsLt_bf16_f32) (extf .f32 a1 Cert.DownFwdRefIdeal.Gen.bitsLt_bf16_f32)

/-- The call leaves the reference's product: the parts of a block's points make up the whole sum. -/
theorem final : (dats m 0 c).arrAt 2 cfg0.N = REF (V m c main_arg0) (V m c main_arg1) := by
  refine (dats m 0 c).arrAt_eq_of_covers 2 _ (by decide +kernel) fun t hf y => ?_
  have h := (flush0_2 t).mp hf
  blk_simp
  rw [after0_2, out_last m c t h,
    Pipeline.eq_sum_fin_of_reset_step_apply_of_flush (fun n h => (outsAt0 m c n h).2) 2 (fun _ => 0) (part m c)
      (fun t h j => acc_first m c t h j) (fun t h j => acc_next m c t h j) t h _, zero_add]
  unfold part
  pointwise [k0_pay1, REF]
  refine Fin.sum_mul_add_congr fun s k hl => ?_
  have i := idx ⟨_, Pipeline.run_point_lt_of_flush t h s⟩
  blk_point [iblk, idx t, i]

end Blocks

/-- The program on the machine's numbers runs to its end with its arguments unchanged. -/
theorem frame_bits : Cert.quiescent_DownFwd := fun m ρ _ => Cert.DownFwd.Gen.frame m ρ

/-- The program on the extended reals runs to its end with its arguments unchanged. -/
theorem frame_ideal : Cert.quiescent_DownFwdIdeal := fun m ρ _ => Cert.DownFwdIdeal.Gen.frame (F := Ideal) m ρ

/-- The reference runs to its end with its arguments unchanged, and it declares no semaphore. -/
theorem frame_ref : Cert.quiescent_DownFwdRefIdeal := fun m ρ _ =>
  (θ_run Cert.DownFwdRefIdeal.defs _ _).mono (fun r h => ⟨fun c => (h c).2,
      Idealize.ShloMosaic.sem_eq_zero_of_no_sems (by decide) r.2⟩)
    (Cert.DownFwdRefIdeal.Value.run (F := Ideal) m ρ)

set_option backward.isDefEq.respectTransparency.types false in
/-- Kernel and reference end with equal results. -/
theorem algebraic : Cert.algebraic_DownFwdIdeal_DownFwdRefIdeal := fun m g m' g' _ hag => by
  refine ⟨fun c => (dats m 0 c).arrAt 2 cfg0.N,
    Cert.DownFwdIdeal.Value.run_blocks m g,
    (θ_run _ _ _).mono (fun r h c => ?_) (Cert.DownFwdRefIdeal.Value.run m' g')⟩
  obtain ⟨h0, hr⟩ := h c
  obtain ⟨e0, e1⟩ := hag c
  have k0 := final m c
  rw [e0, e1] at h0
  exact ⟨h0.trans k0.symm, hr⟩

end Cert.DownFwdIdeal.Mm

end
-- ==== Proof.Ew.MergeBwd.lean ====
module

public import proofs.«01_k».proof.Defs
public import proofs.«01_k».proof.Proof.Gen.MergeBwd
public import proofs.«01_k».proof.Proof.Gen.MergeBwd.Frame
public import proofs.«01_k».proof.Proof.Gen.MergeBwdIdeal.Value
public import proofs.«01_k».proof.Proof.Gen.MergeBwdRefIdeal.Run
public import proofs.«01_k».proof.Proof.Sb.Res
public import Idealize.ShloMosaic.Lib.Pipeline.ValueKit
public import Idealize.ShloMosaic.Lib.Pipeline.ReadBack

@[expose] public section

set_option maxRecDepth 16384

noncomputable section

namespace Cert.MergeBwdRefIdeal.Ew

open Cert.MergeBwdRefIdeal Cert.MergeBwdRefIdeal.Gen Idealize.ShloMosaic Idealize.ShloMosaic.TcCoe Idealize.SL.Sem

/-- The gates. -/
def GV (a0 : FVec Ideal S2048x6144 .bf16) (a1 : FVec Ideal S1x6144 .f32) : FVec Ideal S2048x6144 .f32 :=
  Host.divf (broadcastInDim S2048x6144 ![] bcast_S_S2048x6144 (constant S_ .f32 0x3F800000#32)) (addf (broadcastInDim S2048x6144 ![] bcast_S_S2048x6144 (constant S_ .f32 0x3F800000#32)) (Host.exp (Host.negf (addf (extf .f32 a0 bitsLt_bf16_f32) (broadcastInDim S2048x6144 ![0, 1] bcast_S1x6144_S2048x6144_0_1 a1)))))

/-- The cotangent times each branch, the three side by side. -/
def PV (a2 a3 a4 a5 : FVec Ideal S2048x2048 .f32) : FVec Ideal S2048x3x2048 .f32 :=
  addf (addf (pad S2048x3x2048 ![0, 2, 0] ![0, 0, 0] ![0, 0, 0] (broadcastInDim S2048x1x2048 ![0, 2] bcast_S2048x2048_S2048x1x2048_0_2 (mulf (shapeCast _ a5 shapeCasts_S2048x2048_S2048x2048) a4)) (constant S_ .f32 0x00000000#32) pads_S2048x1x2048_S2048x3x2048_000_200_000 h_S_) (pad S2048x3x2048 ![0, 1, 0] ![0, 1, 0] ![0, 0, 0] (broadcastInDim S2048x1x2048 ![0, 2] bcast_S2048x2048_S2048x1x2048_0_2 (mulf (shapeCast _ a5 shapeCasts_S2048x2048_S2048x2048) a3)) (constant S_ .f32 0x00000000#32) pads_S2048x1x2048_S2048x3x2048_000_110_000 h_S_)) (pad S2048x3x2048 ![0, 0, 0] ![0, 2, 0] ![0, 0, 0] (broadcastInDim S2048x1x2048 ![0, 2] bcast_S2048x2048_S2048x1x2048_0_2 (mulf (shapeCast _ a5 shapeCasts_S2048x2048_S2048x2048) a2)) (constant S_ .f32 0x00000000#32) pads_S2048x1x2048_S2048x3x2048_000_020_000 h_S_)

/-- The gradient of the gates' arguments. -/
def DZ (p : FVec Ideal S2048x3x2048 .f32) (g : FVec Ideal S2048x6144 .f32) : FVec Ideal S2048x6144 .f32 :=
  mulf (shapeCast _ p shapeCasts_S2048x3x2048_S2048x6144) (mulf g (subf (broadcastInDim S2048x6144 ![] bcast_S_S2048x6144 (constant S_ .f32 0x3F800000#32)) g))

/-- The logistic function. -/
def sg (z : EReal) : EReal := Ideal.div 1 (1 + Ideal.exp (-z))

/-- The gradient of a gate's argument, from that argument, the branch and the cotangent. -/
def dzr (z b d : EReal) : EReal := d * b * sg z * (1 - sg z)

/-- The same with the factors grouped as differentiation groups them. -/
theorem dzr_congr {z g b d z' g' b' d' : EReal} (hz : z = z') (hg : g = g') (hd : d = d') (hb : b = b') :
    dzr (z + g) b d = d' * b' * (sg (z' + g') * (1 - sg (z' + g'))) := by
  rw [hz, hg, hd, hb]
  exact mul_assoc _ _ _

/-- The gates at an index. -/
theorem GV_at (a0 : FVec Ideal S2048x6144 .bf16) (a1 : FVec Ideal S1x6144 .f32) (T : Fin 2048) (J : Fin 6144) :
    GV a0 a1 (ix2 T J) = sg ((a0 (ix2 T J) : EReal) + a1 (ix2 0 J)) := by
  pointwise [GV, sg]

/-- The product with the first branch. -/
theorem PV_at0 (a2 a3 a4 a5 : FVec Ideal S2048x2048 .f32) (T J : Fin 2048) : PV a2 a3 a4 a5 (ix3 T 0 J) = (a5 (ix2 T J) : EReal) * a2 (ix2 T J) := by
  pointwise [PV]

/-- The product with the second branch. -/
theorem PV_at1 (a2 a3 a4 a5 : FVec Ideal S2048x2048 .f32) (T J : Fin 2048) : PV a2 a3 a4 a5 (ix3 T 1 J) = (a5 (ix2 T J) : EReal) * a3 (ix2 T J) := by
  pointwise [PV]

/-- The product with the third branch. -/
theorem PV_at2 (a2 a3 a4 a5 : FVec Ideal S2048x2048 .f32) (T J : Fin 2048) : PV a2 a3 a4 a5 (ix3 T 2 J) = (a5 (ix2 T J) : EReal) * a4 (ix2 T J) := by
  pointwise [PV]

/-- The gradient of a gate's argument at an index. -/
theorem DZ_at (p : FVec Ideal S2048x3x2048 .f32) (g : FVec Ideal S2048x6144 .f32) (T : Fin 2048) (J : Fin 6144) :
    DZ p g (ix2 T J) = (p (ix3 T ⟨J.val / 2048, by omega⟩ ⟨J.val % 2048, by omega⟩) : EReal) * ((g (ix2 T J) : EReal) * (1 - (g (ix2 T J) : EReal))) := by
  pointwise [DZ]

/-- The reference's gradient of the gates' arguments. -/
abbrev REF0 (a0 : FVec Ideal S2048x6144 .bf16) (a1 : FVec Ideal S1x6144 .f32) (a2 : FVec Ideal S2048x2048 .f32) (a3 : FVec Ideal S2048x2048 .f32) (a4 : FVec Ideal S2048x2048 .f32) (a5 : FVec Ideal S2048x2048 .f32) : FVec Ideal S2048x6144 .bf16 :=
  truncf .bf16 (DZ (PV a2 a3 a4 a5) (GV a0 a1)) bitsLt_bf16_f32

/-- The reference's gradient of the first branch. -/
abbrev REF1 (a0 : FVec Ideal S2048x6144 .bf16) (a1 : FVec Ideal S1x6144 .f32) (a5 : FVec Ideal S2048x2048 .f32) : FVec Ideal S2048x2048 .bf16 :=
  truncf .bf16 (mulf (shapeCast _ (extractStridedSlice S2048x1x2048 ![0, 0, 0] (shapeCast _ (GV a0 a1) shapeCasts_S2048x6144_S2048x3x2048) slices_S2048x3x2048_S2048x1x2048_0_0_0) shapeCasts_S2048x1x2048_S2048x2048) (shapeCast _ a5 shapeCasts_S2048x2048_S2048x2048)) bitsLt_bf16_f32

/-- The reference's gradient of the second branch. -/
abbrev REF2 (a0 : FVec Ideal S2048x6144 .bf16) (a1 : FVec Ideal S1x6144 .f32) (a5 : FVec Ideal S2048x2048 .f32) : FVec Ideal S2048x2048 .bf16 :=
  truncf .bf16 (mulf (shapeCast _ (extractStridedSlice S2048x1x2048 ![0, 1, 0] (shapeCast _ (GV a0 a1) shapeCasts_S2048x6144_S2048x3x2048) slices_S2048x3x2048_S2048x1x2048_0_1_0) shapeCasts_S2048x1x2048_S2048x2048) (shapeCast _ a5 shapeCasts_S2048x2048_S2048x2048)) bitsLt_bf16_f32

/-- The reference's gradient of the third branch. -/
abbrev REF3 (a0 : FVec Ideal S2048x6144 .bf16) (a1 : FVec Ideal S1x6144 .f32) (a5 : FVec Ideal S2048x2048 .f32) : FVec Ideal S2048x2048 .bf16 :=
  truncf .bf16 (mulf (shapeCast _ (extractStridedSlice S2048x1x2048 ![0, 2, 0] (shapeCast _ (GV a0 a1) shapeCasts_S2048x6144_S2048x3x2048) slices_S2048x3x2048_S2048x1x2048_0_2_0) shapeCasts_S2048x1x2048_S2048x2048) (shapeCast _ a5 shapeCasts_S2048x2048_S2048x2048)) bitsLt_bf16_f32

/-- The reference's gradient of the bias. -/
abbrev REF4 (a0 : FVec Ideal S2048x6144 .bf16) (a1 : FVec Ideal S1x6144 .f32) (a2 : FVec Ideal S2048x2048 .f32) (a3 : FVec Ideal S2048x2048 .f32) (a4 : FVec Ideal S2048x2048 .f32) (a5 : FVec Ideal S2048x2048 .f32) : FVec Ideal S1x6144 .f32 :=
  shapeCast _ (Host.reduceAdd (DZ (PV a2 a3 a4 a5) (GV a0 a1)) (constant S_ .f32 0x00000000#32) reducesTo_S2048x6144_S6144_d0 h_S_) shapeCasts_S6144_S1x6144

/-- The gradient of the first branch at an index. -/
theorem ref1_at (a0 : FVec Ideal S2048x6144 .bf16) (a1 : FVec Ideal S1x6144 .f32) (a5 : FVec Ideal S2048x2048 .f32) (T J : Fin 2048) :
    REF1 a0 a1 a5 (ix2 T J) = sg ((a0 (ix2 T ⟨0 + J.val, by omega⟩) : EReal) + a1 (ix2 0 ⟨0 + J.val, by omega⟩)) * a5 (ix2 T J) := by
  pointwise [REF1, GV_at]

/-- The gradient of the second branch at an index. -/
theorem ref2_at (a0 : FVec Ideal S2048x6144 .bf16) (a1 : FVec Ideal S1x6144 .f32) (a5 : FVec Ideal S2048x2048 .f32) (T J : Fin 2048) :
    REF2 a0 a1 a5 (ix2 T J) = sg ((a0 (ix2 T ⟨2048 + J.val, by omega⟩) : EReal) + a1 (ix2 0 ⟨2048 + J.val, by omega⟩)) * a5 (ix2 T J) := by
  pointwise [REF2, GV_at]

/-- The gradient of the third branch at an index. -/
theorem ref3_at (a0 : FVec Ideal S2048x6144 .bf16) (a1 : FVec Ideal S1x6144 .f32) (a5 : FVec Ideal S2048x2048 .f32) (T J : Fin 2048) :
    REF3 a0 a1 a5 (ix2 T J) = sg ((a0 (ix2 T ⟨4096 + J.val, by omega⟩) : EReal) + a1 (ix2 0 ⟨4096 + J.val, by omega⟩)) * a5 (ix2 T J) := by
  pointwise [REF3, GV_at]

/-- The reference's gradient of the bias at an index. -/
theorem ref4_at (a0 : FVec Ideal S2048x6144 .bf16) (a1 : FVec Ideal S1x6144 .f32) (a2 a3 a4 a5 : FVec Ideal S2048x2048 .f32) (o : Fin 1) (J : Fin 6144) :
    REF4 a0 a1 a2 a3 a4 a5 (ix2 o J) = ∑ T : Fin 2048, DZ (PV a2 a3 a4 a5) (GV a0 a1) (ix2 T J) := by
  pointwise [REF4]

end Cert.MergeBwdRefIdeal.Ew

namespace Cert.MergeBwdIdeal.Ew

open Cert.MergeBwdIdeal Cert.MergeBwdIdeal.Gen Idealize.ShloMosaic Idealize.ShloMosaic.TcCoe Idealize.SL.Sem
open Cert.MergeBwdRefIdeal.Ew (REF0 REF1 REF2 REF3 REF4 GV PV DZ sg dzr dzr_congr GV_at PV_at0 PV_at1 PV_at2 DZ_at ref1_at ref2_at ref3_at ref4_at)
open Idealize.ShloMosaic.Pipeline (Dat)

section Blocks

variable (m : (ℓ : Loc nD τ sig) → Buf (Elt Ideal) ℓ) (c : Dev nD)

/-- Which blocks the points hold. -/
theorem idx : ∀ t : Fin cfg0.N, win0_0.index t = ![t.val, 0]
    ∧ win0_1.index t = ![t.val, 1]
    ∧ win0_2.index t = ![t.val, 2]
    ∧ win0_3.index t = ![0, 0]
    ∧ win0_4.index t = ![0, 1]
    ∧ win0_5.index t = ![0, 2]
    ∧ win0_6.index t = ![t.val, 0]
    ∧ win0_7.index t = ![t.val, 0]
    ∧ win0_8.index t = ![t.val, 0]
    ∧ win0_9.index t = ![t.val, 0]
    ∧ win0_10.index t = ![t.val, 0]
    ∧ win0_11.index t = ![t.val, 0]
    ∧ win0_12.index t = ![t.val, 0]
    ∧ win0_13.index t = ![t.val, 0]
    ∧ win0_14.index t = ![0, 0] :=
  (by decide +kernel : ∀ t : Fin grid0.N, _)

/-- The call leaves the reference's gradient of the first branch. -/
theorem final1 : (dats m 0 c).arrAt 11 cfg0.N = REF1 (V m c main_arg0) (V m c main_arg1) (V m c main_arg5) := by
  refine (dats m 0 c).arrAt_eq_of_covers 11 _ (by decide +kernel) fun t _ y => ?_
  blk_simp
  rw [after0_11]
  refine Eq.trans ?_ ((congrArg _ (eq_ix2 _)).trans (ref1_at _ _ _ _ _)).symm
  by_cases h : t.val % 16 = 0
  · rw [outsAt0_A m c t h]; frame_out
    idx_vars y
    pointwise [k0_pay4, k0_pay3, sg, Ideal.logistic]
    blk_point [iblk, idx t]
  · rw [outsAt0_B m c t h]; frame_out
    idx_vars y
    pointwise [k0_pay4, k0_pay3, sg, Ideal.logistic]
    blk_point [iblk, idx t]

/-- The call leaves the reference's gradient of the second branch. -/
theorem final2 : (dats m 0 c).arrAt 12 cfg0.N = REF2 (V m c main_arg0) (V m c main_arg1) (V m c main_arg5) := by
  refine (dats m 0 c).arrAt_eq_of_covers 12 _ (by decide +kernel) fun t _ y => ?_
  blk_simp
  rw [after0_12]
  refine Eq.trans ?_ ((congrArg _ (eq_ix2 _)).trans (ref2_at _ _ _ _ _)).symm
  by_cases h : t.val % 16 = 0
  · rw [outsAt0_A m c t h]; frame_out
    idx_vars y
    pointwise [k0_pay11, k0_pay10, k0_pay9, k0_pay8, k0_pay3, sg, Ideal.logistic]
    blk_point [iblk, idx t]
  · rw [outsAt0_B m c t h]; frame_out
    idx_vars y
    pointwise [k0_pay11, k0_pay10, k0_pay9, k0_pay8, k0_pay3, sg, Ideal.logistic]
    blk_point [iblk, idx t]

/-- The call leaves the reference's gradient of the third branch. -/
theorem final3 : (dats m 0 c).arrAt 13 cfg0.N = REF3 (V m c main_arg0) (V m c main_arg1) (V m c main_arg5) := by
  refine (dats m 0 c).arrAt_eq_of_covers 13 _ (by decide +kernel) fun t _ y => ?_
  blk_simp
  rw [after0_13]
  refine Eq.trans ?_ ((congrArg _ (eq_ix2 _)).trans (ref3_at _ _ _ _ _)).symm
  by_cases h : t.val % 16 = 0
  · rw [outsAt0_A m c t h]; frame_out
    idx_vars y
    pointwise [k0_pay16, k0_pay15, k0_pay3, sg, Ideal.logistic]
    blk_point [iblk, idx t]
  · rw [outsAt0_B m c t h]; frame_out
    idx_vars y
    pointwise [k0_pay16, k0_pay15, k0_pay3, sg, Ideal.logistic]
    blk_point [iblk, idx t]

/-- A tile's gradient of a gate's argument, from the gate's argument in two summands, the branch and the cotangent. -/
def tile (z : Vec Ideal S128x2048 .bf16) (g : Vec Ideal S1x2048 .f32) (b d : Vec Ideal S128x2048 .f32) (r : Fin 128) (j : Fin 2048) : EReal :=
  dzr ((z (ix2 r j) : EReal) + g (ix2 0 j)) (b (ix2 r j)) (d (ix2 r j))

/-- What a point computes for the first branch. -/
theorem tile_at0 (z : Vec Ideal S128x2048 .bf16) (g : Vec Ideal S1x2048 .f32) (b d : Vec Ideal S128x2048 .f32) (r : Fin 128) (j : Fin 2048) : k0_pay5 d z g b (ix2 r j) = tile z g b d r j := by
  pointwise [k0_pay5, k0_pay3, tile, dzr, sg, Ideal.logistic]

/-- What a point computes for the second branch. -/
theorem tile_at1 (z : Vec Ideal S128x2048 .bf16) (g : Vec Ideal S1x2048 .f32) (b d : Vec Ideal S128x2048 .f32) (r : Fin 128) (j : Fin 2048) : k0_pay12 d (k0_pay8 z) (k0_pay9 g) b (ix2 r j) = tile z g b d r j := by
  pointwise [k0_pay12, k0_pay10, k0_pay9, k0_pay8, tile, dzr, sg, Ideal.logistic]

/-- What a point computes for the third branch. -/
theorem tile_at2 (z : Vec Ideal S128x2048 .bf16) (g : Vec Ideal S1x2048 .f32) (b d : Vec Ideal S128x2048 .f32) (r : Fin 128) (j : Fin 2048) : k0_pay17 d z g b (ix2 r j) = tile z g b d r j := by
  pointwise [k0_pay17, k0_pay15, tile, dzr, sg, Ideal.logistic]

/-- What a point computes, over the three branches' columns. -/
def kz (t : Fin cfg0.N) (r : Fin 128) (J : Fin 6144) : EReal :=
  if J.val < 2048 then tile (iblk m c 0 t) (iblk m c 3 t) (iblk m c 6 t) (iblk m c 9 t) r ⟨J.val % 2048, by omega⟩
  else if J.val < 4096 then tile (iblk m c 1 t) (iblk m c 4 t) (iblk m c 7 t) (iblk m c 9 t) r ⟨J.val % 2048, by omega⟩
  else tile (iblk m c 2 t) (iblk m c 5 t) (iblk m c 8 t) (iblk m c 9 t) r ⟨J.val % 2048, by omega⟩

/-- It is the reference's gradient of the gates' arguments. -/
theorem kz_eq (t : Fin cfg0.N) (r : Fin 128) (J : Fin 6144) (T : Fin 2048) (hT : T.val = t.val * 128 + r.val) :
    kz m c t r J = DZ (PV (V m c main_arg2) (V m c main_arg3) (V m c main_arg4) (V m c main_arg5)) (GV (V m c main_arg0) (V m c main_arg1)) (ix2 T J) := by
  refine Eq.trans ?_ (DZ_at _ _ T J).symm
  rw [GV_at]
  unfold kz
  by_cases h1 : J.val < 2048
  · rw [if_pos h1, show (⟨J.val / 2048, by omega⟩ : Fin 3) = 0 from Fin.ext (by simp; omega), PV_at0]
    refine dzr_congr ?_ ?_ ?_ ?_
    all_goals blk_point [iblk, idx t, hT]
  · rw [if_neg h1]
    by_cases h2 : J.val < 4096
    · rw [if_pos h2, show (⟨J.val / 2048, by omega⟩ : Fin 3) = 1 from Fin.ext (by simp; omega), PV_at1]
      refine dzr_congr ?_ ?_ ?_ ?_
      all_goals blk_point [iblk, idx t, hT]
    · rw [if_neg h2, show (⟨J.val / 2048, by omega⟩ : Fin 3) = 2 from Fin.ext (by simp; omega), PV_at2]
      refine dzr_congr ?_ ?_ ?_ ?_
      all_goals blk_point [iblk, idx t, hT]

/-- What a point stores for the first branch. -/
theorem st_at0 (z : Vec Ideal S128x2048 .bf16) (g : Vec Ideal S1x2048 .f32) (b d : Vec Ideal S128x2048 .f32) (x : S128x2048.Idx) : k0_pay6 d z g b x = tile z g b d (x 0) (x 1) := by
  idx_vars x
  pointwise [k0_pay6, k0_pay5, k0_pay3, tile, dzr, sg, Ideal.logistic]

/-- What a point adds to the bias's gradient for the first branch. -/
theorem ac_at0 (z : Vec Ideal S128x2048 .bf16) (g : Vec Ideal S1x2048 .f32) (b d : Vec Ideal S128x2048 .f32) (v : Vec Ideal S1x2048 .f32) (x : S1x2048.Idx) :
    k0_pay7 d z g b v x = (v x : EReal) + ∑ r : Fin 128, tile z g b d r (x 1) := by
  idx_vars x
  pointwise [k0_pay7, tile_at0]

/-- The first branch's columns. -/
theorem kz0 (t : Fin cfg0.N) {r r' : Fin 128} {j : Fin 2048} {J : Fin 6144} (hr : r.val = r'.val) (hJ : J.val = 0 + j.val) :
    kz m c t r J = tile (iblk m c 0 t) (iblk m c 3 t) (iblk m c 6 t) (iblk m c 9 t) r' j := by
  have hj : (⟨J.val % 2048, by omega⟩ : Fin 2048) = j := Fin.ext (by simp only; omega)
  unfold kz
  rw [if_pos (by omega), hj, Fin.ext hr]

/-- What a point stores for the second branch. -/
theorem st_at1 (z : Vec Ideal S128x2048 .bf16) (g : Vec Ideal S1x2048 .f32) (b d : Vec Ideal S128x2048 .f32) (x : S128x2048.Idx) : k0_pay13 d (k0_pay8 z) (k0_pay9 g) b x = tile z g b d (x 0) (x 1) := by
  idx_vars x
  pointwise [k0_pay13, k0_pay12, k0_pay10, k0_pay9, k0_pay8, tile, dzr, sg, Ideal.logistic]

/-- What a point adds to the bias's gradient for the second branch. -/
theorem ac_at1 (z : Vec Ideal S128x2048 .bf16) (g : Vec Ideal S1x2048 .f32) (b d : Vec Ideal S128x2048 .f32) (v : Vec Ideal S1x2048 .f32) (x : S1x2048.Idx) :
    k0_pay14 d (k0_pay8 z) (k0_pay9 g) b v x = (v x : EReal) + ∑ r : Fin 128, tile z g b d r (x 1) := by
  idx_vars x
  pointwise [k0_pay14, tile_at1]

/-- The second branch's columns. -/
theorem kz1 (t : Fin cfg0.N) {r r' : Fin 128} {j : Fin 2048} {J : Fin 6144} (hr : r.val = r'.val) (hJ : J.val = 2048 + j.val) :
    kz m c t r J = tile (iblk m c 1 t) (iblk m c 4 t) (iblk m c 7 t) (iblk m c 9 t) r' j := by
  have hj : (⟨J.val % 2048, by omega⟩ : Fin 2048) = j := Fin.ext (by simp only; omega)
  unfold kz
  rw [if_neg (by omega), if_pos (by omega), hj, Fin.ext hr]

/-- What a point stores for the third branch. -/
theorem st_at2 (z : Vec Ideal S128x2048 .bf16) (g : Vec Ideal S1x2048 .f32) (b d : Vec Ideal S128x2048 .f32) (x : S128x2048.Idx) : k0_pay18 d z g b x = tile z g b d (x 0) (x 1) := by
  idx_vars x
  pointwise [k0_pay18, k0_pay17, k0_pay15, tile, dzr, sg, Ideal.logistic]

/-- What a point adds to the bias's gradient for the third branch. -/
theorem ac_at2 (z : Vec Ideal S128x2048 .bf16) (g : Vec Ideal S1x2048 .f32) (b d : Vec Ideal S128x2048 .f32) (v : Vec Ideal S1x2048 .f32) (x : S1x2048.Idx) :
    k0_pay1 (k0_pay17 d z g b) v x = (v x : EReal) + ∑ r : Fin 128, tile z g b d r (x 1) := by
  idx_vars x
  pointwise [k0_pay1, tile_at2]

/-- The third branch's columns. -/
theorem kz2 (t : Fin cfg0.N) {r r' : Fin 128} {j : Fin 2048} {J : Fin 6144} (hr : r.val = r'.val) (hJ : J.val = 4096 + j.val) :
    kz m c t r J = tile (iblk m c 2 t) (iblk m c 5 t) (iblk m c 8 t) (iblk m c 9 t) r' j := by
  have hj : (⟨J.val % 2048, by omega⟩ : Fin 2048) = j := Fin.ext (by simp only; omega)
  unfold kz
  rw [if_neg (by omega), if_neg (by omega), hj, Fin.ext hr]

/-- A point's three column blocks of the gradient. -/
theorem out10_A (t : Fin cfg0.N) (hc : t.val % 16 = 0) (y : S128x6144.Idx) : (outsAt0 m c t.val t.isLt).1 y = kz m c t (y 0) (y 1) := by
  rw [outsAt0_A m c t hc]; frame_out
  clear hc
  canon_tiles x h
  · exact (st_at2 _ _ _ _ x).trans (kz2 m c t h0 h1).symm
  · exact (st_at1 _ _ _ _ x).trans (kz1 m c t h0 h1).symm
  · exact (st_at0 _ _ _ _ x).trans (kz0 m c t h0 (by omega)).symm

/-- A point's three column blocks of the gradient. -/
theorem out10_B (t : Fin cfg0.N) (hc : ¬ t.val % 16 = 0) (y : S128x6144.Idx) : (outsAt0 m c t.val t.isLt).1 y = kz m c t (y 0) (y 1) := by
  rw [outsAt0_B m c t hc]; frame_out
  clear hc
  canon_tiles x h
  · exact (st_at2 _ _ _ _ x).trans (kz2 m c t h0 h1).symm
  · exact (st_at1 _ _ _ _ x).trans (kz1 m c t h0 h1).symm
  · exact (st_at0 _ _ _ _ x).trans (kz0 m c t h0 (by omega)).symm

/-- What one point contributes to the bias's gradient: the sum over its rows. -/
def part (t : Fin cfg0.N) (y : S1x6144.Idx) : EReal := ∑ r : Fin 128, kz m c t r (y 1)

/-- The first point clears the bias's gradient. -/
theorem zero_at (y : S1x6144.Idx) : (k0_pay2 (F := Ideal)) y = 0 := by
  idx_vars y
  pointwise [k0_pay2]

/-- The first point leaves its part. -/
theorem acc_first (t : Fin cfg0.N) (hc : t.val % 16 = 0) (y : S1x6144.Idx) : (outsAt0 m c t.val t.isLt).2.2.2.2 y = 0 + part m c t y := by
  rw [outsAt0_A m c t hc]; frame_out
  clear hc
  refine View.canon_append_of_piecesOf (Val := Elt Ideal) (s := S1x6144) (e := .f32) (fun y => (0 + part m c t y : EReal)) [_] [_, _, _] ⟨?_, ?_, ?_, trivial⟩ y ?_
  · intro x
    refine (ac_at2 _ _ _ _ _ x).trans (congrArg₂ (fun a b : EReal => a + b) ?_ (Finset.sum_congr rfl fun r _ => (kz2 m c t rfl ?_).symm))
    · rw [View.readCov_skip _ _ _ _ _ (by decide), View.readCov_skip _ _ _ _ _ (by decide), View.readCov_fill _ _ _ _ _ (by decide)]
      exact zero_at _
    · rw [Rect.emb_apply]; show 4096 + 1 * _ = _; omega
  · intro x
    refine (ac_at1 _ _ _ _ _ x).trans (congrArg₂ (fun a b : EReal => a + b) ?_ (Finset.sum_congr rfl fun r _ => (kz1 m c t rfl ?_).symm))
    · rw [View.readCov_skip _ _ _ _ _ (by decide), View.readCov_fill _ _ _ _ _ (by decide)]
      exact zero_at _
    · rw [Rect.emb_apply]; show 2048 + 1 * _ = _; omega
  · intro x
    refine (ac_at0 _ _ _ _ _ x).trans (congrArg₂ (fun a b : EReal => a + b) ?_ (Finset.sum_congr rfl fun r _ => (kz0 m c t rfl ?_).symm))
    · rw [View.readCov_fill _ _ _ _ _ (by decide)]
      exact zero_at _
    · rw [Rect.emb_apply]; show 0 + 1 * _ = _; omega
  · exact View.cover_of_tiled_head _ _ _ (by rfl) y

/-- A later point adds its part to what was there. -/
theorem acc_next (t : Fin cfg0.N) (hc : ¬ t.val % 16 = 0) (y : S1x6144.Idx) : (outsAt0 m c t.val t.isLt).2.2.2.2 y
    = (outsAt0 m c (t.val - 1) (Nat.lt_of_le_of_lt (Nat.sub_le _ _) t.isLt)).2.2.2.2 y + part m c t y := by
  rw [outsAt0_B m c t hc]; frame_out
  clear hc
  unfold part
  canon_tiles x h
  · exact (ac_at2 _ _ _ _ _ x).trans (congrArg₂ (fun a b : EReal => a + b) (View.ld_unit_apply_of _ _ _ _ x y fun a => by
      match a with
      | 0 => simpa using h0
      | 1 => exact h1) (Finset.sum_congr rfl fun r _ => (kz2 m c t rfl h1).symm))
  · exact (ac_at1 _ _ _ _ _ x).trans (congrArg₂ (fun a b : EReal => a + b) (View.ld_unit_apply_of _ _ _ _ x y fun a => by
      match a with
      | 0 => simpa using h0
      | 1 => exact h1) (Finset.sum_congr rfl fun r _ => (kz1 m c t rfl h1).symm))
  · exact (ac_at0 _ _ _ _ _ x).trans (congrArg₂ (fun a b : EReal => a + b) (View.ld_unit_apply_of _ _ _ _ x y fun a => by
      match a with
      | 0 => simpa using h0
      | 1 => simpa using h1) (Finset.sum_congr rfl fun r _ => (kz0 m c t rfl (by omega)).symm))

/-- The call leaves the reference's gradient of the gates' arguments. -/
theorem final0 : (dats m 0 c).arrAt 10 cfg0.N = REF0 (V m c main_arg0) (V m c main_arg1) (V m c main_arg2) (V m c main_arg3) (V m c main_arg4) (V m c main_arg5) := by
  refine (dats m 0 c).arrAt_eq_of_covers 10 _ (by decide +kernel) fun t _ y => ?_
  blk_simp
  rw [after0_10]
  refine Eq.trans (b := kz m c t (y 0) (y 1)) ?_ ((kz_eq m c t _ _ ((win0_10.blk t).view.emb y 0) ?_).trans (Eq.trans ?_ (congrArg _ (eq_ix2 _)).symm))
  · by_cases h : t.val % 16 = 0
    · exact out10_A m c t h y
    · exact out10_B m c t h y
  · blk_simp [idx t]
    try omega
  · refine congrArg _ (congrArg (ix2 _) (Fin.ext ?_))
    blk_simp [idx t]
    try omega

/-- The call leaves the reference's gradient of the bias: the points' parts make up the sum over all rows. -/
theorem final4 : (dats m 0 c).arrAt 14 cfg0.N = REF4 (V m c main_arg0) (V m c main_arg1) (V m c main_arg2) (V m c main_arg3) (V m c main_arg4) (V m c main_arg5) := by
  refine (dats m 0 c).arrAt_eq_of_covers 14 _ (by decide +kernel) fun t hf y => ?_
  have h := (flush0_14 t).mp hf
  blk_simp
  rw [after0_14,
    Pipeline.eq_sum_fin_of_reset_step_apply_of_flush (fun n h => (outsAt0 m c n h).2.2.2.2) 16 (fun _ => 0) (part m c)
      (fun t h j => acc_first m c t h j) (fun t h j => acc_next m c t h j) t h _, zero_add]
  refine Eq.trans ?_ ((congrArg _ (eq_ix2 _)).trans (ref4_at _ _ _ _ _ _ _ _)).symm
  unfold part
  refine Fin.sum_mul_add_congr fun s k hl => ?_
  refine (kz_eq m c _ _ _ ⟨s.val * 128 + k.val, hl⟩ ?_).trans (congrArg _ (congrArg (ix2 _) (Fin.ext ?_)))
  · have : t.val < 16 := t.isLt
    show s.val * 128 + k.val = (16 * (t.val / 16) + s.val) * 128 + k.val
    rw [Nat.div_eq_of_lt this, Nat.mul_zero, Nat.zero_add]
  · blk_simp [idx t]

end Blocks

/-- The program on the machine's numbers runs to its end with its arguments unchanged. -/
theorem frame_bits : Cert.quiescent_MergeBwd := fun m ρ _ => Cert.MergeBwd.Gen.frame m ρ

/-- The program on the extended reals runs to its end with its arguments unchanged. -/
theorem frame_ideal : Cert.quiescent_MergeBwdIdeal := fun m ρ _ => Cert.MergeBwdIdeal.Gen.frame (F := Ideal) m ρ

/-- The reference runs to its end with its arguments unchanged, and it declares no semaphore. -/
theorem frame_ref : Cert.quiescent_MergeBwdRefIdeal := fun m ρ _ =>
  (θ_run Cert.MergeBwdRefIdeal.defs _ _).mono (fun r h => ⟨fun c => (h c).2.2.2.2.2,
      Idealize.ShloMosaic.sem_eq_zero_of_no_sems (by decide) r.2⟩)
    (Cert.MergeBwdRefIdeal.Value.run (F := Ideal) m ρ)

set_option backward.isDefEq.respectTransparency.types false in
/-- Kernel and reference end with equal results. -/
theorem algebraic : Cert.algebraic_MergeBwdIdeal_MergeBwdRefIdeal := fun m g m' g' _ hag => by
  refine ⟨fun c => (dats m 0 c).arrAt 10 cfg0.N, fun c => (dats m 0 c).arrAt 11 cfg0.N, fun c => (dats m 0 c).arrAt 12 cfg0.N, fun c => (dats m 0 c).arrAt 13 cfg0.N, fun c => (dats m 0 c).arrAt 14 cfg0.N,
    Cert.MergeBwdIdeal.Value.run_blocks m g,
    (θ_run _ _ _).mono (fun r h c => ?_) (Cert.MergeBwdRefIdeal.Value.run m' g')⟩
  obtain ⟨h0, h1, h2, h3, h4, hr⟩ := h c
  obtain ⟨e0, e1, e2, e3, e4, e5⟩ := hag c
  have k0 := final0 m c
  have k1 := final1 m c
  have k2 := final2 m c
  have k3 := final3 m c
  have k4 := final4 m c
  rw [e0, e1, e2, e3, e4, e5] at h0 h4
  rw [e0, e1, e5] at h1 h2 h3
  exact ⟨h0.trans k0.symm, h1.trans k1.symm, h2.trans k2.symm, h3.trans k3.symm, h4.trans k4.symm, hr⟩

end Cert.MergeBwdIdeal.Ew

end
-- ==== Proof.Ew.MergeFwd.lean ====
module

public import proofs.«01_k».proof.Defs
public import proofs.«01_k».proof.Proof.Gen.MergeFwd
public import proofs.«01_k».proof.Proof.Gen.MergeFwd.Frame
public import proofs.«01_k».proof.Proof.Gen.MergeFwdIdeal.Value
public import proofs.«01_k».proof.Proof.Gen.MergeFwdRefIdeal.Run
public import proofs.«01_k».proof.Proof.Sb.Res
public import Idealize.ShloMosaic.Lib.Pipeline.ValueKit
public import Idealize.ShloMosaic.Lib.Pipeline.ReadBack

@[expose] public section

set_option maxRecDepth 16384

noncomputable section

namespace Cert.MergeFwdRefIdeal.Ew

open Cert.MergeFwdRefIdeal Cert.MergeFwdRefIdeal.Gen Idealize.ShloMosaic Idealize.ShloMosaic.TcCoe Idealize.SL.Sem

/-- The reference's merged branches. -/
abbrev REF0 (a0 : FVec Ideal S2048x6144 .bf16) (a1 : FVec Ideal S1x6144 .f32) (a2 : FVec Ideal S2048x2048 .f32) (a3 : FVec Ideal S2048x2048 .f32) (a4 : FVec Ideal S2048x2048 .f32) : FVec Ideal S2048x2048 .bf16 :=
  truncf .bf16 (addf (addf (addf (broadcastInDim S2048x2048 ![] bcast_S_S2048x2048 (constant S_ .f32 0x00000000#32)) (mulf (shapeCast _ (extractStridedSlice S2048x1x2048 ![0, 0, 0] (shapeCast _ (Host.divf (broadcastInDim S2048x6144 ![] bcast_S_S2048x6144 (constant S_ .f32 0x3F800000#32)) (addf (broadcastInDim S2048x6144 ![] bcast_S_S2048x6144 (constant S_ .f32 0x3F800000#32)) (Host.exp (Host.negf (addf (extf .f32 a0 bitsLt_bf16_f32) (broadcastInDim S2048x6144 ![0, 1] bcast_S1x6144_S2048x6144_0_1 a1)))))) shapeCasts_S2048x6144_S2048x3x2048) slices_S2048x3x2048_S2048x1x2048_0_0_0) shapeCasts_S2048x1x2048_S2048x2048) a2)) (mulf (shapeCast _ (extractStridedSlice S2048x1x2048 ![0, 1, 0] (shapeCast _ (Host.divf (broadcastInDim S2048x6144 ![] bcast_S_S2048x6144 (constant S_ .f32 0x3F800000#32)) (addf (broadcastInDim S2048x6144 ![] bcast_S_S2048x6144 (constant S_ .f32 0x3F800000#32)) (Host.exp (Host.negf (addf (extf .f32 a0 bitsLt_bf16_f32) (broadcastInDim S2048x6144 ![0, 1] bcast_S1x6144_S2048x6144_0_1 a1)))))) shapeCasts_S2048x6144_S2048x3x2048) slices_S2048x3x2048_S2048x1x2048_0_1_0) shapeCasts_S2048x1x2048_S2048x2048) a3)) (mulf (shapeCast _ (extractStridedSlice S2048x1x2048 ![0, 2, 0] (shapeCast _ (Host.divf (broadcastInDim S2048x6144 ![] bcast_S_S2048x6144 (constant S_ .f32 0x3F800000#32)) (addf (broadcastInDim S2048x6144 ![] bcast_S_S2048x6144 (constant S_ .f32 0x3F800000#32)) (Host.exp (Host.negf (addf (extf .f32 a0 bitsLt_bf16_f32) (broadcastInDim S2048x6144 ![0, 1] bcast_S1x6144_S2048x6144_0_1 a1)))))) shapeCasts_S2048x6144_S2048x3x2048) slices_S2048x3x2048_S2048x1x2048_0_2_0) shapeCasts_S2048x1x2048_S2048x2048) a4)) bitsLt_bf16_f32

end Cert.MergeFwdRefIdeal.Ew

namespace Cert.MergeFwdIdeal.Ew

open Cert.MergeFwdIdeal Cert.MergeFwdIdeal.Gen Idealize.ShloMosaic Idealize.ShloMosaic.TcCoe Idealize.SL.Sem
open Cert.MergeFwdRefIdeal.Ew (REF0)
open Idealize.ShloMosaic.Pipeline (Dat)

section Blocks

variable (m : (ℓ : Loc nD τ sig) → Buf (Elt Ideal) ℓ) (c : Dev nD)

/-- Which blocks the points hold. -/
theorem idx : ∀ t : Fin cfg0.N, win0_0.index t = ![t.val, 0]
    ∧ win0_1.index t = ![t.val, 1]
    ∧ win0_2.index t = ![t.val, 2]
    ∧ win0_3.index t = ![0, 0]
    ∧ win0_4.index t = ![0, 1]
    ∧ win0_5.index t = ![0, 2]
    ∧ win0_6.index t = ![t.val, 0]
    ∧ win0_7.index t = ![t.val, 0]
    ∧ win0_8.index t = ![t.val, 0]
    ∧ win0_9.index t = ![t.val, 0] :=
  (by decide +kernel : ∀ t : Fin grid0.N, _)

/-- The call leaves the reference's merged branches. -/
theorem final0 : (dats m 0 c).arrAt 9 cfg0.N = REF0 (V m c main_arg0) (V m c main_arg1) (V m c main_arg2) (V m c main_arg3) (V m c main_arg4) := by
  refine (dats m 0 c).arrAt_eq_of_covers 9 _ (by decide +kernel) fun t _ y => ?_
  blk_simp
  rw [after0_9]; frame_out
  pointwise [k0_pay1, Ideal.logistic, REF0]
  blk_point [iblk, idx t]

end Blocks

/-- The program on the machine's numbers runs to its end with its arguments unchanged. -/
theorem frame_bits : Cert.quiescent_MergeFwd := fun m ρ _ => Cert.MergeFwd.Gen.frame m ρ

/-- The program on the extended reals runs to its end with its arguments unchanged. -/
theorem frame_ideal : Cert.quiescent_MergeFwdIdeal := fun m ρ _ => Cert.MergeFwdIdeal.Gen.frame (F := Ideal) m ρ

/-- The reference runs to its end with its arguments unchanged, and it declares no semaphore. -/
theorem frame_ref : Cert.quiescent_MergeFwdRefIdeal := fun m ρ _ =>
  (θ_run Cert.MergeFwdRefIdeal.defs _ _).mono (fun r h => ⟨fun c => (h c).2,
      Idealize.ShloMosaic.sem_eq_zero_of_no_sems (by decide) r.2⟩)
    (Cert.MergeFwdRefIdeal.Value.run (F := Ideal) m ρ)

set_option backward.isDefEq.respectTransparency.types false in
/-- Kernel and reference end with equal results. -/
theorem algebraic : Cert.algebraic_MergeFwdIdeal_MergeFwdRefIdeal := fun m g m' g' _ hag => by
  refine ⟨fun c => (dats m 0 c).arrAt 9 cfg0.N,
    Cert.MergeFwdIdeal.Value.run_blocks m g,
    (θ_run _ _ _).mono (fun r h c => ?_) (Cert.MergeFwdRefIdeal.Value.run m' g')⟩
  obtain ⟨h0, hr⟩ := h c
  obtain ⟨e0, e1, e2, e3, e4⟩ := hag c
  have k0 := final0 m c
  rw [e0, e1, e2, e3, e4] at h0
  exact ⟨h0.trans k0.symm, hr⟩

end Cert.MergeFwdIdeal.Ew

end
-- ==== Proof.Sb.Pre.lean ====
/-
  The precondition says that every element of the two arguments is finite.
-/
module

public import proofs.«01_k».proof.Defs
public import proofs.«01_k».proof.Proof.Sb.Real
public import Idealize.ShloMosaic.Lib.ReduceAll
public import Idealize.ShloMosaic.Lib.WordArith

@[expose] public section

namespace Cert.Pre_finite

open Idealize.ShloMosaic

/-- The side conditions of the precondition's operations. -/
theorem facts : Facts where
  bcast_S_S2048x6144 := by decide
  reducesTo_S2048x6144_S_d0_1 := by decide
  h_S_ := by decide
  bcast_S_S2048x1024 := by decide
  reducesTo_S2048x1024_S_d0_1 := by decide

/-- An extended real whose absolute value is below infinity is a real number. -/
theorem finite_of_lt {x : EReal} (h : max x (-x) < ⊤) : Cert.ReferenceIdeal.Sb.Finite x := by
  induction x with
  | bot => simp at h
  | top => simp at h
  | coe r => exact ⟨r, rfl⟩

/-- A set bit says that the element is finite. -/
theorem bit {x : Ideal .f32} (e : FloatOps.cmpf .olt (FloatOps.hostAbsf x) (FloatOps.ofBits (F := Ideal) .f32 0x7F800000#32) = 1#1) : Cert.ReferenceIdeal.Sb.Finite x := by
  have h : BitVec.ofBool (decide (max x (-x) < Ideal.ofBits .f32 0x7F800000#32)) = 1#1 := e
  rw [show Ideal.ofBits .f32 0x7F800000#32 = (⊤ : EReal) by simp [Ideal.ofBits, Ideal.ieee]] at h
  exact finite_of_lt (by by_contra hn; simp [hn] at h)

/-- The precondition says that every element of both arrays is finite. -/
theorem finite_of_fn [Facts] (P : FVec Ideal S2048x6144 .f32) (D : FVec Ideal S2048x1024 .f32) (e : fn (F := Ideal) P D = fun _ => 1#1) :
    (∀ i, Cert.ReferenceIdeal.Sb.Finite (P i)) ∧ ∀ i, Cert.ReferenceIdeal.Sb.Finite (D i) := by
  have e0 := congrFun e ix0
  dsimp only [fn] at e0
  obtain ⟨h1, h2⟩ := IntOp.andi_eq_one.1 e0
  exact ⟨fun i => bit (Host.reduce_andi_all _ _ _ _ _ h1 i), fun i => bit (Host.reduce_andi_all _ _ _ _ _ h2 i)⟩

end Cert.Pre_finite
-- ==== Proof.Law.lean ====
/-
  Laws of the extended reals: a product with a nonnegative real distributes over every sum, the quotient of a nonnegative
  real by a real, and the two identities of the backward passes of the softmax and of the normalisation.
-/
module

public import proofs.«01_k».proof.Proof.Sb.Real

@[expose] public section

noncomputable section

namespace Cert.Law

open Idealize.ShloMosaic

/-- A nonnegative real distributes over a sum of extended reals. -/
theorem mul_add_of_nonneg {c : ℝ} (hc : 0 ≤ c) (a b : EReal) : (c : EReal) * (a + b) = c * a + c * b :=
  EReal.left_distrib_of_nonneg_of_ne_top (by exact_mod_cast hc) (EReal.coe_ne_top c) a b

/-- A nonnegative real distributes over a difference of extended reals. -/
theorem mul_sub_of_nonneg {c : ℝ} (hc : 0 ≤ c) (a b : EReal) : (c : EReal) * (a - b) = c * a - c * b := by
  rw [sub_eq_add_neg, mul_add_of_nonneg hc, mul_neg, ← sub_eq_add_neg]

/-- A nonnegative real distributes over a finite sum of extended reals. -/
theorem mul_sum_of_nonneg {ι : Type} {c : ℝ} (hc : 0 ≤ c) (t : Finset ι) (f : ι → EReal) :
    (c : EReal) * ∑ k ∈ t, f k = ∑ k ∈ t, c * f k := by
  classical
  induction t using Finset.induction_on with
  | empty => simp
  | insert a u ha ih => rw [Finset.sum_insert ha, Finset.sum_insert ha, mul_add_of_nonneg hc, ih]

/-- A quotient by a nonzero real is the product with its inverse. -/
theorem div_coe (x : EReal) {l : ℝ} (hl : l ≠ 0) : Ideal.div x l = x * ((l⁻¹ : ℝ) : EReal) := by
  rw [Ideal.div, if_neg (by exact_mod_cast hl), EReal.coe_inv]

/-- The gradient of a softmax entry, with the row's sum `l`, in the two orders in which the programs multiply. -/
theorem softmax_grad {ι : Type} [Fintype ι] (E : ι → ℝ) (d : ι → EReal) {l : ℝ} (hl : 0 < l) (hE : ∀ k, 0 ≤ E k) (j : ι) (s : EReal) :
    Ideal.div (E j) l * (d j - ∑ k, d k * Ideal.div (E k) l) * s
      = (Ideal.div (d j) l + -(∑ k, d k * Ideal.div 1 ((l : EReal) * l) * E k)) * E j * s := by
  have hc : 0 ≤ l⁻¹ := inv_nonneg.2 hl.le
  rw [show (l : EReal) * l = ((l * l : ℝ) : EReal) from (EReal.coe_mul l l).symm]
  simp only [div_coe _ hl.ne', div_coe _ (mul_pos hl hl).ne', one_mul]
  have h : ((l⁻¹ : ℝ) : EReal) * ∑ k, d k * ((E k : EReal) * ((l⁻¹ : ℝ) : EReal)) = ∑ k, d k * (((l * l)⁻¹ : ℝ) : EReal) * E k := by
    rw [mul_sum_of_nonneg hc]
    refine Finset.sum_congr rfl fun k _ => ?_
    rw [mul_inv, EReal.coe_mul]; ac_rfl
  rw [← h, mul_assoc (E j : EReal), mul_sub_of_nonneg hc, sub_eq_add_neg, mul_comm (E j : EReal), mul_comm (d j)]

/-- Half of an extended real's real multiple, twice. -/
theorem half_add_half (y : EReal) (r : ℝ) : y * r + y * r = y * ((r + r : ℝ) : EReal) := by
  induction y with
  | coe q => norm_cast; ring
  | bot =>
    rcases lt_trichotomy r 0 with h | h | h
    · rw [EReal.bot_mul_coe_of_neg h, EReal.bot_mul_coe_of_neg (by linarith)]; rfl
    · subst h; simp
    · rw [EReal.bot_mul_coe_of_pos h, EReal.bot_mul_coe_of_pos (by linarith)]; rfl
  | top =>
    rcases lt_trichotomy r 0 with h | h | h
    · rw [EReal.top_mul_coe_of_neg h, EReal.top_mul_coe_of_neg (by linarith)]; rfl
    · subst h; simp
    · rw [EReal.top_mul_coe_of_pos h, EReal.top_mul_coe_of_pos (by linarith)]; rfl

/-- The gradient of a normalised row, the row's mean square shifted being `v`, in the two orders in which the programs multiply. -/
theorem norm_grad {ι : Type} [Fintype ι] (x d : ι → EReal) {v : EReal} (hv : v = ⊤ ∨ ∃ w : ℝ, 0 < w ∧ v = w) {N : ℝ} (hN : N ≠ 0) (j : ι) :
    Ideal.rsqrt v * (d j - x j * Ideal.rsqrt v * Ideal.div (∑ k, d k * (x k * Ideal.rsqrt v)) N)
      = d j * Ideal.rsqrt v + x j * Ideal.div ((∑ k, x k * d k) * (((-(1 / 2) : ℝ) : EReal) * Ideal.div (Ideal.rsqrt v) v)) N
        + Ideal.div ((∑ k, x k * d k) * (((-(1 / 2) : ℝ) : EReal) * Ideal.div (Ideal.rsqrt v) v)) N * x j := by
  rcases hv with rfl | ⟨w, hw, rfl⟩
  · rw [show Ideal.rsqrt ⊤ = 0 from rfl, show Ideal.div 0 ⊤ = 0 by simp [Ideal.div]]
    simp [Ideal.div, hN]
  · set ρ : ℝ := (Real.sqrt w)⁻¹ with hρ
    have hr : Ideal.rsqrt (w : EReal) = (ρ : EReal) := by
      show (if w < 0 then (⊥ : EReal) else if w = 0 then ⊤ else ((Real.sqrt w)⁻¹ : ℝ)) = _
      rw [if_neg (not_lt.2 hw.le), if_neg hw.ne']
    have h0 : 0 ≤ ρ := inv_nonneg.2 (Real.sqrt_nonneg w)
    have h2 : w⁻¹ = ρ * ρ := by rw [hρ, ← mul_inv, Real.mul_self_sqrt hw.le]
    rw [hr, div_coe _ hN, div_coe _ hN, div_coe _ hw.ne', h2]
    have hs : ∑ k, d k * (x k * (ρ : EReal)) = (ρ : EReal) * ∑ k, x k * d k := by
      rw [mul_sum_of_nonneg h0]; exact Finset.sum_congr rfl fun k _ => by ac_rfl
    rw [hs, mul_sub_of_nonneg h0, sub_eq_add_neg, add_assoc, mul_comm (ρ : EReal) (d j)]
    congr 1
    generalize ∑ k, x k * d k = S
    have e1 : x j * (S * (((-(1 / 2) : ℝ) : EReal) * ((ρ : EReal) * ((ρ * ρ : ℝ) : EReal))) * ((N⁻¹ : ℝ) : EReal))
        = x j * S * ((-(1 / 2) * (ρ * (ρ * ρ)) * N⁻¹ : ℝ) : EReal) := by
      simp only [EReal.coe_mul]; ac_rfl
    rw [mul_comm _ (x j), e1, half_add_half,
      show -(1 / 2) * (ρ * (ρ * ρ)) * N⁻¹ + -(1 / 2) * (ρ * (ρ * ρ)) * N⁻¹ = -(ρ * (ρ * (ρ * N⁻¹))) by ring,
      EReal.coe_neg, mul_neg]
    congr 1
    simp only [EReal.coe_mul]; ac_rfl

/-- A maximum's initial value is absorbed by the maximum. -/
theorem max_fold {ι : Type} (b : EReal) (f : ι → EReal) (u : Finset ι) : max b (u.fold max b f) = u.fold max b f :=
  max_eq_right ((Finset.le_fold_max _).2 (Or.inl le_rfl))

/-- The softmax of the scores `z`, the maximum taken from the initial value `b`. -/
def prob {ι : Type} [Fintype ι] (z : ι → EReal) (b : EReal) (k : ι) : EReal :=
  Ideal.div (Ideal.exp (z k - Finset.univ.fold max b fun k => z k)) (∑ x, Ideal.exp (z x - Finset.univ.fold max b fun k => z k))

/-- The gradient of the softmax, from the cotangent `d` of its values. -/
def dprob {ι : Type} [Fintype ι] (z d : ι → EReal) (b : EReal) (j : ι) : EReal :=
  prob z b j * (d j - ∑ k, d k * prob z b k)

/-- A softmax of real scores: its gradient as differentiation groups it, scaled by `s`. The cotangent need not be finite. -/
theorem prob_grad {ι : Type} [Fintype ι] (z d : ι → EReal) {b : EReal} (hb : b < ⊤) (hz : ∀ k, ∃ r : ℝ, z k = r) (j : ι) (s : EReal) :
    (Ideal.div (d j) (∑ x, Ideal.exp (z x - Finset.univ.fold max b fun k => z k))
        + -(∑ k, d k * Ideal.div 1 ((∑ x, Ideal.exp (z x - Finset.univ.fold max b fun k => z k)) * (∑ x, Ideal.exp (z x - Finset.univ.fold max b fun k => z k)))
          * Ideal.exp (z k - Finset.univ.fold max b fun k => z k)))
      * Ideal.exp (z j - Finset.univ.fold max b fun k => z k) * s = dprob z d b j * s := by
  unfold dprob prob
  have hM : ∃ M : ℝ, (Finset.univ.fold max b fun k => z k) = (M : EReal) := by
    have h1 : (Finset.univ.fold max b fun k => z k) < ⊤ := (Finset.fold_max_lt _).2 ⟨hb, fun k _ => by obtain ⟨r, h⟩ := hz k; rw [h]; exact EReal.coe_lt_top r⟩
    have h2 : ⊥ < (Finset.univ.fold max b fun k => z k) := (Finset.lt_fold_max _).2 (Or.inr ⟨j, Finset.mem_univ j, by obtain ⟨r, h⟩ := hz j; rw [h]; exact EReal.bot_lt_coe r⟩)
    exact ⟨_, (EReal.coe_toReal h1.ne h2.ne').symm⟩
  obtain ⟨M, hM⟩ := hM
  choose r hr using hz
  rw [hM]
  have hE : ∀ k, Ideal.exp (z k - (M : EReal)) = ((Real.exp (r k - M) : ℝ) : EReal) := fun k => by
    rw [hr k, ← EReal.coe_sub]; rfl
  simp only [hE]
  have hs : ∑ x, ((Real.exp (r x - M) : ℝ) : EReal) = ((∑ x, Real.exp (r x - M) : ℝ) : EReal) :=
    (map_sum (⟨⟨fun x : ℝ => (x : EReal), rfl⟩, EReal.coe_add⟩ : ℝ →+ EReal) _ _).symm
  rw [hs]
  exact (softmax_grad (fun k => Real.exp (r k - M)) d (Finset.sum_pos (fun k _ => Real.exp_pos _) ⟨j, Finset.mem_univ j⟩) (fun k => (Real.exp_pos _).le) j s).symm

end Cert.Law

end
-- ==== Proof.Ew.XaBwd.lean ====
module

public import proofs.«01_k».proof.Defs
public import proofs.«01_k».proof.Proof.Gen.XaBwd
public import proofs.«01_k».proof.Proof.Gen.XaBwd.Frame
public import proofs.«01_k».proof.Proof.Gen.XaBwdIdeal.Value
public import proofs.«01_k».proof.Proof.Gen.XaBwdRefIdeal.Run
public import proofs.«01_k».proof.Proof.Sb.Pre
public import proofs.«01_k».proof.Proof.Sb.Res
public import Idealize.ShloMosaic.Lib.Pipeline.ValueKit
public import Idealize.ShloMosaic.Lib.Pipeline.ReadBack
public import proofs.«01_k».proof.Proof.Law

@[expose] public section

set_option maxRecDepth 16384

noncomputable section

namespace Cert.Pre_finite_xa

open Idealize.ShloMosaic

/-- The side conditions of the precondition's operations. -/
theorem facts : Facts where
  bcast_S_S2048x6144 := by decide
  reducesTo_S2048x6144_S_d0_1 := by decide
  h_S_ := by decide
  bcast_S_S256x2048 := by decide
  reducesTo_S256x2048_S_d0_1 := by decide

instance : Facts := facts

/-- The precondition says that every element of the projection and of the memory's keys and values is a real number. -/
theorem finite_of_fn [Facts] (a0 : FVec Ideal S2048x6144 .f32) (a1 : FVec Ideal S256x2048 .f32) (a2 : FVec Ideal S2048x1024 .f32)
    (e : fn (F := Ideal) a0 a1 a2 = fun _ => 1#1) :
    (∀ i, Cert.ReferenceIdeal.Sb.Finite (a0 i)) ∧ ∀ i, Cert.ReferenceIdeal.Sb.Finite (a1 i) := by
  have e0 := congrFun e ix0
  dsimp only [fn] at e0
  obtain ⟨h1, h2⟩ := IntOp.andi_eq_one.1 e0
  exact ⟨fun i => Cert.Pre_finite.bit (Host.reduce_andi_all _ _ _ _ _ h1 i), fun i => Cert.Pre_finite.bit (Host.reduce_andi_all _ _ _ _ _ h2 i)⟩

end Cert.Pre_finite_xa

namespace Cert.XaBwdRefIdeal.Ew

open Cert.XaBwdRefIdeal Cert.XaBwdRefIdeal.Gen Idealize.ShloMosaic Idealize.ShloMosaic.TcCoe Idealize.SL.Sem

/-- The scaled scores. -/
def ZV (a0 : FVec Ideal S2048x6144 .f32) (a1 : FVec Ideal S256x2048 .f32) : FVec Ideal S4x2048x256 .f32 :=
  mulf (Host.dotGeneral dot_S2048x4x256_S256x4x256_S4x2048x256_2_2_0_0_1_1 none (shapeCast _ (extractStridedSlice S2048x1024 ![0, 5120] a0 slices_S2048x6144_S2048x1024_0_5120) shapeCasts_S2048x1024_S2048x4x256) (shapeCast _ (extractStridedSlice S256x1024 ![0, 0] a1 slices_S256x2048_S256x1024_0_0) shapeCasts_S256x1024_S256x4x256)) (broadcastInDim S4x2048x256 ![] bcast_S_S4x2048x256 (constant S_ .f32 0x3D800000#32))

/-- The rows' maxima. -/
def MX (z : FVec Ideal S4x2048x256 .f32) : FVec Ideal S4x2048 .f32 :=
  Host.reduce FloatOps.maximumf z (constant S_ .f32 0xFF800000#32) reducesTo_S4x2048x256_S4x2048_d2 h_S_

/-- The initial value of the maximum, as an array of one entry. -/
def NG : FVec Ideal S_ .f32 := constant S_ .f32 0xFF800000#32

/-- The same maxima, with the initial value once more. -/
def MM (z : FVec Ideal S4x2048x256 .f32) : FVec Ideal S4x2048 .f32 :=
  maximumf (broadcastInDim S4x2048 ![] bcast_S_S4x2048 NG) (MX z)

/-- The exponentials of the scores, shifted by the row's maximum. -/
def EV (z : FVec Ideal S4x2048x256 .f32) : FVec Ideal S4x2048x256 .f32 :=
  Host.exp (subf z (broadcastInDim S4x2048x256 ![0, 1, 2] bcast_S4x2048x1_S4x2048x256_0_1_2 (broadcastInDim S4x2048x1 ![0, 1] bcast_S4x2048_S4x2048x1_0_1 (MM z))))

/-- The rows' sums of the exponentials. -/
def LV (z : FVec Ideal S4x2048x256 .f32) : FVec Ideal S4x2048x1 .f32 :=
  broadcastInDim S4x2048x1 ![0, 1] bcast_S4x2048_S4x2048x1_0_1 (Host.reduceAdd (EV z) (constant S_ .f32 0x00000000#32) reducesTo_S4x2048x256_S4x2048_d2 h_S_)

/-- The softmax. -/
def PV (z : FVec Ideal S4x2048x256 .f32) : FVec Ideal S4x2048x256 .f32 :=
  Host.divf (EV z) (broadcastInDim S4x2048x256 ![0, 1, 2] bcast_S4x2048x1_S4x2048x256_0_1_2 (LV z))

/-- The initial value of the maximum. -/
abbrev lo : EReal := Ideal.ofBits .f32 4286578688#32

/-- The scores' scale. -/
abbrev sc : EReal := Ideal.ofBits .f32 1031798784#32

/-- The scores at an index. -/
theorem ZV_at (a0 : FVec Ideal S2048x6144 .f32) (a1 : FVec Ideal S256x2048 .f32) (h : Fin 4) (T : Fin 2048) (x : Fin 256) :
    ZV a0 a1 (ix3 h T x) = (∑ d : Fin 256, (a0 (ix2 T ⟨5120 + (h.val * 256 + d.val), by omega⟩) : EReal)
      * a1 (ix2 x ⟨h.val * 256 + d.val, by omega⟩)) * sc := by
  pointwise [ZV]

/-- A row's maximum at an index. -/
theorem MX_at (z : FVec Ideal S4x2048x256 .f32) (h : Fin 4) (T : Fin 2048) : MX z (ix2 h T) = Finset.univ.fold (max : EReal → EReal → EReal) lo fun k : Fin 256 => z (ix3 h T k) := by
  pointwise [MX]

/-- The maximum of two arrays at an index. -/
theorem max_at (v : FVec Ideal S_ .f32) (z : FVec Ideal S4x2048 .f32) (h : Fin 4) (T : Fin 2048) :
    maximumf (broadcastInDim S4x2048 ![] bcast_S_S4x2048 v) z (ix2 h T) = (max : EReal → EReal → EReal) (v ix0) (z (ix2 h T)) := by
  pointwise

/-- The initial value at its index. -/
theorem NG_at : NG ix0 = lo := rfl

/-- The same at an index. -/
theorem MM_at (z : FVec Ideal S4x2048x256 .f32) (h : Fin 4) (T : Fin 2048) : MM z (ix2 h T) = (max : EReal → EReal → EReal) lo (MX z (ix2 h T)) :=
  (max_at NG (MX z) h T).trans (congrArg (fun v : EReal => (max : EReal → EReal → EReal) v (MX z (ix2 h T))) NG_at)

/-- An exponential at an index. -/
theorem EV_at (z : FVec Ideal S4x2048x256 .f32) (h : Fin 4) (T : Fin 2048) (x : Fin 256) :
    EV z (ix3 h T x) = Ideal.exp (z (ix3 h T x) - (MM z (ix2 h T) : EReal)) := by
  pointwise [EV]

/-- A row's sum at an index. -/
theorem LV_at (z : FVec Ideal S4x2048x256 .f32) (h : Fin 4) (T : Fin 2048) (u : Fin 1) :
    LV z (ix3 h T u) = ∑ x : Fin 256, EV z (ix3 h T x) := by
  pointwise [LV]

/-- The softmax at an index. -/
theorem PV_at (z : FVec Ideal S4x2048x256 .f32) (h : Fin 4) (T : Fin 2048) (x : Fin 256) :
    PV z (ix3 h T x) = Ideal.div (EV z (ix3 h T x)) (∑ k : Fin 256, EV z (ix3 h T k)) := by
  pointwise [PV, LV_at]

/-- The gradient of the softmax's values. -/
def DP (a1 : FVec Ideal S256x2048 .f32) (a2 : FVec Ideal S2048x1024 .f32) : FVec Ideal S4x2048x256 .f32 :=
  Host.dotGeneral dot_S4x256x2048_S256x4x256_S4x2048x256_1_2_2_0_0_1 none (transpose S4x256x2048 [1, 2, 0] (shapeCast _ a2 shapeCasts_S2048x1024_S2048x4x256) transposes_S2048x4x256_S4x256x2048_1_2_0) (shapeCast _ (extractStridedSlice S256x1024 ![0, 1024] a1 slices_S256x2048_S256x1024_0_1024) shapeCasts_S256x1024_S256x4x256)

/-- One over the square of the rows' sums. -/
def IL (l : FVec Ideal S4x2048x1 .f32) : FVec Ideal S4x2048x1 .f32 :=
  Host.divf (broadcastInDim S4x2048x1 ![] bcast_S_S4x2048x1 (constant S_ .f32 0x3F800000#32)) (mulf l l)

/-- The gradient of the rows' sums. -/
def SV (d : FVec Ideal S4x2048x256 .f32) (i : FVec Ideal S4x2048x1 .f32) (e : FVec Ideal S4x2048x256 .f32) : FVec Ideal S4x2048 .f32 :=
  Host.reduceAdd (Host.negf (shapeCast _ (Host.reduceAdd (mulf (mulf d (broadcastInDim S4x2048x256 ![0, 1, 2] bcast_S4x2048x1_S4x2048x256_0_1_2 i)) e) (constant S_ .f32 0x00000000#32) reducesTo_S4x2048x256_S4x2048_d2 h_S_) shapeCasts_S4x2048_S4x2048x1)) (constant S_ .f32 0x00000000#32) reducesTo_S4x2048x1_S4x2048_d2 h_S_

/-- The gradient of the scores before their scaling. -/
def DZ (d : FVec Ideal S4x2048x256 .f32) (l : FVec Ideal S4x2048x1 .f32) (e : FVec Ideal S4x2048x256 .f32) (s : FVec Ideal S4x2048 .f32) : FVec Ideal S4x2048x256 .f32 :=
  mulf (mulf (addf (Host.divf d (broadcastInDim S4x2048x256 ![0, 1, 2] bcast_S4x2048x1_S4x2048x256_0_1_2 l)) (broadcastInDim S4x2048x256 ![0, 1] bcast_S4x2048_S4x2048x256_0_1 s)) e) (broadcastInDim S4x2048x256 ![] bcast_S_S4x2048x256 (constant S_ .f32 0x3D800000#32))

/-- The same from the arguments. -/
abbrev DR (a0 : FVec Ideal S2048x6144 .f32) (a1 : FVec Ideal S256x2048 .f32) (a2 : FVec Ideal S2048x1024 .f32) : FVec Ideal S4x2048x256 .f32 :=
  DZ (DP a1 a2) (LV (ZV a0 a1)) (EV (ZV a0 a1)) (SV (DP a1 a2) (IL (LV (ZV a0 a1))) (EV (ZV a0 a1)))

/-- The gradient of the queries. -/
def QG (z : FVec Ideal S4x2048x256 .f32) (a1 : FVec Ideal S256x2048 .f32) : FVec Ideal S2048x1024 .f32 :=
  shapeCast _ (transpose S2048x4x256 [1, 0, 2] (Host.dotGeneral dot_S4x2048x256_S256x4x256_S4x2048x256_2_0_1_2_0_1 none z (shapeCast _ (extractStridedSlice S256x1024 ![0, 0] a1 slices_S256x2048_S256x1024_0_0) shapeCasts_S256x1024_S256x4x256)) transposes_S4x2048x256_S2048x4x256_1_0_2) shapeCasts_S2048x4x256_S2048x1024

/-- The gradient of the keys. -/
def KG (z : FVec Ideal S4x2048x256 .f32) (a0 : FVec Ideal S2048x6144 .f32) : FVec Ideal S256x1024 .f32 :=
  shapeCast _ (transpose S256x4x256 [1, 0, 2] (Host.dotGeneral dot_S4x2048x256_S2048x4x256_S4x256x256_1_0_2_2_0_1 none z (shapeCast _ (extractStridedSlice S2048x1024 ![0, 5120] a0 slices_S2048x6144_S2048x1024_0_5120) shapeCasts_S2048x1024_S2048x4x256)) transposes_S4x256x256_S256x4x256_1_0_2) shapeCasts_S256x4x256_S256x1024

/-- The gradient of the values. -/
def VG (p : FVec Ideal S4x2048x256 .f32) (a2 : FVec Ideal S2048x1024 .f32) : FVec Ideal S256x1024 .f32 :=
  shapeCast _ (transpose S256x4x256 [2, 0, 1] (Host.dotGeneral dot_S4x256x2048_S4x2048x256_S4x256x256_2_1_1_2_0_0 none (transpose S4x256x2048 [1, 2, 0] (shapeCast _ a2 shapeCasts_S2048x1024_S2048x4x256) transposes_S2048x4x256_S4x256x2048_1_2_0) p) transposes_S4x256x256_S256x4x256_2_0_1) shapeCasts_S256x4x256_S256x1024

/-- The gradient of the softmax's values at an index. -/
theorem DP_at (a1 : FVec Ideal S256x2048 .f32) (a2 : FVec Ideal S2048x1024 .f32) (h : Fin 4) (T : Fin 2048) (x : Fin 256) :
    DP a1 a2 (ix3 h T x) = ∑ d : Fin 256, (a2 (ix2 T ⟨h.val * 256 + d.val, by omega⟩) : EReal) * a1 (ix2 x ⟨1024 + (h.val * 256 + d.val), by omega⟩) := by
  pointwise [DP]

/-- One over the square of a row's sum. -/
theorem IL_at (l : FVec Ideal S4x2048x1 .f32) (h : Fin 4) (T : Fin 2048) (u : Fin 1) :
    IL l (ix3 h T u) = Ideal.div 1 ((l (ix3 h T u) : EReal) * l (ix3 h T u)) := by
  pointwise [IL]

/-- The gradient of a row's sum at an index. -/
theorem SV_at (d : FVec Ideal S4x2048x256 .f32) (i : FVec Ideal S4x2048x1 .f32) (e : FVec Ideal S4x2048x256 .f32) (h : Fin 4) (T : Fin 2048) :
    SV d i e (ix2 h T) = -∑ k : Fin 256, (d (ix3 h T k) : EReal) * i (ix3 h T 0) * e (ix3 h T k) := by
  pointwise [SV]
  exact Fin.sum_univ_one _

/-- The gradient of a score at an index. -/
theorem DZ_at (d : FVec Ideal S4x2048x256 .f32) (l : FVec Ideal S4x2048x1 .f32) (e : FVec Ideal S4x2048x256 .f32) (s : FVec Ideal S4x2048 .f32) (h : Fin 4) (T : Fin 2048) (x : Fin 256) :
    DZ d l e s (ix3 h T x) = (Ideal.div (d (ix3 h T x)) (l (ix3 h T 0)) + (s (ix2 h T) : EReal)) * e (ix3 h T x) * sc := by
  pointwise [DZ]

/-- The gradient of the queries at an index. -/
theorem QG_at (z : FVec Ideal S4x2048x256 .f32) (a1 : FVec Ideal S256x2048 .f32) (T : Fin 2048) (J : Fin 1024) :
    QG z a1 (ix2 T J) = ∑ x : Fin 256, (z (ix3 ⟨J.val / 256, by omega⟩ T x) : EReal) * a1 (ix2 x ⟨J.val, by omega⟩) := by
  pointwise [QG]

/-- The gradient of the keys at an index. -/
theorem KG_at (z : FVec Ideal S4x2048x256 .f32) (a0 : FVec Ideal S2048x6144 .f32) (x : Fin 256) (J : Fin 1024) :
    KG z a0 (ix2 x J) = ∑ T : Fin 2048, (z (ix3 ⟨J.val / 256, by omega⟩ T x) : EReal) * a0 (ix2 T ⟨5120 + J.val, by omega⟩) := by
  pointwise [KG]

/-- The gradient of the values at an index. -/
theorem VG_at (p : FVec Ideal S4x2048x256 .f32) (a2 : FVec Ideal S2048x1024 .f32) (x : Fin 256) (J : Fin 1024) :
    VG p a2 (ix2 x J) = ∑ T : Fin 2048, (a2 (ix2 T J) : EReal) * p (ix3 ⟨J.val / 256, by omega⟩ T x) := by
  pointwise [VG]

/-- The keys' half of the two gradients side by side. -/
theorem left_at (k v : FVec Ideal S256x1024 .f32) (x : Fin 256) (J : Fin 1024) :
    extractStridedSlice S256x1024 ![0, 0] (concatenate S256x2048 1 [⟨S256x1024, k⟩, ⟨S256x1024, v⟩] concatenates_S256x1024_S256x1024_S256x2048_d1) slices_S256x2048_S256x1024_0_0 (ix2 x J) = k (ix2 x J) := by
  pointwise

/-- The values' half of the two gradients side by side. -/
theorem right_at (k v : FVec Ideal S256x1024 .f32) (x : Fin 256) (J : Fin 1024) :
    extractStridedSlice S256x1024 ![0, 1024] (concatenate S256x2048 1 [⟨S256x1024, k⟩, ⟨S256x1024, v⟩] concatenates_S256x1024_S256x1024_S256x2048_d1) slices_S256x2048_S256x1024_0_1024 (ix2 x J) = v (ix2 x J) := by
  pointwise

/-- The softmax at an index, from the scores alone. -/
theorem pv_at (z : FVec Ideal S4x2048x256 .f32) (h : Fin 4) (T : Fin 2048) (x : Fin 256) :
    PV z (ix3 h T x) = Cert.Law.prob (fun k : Fin 256 => z (ix3 h T k)) lo x := by
  simp only [PV_at, EV_at, MM_at, MX_at, Cert.Law.max_fold, Cert.Law.prob]

/-- On a row of real scores the gradient of a score is the softmax's. -/
theorem dr_at (a0 : FVec Ideal S2048x6144 .f32) (a1 : FVec Ideal S256x2048 .f32) (a2 : FVec Ideal S2048x1024 .f32) (h : Fin 4) (T : Fin 2048) (hz : ∀ k, ∃ r : ℝ, ZV a0 a1 (ix3 h T k) = (r : EReal)) (x : Fin 256) :
    DR a0 a1 a2 (ix3 h T x) = Cert.Law.dprob (fun k : Fin 256 => ZV a0 a1 (ix3 h T k)) (fun k : Fin 256 => DP a1 a2 (ix3 h T k)) lo x * sc := by
  refine Eq.trans ?_ (Cert.Law.prob_grad (fun k : Fin 256 => ZV a0 a1 (ix3 h T k)) (fun k : Fin 256 => DP a1 a2 (ix3 h T k)) (b := lo) ?_ hz x sc)
  · simp only [DR, DZ_at, SV_at, IL_at, LV_at, EV_at, MM_at, MX_at, Cert.Law.max_fold]
  · simp [lo, Ideal.ofBits, Ideal.ieee]

/-- With finite arguments the scores are real numbers. -/
theorem zv_real {a0 : FVec Ideal S2048x6144 .f32} {a1 : FVec Ideal S256x2048 .f32} (f0 : ∀ i, Cert.ReferenceIdeal.Sb.Finite (a0 i)) (f1 : ∀ i, Cert.ReferenceIdeal.Sb.Finite (a1 i)) (h : Fin 4) (T : Fin 2048) (k : Fin 256) :
    ∃ r : ℝ, ZV a0 a1 (ix3 h T k) = (r : EReal) := by
  rw [ZV_at]
  refine Cert.ReferenceIdeal.Sb.Finite.mul (Cert.ReferenceIdeal.Sb.Finite.sum _ _ fun d => (f0 _).mul (f1 _)) ⟨1 / 16, ?_⟩
  simp [sc, Ideal.ofBits, Ideal.ieee, -EReal.coe_mul]; norm_num

/-- The reference's gradient of the queries. -/
abbrev REF0 (a0 : FVec Ideal S2048x6144 .f32) (a1 : FVec Ideal S256x2048 .f32) (a2 : FVec Ideal S2048x1024 .f32) : FVec Ideal S2048x1024 .f32 :=
  QG (DR a0 a1 a2) a1

/-- The reference's gradient of the keys. -/
abbrev REF1 (a0 : FVec Ideal S2048x6144 .f32) (a1 : FVec Ideal S256x2048 .f32) (a2 : FVec Ideal S2048x1024 .f32) : FVec Ideal S256x1024 .f32 :=
  extractStridedSlice S256x1024 ![0, 0] (concatenate S256x2048 1 [⟨S256x1024, (KG (DR a0 a1 a2) a0)⟩, ⟨S256x1024, (VG (PV (ZV a0 a1)) a2)⟩] concatenates_S256x1024_S256x1024_S256x2048_d1) slices_S256x2048_S256x1024_0_0

/-- The reference's gradient of the values. -/
abbrev REF2 (a0 : FVec Ideal S2048x6144 .f32) (a1 : FVec Ideal S256x2048 .f32) (a2 : FVec Ideal S2048x1024 .f32) : FVec Ideal S256x1024 .f32 :=
  extractStridedSlice S256x1024 ![0, 1024] (concatenate S256x2048 1 [⟨S256x1024, (KG (DR a0 a1 a2) a0)⟩, ⟨S256x1024, (VG (PV (ZV a0 a1)) a2)⟩] concatenates_S256x1024_S256x1024_S256x2048_d1) slices_S256x2048_S256x1024_0_1024

end Cert.XaBwdRefIdeal.Ew

namespace Cert.XaBwdIdeal.Ew

open Cert.XaBwdIdeal Cert.XaBwdIdeal.Gen Idealize.ShloMosaic Idealize.ShloMosaic.TcCoe Idealize.SL.Sem
open Cert.XaBwdRefIdeal.Ew (REF0 REF1 REF2 ZV EV PV DP DR QG KG VG ZV_at DP_at QG_at KG_at VG_at left_at right_at pv_at dr_at zv_real lo sc)
open Idealize.ShloMosaic.Pipeline (Dat)

section Blocks

variable (m : (ℓ : Loc nD τ sig) → Buf (Elt Ideal) ℓ) (c : Dev nD)

/-- Which blocks the points hold. -/
theorem idx : ∀ t : Fin cfg0.N, win0_0.index t = ![t.val % 4, 20 + t.val / 4]
    ∧ win0_1.index t = ![0, t.val / 4]
    ∧ win0_2.index t = ![0, 4 + t.val / 4]
    ∧ win0_3.index t = ![t.val % 4, t.val / 4]
    ∧ win0_4.index t = ![t.val % 4, t.val / 4]
    ∧ win0_5.index t = ![0, t.val / 4]
    ∧ win0_6.index t = ![0, t.val / 4] :=
  (by decide +kernel : ∀ t : Fin grid0.N, _)

/-- The head of a column within a head's block. -/
theorem head0 {t y : ℕ} (hy : y < 256) : (t / 4 * 256 + y) / 256 = t / 4 := by omega

/-- All points of a head's run have that head. -/
theorem head4 {t s y : ℕ} (hs : s < 4) (hy : y < 256) : (t / 4 * 256 + y) / 256 = (4 * (t / 4) + s) / 4 := by omega

/-- The rows of a run's point. -/
theorem row4 {t s k : ℕ} (hs : s < 4) : s * 512 + k = (4 * (t / 4) + s) % 4 * 512 + k := by omega

/-- A block's element. -/
def at512 (q : Vec Ideal S512x256 .f32) (i : S512x256.Idx) : EReal := q i

/-- A row's scores. -/
def zr (q : Vec Ideal S512x256 .f32) (k : Vec Ideal S256x256 .f32) (r : Fin 512) (x : Fin 256) : EReal := (∑ d : Fin 256, (q (ix2 r d) : EReal) * k (ix2 x d)) * sc

/-- A row's gradient of the softmax's values. -/
def dr (v : Vec Ideal S256x256 .f32) (d : Vec Ideal S512x256 .f32) (r : Fin 512) (x : Fin 256) : EReal := ∑ j : Fin 256, (d (ix2 r j) : EReal) * v (ix2 x j)

/-- The softmax that a point computes. -/
theorem p_at (q : Vec Ideal S512x256 .f32) (k : Vec Ideal S256x256 .f32) (r : Fin 512) (x : Fin 256) :
    k0_pay8 q k (ix2 r x) = Cert.Law.prob (zr q k r) lo x := by
  unfold zr
  pointwise [k0_pay8, k0_pay6, k0_pay5, Cert.Law.prob]

/-- The gradient of the scores that a point computes. -/
theorem z_at (q : Vec Ideal S512x256 .f32) (k v : Vec Ideal S256x256 .f32) (d : Vec Ideal S512x256 .f32) (r : Fin 512) (x : Fin 256) :
    k0_pay9 q k v d (ix2 r x) = Cert.Law.dprob (zr q k r) (dr v d r) lo x * sc := by
  unfold dr
  pointwise [k0_pay9, k0_pay7, p_at, Cert.Law.dprob]

/-- What a point stores for the queries. -/
theorem q_at (q : Vec Ideal S512x256 .f32) (k v : Vec Ideal S256x256 .f32) (d : Vec Ideal S512x256 .f32) (r : Fin 512) (j : Fin 256) :
    k0_pay10 q k v d (ix2 r j) = ∑ x : Fin 256, (k0_pay9 q k v d (ix2 r x) : EReal) * k (ix2 x j) := by
  pointwise [k0_pay10, k0_pay6]

/-- The scores of a point's row are the reference's. -/
theorem zr_eq (t : Fin cfg0.N) (r : Fin 512) {h : Fin 4} {T : Fin 2048} (hh : h.val = t.val / 4) (hT : T.val = t.val % 4 * 512 + r.val) :
    zr (iblk m c 0 t) (iblk m c 1 t) r = fun x => ZV (V m c main_arg0) (V m c main_arg1) (ix3 h T x) := by
  funext x
  refine Eq.trans ?_ (ZV_at _ _ h T x).symm
  refine congrArg (fun a : EReal => a * sc) (Finset.sum_congr rfl fun d _ => congrArg₂ (fun a b : EReal => a * b) ?_ ?_)
  all_goals blk_point [iblk, idx t, hh, hT]

/-- The gradient of the softmax's values of a point's row is the reference's. -/
theorem dr_eq (t : Fin cfg0.N) (r : Fin 512) {h : Fin 4} {T : Fin 2048} (hh : h.val = t.val / 4) (hT : T.val = t.val % 4 * 512 + r.val) :
    dr (iblk m c 2 t) (iblk m c 3 t) r = fun x => DP (V m c main_arg1) (V m c main_arg2) (ix3 h T x) := by
  funext x
  refine Eq.trans ?_ (DP_at _ _ h T x).symm
  refine Finset.sum_congr rfl fun d _ => congrArg₂ (fun a b : EReal => a * b) ?_ ?_
  all_goals blk_point [iblk, idx t, hh, hT]

/-- The softmax of a point's row is the reference's. -/
theorem p_eq (t : Fin cfg0.N) (r : Fin 512) (x : Fin 256) {h : Fin 4} {T : Fin 2048} (hh : h.val = t.val / 4) (hT : T.val = t.val % 4 * 512 + r.val) :
    k0_pay8 (iblk m c 0 t) (iblk m c 1 t) (ix2 r x) = PV (ZV (V m c main_arg0) (V m c main_arg1)) (ix3 h T x) :=
  (p_at _ _ r x).trans ((congrArg (fun z => Cert.Law.prob z lo x) (zr_eq m c t r hh hT)).trans (pv_at _ h T x).symm)

section Real

variable (f0 : ∀ i, Cert.ReferenceIdeal.Sb.Finite (V m c main_arg0 i)) (f1 : ∀ i, Cert.ReferenceIdeal.Sb.Finite (V m c main_arg1 i))
include f0 f1

/-- The gradient of the scores of a point's row is the reference's. -/
theorem z_eq (t : Fin cfg0.N) (r : Fin 512) (x : Fin 256) {h : Fin 4} {T : Fin 2048} (hh : h.val = t.val / 4) (hT : T.val = t.val % 4 * 512 + r.val) :
    k0_pay9 (iblk m c 0 t) (iblk m c 1 t) (iblk m c 2 t) (iblk m c 3 t) (ix2 r x) = DR (V m c main_arg0) (V m c main_arg1) (V m c main_arg2) (ix3 h T x) :=
  (z_at _ _ _ _ r x).trans ((congrArg₂ (fun z d => Cert.Law.dprob z d lo x * sc) (zr_eq m c t r hh hT) (dr_eq m c t r hh hT)).trans
    (dr_at _ _ _ h T (zv_real f0 f1 h T) x).symm)

/-- The call leaves the reference's gradient of the queries. -/
theorem final0 : (dats m 0 c).arrAt 4 cfg0.N = REF0 (V m c main_arg0) (V m c main_arg1) (V m c main_arg2) := by
  refine (dats m 0 c).arrAt_eq_of_covers 4 _ (by decide +kernel) fun t _ y => ?_
  blk_simp
  rw [after0_4]
  have e : (outsAt0 m c t.val t.isLt).1 = k0_pay10 (iblk m c 0 t) (iblk m c 1 t) (iblk m c 2 t) (iblk m c 3 t) := by
    by_cases h : t.val % 4 = 0
    · rw [outsAt0_A m c t h]; frame_out
    · rw [outsAt0_B m c t h]; frame_out
  rw [e]
  refine ((congrArg _ (eq_ix2 y)).trans (q_at _ _ _ _ (y 0) (y 1))).trans (Eq.trans ?_ ((congrArg _ (eq_ix2 _)).trans (QG_at _ _ _ _)).symm)
  refine Finset.sum_congr rfl fun x _ => congrArg₂ (fun a b : EReal => a * b) (z_eq m c f0 f1 t (y 0) x ?_ ?_) ?_
  · blk_simp [idx t]; exact head0 (y 1).isLt
  · blk_simp [idx t]; try omega
  · blk_point [iblk, idx t]

end Real

/-- What one point contributes to the keys' gradient. -/
def kpart (t : Fin cfg0.N) (y : S256x256.Idx) : EReal :=
  ∑ r : Fin 512, (k0_pay9 (iblk m c 0 t) (iblk m c 1 t) (iblk m c 2 t) (iblk m c 3 t) (ix2 r (y 0)) : EReal) * at512 (iblk m c 0 t) (ix2 r (y 1))

/-- What one point contributes to the values' gradient. -/
def vpart (t : Fin cfg0.N) (y : S256x256.Idx) : EReal :=
  ∑ r : Fin 512, (k0_pay8 (iblk m c 0 t) (iblk m c 1 t) (ix2 r (y 0)) : EReal) * at512 (iblk m c 3 t) (ix2 r (y 1))

/-- What a point stores for the keys. -/
theorem k_at (q : FVec Ideal S512x256 .bf16) (z : FVec Ideal S512x256 .bf16) (v : Vec Ideal S256x256 .f32) (x j : Fin 256) :
    k0_pay1 q z v (ix2 x j) = (v (ix2 x j) : EReal) + ∑ r : Fin 512, (z (ix2 r x) : EReal) * q (ix2 r j) := by
  pointwise [k0_pay1]

/-- What a point stores for the values. -/
theorem v_at (d : FVec Ideal S512x256 .bf16) (p : FVec Ideal S512x256 .f32) (v : Vec Ideal S256x256 .f32) (x j : Fin 256) :
    k0_pay2 d p v (ix2 x j) = (v (ix2 x j) : EReal) + ∑ r : Fin 512, (p (ix2 r x) : EReal) * d (ix2 r j) := by
  pointwise [k0_pay2]

/-- A head's first point leaves its part of the keys' gradient. -/
theorem k_first (t : Fin cfg0.N) (h : t.val % 4 = 0) (y : S256x256.Idx) :
    (outsAt0 m c t.val t.isLt).2.1 y = 0 + kpart m c t y := by
  rw [outsAt0_A m c t h]; frame_out
  refine ((congrArg _ (eq_ix2 y)).trans (k_at _ _ _ (y 0) (y 1))).trans (congrArg₂ (fun a b : EReal => a + b) ?_ rfl)
  pointwise [k0_pay3]

/-- A later point adds its part to what was there. -/
theorem k_next (t : Fin cfg0.N) (h : ¬ t.val % 4 = 0) (y : S256x256.Idx) :
    (outsAt0 m c t.val t.isLt).2.1 y
      = (outsAt0 m c (t.val - 1) (Nat.lt_of_le_of_lt (Nat.sub_le _ _) t.isLt)).2.1 y + kpart m c t y := by
  rw [outsAt0_B m c t h]; frame_out
  exact ((congrArg _ (eq_ix2 y)).trans (k_at _ _ _ (y 0) (y 1))).trans (congrArg₂ (fun a b : EReal => a + b) (congrArg _ (eq_ix2 y).symm) rfl)

/-- A head's first point leaves its part of the values' gradient. -/
theorem v_first (t : Fin cfg0.N) (h : t.val % 4 = 0) (y : S256x256.Idx) :
    (outsAt0 m c t.val t.isLt).2.2 y = 0 + vpart m c t y := by
  rw [outsAt0_A m c t h]; frame_out
  refine ((congrArg _ (eq_ix2 y)).trans (v_at _ _ _ (y 0) (y 1))).trans (congrArg₂ (fun a b : EReal => a + b) ?_ rfl)
  pointwise [k0_pay4]

/-- A later point adds its part to what was there. -/
theorem v_next (t : Fin cfg0.N) (h : ¬ t.val % 4 = 0) (y : S256x256.Idx) :
    (outsAt0 m c t.val t.isLt).2.2 y
      = (outsAt0 m c (t.val - 1) (Nat.lt_of_le_of_lt (Nat.sub_le _ _) t.isLt)).2.2 y + vpart m c t y := by
  rw [outsAt0_B m c t h]; frame_out
  exact ((congrArg _ (eq_ix2 y)).trans (v_at _ _ _ (y 0) (y 1))).trans (congrArg₂ (fun a b : EReal => a + b) (congrArg _ (eq_ix2 y).symm) rfl)

/-- The call leaves the reference's gradient of the values: the points' parts make up the sum over all rows. -/
theorem final2 : (dats m 0 c).arrAt 6 cfg0.N = REF2 (V m c main_arg0) (V m c main_arg1) (V m c main_arg2) := by
  refine (dats m 0 c).arrAt_eq_of_covers 6 _ (by decide +kernel) fun t hf y => ?_
  have h := (flush0_6 t).mp hf
  blk_simp
  rw [after0_6,
    Pipeline.eq_sum_fin_of_reset_step_apply_of_flush (fun n h => (outsAt0 m c n h).2.2) 4 (fun _ => 0) (vpart m c)
      (fun t h j => v_first m c t h j) (fun t h j => v_next m c t h j) t h _, zero_add]
  refine Eq.trans ?_ ((congrArg _ (eq_ix2 _)).trans ((right_at _ _ _ _).trans (VG_at _ _ _ _))).symm
  unfold vpart
  refine Fin.sum_mul_add_congr fun s k hl => ?_
  have i := idx ⟨_, Pipeline.run_point_lt_of_flush t h s⟩
  refine Eq.trans ?_ (mul_comm (_ : EReal) (_ : EReal))
  refine congrArg₂ (fun a b : EReal => a * b) ((p_eq m c ⟨_, Pipeline.run_point_lt_of_flush t h s⟩ k _ ?_ ?_).trans (congrArg _ (congrArg (ix3 _ _) (Fin.ext ?_)))) ?_
  rotate_right
  · unfold at512
    blk_point [iblk, idx t, i]
  · show ((win0_6.blk t).view.emb y 1).val / 256 = (4 * (t.val / 4) + s.val) / 4
    have e : ((win0_6.blk t).view.emb y 1).val = t.val / 4 * 256 + (y 1).val := by blk_simp [idx t]
    rw [e]; exact head4 s.isLt (y 1).isLt
  · exact row4 s.isLt
  · blk_simp [idx t]

section Real

variable (f0 : ∀ i, Cert.ReferenceIdeal.Sb.Finite (V m c main_arg0 i)) (f1 : ∀ i, Cert.ReferenceIdeal.Sb.Finite (V m c main_arg1 i))
include f0 f1

/-- The call leaves the reference's gradient of the keys: the points' parts make up the sum over all rows. -/
theorem final1 : (dats m 0 c).arrAt 5 cfg0.N = REF1 (V m c main_arg0) (V m c main_arg1) (V m c main_arg2) := by
  refine (dats m 0 c).arrAt_eq_of_covers 5 _ (by decide +kernel) fun t hf y => ?_
  have h := (flush0_5 t).mp hf
  blk_simp
  rw [after0_5,
    Pipeline.eq_sum_fin_of_reset_step_apply_of_flush (fun n h => (outsAt0 m c n h).2.1) 4 (fun _ => 0) (kpart m c)
      (fun t h j => k_first m c t h j) (fun t h j => k_next m c t h j) t h _, zero_add]
  refine Eq.trans ?_ ((congrArg _ (eq_ix2 _)).trans ((left_at _ _ _ _).trans (KG_at _ _ _ _))).symm
  unfold kpart
  refine Fin.sum_mul_add_congr fun s k hl => ?_
  have i := idx ⟨_, Pipeline.run_point_lt_of_flush t h s⟩
  refine congrArg₂ (fun a b : EReal => a * b) ((z_eq m c f0 f1 ⟨_, Pipeline.run_point_lt_of_flush t h s⟩ k _ ?_ ?_).trans (congrArg _ (congrArg (ix3 _ _) (Fin.ext ?_)))) ?_
  rotate_right
  · unfold at512
    blk_point [iblk, idx t, i]
  · show ((win0_5.blk t).view.emb y 1).val / 256 = (4 * (t.val / 4) + s.val) / 4
    have e : ((win0_5.blk t).view.emb y 1).val = t.val / 4 * 256 + (y 1).val := by blk_simp [idx t]
    rw [e]; exact head4 s.isLt (y 1).isLt
  · exact row4 s.isLt
  · blk_simp [idx t]

end Real

end Blocks

/-- The program on the machine's numbers runs to its end with its arguments unchanged. -/
theorem frame_bits : Cert.quiescent_XaBwd := fun m ρ _ => Cert.XaBwd.Gen.frame m ρ

/-- The program on the extended reals runs to its end with its arguments unchanged. -/
theorem frame_ideal : Cert.quiescent_XaBwdIdeal := fun m ρ _ => Cert.XaBwdIdeal.Gen.frame (F := Ideal) m ρ

/-- The reference runs to its end with its arguments unchanged, and it declares no semaphore. -/
theorem frame_ref : Cert.quiescent_XaBwdRefIdeal := fun m ρ _ =>
  (θ_run Cert.XaBwdRefIdeal.defs _ _).mono (fun r h => ⟨fun c => (h c).2.2.2,
      Idealize.ShloMosaic.sem_eq_zero_of_no_sems (by decide) r.2⟩)
    (Cert.XaBwdRefIdeal.Value.run (F := Ideal) m ρ)

set_option backward.isDefEq.respectTransparency.types false in
/-- Kernel and reference end with equal results when the projection and the memory's keys and values are finite. -/
theorem algebraic : Cert.algebraic_XaBwdIdeal_XaBwdRefIdeal := fun m g m' g' hpre hag => by
  have hf := fun c => Cert.Pre_finite_xa.finite_of_fn _ _ _ (hpre c)
  refine ⟨fun c => (dats m 0 c).arrAt 4 cfg0.N, fun c => (dats m 0 c).arrAt 5 cfg0.N, fun c => (dats m 0 c).arrAt 6 cfg0.N,
    Cert.XaBwdIdeal.Value.run_blocks m g,
    (θ_run _ _ _).mono (fun r h c => ?_) (Cert.XaBwdRefIdeal.Value.run m' g')⟩
  obtain ⟨h0, h1, h2, hr⟩ := h c
  obtain ⟨e0, e1, e2⟩ := hag c
  have k0 := final0 m c (hf c).1 (hf c).2
  have k1 := final1 m c (hf c).1 (hf c).2
  have k2 := final2 m c
  have h0' : _ = REF0 _ _ _ := h0
  have h1' : _ = REF1 _ _ _ := h1
  have h2' : _ = REF2 _ _ _ := h2
  rw [e0, e1, e2] at h0' h1' h2'
  exact ⟨h0'.trans k0.symm, h1'.trans k1.symm, h2'.trans k2.symm, hr⟩

end Cert.XaBwdIdeal.Ew

end
-- ==== Proof.Ew.GmFwd.lean ====
module

public import proofs.«01_k».proof.Defs
public import proofs.«01_k».proof.Proof.Gen.GmFwd
public import proofs.«01_k».proof.Proof.Gen.GmFwd.Frame
public import proofs.«01_k».proof.Proof.Gen.GmFwdIdeal.Value
public import proofs.«01_k».proof.Proof.Gen.GmFwdRefIdeal.Run
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.GmFwdRefIdeal.Ew

open Cert.GmFwdRefIdeal Cert.GmFwdRefIdeal.Gen Idealize.ShloMosaic Idealize.ShloMosaic.TcCoe Idealize.SL.Sem

/-- The half under the gate. -/
def UU (a0 : FVec Ideal S2048x6144 .f32) : FVec Ideal S2048x1024 .f32 :=
  extractStridedSlice S2048x1024 ![0, 3072] a0 slices_S2048x6144_S2048x1024_0_3072

/-- The half that is mixed. -/
def VV (a0 : FVec Ideal S2048x6144 .f32) : FVec Ideal S2048x1024 .f32 :=
  extractStridedSlice S2048x1024 ![0, 4096] a0 slices_S2048x6144_S2048x1024_0_4096

/-- The activation. -/
def GE (x : FVec Ideal S2048x1024 .f32) : FVec Ideal S2048x1024 .f32 :=
  mulf x (mulf (broadcastInDim S2048x1024 ![] bcast_S_S2048x1024 (constant S_ .f32 0x3F000000#32)) (addf (broadcastInDim S2048x1024 ![] bcast_S_S2048x1024 (constant S_ .f32 0x3F800000#32)) (Host.tanh (mulf (broadcastInDim S2048x1024 ![] bcast_S_S2048x1024 (constant S_ .f32 0x3F4C422A#32)) (addf x (mulf (broadcastInDim S2048x1024 ![] bcast_S_S2048x1024 (constant S_ .f32 0x3D372713#32)) (mulf (mulf x x) x)))))))

/-- One over the rows' root mean square. -/
def RS (x : FVec Ideal S2048x1024 .f32) : FVec Ideal S2048x1 .f32 :=
  Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))

/-- The normalised rows. -/
def VN (x : FVec Ideal S2048x1024 .f32) (a1 : FVec Ideal S1x1024 .f32) : FVec Ideal S2048x1024 .f32 :=
  mulf (mulf x (broadcastInDim S2048x1024 ![0, 1] bcast_S2048x1_S2048x1024_0_1 (RS x))) (broadcastInDim S2048x1024 ![0, 1] bcast_S1x1024_S2048x1024_0_1 a1)

/-- Which rows of a block a row takes part of. -/
def MK : IVec S128x128 1 :=
  cmpi .sle (broadcastInDim S128x128 ![0, 1] bcast_S1x128_S128x128_0_1 (select (andi (cmpi .ne (signi (broadcastInDim S1x128 ![1] bcast_S128_S1x128_1 (iotaInDim S128 32 0))) (broadcastInDim S1x128 ![] bcast_S_S1x128 (signi (id (constantI S_ 32 64#32))))) (cmpi .ne (Host.remsi (broadcastInDim S1x128 ![1] bcast_S128_S1x128_1 (iotaInDim S128 32 0)) (broadcastInDim S1x128 ![] bcast_S_S1x128 (id (constantI S_ 32 64#32)))) (broadcastInDim S1x128 ![] bcast_S_S1x128 (constantI S_ 32 0#32)))) (subi (Host.divsi (broadcastInDim S1x128 ![1] bcast_S128_S1x128_1 (iotaInDim S128 32 0)) (broadcastInDim S1x128 ![] bcast_S_S1x128 (id (constantI S_ 32 64#32)))) (broadcastInDim S1x128 ![] bcast_S_S1x128 (constantI S_ 32 1#32))) (Host.divsi (broadcastInDim S1x128 ![1] bcast_S128_S1x128_1 (iotaInDim S128 32 0)) (broadcastInDim S1x128 ![] bcast_S_S1x128 (id (constantI S_ 32 64#32)))))) (broadcastInDim S128x128 ![0, 1] bcast_S128x1_S128x128_0_1 (select (andi (cmpi .ne (signi (broadcastInDim S128x1 ![0] bcast_S128_S128x1_0 (iotaInDim S128 32 0))) (broadcastInDim S128x1 ![] bcast_S_S128x1 (signi (id (constantI S_ 32 64#32))))) (cmpi .ne (Host.remsi (broadcastInDim S128x1 ![0] bcast_S128_S128x1_0 (iotaInDim S128 32 0)) (broadcastInDim S128x1 ![] bcast_S_S128x1 (id (constantI S_ 32 64#32)))) (broadcastInDim S128x1 ![] bcast_S_S128x1 (constantI S_ 32 0#32)))) (subi (Host.divsi (broadcastInDim S128x1 ![0] bcast_S128_S128x1_0 (iotaInDim S128 32 0)) (broadcastInDim S128x1 ![] bcast_S_S128x1 (id (constantI S_ 32 64#32)))) (broadcastInDim S128x1 ![] bcast_S_S128x1 (constantI S_ 32 1#32))) (Host.divsi (broadcastInDim S128x1 ![0] bcast_S128_S128x1_0 (iotaInDim S128 32 0)) (broadcastInDim S128x1 ![] bcast_S_S128x1 (id (constantI S_ 32 64#32))))))

/-- The masked weights. -/
def WM (k : IVec S128x128 1) (a2 : FVec Ideal S8x128x128 .f32) : FVec Ideal S8x128x128 .f32 :=
  select (broadcastInDim S8x128x128 ![0, 1, 2] bcast_S1x128x128_S8x128x128_0_1_2 (broadcastInDim S1x128x128 ![1, 2] bcast_S128x128_S1x128x128_1_2 k)) a2 (broadcastInDim S8x128x128 ![] bcast_S_S8x128x128 (constant S_ .f32 0x00000000#32))

/-- The mixed rows. -/
def MX (x : FVec Ideal S2048x1024 .f32) (w : FVec Ideal S8x128x128 .f32) (a3 : FVec Ideal S8x128 .f32) : FVec Ideal S2048x1024 .f32 :=
  shapeCast _ (addf (transpose S16x128x8x128 [1, 3, 0, 2] (Host.dotGeneral dot_S16x128x8x128_S8x128x128_S8x16x128x128_1_2_03_1_2_0 none (shapeCast _ x shapeCasts_S2048x1024_S16x128x8x128) w) transposes_S8x16x128x128_S16x128x8x128_1_3_0_2) (broadcastInDim S16x128x8x128 ![0, 1, 2, 3] bcast_S1x128x8x1_S16x128x8x128_0_1_2_3 (broadcastInDim S1x128x8x1 ![1, 2] bcast_S128x8_S1x128x8x1_1_2 (transpose S128x8 [1, 0] a3 transposes_S8x128_S128x8_1_0)))) shapeCasts_S16x128x8x128_S2048x1024

/-- The reference's gated rows. -/
abbrev REF0 (a0 : FVec Ideal S2048x6144 .f32) (a1 : FVec Ideal S1x1024 .f32) (a2 : FVec Ideal S8x128x128 .f32) (a3 : FVec Ideal S8x128 .f32) : FVec Ideal S2048x1024 .bf16 :=
  truncf .bf16 (mulf (GE (UU a0)) (MX (VN (GE (VV a0)) a1) (WM MK a2) a3)) bitsLt_bf16_f32

/-- The activation of a number. -/
def gel (x : EReal) : EReal := Ideal.ofBits .f32 0x3F000000#32 * x * (1 + Ideal.tanh (Ideal.ofBits .f32 0x3F4C422A#32 * (x + Ideal.ofBits .f32 0x3D372713#32 * (x * x * x))))

/-- One over a row's root mean square. -/
def rsq (x : Fin 1024 → EReal) : EReal := Ideal.rsqrt (Ideal.div (∑ k, x k * x k) (Ideal.ofBits .f32 0x44800000#32) + Ideal.ofBits .f32 0x358637BD#32)

/-- The half under the gate at an index. -/
theorem UU_at (a0 : FVec Ideal S2048x6144 .f32) (T : Fin 2048) (J : Fin 1024) : UU a0 (ix2 T J) = a0 (ix2 T ⟨3072 + J.val, by omega⟩) := by
  pointwise [UU]

/-- The half that is mixed at an index. -/
theorem VV_at (a0 : FVec Ideal S2048x6144 .f32) (T : Fin 2048) (J : Fin 1024) : VV a0 (ix2 T J) = a0 (ix2 T ⟨4096 + J.val, by omega⟩) := by
  pointwise [VV]

/-- The activation at an index. -/
theorem GE_at (x : FVec Ideal S2048x1024 .f32) (T : Fin 2048) (J : Fin 1024) : GE x (ix2 T J) = gel (x (ix2 T J)) := by
  pointwise [GE, gel]
  exact (mul_left_comm (x (ix2 T J) : EReal) _ _).trans (mul_assoc _ _ _).symm

/-- One over a row's root mean square at an index. -/
theorem RS_at (x : FVec Ideal S2048x1024 .f32) (T : Fin 2048) (u : Fin 1) : RS x (ix2 T u) = rsq fun k => x (ix2 T k) := by
  pointwise [RS, rsq]

/-- The normalised rows at an index. -/
theorem VN_at (x : FVec Ideal S2048x1024 .f32) (a1 : FVec Ideal S1x1024 .f32) (T : Fin 2048) (J : Fin 1024) : VN x a1 (ix2 T J) = (x (ix2 T J) : EReal) * (rsq fun k => x (ix2 T k)) * a1 (ix2 0 J) := by
  unfold VN
  pointwise [RS_at]

/-- Which rows a row takes part of: those of its own half of the block and of an earlier one. -/
theorem MK_at (t s : Fin 128) : MK (ix2 t s) = BitVec.ofBool (decide (s.val / 64 ≤ t.val / 64)) := by
  revert t s
  pointwise [MK]
  decide +kernel

/-- The masked weights at an index. -/
theorem WM_at (k : IVec S128x128 1) (a2 : FVec Ideal S8x128x128 .f32) (g : Fin 8) (t s : Fin 128) : WM k a2 (ix3 g t s) = Scalar.select (k (ix2 t s)) (a2 (ix3 g t s) : EReal) 0 := by
  pointwise [WM]

/-- The mixed rows at an index. -/
theorem MX_at (x : FVec Ideal S2048x1024 .f32) (w : FVec Ideal S8x128x128 .f32) (a3 : FVec Ideal S8x128 .f32) (T : Fin 2048) (J : Fin 1024) :
    MX x w a3 (ix2 T J) = (∑ s : Fin 128, (x (ix2 ⟨T.val / 128 * 128 + s.val, by omega⟩ J) : EReal) * w (ix3 ⟨J.val / 128, by omega⟩ ⟨T.val % 128, by omega⟩ s)) + a3 (ix2 ⟨J.val / 128, by omega⟩ ⟨T.val % 128, by omega⟩) := by
  pointwise [MX]

/-- The reference at an index. -/
theorem ref_at (a0 : FVec Ideal S2048x6144 .f32) (a1 : FVec Ideal S1x1024 .f32) (a2 : FVec Ideal S8x128x128 .f32) (a3 : FVec Ideal S8x128 .f32) (T : Fin 2048) (J : Fin 1024) : REF0 a0 a1 a2 a3 (ix2 T J)
    = (GE (UU a0) (ix2 T J) : EReal) * MX (VN (GE (VV a0)) a1) (WM MK a2) a3 (ix2 T J) := by
  pointwise

end Cert.GmFwdRefIdeal.Ew

namespace Cert.GmFwdIdeal.Ew

open Cert.GmFwdIdeal Cert.GmFwdIdeal.Gen Idealize.ShloMosaic Idealize.ShloMosaic.TcCoe Idealize.SL.Sem
open Cert.GmFwdRefIdeal.Ew (REF0 ref_at UU VV GE VN MK WM MX UU_at VV_at GE_at VN_at MK_at WM_at MX_at gel rsq)
open Idealize.ShloMosaic.Pipeline (Dat)

section Blocks

variable (m : (ℓ : Loc nD τ sig) → Buf (Elt Ideal) ℓ) (c : Dev nD)

/-- Which blocks the points hold. -/
theorem idx : ∀ t : Fin cfg0.N, win0_0.index t = ![t.val, 3]
    ∧ win0_1.index t = ![t.val, 4]
    ∧ win0_2.index t = ![0, 0]
    ∧ win0_3.index t = ![0, 0, 0]
    ∧ win0_4.index t = ![0, 0]
    ∧ win0_5.index t = ![t.val, 0] :=
  (by decide +kernel : ∀ t : Fin grid0.N, _)

/-- The activation of the half under the gate. -/
theorem k2_at (u : Vec Ideal S128x1024 .f32) (r : Fin 128) (J : Fin 1024) : k0_pay2 u (ix2 r J) = gel (u (ix2 r J)) := by
  pointwise [k0_pay2, gel]

/-- The normalised rows of the half that is mixed. -/
theorem k3_at (v : Vec Ideal S128x1024 .f32) (g : Vec Ideal S1x1024 .f32) (r : Fin 128) (J : Fin 1024) :
    k0_pay3 v g (ix2 r J) = gel (v (ix2 r J)) * (rsq fun k => gel (v (ix2 r k))) * (g (ix2 0 J) : EReal) := by
  pointwise [k0_pay3, gel, rsq]

/-- The kernel's mask: the rows of its own half of the block and of an earlier one. -/
theorem k4_at (t s : Fin 128) : k0_pay4 (ix2 t s) = BitVec.ofBool (decide (s.val / 64 ≤ t.val / 64)) := by
  revert t s
  pointwise [k0_pay4]
  decide +kernel

/-- A gated element: the masked weights' sum over a column of the block's rows, and the bias. -/
def mixed (p : FVec Ideal S128x1024 .f32) (q : FVec Ideal S128x1024 .bf16) (k : IVec S128x128 1) (W : Fin 128 → EReal) (B : EReal) (r : Fin 128) (d : Fin 1024) : EReal :=
  (p (ix2 r d) : EReal) * ((∑ s : Fin 128, Scalar.select (k (ix2 r s)) (W s) 0 * (q (ix2 s d) : EReal)) + B)

/-- What a point stores for head 0. -/
theorem st_at0 (p : FVec Ideal S128x1024 .f32) (q : FVec Ideal S128x1024 .bf16) (w : Vec Ideal S1x128x128 .f32) (b : Vec Ideal S128x1 .f32) (x : S128x128.Idx) :
    k0_pay5 p q w b x = mixed p q k0_pay4 (fun s => w (ix3 0 (x 0) s)) (b (ix2 (x 0) 0)) (x 0) ⟨0 + (x 1).val, by have : (x 1).val < 128 := (x 1).isLt; omega⟩ := by
  idx_vars x
  pointwise [k0_pay5, mixed]

/-- What a point stores for head 1. -/
theorem st_at1 (p : FVec Ideal S128x1024 .f32) (q : FVec Ideal S128x1024 .bf16) (w : Vec Ideal S1x128x128 .f32) (b : Vec Ideal S128x1 .f32) (x : S128x128.Idx) :
    k0_pay6 p q w b x = mixed p q k0_pay4 (fun s => w (ix3 0 (x 0) s)) (b (ix2 (x 0) 0)) (x 0) ⟨128 + (x 1).val, by have : (x 1).val < 128 := (x 1).isLt; omega⟩ := by
  idx_vars x
  pointwise [k0_pay6, mixed]

/-- What a point stores for head 2. -/
theorem st_at2 (p : FVec Ideal S128x1024 .f32) (q : FVec Ideal S128x1024 .bf16) (k : IVec S128x128 1) (w : Vec Ideal S1x128x128 .f32) (b : Vec Ideal S128x1 .f32) (x : S128x128.Idx) :
    k0_pay7 p q k w b x = mixed p q k (fun s => w (ix3 0 (x 0) s)) (b (ix2 (x 0) 0)) (x 0) ⟨256 + (x 1).val, by have : (x 1).val < 128 := (x 1).isLt; omega⟩ := by
  idx_vars x
  pointwise [k0_pay7, mixed]

/-- What a point stores for head 3. -/
theorem st_at3 (p : FVec Ideal S128x1024 .f32) (q : FVec Ideal S128x1024 .bf16) (k : IVec S128x128 1) (w : Vec Ideal S1x128x128 .f32) (b : Vec Ideal S128x1 .f32) (x : S128x128.Idx) :
    k0_pay8 p q k w b x = mixed p q k (fun s => w (ix3 0 (x 0) s)) (b (ix2 (x 0) 0)) (x 0) ⟨384 + (x 1).val, by have : (x 1).val < 128 := (x 1).isLt; omega⟩ := by
  idx_vars x
  pointwise [k0_pay8, mixed]

/-- What a point stores for head 4. -/
theorem st_at4 (p : FVec Ideal S128x1024 .f32) (q : FVec Ideal S128x1024 .bf16) (k : IVec S128x128 1) (w : Vec Ideal S1x128x128 .f32) (b : Vec Ideal S128x1 .f32) (x : S128x128.Idx) :
    k0_pay11 p (k0_pay9 k w) (k0_pay10 q) (constant S128x128 .f32 0x00000000#32) b x = mixed p q k (fun s => w (ix3 0 (x 0) s)) (b (ix2 (x 0) 0)) (x 0) ⟨512 + (x 1).val, by have : (x 1).val < 128 := (x 1).isLt; omega⟩ := by
  idx_vars x
  pointwise [k0_pay11, k0_pay10, k0_pay9, mixed]

/-- What a point stores for head 5. -/
theorem st_at5 (p : FVec Ideal S128x1024 .f32) (q : FVec Ideal S128x1024 .bf16) (k : IVec S128x128 1) (w : Vec Ideal S1x128x128 .f32) (b : Vec Ideal S128x1 .f32) (x : S128x128.Idx) :
    k0_pay12 p q k w b x = mixed p q k (fun s => w (ix3 0 (x 0) s)) (b (ix2 (x 0) 0)) (x 0) ⟨640 + (x 1).val, by have : (x 1).val < 128 := (x 1).isLt; omega⟩ := by
  idx_vars x
  pointwise [k0_pay12, mixed]

/-- What a point stores for head 6. -/
theorem st_at6 (p : FVec Ideal S128x1024 .f32) (q : FVec Ideal S128x1024 .bf16) (k : IVec S128x128 1) (w : Vec Ideal S1x128x128 .f32) (b : Vec Ideal S128x1 .f32) (x : S128x128.Idx) :
    k0_pay13 p q k w b x = mixed p q k (fun s => w (ix3 0 (x 0) s)) (b (ix2 (x 0) 0)) (x 0) ⟨768 + (x 1).val, by have : (x 1).val < 128 := (x 1).isLt; omega⟩ := by
  idx_vars x
  pointwise [k0_pay13, mixed]

/-- What a point stores for head 7. -/
theorem st_at7 (p : FVec Ideal S128x1024 .f32) (q : FVec Ideal S128x1024 .bf16) (k : IVec S128x128 1) (w : Vec Ideal S1x128x128 .f32) (b : Vec Ideal S128x1 .f32) (x : S128x128.Idx) :
    k0_pay1 p q k w b x = mixed p q k (fun s => w (ix3 0 (x 0) s)) (b (ix2 (x 0) 0)) (x 0) ⟨896 + (x 1).val, by have : (x 1).val < 128 := (x 1).isLt; omega⟩ := by
  idx_vars x
  pointwise [k0_pay1, mixed]

/-- A point's element. -/
def cell (t : Fin cfg0.N) (r : Fin 128) (J : Fin 1024) : EReal :=
  mixed (k0_pay2 (iblk m c 0 t)) (k0_pay3 (iblk m c 1 t) (iblk m c 2 t)) k0_pay4 (fun s => iblk m c 3 t (ix3 ⟨J.val / 128, by omega⟩ r s)) (iblk m c 4 t (ix2 r ⟨J.val / 128, by omega⟩)) r J

/-- A whole block read back is the block. -/
theorem ld_x (v : Vec Ideal S128x1024 .f32) : View.ld v r0_0 = v := by
  frame_out

/-- The whole gain read back is the gain. -/
theorem ld_g (v : Vec Ideal S1x1024 .f32) : View.ld v r0_1 = v := by
  frame_out

/-- A head's block is a point's element at the head's column. -/
theorem join (t : Fin cfg0.N) (g : ℕ) (hg : g < 8) {y : S128x1024.Idx} (x : S128x128.Idx) (h0 : (y 0).val = (x 0).val) (h1 : (y 1).val = 128 * g + (x 1).val)
    {W : Fin 128 → EReal} {B : EReal} (hW : ∀ s, W s = iblk m c 3 t (ix3 ⟨g, hg⟩ (x 0) s)) (hB : B = iblk m c 4 t (ix2 (x 0) ⟨g, hg⟩)) {d : Fin 1024} (hd : d.val = 128 * g + (x 1).val) :
    mixed (k0_pay14 (iblk m c 0 t) (iblk m c 1 t) (iblk m c 2 t) (iblk m c 3 t) (iblk m c 4 t)) (k0_pay15 (iblk m c 0 t) (iblk m c 1 t) (iblk m c 2 t) (iblk m c 3 t) (iblk m c 4 t)) k0_pay4 W B (x 0) d = cell m c t (y 0) (y 1) := by
  have hx : (x 1).val < 128 := (x 1).isLt
  have e0 : (x 0 : Fin 128) = y 0 := Fin.ext h0.symm
  have e1 : d = y 1 := Fin.ext (hd.trans h1.symm)
  have eg : (⟨g, hg⟩ : Fin 8) = ⟨(y 1).val / 128, by have : (y 1).val < 1024 := (y 1).isLt; omega⟩ := Fin.ext (by show g = (y 1).val / 128; omega)
  have eW : W = fun s => iblk m c 3 t (ix3 ⟨(y 1).val / 128, by have : (y 1).val < 1024 := (y 1).isLt; omega⟩ (y 0) s) := funext fun s => (hW s).trans (by rw [eg, e0])
  have eB : B = iblk m c 4 t (ix2 (y 0) ⟨(y 1).val / 128, by have : (y 1).val < 1024 := (y 1).isLt; omega⟩) := hB.trans (by rw [eg, e0])
  have f0 : k0_pay14 (iblk m c 0 t) (iblk m c 1 t) (iblk m c 2 t) (iblk m c 3 t) (iblk m c 4 t) = k0_pay2 (iblk m c 0 t) := by
    unfold k0_pay14; rw [ld_x]
  have f1 : k0_pay15 (iblk m c 0 t) (iblk m c 1 t) (iblk m c 2 t) (iblk m c 3 t) (iblk m c 4 t) = k0_pay3 (iblk m c 1 t) (iblk m c 2 t) := by
    unfold k0_pay15; rw [ld_x, ld_g]
  rw [f0, f1, eW, eB]
  unfold cell
  exact congrArg₂ (mixed _ _ _ _ _) e0 e1

/-- A point's column blocks, one to a head. -/
theorem out_at (t : Fin cfg0.N) (y : S128x1024.Idx) : out0_5 (iblk m c 0 t) (iblk m c 1 t) (iblk m c 2 t) (iblk m c 3 t) (iblk m c 4 t) y = cell m c t (y 0) (y 1) := by
  frame_out
  canon_tiles x h
  · exact (st_at7 _ _ _ _ _ x).trans (join m c t 7 (by decide) x h0 (by simpa using h1) (fun s => View.ld_unit_apply_of _ _ _ _ _ _ fun a => by match a with | 0 => rfl | 1 => simp [ix3] | 2 => simp [ix3]) (View.ld_unit_apply_of _ _ _ _ _ _ fun a => by match a with | 0 => simp [ix2] | 1 => rfl) rfl)
  · exact (st_at6 _ _ _ _ _ x).trans (join m c t 6 (by decide) x h0 (by simpa using h1) (fun s => View.ld_unit_apply_of _ _ _ _ _ _ fun a => by match a with | 0 => rfl | 1 => simp [ix3] | 2 => simp [ix3]) (View.ld_unit_apply_of _ _ _ _ _ _ fun a => by match a with | 0 => simp [ix2] | 1 => rfl) rfl)
  · exact (st_at5 _ _ _ _ _ x).trans (join m c t 5 (by decide) x h0 (by simpa using h1) (fun s => View.ld_unit_apply_of _ _ _ _ _ _ fun a => by match a with | 0 => rfl | 1 => simp [ix3] | 2 => simp [ix3]) (View.ld_unit_apply_of _ _ _ _ _ _ fun a => by match a with | 0 => simp [ix2] | 1 => rfl) rfl)
  · exact (st_at4 _ _ _ _ _ x).trans (join m c t 4 (by decide) x h0 (by simpa using h1) (fun s => View.ld_unit_apply_of _ _ _ _ _ _ fun a => by match a with | 0 => rfl | 1 => simp [ix3] | 2 => simp [ix3]) (View.ld_unit_apply_of _ _ _ _ _ _ fun a => by match a with | 0 => simp [ix2] | 1 => rfl) rfl)
  · exact (st_at3 _ _ _ _ _ x).trans (join m c t 3 (by decide) x h0 (by simpa using h1) (fun s => View.ld_unit_apply_of _ _ _ _ _ _ fun a => by match a with | 0 => rfl | 1 => simp [ix3] | 2 => simp [ix3]) (View.ld_unit_apply_of _ _ _ _ _ _ fun a => by match a with | 0 => simp [ix2] | 1 => rfl) rfl)
  · exact (st_at2 _ _ _ _ _ x).trans (join m c t 2 (by decide) x h0 (by simpa using h1) (fun s => View.ld_unit_apply_of _ _ _ _ _ _ fun a => by match a with | 0 => rfl | 1 => simp [ix3] | 2 => simp [ix3]) (View.ld_unit_apply_of _ _ _ _ _ _ fun a => by match a with | 0 => simp [ix2] | 1 => rfl) rfl)
  · exact (st_at1 _ _ _ _ x).trans (join m c t 1 (by decide) x h0 (by simpa using h1) (fun s => View.ld_unit_apply_of _ _ _ _ _ _ fun a => by match a with | 0 => rfl | 1 => simp [ix3] | 2 => simp [ix3]) (View.ld_unit_apply_of _ _ _ _ _ _ fun a => by match a with | 0 => simp [ix2] | 1 => rfl) rfl)
  · exact (st_at0 _ _ _ _ x).trans (join m c t 0 (by decide) x h0 (by simpa using h1) (fun s => View.ld_unit_apply_of _ _ _ _ _ _ fun a => by match a with | 0 => rfl | 1 => simp [ix3] | 2 => simp [ix3]) (View.ld_unit_apply_of _ _ _ _ _ _ fun a => by match a with | 0 => simp [ix2] | 1 => rfl) rfl)

/-- The transposed bias. -/
theorem main_v0_eq : V m c main_v0 = transpose S128x8 [1, 0] (V m c main_arg3) transposes_S8x128_S128x8_1_0 := by
  rw [V_main_arg3]
  unfold V
  after_reads_simp
  all_goals try simp -implicitDefEqProofs only [StableHlo.TRef.toBuf, StableHlo.TRef.ofBuf, cast_cast, cast_eq]
  all_goals clean_types
  try rfl

/-- The transposed bias at an index. -/
theorem bias_at (r : Fin 128) (g : Fin 8) : V m c main_v0 (ix2 r g) = V m c main_arg3 (ix2 g r) := by
  rw [main_v0_eq]
  pointwise

/-- A point's element is the reference's. -/
theorem cell_eq (t : Fin cfg0.N) (r : Fin 128) (J : Fin 1024) (T : Fin 2048) (hT : T.val = 128 * t.val + r.val) :
    cell m c t r J = REF0 (V m c main_arg0) (V m c main_arg1) (V m c main_arg2) (V m c main_arg3) (ix2 T J) := by
  refine Eq.trans ?_ (ref_at _ _ _ _ T J).symm
  have ht : t.val < 16 := t.isLt
  have h1 : T.val / 128 = t.val := by omega
  have h2 : T.val % 128 = r.val := by omega
  unfold cell mixed
  refine congrArg₂ (fun a b : EReal => a * b) ?_ ((congrArg₂ (fun a b : EReal => a + b) (Finset.sum_congr rfl fun s _ => ?_) ?_).trans (MX_at _ _ _ T J).symm)
  · refine (k2_at _ r J).trans (Eq.trans (congrArg gel ?_) ((GE_at _ T J).trans (congrArg gel (UU_at _ T J))).symm)
    blk_point [iblk, idx t]
  · refine (mul_comm _ _).trans (congrArg₂ (fun a b : EReal => a * b) ?_ ?_)
    · refine (k3_at _ _ s J).trans (Eq.trans ?_ (VN_at _ _ _ J).symm)
      refine congrArg₂ (fun a b : EReal => a * b) (congrArg₂ (fun a b : EReal => a * b) ?_ (congrArg rsq (funext fun k => ?_))) ?_
      · refine Eq.trans (congrArg gel ?_) ((GE_at _ _ J).trans (congrArg gel (VV_at _ _ J))).symm
        blk_point [iblk, idx t]
      · refine Eq.trans (congrArg gel ?_) ((GE_at _ _ k).trans (congrArg gel (VV_at _ _ k))).symm
        blk_point [iblk, idx t]
      · blk_point [iblk, idx t]
    · refine Eq.trans (congrArg₂ (fun a (b : EReal) => Scalar.select a b 0) ?_ ?_) (WM_at _ _ _ _ s).symm
      · refine (k4_at r s).trans (Eq.trans ?_ (MK_at _ s).symm)
        simp only [h2]
      · blk_point [iblk, idx t]
  · refine Eq.trans (b := V m c main_v0 (ix2 r ⟨J.val / 128, by omega⟩)) ?_ ((bias_at m c r _).trans ?_)
    · blk_point [iblk, idx t]
    · exact congrArg (fun z => V m c main_arg3 (ix2 _ z)) (Fin.ext h2.symm)

/-- The call leaves the reference's gated rows. -/
theorem final0 : (dats m 0 c).arrAt 5 cfg0.N = REF0 (V m c main_arg0) (V m c main_arg1) (V m c main_arg2) (V m c main_arg3) := by
  refine (dats m 0 c).arrAt_eq_of_covers 5 _ (by decide +kernel) fun t _ y => ?_
  blk_simp
  rw [after0_5]
  refine (out_at m c t y).trans ((cell_eq m c t _ _ ((win0_5.blk t).view.emb y 0) ?_).trans (congrArg _ (Eq.trans ?_ (eq_ix2 _).symm)))
  · blk_simp [idx t]
    try omega
  · refine congrArg (ix2 _) (Fin.ext ?_)
    blk_simp [idx t]

end Blocks

/-- The program on the machine's numbers runs to its end with its arguments unchanged. -/
theorem frame_bits : Cert.quiescent_GmFwd := fun m ρ _ => Cert.GmFwd.Gen.frame m ρ

/-- The program on the extended reals runs to its end with its arguments unchanged. -/
theorem frame_ideal : Cert.quiescent_GmFwdIdeal := fun m ρ _ => Cert.GmFwdIdeal.Gen.frame (F := Ideal) m ρ

/-- The reference runs to its end with its arguments unchanged, and it declares no semaphore. -/
theorem frame_ref : Cert.quiescent_GmFwdRefIdeal := fun m ρ _ =>
  (θ_run Cert.GmFwdRefIdeal.defs _ _).mono (fun r h => ⟨fun c => (h c).2,
      Idealize.ShloMosaic.sem_eq_zero_of_no_sems (by decide) r.2⟩)
    (Cert.GmFwdRefIdeal.Value.run (F := Ideal) m ρ)

set_option backward.isDefEq.respectTransparency.types false in
/-- Kernel and reference end with equal results. -/
theorem algebraic : Cert.algebraic_GmFwdIdeal_GmFwdRefIdeal := fun m g m' g' _ hag => by
  refine ⟨fun c => (dats m 0 c).arrAt 5 cfg0.N,
    Cert.GmFwdIdeal.Value.run_blocks m g,
    (θ_run _ _ _).mono (fun r h c => ?_) (Cert.GmFwdRefIdeal.Value.run m' g')⟩
  obtain ⟨h0, hr⟩ := h c
  obtain ⟨e0, e1, e2, e3⟩ := hag c
  have k0 := final0 m c
  unfold Cert.GmFwdRefIdeal.Value.res_main_v60 at h0
  rw [e0, e1, e2, e3] at h0
  rw [V_main_arg0, V_main_arg1, V_main_arg2, V_main_arg3] at k0
  exact ⟨h0.trans k0.symm, hr⟩

end Cert.GmFwdIdeal.Ew

end
-- ==== Proof.Ew.XaFwd.lean ====
module

public import proofs.«01_k».proof.Defs
public import proofs.«01_k».proof.Proof.Gen.XaFwd
public import proofs.«01_k».proof.Proof.Gen.XaFwd.Frame
public import proofs.«01_k».proof.Proof.Gen.XaFwdIdeal.Value
public import proofs.«01_k».proof.Proof.Gen.XaFwdRefIdeal.Run
public import proofs.«01_k».proof.Proof.Sb.Res
public import Idealize.ShloMosaic.Lib.Pipeline.ValueKit
public import Idealize.ShloMosaic.Lib.Pipeline.ReadBack
public import proofs.«01_k».proof.Proof.Law

@[expose] public section

set_option maxRecDepth 16384

noncomputable section

namespace Cert.XaFwdRefIdeal.Ew

open Cert.XaFwdRefIdeal Cert.XaFwdRefIdeal.Gen Idealize.ShloMosaic Idealize.ShloMosaic.TcCoe Idealize.SL.Sem

/-- The scaled scores. -/
def ZV (a0 : FVec Ideal S2048x6144 .f32) (a1 : FVec Ideal S256x2048 .f32) : FVec Ideal S4x2048x256 .f32 :=
  mulf (Host.dotGeneral dot_S2048x4x256_S256x4x256_S4x2048x256_2_2_0_0_1_1 none (shapeCast _ (extractStridedSlice S2048x1024 ![0, 5120] a0 slices_S2048x6144_S2048x1024_0_5120) shapeCasts_S2048x1024_S2048x4x256) (shapeCast _ (extractStridedSlice S256x1024 ![0, 0] a1 slices_S256x2048_S256x1024_0_0) shapeCasts_S256x1024_S256x4x256)) (broadcastInDim S4x2048x256 ![] bcast_S_S4x2048x256 (constant S_ .f32 0x3D800000#32))

/-- The rows' maxima. -/
def MX (z : FVec Ideal S4x2048x256 .f32) : FVec Ideal S4x2048 .f32 :=
  Host.reduce FloatOps.maximumf z (constant S_ .f32 0xFF800000#32) reducesTo_S4x2048x256_S4x2048_d2 h_S_

/-- The initial value of the maximum, as an array of one entry. -/
def NG : FVec Ideal S_ .f32 := constant S_ .f32 0xFF800000#32

/-- The same maxima, with the initial value once more. -/
def MM (z : FVec Ideal S4x2048x256 .f32) : FVec Ideal S4x2048 .f32 :=
  maximumf (broadcastInDim S4x2048 ![] bcast_S_S4x2048 NG) (MX z)

/-- The exponentials of the scores, shifted by the row's maximum. -/
def EV (z : FVec Ideal S4x2048x256 .f32) : FVec Ideal S4x2048x256 .f32 :=
  Host.exp (subf z (broadcastInDim S4x2048x256 ![0, 1, 2] bcast_S4x2048x1_S4x2048x256_0_1_2 (broadcastInDim S4x2048x1 ![0, 1] bcast_S4x2048_S4x2048x1_0_1 (MM z))))

/-- The rows' sums of the exponentials. -/
def LV (z : FVec Ideal S4x2048x256 .f32) : FVec Ideal S4x2048x1 .f32 :=
  broadcastInDim S4x2048x1 ![0, 1] bcast_S4x2048_S4x2048x1_0_1 (Host.reduceAdd (EV z) (constant S_ .f32 0x00000000#32) reducesTo_S4x2048x256_S4x2048_d2 h_S_)

/-- The softmax. -/
def PV (z : FVec Ideal S4x2048x256 .f32) : FVec Ideal S4x2048x256 .f32 :=
  Host.divf (EV z) (broadcastInDim S4x2048x256 ![0, 1, 2] bcast_S4x2048x1_S4x2048x256_0_1_2 (LV z))

/-- The initial value of the maximum. -/
abbrev lo : EReal := Ideal.ofBits .f32 4286578688#32

/-- The scores' scale. -/
abbrev sc : EReal := Ideal.ofBits .f32 1031798784#32

/-- The scores at an index. -/
theorem ZV_at (a0 : FVec Ideal S2048x6144 .f32) (a1 : FVec Ideal S256x2048 .f32) (h : Fin 4) (T : Fin 2048) (x : Fin 256) :
    ZV a0 a1 (ix3 h T x) = (∑ d : Fin 256, (a0 (ix2 T ⟨5120 + (h.val * 256 + d.val), by omega⟩) : EReal)
      * a1 (ix2 x ⟨h.val * 256 + d.val, by omega⟩)) * sc := by
  pointwise [ZV]

/-- A row's maximum at an index. -/
theorem MX_at (z : FVec Ideal S4x2048x256 .f32) (h : Fin 4) (T : Fin 2048) : MX z (ix2 h T) = Finset.univ.fold (max : EReal → EReal → EReal) lo fun k : Fin 256 => z (ix3 h T k) := by
  pointwise [MX]

/-- The maximum of two arrays at an index. -/
theorem max_at (v : FVec Ideal S_ .f32) (z : FVec Ideal S4x2048 .f32) (h : Fin 4) (T : Fin 2048) :
    maximumf (broadcastInDim S4x2048 ![] bcast_S_S4x2048 v) z (ix2 h T) = (max : EReal → EReal → EReal) (v ix0) (z (ix2 h T)) := by
  pointwise

/-- The initial value at its index. -/
theorem NG_at : NG ix0 = lo := rfl

/-- The same at an index. -/
theorem MM_at (z : FVec Ideal S4x2048x256 .f32) (h : Fin 4) (T : Fin 2048) : MM z (ix2 h T) = (max : EReal → EReal → EReal) lo (MX z (ix2 h T)) :=
  (max_at NG (MX z) h T).trans (congrArg (fun v : EReal => (max : EReal → EReal → EReal) v (MX z (ix2 h T))) NG_at)

/-- An exponential at an index. -/
theorem EV_at (z : FVec Ideal S4x2048x256 .f32) (h : Fin 4) (T : Fin 2048) (x : Fin 256) :
    EV z (ix3 h T x) = Ideal.exp (z (ix3 h T x) - (MM z (ix2 h T) : EReal)) := by
  pointwise [EV]

/-- A row's sum at an index. -/
theorem LV_at (z : FVec Ideal S4x2048x256 .f32) (h : Fin 4) (T : Fin 2048) (u : Fin 1) :
    LV z (ix3 h T u) = ∑ x : Fin 256, EV z (ix3 h T x) := by
  pointwise [LV]

/-- The softmax at an index. -/
theorem PV_at (z : FVec Ideal S4x2048x256 .f32) (h : Fin 4) (T : Fin 2048) (x : Fin 256) :
    PV z (ix3 h T x) = Ideal.div (EV z (ix3 h T x)) (∑ k : Fin 256, EV z (ix3 h T k)) := by
  pointwise [PV, LV_at]

/-- The reference's attention. -/
abbrev REF0 (a0 : FVec Ideal S2048x6144 .f32) (a1 : FVec Ideal S256x2048 .f32) : FVec Ideal S2048x1024 .bf16 :=
  truncf .bf16 (shapeCast _ (transpose S2048x4x256 [2, 0, 1] (Host.dotGeneral dot_S256x4x256_S4x2048x256_S4x256x2048_0_2_2_1_1_0 none (shapeCast _ (extractStridedSlice S256x1024 ![0, 1024] a1 slices_S256x2048_S256x1024_0_1024) shapeCasts_S256x1024_S256x4x256) (PV (ZV a0 a1))) transposes_S4x256x2048_S2048x4x256_2_0_1) shapeCasts_S2048x4x256_S2048x1024) bitsLt_bf16_f32

/-- What the reference holds at an index. -/
theorem ref_at (a0 : FVec Ideal S2048x6144 .f32) (a1 : FVec Ideal S256x2048 .f32) (j : S2048x1024.Idx) :
    REF0 a0 a1 j = ∑ x : Fin 256, a1 (ix2 x ⟨1024 + (j 1).val, by have : (j 1).val < 1024 := (j 1).isLt; omega⟩)
      * PV (ZV a0 a1) (ix3 ⟨(j 1).val / 256, by have : (j 1).val < 1024 := (j 1).isLt; omega⟩ (j 0) x) := by
  pointwise [REF0]

end Cert.XaFwdRefIdeal.Ew

namespace Cert.XaFwdIdeal.Ew

open Cert.XaFwdIdeal Cert.XaFwdIdeal.Gen Idealize.ShloMosaic Idealize.ShloMosaic.TcCoe Idealize.SL.Sem
open Cert.XaFwdRefIdeal.Ew (REF0 ref_at ZV EV PV ZV_at MM_at MX_at EV_at PV_at lo sc)
open Idealize.ShloMosaic.Pipeline (Dat)

section Blocks

variable (m : (ℓ : Loc nD τ sig) → Buf (Elt Ideal) ℓ) (c : Dev nD)

/-- Which blocks the points hold. -/
theorem idx : ∀ t : Fin cfg0.N, win0_0.index t = ![t.val % 4, 20 + t.val / 4]
    ∧ win0_1.index t = ![0, t.val / 4]
    ∧ win0_2.index t = ![0, 4 + t.val / 4]
    ∧ win0_3.index t = ![t.val % 4, t.val / 4] :=
  (by decide +kernel : ∀ t : Fin grid0.N, _)

/-- What a point stores: the average of the values, weighted by the softmax of the scores. -/
theorem k_at (q : Vec Ideal S512x256 .f32) (k v : Vec Ideal S256x256 .f32) (y : S512x256.Idx) :
    k0_pay1 q k v y = ∑ x : Fin 256, Cert.Law.prob (fun x : Fin 256 => (∑ d : Fin 256, (q (ix2 (y 0) d) : EReal) * k (ix2 x d)) * sc) lo x
      * v (ix2 x (y 1)) := by
  pointwise [k0_pay1, Cert.Law.prob]

/-- The reference's softmax at an index. -/
theorem pv_at (a0 : FVec Ideal S2048x6144 .f32) (a1 : FVec Ideal S256x2048 .f32) (h : Fin 4) (T : Fin 2048) (x : Fin 256) :
    PV (ZV a0 a1) (ix3 h T x) = Cert.Law.prob (fun k : Fin 256 => ZV a0 a1 (ix3 h T k)) lo x := by
  simp only [PV_at, EV_at, MM_at, MX_at, Cert.Law.max_fold, Cert.Law.prob]

/-- What the reference holds at an index, as an average with the softmax's weights. -/
theorem ref_prob (a0 : FVec Ideal S2048x6144 .f32) (a1 : FVec Ideal S256x2048 .f32) (j : S2048x1024.Idx) :
    REF0 a0 a1 j = ∑ x : Fin 256, a1 (ix2 x ⟨1024 + (j 1).val, by have : (j 1).val < 1024 := (j 1).isLt; omega⟩)
      * Cert.Law.prob (fun k : Fin 256 => (∑ d : Fin 256,
        (a0 (ix2 (j 0) ⟨5120 + ((j 1).val / 256 * 256 + d.val), by have : (j 1).val < 1024 := (j 1).isLt; omega⟩) : EReal)
        * a1 (ix2 k ⟨(j 1).val / 256 * 256 + d.val, by have : (j 1).val < 1024 := (j 1).isLt; omega⟩)) * sc) lo x :=
  (ref_at a0 a1 j).trans (Finset.sum_congr rfl fun x _ => congrArg (fun p : EReal => (a1 _ : EReal) * p)
    ((pv_at a0 a1 _ _ x).trans (congrArg (fun z => Cert.Law.prob z lo x) (funext fun k => ZV_at a0 a1 _ _ k))))

/-- The call leaves the reference's attention. -/
theorem final0 : (dats m 0 c).arrAt 3 cfg0.N = REF0 (V m c main_arg0) (V m c main_arg1) := by
  refine (dats m 0 c).arrAt_eq_of_covers 3 _ (by decide +kernel) fun t _ y => ?_
  blk_simp
  rw [after0_3]; frame_out
  refine (k_at _ _ _ y).trans (Eq.trans ?_ (ref_prob _ _ _).symm)
  refine Finset.sum_congr rfl fun x _ => Eq.trans ?_ (mul_comm _ _)
  refine congrArg₂ (fun a b : EReal => a * b) (congrArg (fun z => Cert.Law.prob z lo x)
    (funext fun w => congrArg (fun a : EReal => a * sc) (Finset.sum_congr rfl fun d _ => congrArg₂ (fun a b : EReal => a * b) ?_ ?_))) ?_
  all_goals blk_point [iblk, idx t]

end Blocks

/-- The program on the machine's numbers runs to its end with its arguments unchanged. -/
theorem frame_bits : Cert.quiescent_XaFwd := fun m ρ _ => Cert.XaFwd.Gen.frame m ρ

/-- The program on the extended reals runs to its end with its arguments unchanged. -/
theorem frame_ideal : Cert.quiescent_XaFwdIdeal := fun m ρ _ => Cert.XaFwdIdeal.Gen.frame (F := Ideal) m ρ

/-- The reference runs to its end with its arguments unchanged, and it declares no semaphore. -/
theorem frame_ref : Cert.quiescent_XaFwdRefIdeal := fun m ρ _ =>
  (θ_run Cert.XaFwdRefIdeal.defs _ _).mono (fun r h => ⟨fun c => (h c).2,
      Idealize.ShloMosaic.sem_eq_zero_of_no_sems (by decide) r.2⟩)
    (Cert.XaFwdRefIdeal.Value.run (F := Ideal) m ρ)

set_option backward.isDefEq.respectTransparency.types false in
/-- Kernel and reference end with equal results. -/
theorem algebraic : Cert.algebraic_XaFwdIdeal_XaFwdRefIdeal := fun m g m' g' _ hag => by
  refine ⟨fun c => (dats m 0 c).arrAt 3 cfg0.N,
    Cert.XaFwdIdeal.Value.run_blocks m g,
    (θ_run _ _ _).mono (fun r h c => ?_) (Cert.XaFwdRefIdeal.Value.run m' g')⟩
  obtain ⟨h0, hr⟩ := h c
  obtain ⟨e0, e1⟩ := hag c
  have k0 := final0 m c
  rw [e0, e1] at h0
  exact ⟨h0.trans k0.symm, hr⟩

end Cert.XaFwdIdeal.Ew

end
-- ==== Proof.Ew.NormFwd.lean ====
module

public import proofs.«01_k».proof.Defs
public import proofs.«01_k».proof.Proof.Gen.NormFwd
public import proofs.«01_k».proof.Proof.Gen.NormFwd.Frame
public import proofs.«01_k».proof.Proof.Gen.NormFwdIdeal.Value
public import proofs.«01_k».proof.Proof.Gen.NormFwdRefIdeal.Run
public import proofs.«01_k».proof.Proof.Sb.Res
public import Idealize.ShloMosaic.Lib.Pipeline.ValueKit
public import Idealize.ShloMosaic.Lib.Pipeline.ReadBack

@[expose] public section

set_option maxRecDepth 16384

noncomputable section

namespace Cert.NormFwdRefIdeal.Ew

open Cert.NormFwdRefIdeal Cert.NormFwdRefIdeal.Gen Idealize.ShloMosaic Idealize.ShloMosaic.TcCoe Idealize.SL.Sem

/-- The reference's normalised rows. -/
abbrev REF0 (a0 : FVec Ideal S2048x2048 .f32) (a1 : FVec Ideal S1x2048 .f32) : FVec Ideal S2048x2048 .bf16 :=
  truncf .bf16 (mulf (mulf a0 (broadcastInDim S2048x2048 ![0, 1] bcast_S2048x1_S2048x2048_0_1 (Host.rsqrt (addf (Host.divf (broadcastInDim S2048x1 ![0] bcast_S2048_S2048x1_0 (Host.reduceAdd (mulf a0 a0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 a1)) bitsLt_bf16_f32

end Cert.NormFwdRefIdeal.Ew

namespace Cert.NormFwdIdeal.Ew

open Cert.NormFwdIdeal Cert.NormFwdIdeal.Gen Idealize.ShloMosaic Idealize.ShloMosaic.TcCoe Idealize.SL.Sem
open Cert.NormFwdRefIdeal.Ew (REF0)
open Idealize.ShloMosaic.Pipeline (Dat)

section Blocks

variable (m : (ℓ : Loc nD τ sig) → Buf (Elt Ideal) ℓ) (c : Dev nD)

/-- Which blocks the points hold. -/
theorem idx : ∀ t : Fin cfg0.N, win0_0.index t = ![t.val, 0]
    ∧ win0_1.index t = ![0, 0]
    ∧ win0_2.index t = ![t.val, 0] :=
  (by decide +kernel : ∀ t : Fin grid0.N, _)

/-- The call leaves the reference's normalised rows. -/
theorem final0 : (dats m 0 c).arrAt 2 cfg0.N = REF0 (V m c main_arg0) (V m c main_arg1) := by
  refine (dats m 0 c).arrAt_eq_of_covers 2 _ (by decide +kernel) fun t _ y => ?_
  blk_simp
  rw [after0_2]; frame_out
  pointwise [k0_pay1, REF0]
  blk_point [iblk, idx t]

end Blocks

/-- The program on the machine's numbers runs to its end with its arguments unchanged. -/
theorem frame_bits : Cert.quiescent_NormFwd := fun m ρ _ => Cert.NormFwd.Gen.frame m ρ

/-- The program on the extended reals runs to its end with its arguments unchanged. -/
theorem frame_ideal : Cert.quiescent_NormFwdIdeal := fun m ρ _ => Cert.NormFwdIdeal.Gen.frame (F := Ideal) m ρ

/-- The reference runs to its end with its arguments unchanged, and it declares no semaphore. -/
theorem frame_ref : Cert.quiescent_NormFwdRefIdeal := fun m ρ _ =>
  (θ_run Cert.NormFwdRefIdeal.defs _ _).mono (fun r h => ⟨fun c => (h c).2,
      Idealize.ShloMosaic.sem_eq_zero_of_no_sems (by decide) r.2⟩)
    (Cert.NormFwdRefIdeal.Value.run (F := Ideal) m ρ)

set_option backward.isDefEq.respectTransparency.types false in
/-- Kernel and reference end with equal results. -/
theorem algebraic : Cert.algebraic_NormFwdIdeal_NormFwdRefIdeal := fun m g m' g' _ hag => by
  refine ⟨fun c => (dats m 0 c).arrAt 2 cfg0.N,
    Cert.NormFwdIdeal.Value.run_blocks m g,
    (θ_run _ _ _).mono (fun r h c => ?_) (Cert.NormFwdRefIdeal.Value.run m' g')⟩
  obtain ⟨h0, hr⟩ := h c
  obtain ⟨e0, e1⟩ := hag c
  have k0 := final0 m c
  rw [e0, e1] at h0
  exact ⟨h0.trans k0.symm, hr⟩

end Cert.NormFwdIdeal.Ew

end
-- ==== Proof.Ew.NormAdd.lean ====
module

public import proofs.«01_k».proof.Defs
public import proofs.«01_k».proof.Proof.Gen.NormAdd
public import proofs.«01_k».proof.Proof.Gen.NormAdd.Frame
public import proofs.«01_k».proof.Proof.Gen.NormAddIdeal.Value
public import proofs.«01_k».proof.Proof.Gen.NormAddRefIdeal.Run
public import proofs.«01_k».proof.Proof.Sb.Res
public import Idealize.ShloMosaic.Lib.Pipeline.ValueKit
public import Idealize.ShloMosaic.Lib.Pipeline.ReadBack

@[expose] public section

set_option maxRecDepth 16384

noncomputable section

namespace Cert.NormAddRefIdeal.Ew

open Cert.NormAddRefIdeal Cert.NormAddRefIdeal.Gen Idealize.ShloMosaic Idealize.ShloMosaic.TcCoe Idealize.SL.Sem

/-- The reference's normalised rows, added to the residual. -/
abbrev REF0 (a0 : FVec Ideal S2048x2048 .f32) (a1 : FVec Ideal S1x2048 .f32) (a2 : FVec Ideal S2048x2048 .f32) : FVec Ideal S2048x2048 .f32 :=
  addf a2 (mulf (mulf a0 (broadcastInDim S2048x2048 ![0, 1] bcast_S2048x1_S2048x2048_0_1 (Host.rsqrt (addf (Host.divf (broadcastInDim S2048x1 ![0] bcast_S2048_S2048x1_0 (Host.reduceAdd (mulf a0 a0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 a1))

end Cert.NormAddRefIdeal.Ew

namespace Cert.NormAddIdeal.Ew

open Cert.NormAddIdeal Cert.NormAddIdeal.Gen Idealize.ShloMosaic Idealize.ShloMosaic.TcCoe Idealize.SL.Sem
open Cert.NormAddRefIdeal.Ew (REF0)
open Idealize.ShloMosaic.Pipeline (Dat)

section Blocks

variable (m : (ℓ : Loc nD τ sig) → Buf (Elt Ideal) ℓ) (c : Dev nD)

/-- Which blocks the points hold. -/
theorem idx : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

/-- The call leaves the reference's normalised rows, added to the residual. -/
theorem final0 : (dats m 0 c).arrAt 3 cfg0.N = REF0 (V m c main_arg0) (V m c main_arg1) (V m c main_arg2) := by
  refine (dats m 0 c).arrAt_eq_of_covers 3 _ (by decide +kernel) fun t _ y => ?_
  blk_simp
  rw [after0_3]; frame_out
  pointwise [k0_pay1, REF0]
  blk_point [iblk, idx t]

end Blocks

/-- The program on the machine's numbers runs to its end with its arguments unchanged. -/
theorem frame_bits : Cert.quiescent_NormAdd := fun m ρ _ => Cert.NormAdd.Gen.frame m ρ

/-- The program on the extended reals runs to its end with its arguments unchanged. -/
theorem frame_ideal : Cert.quiescent_NormAddIdeal := fun m ρ _ => Cert.NormAddIdeal.Gen.frame (F := Ideal) m ρ

/-- The reference runs to its end with its arguments unchanged, and it declares no semaphore. -/
theorem frame_ref : Cert.quiescent_NormAddRefIdeal := fun m ρ _ =>
  (θ_run Cert.NormAddRefIdeal.defs _ _).mono (fun r h => ⟨fun c => (h c).2,
      Idealize.ShloMosaic.sem_eq_zero_of_no_sems (by decide) r.2⟩)
    (Cert.NormAddRefIdeal.Value.run (F := Ideal) m ρ)

set_option backward.isDefEq.respectTransparency.types false in
/-- Kernel and reference end with equal results. -/
theorem algebraic : Cert.algebraic_NormAddIdeal_NormAddRefIdeal := fun m g m' g' _ hag => by
  refine ⟨fun c => (dats m 0 c).arrAt 3 cfg0.N,
    Cert.NormAddIdeal.Value.run_blocks m g,
    (θ_run _ _ _).mono (fun r h c => ?_) (Cert.NormAddRefIdeal.Value.run m' g')⟩
  obtain ⟨h0, hr⟩ := h c
  obtain ⟨e0, e1, e2⟩ := hag c
  have k0 := final0 m c
  rw [e0, e1, e2] at h0
  exact ⟨h0.trans k0.symm, hr⟩

end Cert.NormAddIdeal.Ew

end
-- ==== Proof.Ew.NormBwd.lean ====
module

public import proofs.«01_k».proof.Defs
public import proofs.«01_k».proof.Proof.Gen.NormBwd
public import proofs.«01_k».proof.Proof.Gen.NormBwd.Frame
public import proofs.«01_k».proof.Proof.Gen.NormBwdIdeal.Value
public import proofs.«01_k».proof.Proof.Gen.NormBwdRefIdeal.Run
public import proofs.«01_k».proof.Proof.Sb.Res
public import Idealize.ShloMosaic.Lib.Pipeline.ValueKit
public import Idealize.ShloMosaic.Lib.Pipeline.ReadBack
public import proofs.«01_k».proof.Proof.Law

@[expose] public section

set_option maxRecDepth 16384

noncomputable section

namespace Cert.NormBwdRefIdeal.Ew

open Cert.NormBwdRefIdeal Cert.NormBwdRefIdeal.Gen Idealize.ShloMosaic Idealize.ShloMosaic.TcCoe Idealize.SL.Sem

/-- The cotangent times the gain. -/
def DN (a1 : FVec Ideal S1x2048 .f32) (a2 : FVec Ideal S2048x2048 .f32) : FVec Ideal S2048x2048 .f32 :=
  mulf a2 (broadcastInDim S2048x2048 ![0, 1] bcast_S1x2048_S2048x2048_0_1 a1)

/-- The rows' mean squares, with the small constant added. -/
def MS (a0 : FVec Ideal S2048x2048 .f32) : FVec Ideal S2048x1 .f32 :=
  addf (Host.divf (broadcastInDim S2048x1 ![0] bcast_S2048_S2048x1_0 (Host.reduceAdd (mulf a0 a0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32))

/-- What comes back to a row through its mean square. -/
def UV (a0 dn : FVec Ideal S2048x2048 .f32) (v : FVec Ideal S2048x1 .f32) : FVec Ideal S2048x2048 .f32 :=
  broadcastInDim S2048x2048 ![0] bcast_S2048_S2048x2048_0 (Host.reduceAdd (Host.divf (mulf (shapeCast _ (Host.reduceAdd (mulf a0 dn) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt v) v))) (broadcastInDim S2048x1 ![] bcast_S_S2048x1 (constant S_ .f32 0x45000000#32))) (constant S_ .f32 0x00000000#32) reducesTo_S2048x1_S2048_d1 h_S_)

/-- The rows' length. -/
abbrev cN : EReal := Ideal.ofBits .f32 1157627904#32

/-- The small constant of the mean square. -/
abbrev cE : EReal := Ideal.ofBits .f32 897988541#32

/-- Minus one half. -/
abbrev cH : EReal := Ideal.ofBits .f32 3204448256#32

/-- The cotangent times the gain at an index. -/
theorem DN_at (a1 : FVec Ideal S1x2048 .f32) (a2 : FVec Ideal S2048x2048 .f32) (T k : Fin 2048) :
    DN a1 a2 (ix2 T k) = a2 (ix2 T k) * a1 (ix2 0 k) := by
  pointwise [DN]

/-- A row's mean square, with the small constant added. -/
theorem MS_at (a0 : FVec Ideal S2048x2048 .f32) (T : Fin 2048) (o : Fin 1) :
    MS a0 (ix2 T o) = Ideal.div (∑ k : Fin 2048, (a0 (ix2 T k) : EReal) * a0 (ix2 T k)) cN + cE := by
  pointwise [MS]

/-- What comes back through the mean square, at an index. -/
theorem UV_at (a0 dn : FVec Ideal S2048x2048 .f32) (v : FVec Ideal S2048x1 .f32) (T k : Fin 2048) :
    UV a0 dn v (ix2 T k) = Ideal.div ((∑ k : Fin 2048, (a0 (ix2 T k) : EReal) * dn (ix2 T k))
      * (cH * Ideal.div (Ideal.rsqrt (v (ix2 T 0))) (v (ix2 T 0)))) cN := by
  pointwise [UV]
  exact Fin.sum_univ_one _

/-- The reference's gradient of the rows. -/
abbrev REF0 (a0 : FVec Ideal S2048x2048 .f32) (a1 : FVec Ideal S1x2048 .f32) (a2 : FVec Ideal S2048x2048 .f32) : FVec Ideal S2048x2048 .bf16 :=
  truncf .bf16 (addf (addf (mulf (DN a1 a2) (broadcastInDim S2048x2048 ![0, 1] bcast_S2048x1_S2048x2048_0_1 (Host.rsqrt (MS a0)))) (mulf a0 (UV a0 (DN a1 a2) (MS a0)))) (mulf (UV a0 (DN a1 a2) (MS a0)) a0)) bitsLt_bf16_f32

/-- The reference's gradient of the gain. -/
abbrev REF1 (a0 : FVec Ideal S2048x2048 .f32) (a2 : FVec Ideal S2048x2048 .f32) : FVec Ideal S1x2048 .f32 :=
  shapeCast _ (Host.reduceAdd (mulf (mulf a0 (broadcastInDim S2048x2048 ![0, 1] bcast_S2048x1_S2048x2048_0_1 (Host.rsqrt (MS a0)))) a2) (constant S_ .f32 0x00000000#32) reducesTo_S2048x2048_S2048_d0 h_S_) shapeCasts_S2048_S1x2048

/-- The reference's gradient of the rows at an index. -/
theorem ref0_at (a0 : FVec Ideal S2048x2048 .f32) (a1 : FVec Ideal S1x2048 .f32) (a2 : FVec Ideal S2048x2048 .f32) (T j : Fin 2048) :
    REF0 a0 a1 a2 (ix2 T j) = DN a1 a2 (ix2 T j) * Ideal.rsqrt (MS a0 (ix2 T 0))
      + a0 (ix2 T j) * UV a0 (DN a1 a2) (MS a0) (ix2 T j) + UV a0 (DN a1 a2) (MS a0) (ix2 T j) * a0 (ix2 T j) := by
  pointwise [REF0]

/-- The reference's gradient of the gain at an index. -/
theorem ref1_at (a0 a2 : FVec Ideal S2048x2048 .f32) (o : Fin 1) (j : Fin 2048) :
    REF1 a0 a2 (ix2 o j) = ∑ T : Fin 2048, a0 (ix2 T j) * Ideal.rsqrt (MS a0 (ix2 T 0)) * a2 (ix2 T j) := by
  pointwise [REF1]

/-- The rows' length is 2048. -/
theorem cN_eq : cN = ((2048 : ℝ) : EReal) := by
  simp [Ideal.ofBits, Ideal.ieee, -EReal.coe_mul]; norm_num

/-- Minus one half. -/
theorem cH_eq : cH = ((-(1 / 2) : ℝ) : EReal) := by
  simp [Ideal.ofBits, Ideal.ieee, -EReal.coe_mul]; norm_num

/-- The small constant is a positive real number. -/
theorem cE_pos : ∃ e : ℝ, 0 < e ∧ cE = e := by
  refine ⟨8796093 * 2 ^ (-43 : ℤ), by positivity, ?_⟩
  simp [Ideal.ofBits, Ideal.ieee]

/-- The gradient of one normalised row, as differentiation writes it. -/
def dxR (x d : Fin 2048 → EReal) (xj dj : EReal) : EReal :=
  dj * Ideal.rsqrt (Ideal.div (∑ k, x k * x k) cN + cE)
    + xj * Ideal.div ((∑ k, x k * d k) * (cH * Ideal.div (Ideal.rsqrt (Ideal.div (∑ k, x k * x k) cN + cE)) (Ideal.div (∑ k, x k * x k) cN + cE))) cN
    + Ideal.div ((∑ k, x k * d k) * (cH * Ideal.div (Ideal.rsqrt (Ideal.div (∑ k, x k * x k) cN + cE)) (Ideal.div (∑ k, x k * x k) cN + cE))) cN * xj

/-- Equal rows have equal gradients. -/
theorem dxR_congr {x x' d d' : Fin 2048 → EReal} {a a' b b' : EReal} (hx : ∀ k, x k = x' k) (hd : ∀ k, d k = d' k) (ha : a = a') (hb : b = b') :
    dxR x d a b = dxR x' d' a' b' := by
  rw [funext hx, funext hd, ha, hb]

/-- The reference's gradient of the rows at an index. -/
theorem ref0_row (a0 : FVec Ideal S2048x2048 .f32) (a1 : FVec Ideal S1x2048 .f32) (a2 : FVec Ideal S2048x2048 .f32) (T j : Fin 2048) :
    REF0 a0 a1 a2 (ix2 T j) = dxR (fun k => a0 (ix2 T k)) (fun k => (a2 (ix2 T k) : EReal) * a1 (ix2 0 k)) (a0 (ix2 T j)) ((a2 (ix2 T j) : EReal) * a1 (ix2 0 j)) := by
  rw [ref0_at, UV_at, MS_at, DN_at]
  simp only [DN_at]
  rfl

/-- The reference's gradient of the gain at an index. -/
theorem ref1_col (a0 a2 : FVec Ideal S2048x2048 .f32) (o : Fin 1) (j : Fin 2048) :
    REF1 a0 a2 (ix2 o j) = ∑ T : Fin 2048, (a0 (ix2 T j) : EReal) * Ideal.rsqrt (Ideal.div (∑ k : Fin 2048, (a0 (ix2 T k) : EReal) * a0 (ix2 T k)) cN + cE)
      * a2 (ix2 T j) := by
  rw [ref1_at]
  simp only [MS_at]

/-- A mean square with the small constant added is positive, or infinite. -/
theorem ms_pos (x : Fin 2048 → EReal) : Ideal.div (∑ k, x k * x k) cN + cE = ⊤ ∨ ∃ w : ℝ, 0 < w ∧ Ideal.div (∑ k, x k * x k) cN + cE = w := by
  obtain ⟨e, he, hE⟩ := cE_pos
  rw [cN_eq, hE, Cert.Law.div_coe _ (by norm_num)]
  have hs : 0 ≤ ∑ k, x k * x k := Finset.sum_nonneg fun k _ => by
    rcases le_total 0 (x k) with h | h
    · exact mul_nonneg h h
    · rw [← neg_mul_neg]; exact mul_nonneg (EReal.neg_nonneg.2 h) (EReal.neg_nonneg.2 h)
  generalize ∑ k, x k * x k = s at hs
  induction s with
  | bot => simp at hs
  | top => left; rw [EReal.top_mul_coe_of_pos (by norm_num)]; rfl
  | coe r =>
    right
    have hr : 0 ≤ r := by exact_mod_cast hs
    exact ⟨r * 2048⁻¹ + e, by positivity, by push_cast; rfl⟩

end Cert.NormBwdRefIdeal.Ew

namespace Cert.NormBwdIdeal.Ew

open Cert.NormBwdIdeal Cert.NormBwdIdeal.Gen Idealize.ShloMosaic Idealize.ShloMosaic.TcCoe Idealize.SL.Sem
open Cert.NormBwdRefIdeal.Ew (REF0 REF1 dxR dxR_congr ref0_row ref1_col cN_eq cH_eq ms_pos DN MS UV DN_at MS_at UV_at cN cE cH)
open Idealize.ShloMosaic.Pipeline (Dat)

section Blocks

variable (m : (ℓ : Loc nD τ sig) → Buf (Elt Ideal) ℓ) (c : Dev nD)

/-- Which blocks the points hold. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![0, 0] :=
  (by decide +kernel : ∀ t : Fin grid0.N, _)

/-- A row's reciprocal root mean square. -/
theorem r_at (x : Vec Ideal S256x2048 .f32) (r : Fin 256) (o : Fin 1) :
    k0_pay1 x (ix2 r o) = Ideal.rsqrt (Ideal.div (∑ k : Fin 2048, (x (ix2 r k) : EReal) * x (ix2 r k)) cN + cE) := by
  pointwise [k0_pay1]

/-- A row times its reciprocal root mean square. -/
theorem n_at (x : Vec Ideal S256x2048 .f32) (r : Fin 256) (k : Fin 2048) :
    k0_pay2 x (ix2 r k) = x (ix2 r k) * k0_pay1 x (ix2 r 0) := by
  pointwise [k0_pay2]

/-- What a point stores of the rows' gradient. -/
theorem k_at (d x : Vec Ideal S256x2048 .f32) (g : Vec Ideal S1x2048 .f32) (r : Fin 256) (j : Fin 2048) :
    k0_pay3 d x g (ix2 r j) = k0_pay1 x (ix2 r 0) * (d (ix2 r j) * g (ix2 0 j) - k0_pay2 x (ix2 r j)
      * Ideal.div (∑ k : Fin 2048, (d (ix2 r k) * g (ix2 0 k) : EReal) * k0_pay2 x (ix2 r k)) cN) := by
  pointwise [k0_pay3]

/-- The same as the reference writes it: the gradient of a normalised row. -/
theorem k_ref (d x : Vec Ideal S256x2048 .f32) (g : Vec Ideal S1x2048 .f32) (r : Fin 256) (j : Fin 2048) :
    k0_pay3 d x g (ix2 r j) = dxR (fun k => x (ix2 r k)) (fun k => (d (ix2 r k) : EReal) * g (ix2 0 k)) (x (ix2 r j)) ((d (ix2 r j) : EReal) * g (ix2 0 j)) := by
  rw [k_at]
  simp only [n_at, r_at]
  unfold dxR
  have hv := ms_pos fun k => x (ix2 r k)
  generalize Ideal.div (∑ k : Fin 2048, (x (ix2 r k) : EReal) * x (ix2 r k)) cN + cE = v at hv ⊢
  rw [cN_eq, cH_eq]
  exact Cert.Law.norm_grad (fun k : Fin 2048 => (x (ix2 r k) : EReal)) (fun k : Fin 2048 => (d (ix2 r k) : EReal) * g (ix2 0 k)) hv (by norm_num) j

/-- Every point stores its rows of the gradient. -/
theorem out3 (t : Fin cfg0.N) : (outsAt0 m c t.val t.isLt).1 = k0_pay3 (iblk m c 2 t) (iblk m c 0 t) (iblk m c 1 t) := by
  by_cases h : t.val % 8 = 0
  · rw [outsAt0_A m c t h]; frame_out
  · rw [outsAt0_B m c t h]; frame_out

/-- The call leaves the reference's gradient of the rows. -/
theorem final0 : (dats m 0 c).arrAt 3 cfg0.N = REF0 (V m c main_arg0) (V m c main_arg1) (V m c main_arg2) := by
  refine (dats m 0 c).arrAt_eq_of_covers 3 _ (by decide +kernel) fun t _ y => ?_
  blk_simp
  rw [after0_3, out3]
  refine ((congrArg _ (eq_ix2 y)).trans (k_ref _ _ _ (y 0) (y 1))).trans (Eq.trans ?_ ((congrArg _ (eq_ix2 _)).trans (ref0_row _ _ _ _ _)).symm)
  refine dxR_congr (fun k => ?_) (fun k => congrArg₂ (fun a b : EReal => a * b) ?_ ?_) ?_ (congrArg₂ (fun a b : EReal => a * b) ?_ ?_)
  all_goals blk_point [iblk, idx t]

/-- A tile's sum over its rows of the cotangent times the normalised row. -/
def dgR (d x : Vec Ideal S256x2048 .f32) (y : S1x2048.Idx) : EReal :=
  ∑ r : Fin 256, (d (ix2 r (y 1)) : EReal) * k0_pay2 x (ix2 r (y 1))

/-- What one point contributes to the gain's gradient: the sum over its rows. -/
def part (t : Fin cfg0.N) (y : S1x2048.Idx) : EReal := dgR (iblk m c 2 t) (iblk m c 0 t) y

/-- The first point leaves its part. -/
theorem acc_first (t : Fin cfg0.N) (h : t.val % 8 = 0) (y : S1x2048.Idx) :
    (outsAt0 m c t.val t.isLt).2 y = 0 + part m c t y := by
  rw [outsAt0_A m c t h]; frame_out
  unfold part dgR
  idx_vars y
  pointwise [k0_pay5, k0_pay4]

/-- A later point adds its part to what was there. -/
theorem acc_next (t : Fin cfg0.N) (h : ¬ t.val % 8 = 0) (y : S1x2048.Idx) :
    (outsAt0 m c t.val t.isLt).2 y
      = (outsAt0 m c (t.val - 1) (Nat.lt_of_le_of_lt (Nat.sub_le _ _) t.isLt)).2 y + part m c t y := by
  rw [outsAt0_B m c t h]; frame_out
  unfold part dgR
  idx_vars y
  pointwise [k0_pay5]

/-- The call leaves the reference's gradient of the gain: the points' parts make up the sum over all rows. -/
theorem final1 : (dats m 0 c).arrAt 4 cfg0.N = REF1 (V m c main_arg0) (V m c main_arg2) := by
  refine (dats m 0 c).arrAt_eq_of_covers 4 _ (by decide +kernel) fun t hf y => ?_
  have h := (flush0_4 t).mp hf
  blk_simp
  rw [after0_4,
    Pipeline.eq_sum_fin_of_reset_step_apply_of_flush (fun n h => (outsAt0 m c n h).2) 8 (fun _ => 0) (part m c)
      (fun t h j => acc_first m c t h j) (fun t h j => acc_next m c t h j) t h _, zero_add]
  refine Eq.trans ?_ ((congrArg _ (eq_ix2 _)).trans (ref1_col _ _ _ _)).symm
  unfold part dgR
  refine Fin.sum_mul_add_congr fun s k hl => ?_
  have i := idx ⟨_, Pipeline.run_point_lt_of_flush t h s⟩
  refine Eq.trans ?_ (mul_comm (_ : EReal) (_ : EReal))
  refine congrArg₂ (fun a b : EReal => a * b) ?_ ((n_at _ _ _).trans (congrArg₂ (fun a b : EReal => a * b) ?_ ((r_at _ _ _).trans
    (congrArg (fun s : EReal => Ideal.rsqrt (Ideal.div s cN + cE)) (Finset.sum_congr rfl fun w _ => congrArg₂ (fun a b : EReal => a * b) ?_ ?_)))))
  all_goals blk_point [iblk, idx t, i]

end Blocks

/-- The program on the machine's numbers runs to its end with its arguments unchanged. -/
theorem frame_bits : Cert.quiescent_NormBwd := fun m ρ _ => Cert.NormBwd.Gen.frame m ρ

/-- The program on the extended reals runs to its end with its arguments unchanged. -/
theorem frame_ideal : Cert.quiescent_NormBwdIdeal := fun m ρ _ => Cert.NormBwdIdeal.Gen.frame (F := Ideal) m ρ

/-- The reference runs to its end with its arguments unchanged, and it declares no semaphore. -/
theorem frame_ref : Cert.quiescent_NormBwdRefIdeal := fun m ρ _ =>
  (θ_run Cert.NormBwdRefIdeal.defs _ _).mono (fun r h => ⟨fun c => (h c).2.2,
      Idealize.ShloMosaic.sem_eq_zero_of_no_sems (by decide) r.2⟩)
    (Cert.NormBwdRefIdeal.Value.run (F := Ideal) m ρ)

set_option backward.isDefEq.respectTransparency.types false in
/-- Kernel and reference end with equal results. -/
theorem algebraic : Cert.algebraic_NormBwdIdeal_NormBwdRefIdeal := fun m g m' g' _ hag => by
  refine ⟨fun c => (dats m 0 c).arrAt 3 cfg0.N, fun c => (dats m 0 c).arrAt 4 cfg0.N,
    Cert.NormBwdIdeal.Value.run_blocks m g,
    (θ_run _ _ _).mono (fun r h c => ?_) (Cert.NormBwdRefIdeal.Value.run m' g')⟩
  obtain ⟨h0, h1, hr⟩ := h c
  obtain ⟨e0, e1, e2⟩ := hag c
  have k0 := final0 m c
  have k1 := final1 m c
  rw [e0, e1, e2] at h0
  rw [e0, e2] at h1
  exact ⟨h0.trans k0.symm, h1.trans k1.symm, hr⟩

end Cert.NormBwdIdeal.Ew

end
-- ==== Proof.Sb.Host.lean ====
/-
  What the host hands the kernel: the weights and the logistics, cut into tiles, are those of the reference's chain.
-/
module

public import proofs.«01_k».proof.Proof.Sb.Outs
public import proofs.«01_k».proof.Proof.Sb.Real
public import Idealize.ShloMosaic.Lib.StableHlo.ReadAt

@[expose] public section

set_option maxRecDepth 16384

noncomputable section

namespace Cert.KernelIdeal.Sb

open Idealize.ShloMosaic Idealize.ShloMosaic.TcCoe Idealize.SL.Sem
open Cert.KernelIdeal Cert.KernelIdeal.Gen
open Cert.ReferenceIdeal.Sb (aV zV whereV spV aR bR aR_zero bR_zero)

variable (m : (ℓ : Loc nD τ sig) → Buf (Elt Ideal) ℓ) (c : Dev nD)

/-- The tiles of the weights. -/
theorem main_v28_eq : V m c main_v28 = transpose S8x4x16x512x128 [0, 1, 3, 2, 4] (shapeCast S8x4x512x16x128 (truncf .bf16 (aV (zV (m (c, Proc.tc.devRef main_arg0))))  bitsLt_bf16_f32) shapeCasts_S8x2048x2048_S8x4x512x16x128) transposes_S8x4x512x16x128_S8x4x16x512x128_0_1_3_2_4 := by
  unfold V
  after_reads_simp
  all_goals try simp -implicitDefEqProofs only [StableHlo.TRef.toBuf, StableHlo.TRef.ofBuf, cast_cast, cast_eq]
  all_goals clean_types
  rfl

/-- The tiles of the logistics. -/
theorem main_v31_eq : V m c main_v31 = transpose S8x4x16x512x128 [0, 1, 3, 2, 4] (shapeCast S8x4x512x16x128 (truncf .bf16 (whereV (Host.exp (Host.negf (spV (Host.negf (zV (m (c, Proc.tc.devRef main_arg0)))))))) bitsLt_bf16_f32) shapeCasts_S8x2048x2048_S8x4x512x16x128) transposes_S8x4x512x16x128_S8x4x16x512x128_0_1_3_2_4 := by
  unfold V
  after_reads_simp
  all_goals try simp -implicitDefEqProofs only [StableHlo.TRef.toBuf, StableHlo.TRef.ofBuf, cast_cast, cast_eq]
  all_goals clean_types
  rfl

/-- A tile's element is the array's at its query and key. -/
theorem tile_at (x : FVec Ideal S8x2048x2048 .f32) (h : Fin 8) (I : Fin 4) (j : Fin 16) (r : Fin 512) (k : Fin 128) :
    transpose S8x4x16x512x128 [0, 1, 3, 2, 4] (shapeCast S8x4x512x16x128 (truncf .bf16 x bitsLt_bf16_f32) shapeCasts_S8x2048x2048_S8x4x512x16x128) transposes_S8x4x512x16x128_S8x4x16x512x128_0_1_3_2_4 (ix5 h I j r k) = x (ix3 h (qr I r) (kr j k)) := by
  pointwise
  congr 2
  · exact Fin.ext (by show I.val * 512 + r.val = 512 * I.val + r.val; omega)
  · exact Fin.ext (by show j.val * 128 + k.val = 128 * j.val + k.val; omega)

/-- The two saved arrays. -/
def saved : Saved m c (aR (m (c, Proc.tc.devRef main_arg0))) (bR (m (c, Proc.tc.devRef main_arg0))) where
  A h I j r x := by rw [main_v28_eq]; exact tile_at _ h I j r x
  B h I j r x := by rw [main_v31_eq]; exact tile_at _ h I j r x
  a0 h T s hs := aR_zero _ h T s hs
  b0 h T s hs := bR_zero _ h T s hs

end Cert.KernelIdeal.Sb
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.KernelIdeal.Frame
public import proofs.«01_k».proof.Proof.Gen.ReferenceIdeal
public import proofs.«01_k».proof.Proof.Gen.ReferenceIdeal.Run
public import proofs.«01_k».proof.Proof.Mm.Down
public import proofs.«01_k».proof.Proof.Mm.Out
public import proofs.«01_k».proof.Proof.Mm.Branch
public import proofs.«01_k».proof.Proof.Mm.MemKv
public import proofs.«01_k».proof.Proof.Mm.Proj
public import proofs.«01_k».proof.Proof.Mm.Up
public import proofs.«01_k».proof.Proof.Mm.ProjDx
public import proofs.«01_k».proof.Proof.Mm.UpDx
public import proofs.«01_k».proof.Proof.Mm.DownFwd
public import proofs.«01_k».proof.Proof.Ew.MergeBwd
public import proofs.«01_k».proof.Proof.Ew.MergeFwd
public import proofs.«01_k».proof.Proof.Ew.XaBwd
public import proofs.«01_k».proof.Proof.Ew.GmFwd
public import proofs.«01_k».proof.Proof.Ew.XaFwd
public import proofs.«01_k».proof.Proof.Ew.NormFwd
public import proofs.«01_k».proof.Proof.Ew.NormAdd
public import proofs.«01_k».proof.Proof.Ew.NormBwd
public import proofs.«01_k».proof.Proof.Sb.Pre
public import proofs.«01_k».proof.Proof.Sb.Res
public import proofs.«01_k».proof.Proof.Sb.Host
public import Idealize.ShloMosaic.Lib.Quiescent
public import Idealize.ShloMosaic.Adequacy
public import Idealize.ShloMosaic.Init

@[expose] public section

noncomputable section

namespace Cert.Proof

open Idealize.ShloMosaic Idealize.SL.Sem

instance : Cert.Pre_finite.Facts := Cert.Pre_finite.facts

/-- The frame of the reference: its run ends with the arguments unchanged, and it declares no semaphore. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

open Cert.KernelIdeal.Sb in
open Cert.ReferenceIdeal.Sb (aR bR res0 res1 res2) in
set_option backward.isDefEq.respectTransparency.types false in
/-- Kernel and reference end with equal gradients. -/
theorem algebraic : Cert.algebraic_KernelIdeal_ReferenceIdeal := fun m g m' g' hpre hag => by
  have hf := fun c => Cert.Pre_finite.finite_of_fn _ _ (hpre c)
  refine ⟨_, _, _, Cert.KernelIdeal.Value.run_blocks m g, (θ_run _ _ _).mono (fun r h c => ?_) (Cert.ReferenceIdeal.Value.run m' g')⟩
  obtain ⟨h0, h1, h2, h3, h4⟩ := h c
  obtain ⟨e0, e1⟩ := hag c
  have k0 := arr6 (saved m c)
  have k1 := arr7 (saved m c)
  have k2 := arr8 (saved m c)
  rw [Cert.KernelIdeal.Gen.V_main_arg0, Cert.KernelIdeal.Gen.V_main_arg1] at k0 k1
  rw [Cert.KernelIdeal.Gen.V_main_arg1] at k2
  have f0 : ∀ i, Cert.ReferenceIdeal.Sb.Finite (m' ((c.tc : Thread Cert.ReferenceIdeal.nD Cert.ReferenceIdeal.τ).loc Cert.ReferenceIdeal.main_arg0) i) := by rw [e0]; exact (hf c).1
  have f1 : ∀ i, Cert.ReferenceIdeal.Sb.Finite (m' ((c.tc : Thread Cert.ReferenceIdeal.nD Cert.ReferenceIdeal.τ).loc Cert.ReferenceIdeal.main_arg1) i) := by rw [e1]; exact (hf c).2
  have r0 := res0 m' c f0 f1
  have r1 := res1 m' c f0 f1
  have r2 := res2 m' c
  rw [e0, e1] at r0 r1 r2
  exact ⟨h0.trans (r0.trans k0.symm), h1.trans (r1.trans k1.symm), h2.trans (r2.trans k2.symm), h3, h4⟩

/-- Every claim: the frames of all programs, then what their results equal. -/
theorem claim : Cert.Claim := ⟨Cert.Kernel.Gen.facts, Cert.KernelIdeal.Gen.facts, Cert.ReferenceIdeal.Gen.facts, Cert.Down.Gen.facts, Cert.DownIdeal.Gen.facts, Cert.DownRefIdeal.Gen.facts, Cert.Out.Gen.facts, Cert.OutIdeal.Gen.facts, Cert.OutRefIdeal.Gen.facts, Cert.Branch.Gen.facts, Cert.BranchIdeal.Gen.facts, Cert.BranchRefIdeal.Gen.facts, Cert.MemKv.Gen.facts, Cert.MemKvIdeal.Gen.facts, Cert.MemKvRefIdeal.Gen.facts, Cert.Proj.Gen.facts, Cert.ProjIdeal.Gen.facts, Cert.ProjRefIdeal.Gen.facts, Cert.ProjDx.Gen.facts, Cert.ProjDxIdeal.Gen.facts, Cert.ProjDxRefIdeal.Gen.facts, Cert.Up.Gen.facts, Cert.UpIdeal.Gen.facts, Cert.UpRefIdeal.Gen.facts, Cert.UpDx.Gen.facts, Cert.UpDxIdeal.Gen.facts, Cert.UpDxRefIdeal.Gen.facts, Cert.DownFwd.Gen.facts, Cert.DownFwdIdeal.Gen.facts, Cert.DownFwdRefIdeal.Gen.facts, Cert.MergeBwd.Gen.facts, Cert.MergeBwdIdeal.Gen.facts, Cert.MergeBwdRefIdeal.Gen.facts, Cert.MergeFwd.Gen.facts, Cert.MergeFwdIdeal.Gen.facts, Cert.MergeFwdRefIdeal.Gen.facts, Cert.XaBwd.Gen.facts, Cert.XaBwdIdeal.Gen.facts, Cert.XaBwdRefIdeal.Gen.facts, Cert.XaFwd.Gen.facts, Cert.XaFwdIdeal.Gen.facts, Cert.XaFwdRefIdeal.Gen.facts, Cert.NormFwd.Gen.facts, Cert.NormFwdIdeal.Gen.facts, Cert.NormFwdRefIdeal.Gen.facts, Cert.NormAdd.Gen.facts, Cert.NormAddIdeal.Gen.facts, Cert.NormAddRefIdeal.Gen.facts, Cert.NormBwd.Gen.facts, Cert.NormBwdIdeal.Gen.facts, Cert.NormBwdRefIdeal.Gen.facts, Cert.GmFwd.Gen.facts, Cert.GmFwdIdeal.Gen.facts, Cert.GmFwdRefIdeal.Gen.facts, Cert.Pre_finite.facts, Cert.Pre_finite_xa.facts,
  fun m ρ _ => Cert.Kernel.Gen.frame m ρ, fun m ρ _ => Cert.KernelIdeal.Gen.frame m ρ, frame_reference,
  Cert.DownIdeal.Mm.frame_bits, Cert.DownIdeal.Mm.frame_ideal, Cert.DownIdeal.Mm.frame_ref,
  Cert.OutIdeal.Mm.frame_bits, Cert.OutIdeal.Mm.frame_ideal, Cert.OutIdeal.Mm.frame_ref,
  Cert.BranchIdeal.Mm.frame_bits, Cert.BranchIdeal.Mm.frame_ideal, Cert.BranchIdeal.Mm.frame_ref,
  Cert.MemKvIdeal.Mm.frame_bits, Cert.MemKvIdeal.Mm.frame_ideal, Cert.MemKvIdeal.Mm.frame_ref,
  Cert.ProjIdeal.Mm.frame_bits, Cert.ProjIdeal.Mm.frame_ideal, Cert.ProjIdeal.Mm.frame_ref,
  Cert.ProjDxIdeal.Mm.frame_bits, Cert.ProjDxIdeal.Mm.frame_ideal, Cert.ProjDxIdeal.Mm.frame_ref,
  Cert.UpIdeal.Mm.frame_bits, Cert.UpIdeal.Mm.frame_ideal, Cert.UpIdeal.Mm.frame_ref,
  Cert.UpDxIdeal.Mm.frame_bits, Cert.UpDxIdeal.Mm.frame_ideal, Cert.UpDxIdeal.Mm.frame_ref,
  Cert.DownFwdIdeal.Mm.frame_bits, Cert.DownFwdIdeal.Mm.frame_ideal, Cert.DownFwdIdeal.Mm.frame_ref,
  Cert.MergeBwdIdeal.Ew.frame_bits, Cert.MergeBwdIdeal.Ew.frame_ideal, Cert.MergeBwdIdeal.Ew.frame_ref,
  Cert.MergeFwdIdeal.Ew.frame_bits, Cert.MergeFwdIdeal.Ew.frame_ideal, Cert.MergeFwdIdeal.Ew.frame_ref,
  Cert.XaBwdIdeal.Ew.frame_bits, Cert.XaBwdIdeal.Ew.frame_ideal, Cert.XaBwdIdeal.Ew.frame_ref,
  Cert.XaFwdIdeal.Ew.frame_bits, Cert.XaFwdIdeal.Ew.frame_ideal, Cert.XaFwdIdeal.Ew.frame_ref,
  Cert.NormFwdIdeal.Ew.frame_bits, Cert.NormFwdIdeal.Ew.frame_ideal, Cert.NormFwdIdeal.Ew.frame_ref,
  Cert.NormAddIdeal.Ew.frame_bits, Cert.NormAddIdeal.Ew.frame_ideal, Cert.NormAddIdeal.Ew.frame_ref,
  Cert.NormBwdIdeal.Ew.frame_bits, Cert.NormBwdIdeal.Ew.frame_ideal, Cert.NormBwdIdeal.Ew.frame_ref,
  Cert.GmFwdIdeal.Ew.frame_bits, Cert.GmFwdIdeal.Ew.frame_ideal, Cert.GmFwdIdeal.Ew.frame_ref,
  trivial, algebraic,
  trivial, Cert.DownIdeal.Mm.algebraic,
  trivial, Cert.OutIdeal.Mm.algebraic,
  trivial, Cert.BranchIdeal.Mm.algebraic,
  trivial, Cert.MemKvIdeal.Mm.algebraic,
  trivial, Cert.ProjIdeal.Mm.algebraic,
  trivial, Cert.ProjDxIdeal.Mm.algebraic,
  trivial, Cert.UpIdeal.Mm.algebraic,
  trivial, Cert.UpDxIdeal.Mm.algebraic,
  trivial, Cert.DownFwdIdeal.Mm.algebraic,
  trivial, Cert.MergeBwdIdeal.Ew.algebraic,
  trivial, Cert.MergeFwdIdeal.Ew.algebraic,
  trivial, Cert.XaBwdIdeal.Ew.algebraic,
  trivial, Cert.XaFwdIdeal.Ew.algebraic,
  trivial, Cert.NormFwdIdeal.Ew.algebraic,
  trivial, Cert.NormAddIdeal.Ew.algebraic,
  trivial, Cert.NormBwdIdeal.Ew.algebraic,
  trivial, Cert.GmFwdIdeal.Ew.algebraic⟩

end Cert.Proof

end
